-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_softmax_stats [hPre_softmax_stats : Cert.Pre_softmax_stats.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_softmax_stats.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_softmax_stats [hPre_softmax_stats : Cert.Pre_softmax_stats.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_softmax_stats.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Kernel2Ideal_pre_softmax_stats [hKernel2Ideal : Cert.Kernel2Ideal.Facts] [hPre_softmax_stats : Cert.Pre_softmax_stats.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_softmax_stats m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Reference2Ideal_pre_softmax_stats [hReference2Ideal : Cert.Reference2Ideal.Facts] [hPre_softmax_stats : Cert.Pre_softmax_stats.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_softmax_stats m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_softmax_stats [hKernel2Ideal : Cert.Kernel2Ideal.Facts] [hReference2Ideal : Cert.Reference2Ideal.Facts] [hPre_softmax_stats : Cert.Pre_softmax_stats.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_softmax_stats m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v154) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_softmax_stats : Cert.Pre_softmax_stats.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_softmax_stats (hKernel2Ideal := hKernel2Ideal) (hPre_softmax_stats := hPre_softmax_stats)
    ∧ quiescent_Reference2Ideal (hReference2Ideal := hReference2Ideal)
    ∧ quiescent_Reference2Ideal_pre_softmax_stats (hReference2Ideal := hReference2Ideal) (hPre_softmax_stats := hPre_softmax_stats)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_softmax_stats (hKernel2Ideal := hKernel2Ideal) (hReference2Ideal := hReference2Ideal) (hPre_softmax_stats := hPre_softmax_stats)
    ∧ preserves_Kernel3_Kernel3Ideal
    ∧ algebraic_Kernel3Ideal_Reference3Ideal (hKernel3Ideal := hKernel3Ideal) (hReference3Ideal := hReference3Ideal)
-- ==== Pre_softmax_stats.lean ====
abbrev S32768x1024 : Shape := ⟨2, ![32768, 1024]⟩
abbrev S32768x256 : Shape := ⟨2, ![32768, 256]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S32768x8 : Shape := ⟨2, ![32768, 8]⟩
abbrev S_ : Shape := ⟨0, ![]⟩

class Facts : Prop where
  slices_S32768x128_S32768x8_0_0 : S32768x128.Slices ![0, 0] S32768x8
  slices_S32768x128_S32768x8_0_8 : S32768x128.Slices ![0, 8] S32768x8
  bcast_S_S32768x8 : S_.BroadcastsInDim S32768x8 (![] : Fin 0 → Fin S32768x8.rank)
  shapeCasts_S8192x512_S32768x128 : S8192x512.ShapeCasts S32768x128
  shapeCasts_S2048x2048_S32768x128 : S2048x2048.ShapeCasts S32768x128

variable [Facts]

def fn_part1 {F : FTy → Type} [FloatOps F] (main_arg8 : FVec F S2048x2048 .f32) (main_v10 : IVec S32768x8 1) (main_v13 : FVec F S32768x8 .f32) (main_v16 : IVec S32768x8 1) (main_v18 : IVec S32768x8 1) : IVec S32768x8 1 :=
  let main_v19 : IVec S32768x8 1 := andi main_v16 main_v18
  let main_cst_4 : FVec F S_ .f32 := constant S_ .f32 0x7F800000#32
  let main_v20 : FVec F S32768x8 .f32 := broadcastInDim S32768x8 ![] bcast_S_S32768x8 main_cst_4
  let main_v21 : IVec S32768x8 1 := cmpf .olt main_v13 main_v20
  let main_v22 : IVec S32768x8 1 := andi main_v19 main_v21
  let main_v23 : IVec S32768x8 1 := andi main_v10 main_v22
  let main_v24 : FVec F S32768x128 .f32 := shapeCast S32768x128 main_arg8 shapeCasts_S2048x2048_S32768x128
  let main_v25 : FVec F S32768x8 .f32 := (extractStridedSlice S32768x8 ![0, 0] · slices_S32768x128_S32768x8_0_0) main_v24
  let main_v26 : FVec F S32768x8 .f32 := (extractStridedSlice S32768x8 ![0, 8] · slices_S32768x128_S32768x8_0_8) main_v24
  let main_v27 : FVec F S32768x8 .f32 := Host.absf main_v25
  let main_cst_5 : FVec F S_ .f32 := constant S_ .f32 0x7F800000#32
  let main_v28 : FVec F S32768x8 .f32 := broadcastInDim S32768x8 ![] bcast_S_S32768x8 main_cst_5
  let main_v29 : IVec S32768x8 1 := cmpf .olt main_v27 main_v28
  let main_cst_6 : FVec F S_ .f32 := constant S_ .f32 0x00000000#32
  let main_v30 : FVec F S32768x8 .f32 := broadcastInDim S32768x8 ![] bcast_S_S32768x8 main_cst_6
  let main_v31 : IVec S32768x8 1 := cmpf .ogt main_v26 main_v30
  let main_v32 : IVec S32768x8 1 := andi main_v29 main_v31
  let main_cst_7 : FVec F S_ .f32 := constant S_ .f32 0x7F800000#32
  let main_v33 : FVec F S32768x8 .f32 := broadcastInDim S32768x8 ![] bcast_S_S32768x8 main_cst_7
  let main_v34 : IVec S32768x8 1 := cmpf .olt main_v26 main_v33
  let main_v35 : IVec S32768x8 1 := andi main_v32 main_v34
  let main_v36 : IVec S32768x8 1 := andi main_v23 main_v35
  main_v36

def fn {F : FTy → Type} [FloatOps F] (main_arg0 : FVec F S32768x1024 .f32) (main_arg1 : FVec F S32768x256 .f32) (main_arg2 : FVec F S32768x512 .bf16) (main_arg3 : FVec F S32768x512 .bf16) (main_arg4 : FVec F S8192x2048 .bf16) (main_arg5 : FVec F S2048x8192 .bf16) (main_arg6 : FVec F S32768x128 .f32) (main_arg7 : FVec F S8192x512 .f32) (main_arg8 : FVec F S2048x2048 .f32) (main_arg9 : FVec F S1x512 .f32) (main_arg10 : FVec F S1x512 .f32) (main_arg11 : FVec F S1024x1024 .bf16) (main_arg12 : FVec F S1x1024 .f32) (main_arg13 : FVec F S1x1024 .f32) (main_arg14 : FVec F S1024x4096 .bf16) (main_arg15 : FVec F S4096x1024 .bf16) (main_arg16 : FVec F S1x1024 .f32) (main_arg17 : FVec F S256x1024 .bf16) (main_arg18 : FVec F S1024x1024 .bf16) (main_arg19 : FVec F S1x1024 .f32) (main_arg20 : FVec F S1x1024 .f32) : IVec S32768x8 1 :=
  let main_v0 : FVec F S32768x8 .f32 := (extractStridedSlice S32768x8 ![0, 0] · slices_S32768x128_S32768x8_0_0) main_arg6
  let main_v1 : FVec F S32768x8 .f32 := (extractStridedSlice S32768x8 ![0, 8] · slices_S32768x128_S32768x8_0_8) main_arg6
  let main_v2 : FVec F S32768x8 .f32 := Host.absf main_v0
  let main_cst : FVec F S_ .f32 := constant S_ .f32 0x7F800000#32
  let main_v3 : FVec F S32768x8 .f32 := broadcastInDim S32768x8 ![] bcast_S_S32768x8 main_cst
  let main_v4 : IVec S32768x8 1 := cmpf .olt main_v2 main_v3
  let main_cst_0 : FVec F S_ .f32 := constant S_ .f32 0x00000000#32
  let main_v5 : FVec F S32768x8 .f32 := broadcastInDim S32768x8 ![] bcast_S_S32768x8 main_cst_0
  let main_v6 : IVec S32768x8 1 := cmpf .ogt main_v1 main_v5
  let main_v7 : IVec S32768x8 1 := andi main_v4 main_v6
  let main_cst_1 : FVec F S_ .f32 := constant S_ .f32 0x7F800000#32
  let main_v8 : FVec F S32768x8 .f32 := broadcastInDim S32768x8 ![] bcast_S_S32768x8 main_cst_1
  let main_v9 : IVec S32768x8 1 := cmpf .olt main_v1 main_v8
  let main_v10 : IVec S32768x8 1 := andi main_v7 main_v9
  let main_v11 : FVec F S32768x128 .f32 := shapeCast S32768x128 main_arg7 shapeCasts_S8192x512_S32768x128
  let main_v12 : FVec F S32768x8 .f32 := (extractStridedSlice S32768x8 ![0, 0] · slices_S32768x128_S32768x8_0_0) main_v11
  let main_v13 : FVec F S32768x8 .f32 := (extractStridedSlice S32768x8 ![0, 8] · slices_S32768x128_S32768x8_0_8) main_v11
  let main_v14 : FVec F S32768x8 .f32 := Host.absf main_v12
  let main_cst_2 : FVec F S_ .f32 := constant S_ .f32 0x7F800000#32
  let main_v15 : FVec F S32768x8 .f32 := broadcastInDim S32768x8 ![] bcast_S_S32768x8 main_cst_2
  let main_v16 : IVec S32768x8 1 := cmpf .olt main_v14 main_v15
  let main_cst_3 : FVec F S_ .f32 := constant S_ .f32 0x00000000#32
  let main_v17 : FVec F S32768x8 .f32 := broadcastInDim S32768x8 ![] bcast_S_S32768x8 main_cst_3
  let main_v18 : IVec S32768x8 1 := cmpf .ogt main_v13 main_v17
  fn_part1 (F := F) main_arg8 main_v10 main_v13 main_v16 main_v18
-- ==== Kernel.lean ====
abbrev S8x256x24576 : Shape := ⟨3, ![8, 256, 24576]⟩
abbrev S9x8x128x256 : Shape := ⟨4, ![9, 8, 128, 256]⟩
abbrev S8x256x8192 : Shape := ⟨3, ![8, 256, 8192]⟩
abbrev S8x256x2048 : Shape := ⟨3, ![8, 256, 2048]⟩
abbrev S1x256x12288 : Shape := ⟨3, ![1, 256, 12288]⟩
abbrev S3x8x128x256 : Shape := ⟨4, ![3, 8, 128, 256]⟩
abbrev S1x256x4096 : Shape := ⟨3, ![1, 256, 4096]⟩
abbrev S1x256x1024 : Shape := ⟨3, ![1, 256, 1024]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S128x256 : Shape := ⟨2, ![128, 256]⟩
abbrev S1x1x128x256 : Shape := ⟨4, ![1, 1, 128, 256]⟩
abbrev S256x256 : Shape := ⟨2, ![256, 256]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x256x24576, .bf16⟩
  | .hbm, ⟨1, _⟩ => ⟨S9x8x128x256, .f32⟩
  | .hbm, ⟨2, _⟩ => ⟨S8x256x8192, .bf16⟩
  | .hbm, ⟨3, _⟩ => ⟨S8x256x2048, .f32⟩
  | .local _ .vmem, ⟨0, _⟩ => ⟨S1x256x12288, .bf16⟩
  | .local _ .vmem, ⟨1, _⟩ => ⟨S1x256x12288, .bf16⟩
  | .local _ .vmem, ⟨2, _⟩ => ⟨S3x8x128x256, .f32⟩
  | .local _ .vmem, ⟨3, _⟩ => ⟨S1x256x4096, .bf16⟩
  | .local _ .vmem, ⟨4, _⟩ => ⟨S1x256x4096, .bf16⟩
  | .local _ .vmem, ⟨5, _⟩ => ⟨S1x256x1024, .f32⟩
  | .local _ .vmem, ⟨6, _⟩ => ⟨S1x256x1024, .f32⟩
  | _, _ => ⟨S8x256x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c2_i32 : BitVec 32 := 2#32
  let v3 : BitVec 32 := Scalar.muli c0_i32 c2_i32
  let c0_i32_0 : BitVec 32 := 0#32
  let v4 : BitVec 32 := Scalar.addi v3 c0_i32_0
  let c128_i32 : BitVec 32 := 128#32
  let v5 : BitVec 32 := Scalar.muli v4 c128_i32
  v5
def k0_mult2 : BitVec 32 :=
  let c0_i32_3 : BitVec 32 := 0#32
  let c0_i32_2 : BitVec 32 := 0#32
  let c0_i32 : BitVec 32 := 0#32
  let c2_i32 : BitVec 32 := 2#32
  let v3 : BitVec 32 := Scalar.muli c0_i32 c2_i32
  let c0_i32_0 : BitVec 32 := 0#32
  let v4 : BitVec 32 := Scalar.addi v3 c0_i32_0
  let c128_i32 : BitVec 32 := 128#32
  let v5 : BitVec 32 := Scalar.muli v4 c128_i32
  let v6 : BitVec 32 := v5
  let c64_i32_1 : BitVec 32 := 64#32
  let v7 : BitVec 32 := Scalar.subi v6 c64_i32_1
  let v8 : BitVec 32 := Scalar.maxsi c0_i32_2 v7
  let v9 : BitVec 32 := Scalar.minsi c0_i32_3 v8
  v9
def k0_off1 (c0_i32_0 : BitVec 32) : Fin 3 → Nat :=
  let c0 : Index := 0#32
  let c0_i32 : BitVec 32 := 0#32
  let c2_i32 : BitVec 32 := 2#32
  let v3 : BitVec 32 := Scalar.muli c0_i32 c2_i32
  let v4 : BitVec 32 := Scalar.addi v3 c0_i32_0
  let c128_i32 : BitVec 32 := 128#32
  let v5 : BitVec 32 := Scalar.muli v4 c128_i32
  let v6 : BitVec 32 := v5
  let v15 : Index := Scalar.indexCast v6
  let c0_8 : Index := 0#32
  ![0, v15.toNat, 0]
def k0_off2 (c0_i32_0 : BitVec 32) : Fin 3 → Nat :=
  let c0_9 : Index := 0#32
  let c0_i32_3 : BitVec 32 := 0#32
  let c0_i32_2 : BitVec 32 := 0#32
  let c0_i32 : BitVec 32 := 0#32
  let c2_i32 : BitVec 32 := 2#32
  let v3 : BitVec 32 := Scalar.muli c0_i32 c2_i32
  let v4 : BitVec 32 := Scalar.addi v3 c0_i32_0
  let c128_i32 : BitVec 32 := 128#32
  let v5 : BitVec 32 := Scalar.muli v4 c128_i32
  let v6 : BitVec 32 := v5
  let c64_i32_1 : BitVec 32 := 64#32
  let v7 : BitVec 32 := Scalar.subi v6 c64_i32_1
  let v8 : BitVec 32 := Scalar.maxsi c0_i32_2 v7
  let v9 : BitVec 32 := Scalar.minsi c0_i32_3 v8
  let v10 : BitVec 32 := v9
  let v18 : Index := Scalar.indexCast v10
  let c512 : Index := 512#32
  ![0, v18.toNat, 512]
def k0_off3 (c0_i32_0 : BitVec 32) : Fin 4 → Nat :=
  let c0_i32 : BitVec 32 := 0#32
  let c2_i32 : BitVec 32 := 2#32
  let v3 : BitVec 32 := Scalar.muli c0_i32 c2_i32
  let v4 : BitVec 32 := Scalar.addi v3 c0_i32_0
  let c0_i32_4 : BitVec 32 := 0#32
  let v11 : BitVec 1 := Scalar.cmpi .eq v4 c0_i32_4
  let c0_i32_7 : BitVec 32 := 0#32
  let c1_i32 : BitVec 32 := 1#32
  let v12 : BitVec 1 := Scalar.cmpi .eq v4 c1_i32
  let c2_i32_5 : BitVec 32 := 2#32
  let c1_i32_6 : BitVec 32 := 1#32
  let v13 : BitVec 32 := Scalar.select v12 c2_i32_5 c1_i32_6
  let v14 : BitVec 32 := Scalar.select v11 c0_i32_7 v13
  let v24 : Index := Scalar.indexCast v14
  let c0_11 : Index := 0#32
  let c0_12 : Index := 0#32
  let c0_13 : Index := 0#32
  ![v24.toNat, 0, 0, 0]
def k0_off4 (c0_i32_0 : BitVec 32) : Fin 4 → Nat :=
  let c0_i32 : BitVec 32 := 0#32
  let c2_i32 : BitVec 32 := 2#32
  let v3 : BitVec 32 := Scalar.muli c0_i32 c2_i32
  let v4 : BitVec 32 := Scalar.addi v3 c0_i32_0
  let c0_i32_4 : BitVec 32 := 0#32
  let v11 : BitVec 1 := Scalar.cmpi .eq v4 c0_i32_4
  let c0_i32_7 : BitVec 32 := 0#32
  let c1_i32 : BitVec 32 := 1#32
  let v12 : BitVec 1 := Scalar.cmpi .eq v4 c1_i32
  let c2_i32_5 : BitVec 32 := 2#32
  let c1_i32_6 : BitVec 32 := 1#32
  let v13 : BitVec 32 := Scalar.select v12 c2_i32_5 c1_i32_6
  let v14 : BitVec 32 := Scalar.select v11 c0_i32_7 v13
  let v32 : Index := Scalar.indexCast v14
  let c1 : Index := 1#32
  let c0_17 : Index := 0#32
  let c0_18 : Index := 0#32
  ![v32.toNat, 1, 0, 0]
def k0_mult3 : BitVec 32 :=
  let c0_i32 : BitVec 32 := 0#32
  let c2_i32_19 : BitVec 32 := 2#32
  let v36 : BitVec 32 := Scalar.muli c0_i32 c2_i32_19
  let c0_i32_20 : BitVec 32 := 0#32
  let v37 : BitVec 32 := Scalar.addi v36 c0_i32_20
  let c128_i32_21 : BitVec 32 := 128#32
  let v38 : BitVec 32 := Scalar.muli v37 c128_i32_21
  v38
def k0_mult4 : BitVec 32 :=
  let c0_i32_24 : BitVec 32 := 0#32
  let c0_i32_23 : BitVec 32 := 0#32
  let c0_i32 : BitVec 32 := 0#32
  let c2_i32_19 : BitVec 32 := 2#32
  let v36 : BitVec 32 := Scalar.muli c0_i32 c2_i32_19
  let c0_i32_20 : BitVec 32 := 0#32
  let v37 : BitVec 32 := Scalar.addi v36 c0_i32_20
  let c128_i32_21 : BitVec 32 := 128#32
  let v38 : BitVec 32 := Scalar.muli v37 c128_i32_21
  let v39 : BitVec 32 := v38
  let c64_i32_22 : BitVec 32 := 64#32
  let v40 : BitVec 32 := Scalar.subi v39 c64_i32_22
  let v41 : BitVec 32 := Scalar.maxsi c0_i32_23 v40
  let v42 : BitVec 32 := Scalar.minsi c0_i32_24 v41
  v42
def k0_off5 (c0_i32_20 : BitVec 32) : Fin 3 → Nat :=
  let c0_30 : Index := 0#32
  let c0_i32 : BitVec 32 := 0#32
  let c2_i32_19 : BitVec 32 := 2#32
  let v36 : BitVec 32 := Scalar.muli c0_i32 c2_i32_19
  let v37 : BitVec 32 := Scalar.addi v36 c0_i32_20
  let c128_i32_21 : BitVec 32 := 128#32
  let v38 : BitVec 32 := Scalar.muli v37 c128_i32_21
  let v39 : BitVec 32 := v38
  let v48 : Index := Scalar.indexCast v39
  let c128 : Index := 128#32
  ![0, v48.toNat, 128]
def k0_off6 (c0_i32_20 : BitVec 32) : Fin 3 → Nat :=
  let c0_31 : Index := 0#32
  let c0_i32_24 : BitVec 32 := 0#32
  let c0_i32_23 : BitVec 32 := 0#32
  let c0_i32 : BitVec 32 := 0#32
  let c2_i32_19 : BitVec 32 := 2#32
  let v36 : BitVec 32 := Scalar.muli c0_i32 c2_i32_19
  let v37 : BitVec 32 := Scalar.addi v36 c0_i32_20
  let c128_i32_21 : BitVec 32 := 128#32
  let v38 : BitVec 32 := Scalar.muli v37 c128_i32_21
  let v39 : BitVec 32 := v38
  let c64_i32_22 : BitVec 32 := 64#32
  let v40 : BitVec 32 := Scalar.subi v39 c64_i32_22
  let v41 : BitVec 32 := Scalar.maxsi c0_i32_23 v40
  let v42 : BitVec 32 := Scalar.minsi c0_i32_24 v41
  let v43 : BitVec 32 := v42
  let v51 : Index := Scalar.indexCast v43
  let c640 : Index := 640#32
  ![0, v51.toNat, 640]
def k0_off7 (c0_i32_20 : BitVec 32) : Fin 4 → Nat :=
  let c0_i32 : BitVec 32 := 0#32
  let c2_i32_19 : BitVec 32 := 2#32
  let v36 : BitVec 32 := Scalar.muli c0_i32 c2_i32_19
  let v37 : BitVec 32 := Scalar.addi v36 c0_i32_20
  let c0_i32_25 : BitVec 32 := 0#32
  let v44 : BitVec 1 := Scalar.cmpi .eq v37 c0_i32_25
  let c0_i32_29 : BitVec 32 := 0#32
  let c1_i32_26 : BitVec 32 := 1#32
  let v45 : BitVec 1 := Scalar.cmpi .eq v37 c1_i32_26
  let c2_i32_27 : BitVec 32 := 2#32
  let c1_i32_28 : BitVec 32 := 1#32
  let v46 : BitVec 32 := Scalar.select v45 c2_i32_27 c1_i32_28
  let v47 : BitVec 32 := Scalar.select v44 c0_i32_29 v46
  let v57 : Index := Scalar.indexCast v47
  let c2 : Index := 2#32
  let c0_34 : Index := 0#32
  let c0_35 : Index := 0#32
  ![v57.toNat, 2, 0, 0]
def k0_off8 (c0_i32_20 : BitVec 32) : Fin 4 → Nat :=
  let c0_i32 : BitVec 32 := 0#32
  let c2_i32_19 : BitVec 32 := 2#32
  let v36 : BitVec 32 := Scalar.muli c0_i32 c2_i32_19
  let v37 : BitVec 32 := Scalar.addi v36 c0_i32_20
  let c0_i32_25 : BitVec 32 := 0#32
  let v44 : BitVec 1 := Scalar.cmpi .eq v37 c0_i32_25
  let c0_i32_29 : BitVec 32 := 0#32
  let c1_i32_26 : BitVec 32 := 1#32
  let v45 : BitVec 1 := Scalar.cmpi .eq v37 c1_i32_26
  let c2_i32_27 : BitVec 32 := 2#32
  let c1_i32_28 : BitVec 32 := 1#32
  let v46 : BitVec 32 := Scalar.select v45 c2_i32_27 c1_i32_28
  let v47 : BitVec 32 := Scalar.select v44 c0_i32_29 v46
  let v65 : Index := Scalar.indexCast v47
  let c3 : Index := 3#32
  let c0_39 : Index := 0#32
  let c0_40 : Index := 0#32
  ![v65.toNat, 3, 0, 0]
def k0_mult5 : BitVec 32 :=
  let c0_i32 : BitVec 32 := 0#32
  let c2_i32_41 : BitVec 32 := 2#32
  let v69 : BitVec 32 := Scalar.muli c0_i32 c2_i32_41
  let c0_i32_42 : BitVec 32 := 0#32
  let v70 : BitVec 32 := Scalar.addi v69 c0_i32_42
  let c128_i32_43 : BitVec 32 := 128#32
  let v71 : BitVec 32 := Scalar.muli v70 c128_i32_43
  v71
def k0_mult6 : BitVec 32 :=
  let c0_i32_46 : BitVec 32 := 0#32
  let c0_i32_45 : BitVec 32 := 0#32
  let c0_i32 : BitVec 32 := 0#32
  let c2_i32_41 : BitVec 32 := 2#32
  let v69 : BitVec 32 := Scalar.muli c0_i32 c2_i32_41
  let c0_i32_42 : BitVec 32 := 0#32
  let v70 : BitVec 32 := Scalar.addi v69 c0_i32_42
  let c128_i32_43 : BitVec 32 := 128#32
  let v71 : BitVec 32 := Scalar.muli v70 c128_i32_43
  let v72 : BitVec 32 := v71
  let c64_i32_44 : BitVec 32 := 64#32
  let v73 : BitVec 32 := Scalar.subi v72 c64_i32_44
  let v74 : BitVec 32 := Scalar.maxsi c0_i32_45 v73
  let v75 : BitVec 32 := Scalar.minsi c0_i32_46 v74
  v75
def k0_off9 (c0_i32_42 : BitVec 32) : Fin 3 → Nat :=
  let c0_52 : Index := 0#32
  let c0_i32 : BitVec 32 := 0#32
  let c2_i32_41 : BitVec 32 := 2#32
  let v69 : BitVec 32 := Scalar.muli c0_i32 c2_i32_41
  let v70 : BitVec 32 := Scalar.addi v69 c0_i32_42
  let c128_i32_43 : BitVec 32 := 128#32
  let v71 : BitVec 32 := Scalar.muli v70 c128_i32_43
  let v72 : BitVec 32 := v71
  let v81 : Index := Scalar.indexCast v72
  let c256 : Index := 256#32
  ![0, v81.toNat, 256]
def k0_off10 (c0_i32_42 : BitVec 32) : Fin 3 → Nat :=
  let c0_53 : Index := 0#32
  let c0_i32_46 : BitVec 32 := 0#32
  let c0_i32_45 : BitVec 32 := 0#32
  let c0_i32 : BitVec 32 := 0#32
  let c2_i32_41 : BitVec 32 := 2#32
  let v69 : BitVec 32 := Scalar.muli c0_i32 c2_i32_41
  let v70 : BitVec 32 := Scalar.addi v69 c0_i32_42
  let c128_i32_43 : BitVec 32 := 128#32
  let v71 : BitVec 32 := Scalar.muli v70 c128_i32_43
  let v72 : BitVec 32 := v71
  let c64_i32_44 : BitVec 32 := 64#32
  let v73 : BitVec 32 := Scalar.subi v72 c64_i32_44
  let v74 : BitVec 32 := Scalar.maxsi c0_i32_45 v73
  let v75 : BitVec 32 := Scalar.minsi c0_i32_46 v74
  let v76 : BitVec 32 := v75
  let v84 : Index := Scalar.indexCast v76
  let c768 : Index := 768#32
  ![0, v84.toNat, 768]
def k0_off11 (c0_i32_42 : BitVec 32) : Fin 4 → Nat :=
  let c0_i32 : BitVec 32 := 0#32
  let c2_i32_41 : BitVec 32 := 2#32
  let v69 : BitVec 32 := Scalar.muli c0_i32 c2_i32_41
  let v70 : BitVec 32 := Scalar.addi v69 c0_i32_42
  let c0_i32_47 : BitVec 32 := 0#32
  let v77 : BitVec 1 := Scalar.cmpi .eq v70 c0_i32_47
  let c0_i32_51 : BitVec 32 := 0#32
  let c1_i32_48 : BitVec 32 := 1#32
  let v78 : BitVec 1 := Scalar.cmpi .eq v70 c1_i32_48
  let c2_i32_49 : BitVec 32 := 2#32
  let c1_i32_50 : BitVec 32 := 1#32
  let v79 : BitVec 32 := Scalar.select v78 c2_i32_49 c1_i32_50
  let v80 : BitVec 32 := Scalar.select v77 c0_i32_51 v79
  let v90 : Index := Scalar.indexCast v80
  let c4 : Index := 4#32
  let c0_56 : Index := 0#32
  let c0_57 : Index := 0#32
  ![v90.toNat, 4, 0, 0]
def k0_off12 (c0_i32_42 : BitVec 32) : Fin 4 → Nat :=
  let c0_i32 : BitVec 32 := 0#32
  let c2_i32_41 : BitVec 32 := 2#32
  let v69 : BitVec 32 := Scalar.muli c0_i32 c2_i32_41
  let v70 : BitVec 32 := Scalar.addi v69 c0_i32_42
  let c0_i32_47 : BitVec 32 := 0#32
  let v77 : BitVec 1 := Scalar.cmpi .eq v70 c0_i32_47
  let c0_i32_51 : BitVec 32 := 0#32
  let c1_i32_48 : BitVec 32 := 1#32
  let v78 : BitVec 1 := Scalar.cmpi .eq v70 c1_i32_48
  let c2_i32_49 : BitVec 32 := 2#32
  let c1_i32_50 : BitVec 32 := 1#32
  let v79 : BitVec 32 := Scalar.select v78 c2_i32_49 c1_i32_50
  let v80 : BitVec 32 := Scalar.select v77 c0_i32_51 v79
  let v98 : Index := Scalar.indexCast v80
  let c5 : Index := 5#32
  let c0_61 : Index := 0#32
  let c0_62 : Index := 0#32
  ![v98.toNat, 5, 0, 0]
def k0_mult7 : BitVec 32 :=
  let c0_i32 : BitVec 32 := 0#32
  let c2_i32_63 : BitVec 32 := 2#32
  let v102 : BitVec 32 := Scalar.muli c0_i32 c2_i32_63
  let c0_i32_64 : BitVec 32 := 0#32
  let v103 : BitVec 32 := Scalar.addi v102 c0_i32_64
  let c128_i32_65 : BitVec 32 := 128#32
  let v104 : BitVec 32 := Scalar.muli v103 c128_i32_65
  v104
def k0_mult8 : BitVec 32 :=
  let c0_i32_68 : BitVec 32 := 0#32
  let c0_i32_67 : BitVec 32 := 0#32
  let c0_i32 : BitVec 32 := 0#32
  let c2_i32_63 : BitVec 32 := 2#32
  let v102 : BitVec 32 := Scalar.muli c0_i32 c2_i32_63
  let c0_i32_64 : BitVec 32 := 0#32
  let v103 : BitVec 32 := Scalar.addi v102 c0_i32_64
  let c128_i32_65 : BitVec 32 := 128#32
  let v104 : BitVec 32 := Scalar.muli v103 c128_i32_65
  let v105 : BitVec 32 := v104
  let c64_i32_66 : BitVec 32 := 64#32
  let v106 : BitVec 32 := Scalar.subi v105 c64_i32_66
  let v107 : BitVec 32 := Scalar.maxsi c0_i32_67 v106
  let v108 : BitVec 32 := Scalar.minsi c0_i32_68 v107
  v108
def k0_off13 (c0_i32_64 : BitVec 32) : Fin 3 → Nat :=
  let c0_74 : Index := 0#32
  let c0_i32 : BitVec 32 := 0#32
  let c2_i32_63 : BitVec 32 := 2#32
  let v102 : BitVec 32 := Scalar.muli c0_i32 c2_i32_63
  let v103 : BitVec 32 := Scalar.addi v102 c0_i32_64
  let c128_i32_65 : BitVec 32 := 128#32
  let v104 : BitVec 32 := Scalar.muli v103 c128_i32_65
  let v105 : BitVec 32 := v104
  let v114 : Index := Scalar.indexCast v105
  let c384 : Index := 384#32
  ![0, v114.toNat, 384]
def k0_off14 (c0_i32_64 : BitVec 32) : Fin 3 → Nat :=
  let c0_75 : Index := 0#32
  let c0_i32_68 : BitVec 32 := 0#32
  let c0_i32_67 : BitVec 32 := 0#32
  let c0_i32 : BitVec 32 := 0#32
  let c2_i32_63 : BitVec 32 := 2#32
  let v102 : BitVec 32 := Scalar.muli c0_i32 c2_i32_63
  let v103 : BitVec 32 := Scalar.addi v102 c0_i32_64
  let c128_i32_65 : BitVec 32 := 128#32
  let v104 : BitVec 32 := Scalar.muli v103 c128_i32_65
  let v105 : BitVec 32 := v104
  let c64_i32_66 : BitVec 32 := 64#32
  let v106 : BitVec 32 := Scalar.subi v105 c64_i32_66
  let v107 : BitVec 32 := Scalar.maxsi c0_i32_67 v106
  let v108 : BitVec 32 := Scalar.minsi c0_i32_68 v107
  let v109 : BitVec 32 := v108
  let v117 : Index := Scalar.indexCast v109
  let c896 : Index := 896#32
  ![0, v117.toNat, 896]
def k0_off15 (c0_i32_64 : BitVec 32) : Fin 4 → Nat :=
  let c0_i32 : BitVec 32 := 0#32
  let c2_i32_63 : BitVec 32 := 2#32
  let v102 : BitVec 32 := Scalar.muli c0_i32 c2_i32_63
  let v103 : BitVec 32 := Scalar.addi v102 c0_i32_64
  let c0_i32_69 : BitVec 32 := 0#32
  let v110 : BitVec 1 := Scalar.cmpi .eq v103 c0_i32_69
  let c0_i32_73 : BitVec 32 := 0#32
  let c1_i32_70 : BitVec 32 := 1#32
  let v111 : BitVec 1 := Scalar.cmpi .eq v103 c1_i32_70
  let c2_i32_71 : BitVec 32 := 2#32
  let c1_i32_72 : BitVec 32 := 1#32
  let v112 : BitVec 32 := Scalar.select v111 c2_i32_71 c1_i32_72
  let v113 : BitVec 32 := Scalar.select v110 c0_i32_73 v112
  let v123 : Index := Scalar.indexCast v113
  let c6 : Index := 6#32
  let c0_78 : Index := 0#32
  let c0_79 : Index := 0#32
  ![v123.toNat, 6, 0, 0]
def k0_off16 (c0_i32_64 : BitVec 32) : Fin 4 → Nat :=
  let c0_i32 : BitVec 32 := 0#32
  let c2_i32_63 : BitVec 32 := 2#32
  let v102 : BitVec 32 := Scalar.muli c0_i32 c2_i32_63
  let v103 : BitVec 32 := Scalar.addi v102 c0_i32_64
  let c0_i32_69 : BitVec 32 := 0#32
  let v110 : BitVec 1 := Scalar.cmpi .eq v103 c0_i32_69
  let c0_i32_73 : BitVec 32 := 0#32
  let c1_i32_70 : BitVec 32 := 1#32
  let v111 : BitVec 1 := Scalar.cmpi .eq v103 c1_i32_70
  let c2_i32_71 : BitVec 32 := 2#32
  let c1_i32_72 : BitVec 32 := 1#32
  let v112 : BitVec 32 := Scalar.select v111 c2_i32_71 c1_i32_72
  let v113 : BitVec 32 := Scalar.select v110 c0_i32_73 v112
  let v131 : Index := Scalar.indexCast v113
  let c7 : Index := 7#32
  let c0_83 : Index := 0#32
  let c0_84 : Index := 0#32
  ![v131.toNat, 7, 0, 0]
def k0_mult9 : BitVec 32 :=
  let c0_i32 : BitVec 32 := 0#32
  let c2_i32_85 : BitVec 32 := 2#32
  let v135 : BitVec 32 := Scalar.muli c0_i32 c2_i32_85
  let c0_i32_86 : BitVec 32 := 0#32
  let v136 : BitVec 32 := Scalar.addi v135 c0_i32_86
  let c128_i32_87 : BitVec 32 := 128#32
  let v137 : BitVec 32 := Scalar.muli v136 c128_i32_87
  v137
def k0_mult10 : BitVec 32 :=
  let c0_i32_90 : BitVec 32 := 0#32
  let c0_i32_89 : BitVec 32 := 0#32
  let c0_i32 : BitVec 32 := 0#32
  let c2_i32_85 : BitVec 32 := 2#32
  let v135 : BitVec 32 := Scalar.muli c0_i32 c2_i32_85
  let c0_i32_86 : BitVec 32 := 0#32
  let v136 : BitVec 32 := Scalar.addi v135 c0_i32_86
  let c128_i32_87 : BitVec 32 := 128#32
  let v137 : BitVec 32 := Scalar.muli v136 c128_i32_87
  let v138 : BitVec 32 := v137
  let c64_i32_88 : BitVec 32 := 64#32
  let v139 : BitVec 32 := Scalar.subi v138 c64_i32_88
  let v140 : BitVec 32 := Scalar.maxsi c0_i32_89 v139
  let v141 : BitVec 32 := Scalar.minsi c0_i32_90 v140
  v141
def k0_off17 (c0_i32_86 : BitVec 32) : Fin 3 → Nat :=
  let c0_96 : Index := 0#32
  let c0_i32 : BitVec 32 := 0#32
  let c2_i32_85 : BitVec 32 := 2#32
  let v135 : BitVec 32 := Scalar.muli c0_i32 c2_i32_85
  let v136 : BitVec 32 := Scalar.addi v135 c0_i32_86
  let c128_i32_87 : BitVec 32 := 128#32
  let v137 : BitVec 32 := Scalar.muli v136 c128_i32_87
  let v138 : BitVec 32 := v137
  let v147 : Index := Scalar.indexCast v138
  let c1536 : Index := 1536#32
  ![0, v147.toNat, 1536]
def k0_off18 (c0_i32_86 : BitVec 32) : Fin 3 → Nat :=
  let c0_97 : Index := 0#32
  let c0_i32_90 : BitVec 32 := 0#32
  let c0_i32_89 : BitVec 32 := 0#32
  let c0_i32 : BitVec 32 := 0#32
  let c2_i32_85 : BitVec 32 := 2#32
  let v135 : BitVec 32 := Scalar.muli c0_i32 c2_i32_85
  let v136 : BitVec 32 := Scalar.addi v135 c0_i32_86
  let c128_i32_87 : BitVec 32 := 128#32
  let v137 : BitVec 32 := Scalar.muli v136 c128_i32_87
  let v138 : BitVec 32 := v137
  let c64_i32_88 : BitVec 32 := 64#32
  let v139 : BitVec 32 := Scalar.subi v138 c64_i32_88
  let v140 : BitVec 32 := Scalar.maxsi c0_i32_89 v139
  let v141 : BitVec 32 := Scalar.minsi c0_i32_90 v140
  let v142 : BitVec 32 := v141
  let v150 : Index := Scalar.indexCast v142
  let c2048 : Index := 2048#32
  ![0, v150.toNat, 2048]
def k0_off19 (c0_i32_0 : BitVec 32) : Fin 3 → Nat :=
  let c0_109 : Index := 0#32
  let c0_i32_3 : BitVec 32 := 0#32
  let c0_i32_2 : BitVec 32 := 0#32
  let c0_i32 : BitVec 32 := 0#32
  let c2_i32 : BitVec 32 := 2#32
  let v3 : BitVec 32 := Scalar.muli c0_i32 c2_i32
  let v4 : BitVec 32 := Scalar.addi v3 c0_i32_0
  let c128_i32 : BitVec 32 := 128#32
  let v5 : BitVec 32 := Scalar.muli v4 c128_i32
  let v6 : BitVec 32 := v5
  let c64_i32_1 : BitVec 32 := 64#32
  let v7 : BitVec 32 := Scalar.subi v6 c64_i32_1
  let v8 : BitVec 32 := Scalar.maxsi c0_i32_2 v7
  let v9 : BitVec 32 := Scalar.minsi c0_i32_3 v8
  let v10 : BitVec 32 := v9
  let v168 : Index := Scalar.indexCast v10
  let c1024 : Index := 1024#32
  ![0, v168.toNat, 1024]
def k0_off20 (c0_i32_0 : BitVec 32) : Fin 3 → Nat :=
  let c0_118 : Index := 0#32
  let c0_i32 : BitVec 32 := 0#32
  let c2_i32 : BitVec 32 := 2#32
  let v3 : BitVec 32 := Scalar.muli c0_i32 c2_i32
  let v4 : BitVec 32 := Scalar.addi v3 c0_i32_0
  let c128_i32 : BitVec 32 := 128#32
  let v5 : BitVec 32 := Scalar.muli v4 c128_i32
  let v6 : BitVec 32 := v5
  let v210 : Index := Scalar.indexCast v6
  let c0_119 : Index := 0#32
  ![0, v210.toNat, 0]
def k0_mult11 : BitVec 32 :=
  let c0_i32 : BitVec 32 := 0#32
  let c2_i32_120 : BitVec 32 := 2#32
  let v214 : BitVec 32 := Scalar.muli c0_i32 c2_i32_120
  let c0_i32_121 : BitVec 32 := 0#32
  let v215 : BitVec 32 := Scalar.addi v214 c0_i32_121
  let c128_i32_122 : BitVec 32 := 128#32
  let v216 : BitVec 32 := Scalar.muli v215 c128_i32_122
  v216
def k0_mult12 : BitVec 32 :=
  let c0_i32_125 : BitVec 32 := 0#32
  let c0_i32_124 : BitVec 32 := 0#32
  let c0_i32 : BitVec 32 := 0#32
  let c2_i32_120 : BitVec 32 := 2#32
  let v214 : BitVec 32 := Scalar.muli c0_i32 c2_i32_120
  let c0_i32_121 : BitVec 32 := 0#32
  let v215 : BitVec 32 := Scalar.addi v214 c0_i32_121
  let c128_i32_122 : BitVec 32 := 128#32
  let v216 : BitVec 32 := Scalar.muli v215 c128_i32_122
  let v217 : BitVec 32 := v216
  let c64_i32_123 : BitVec 32 := 64#32
  let v218 : BitVec 32 := Scalar.subi v217 c64_i32_123
  let v219 : BitVec 32 := Scalar.maxsi c0_i32_124 v218
  let v220 : BitVec 32 := Scalar.minsi c0_i32_125 v219
  v220
def k0_off21 (c0_i32_121 : BitVec 32) : Fin 3 → Nat :=
  let c0_131 : Index := 0#32
  let c0_i32 : BitVec 32 := 0#32
  let c2_i32_120 : BitVec 32 := 2#32
  let v214 : BitVec 32 := Scalar.muli c0_i32 c2_i32_120
  let v215 : BitVec 32 := Scalar.addi v214 c0_i32_121
  let c128_i32_122 : BitVec 32 := 128#32
  let v216 : BitVec 32 := Scalar.muli v215 c128_i32_122
  let v217 : BitVec 32 := v216
  let v226 : Index := Scalar.indexCast v217
  let c1664 : Index := 1664#32
  ![0, v226.toNat, 1664]
def k0_off22 (c0_i32_121 : BitVec 32) : Fin 3 → Nat :=
  let c0_132 : Index := 0#32
  let c0_i32_125 : BitVec 32 := 0#32
  let c0_i32_124 : BitVec 32 := 0#32
  let c0_i32 : BitVec 32 := 0#32
  let c2_i32_120 : BitVec 32 := 2#32
  let v214 : BitVec 32 := Scalar.muli c0_i32 c2_i32_120
  let v215 : BitVec 32 := Scalar.addi v214 c0_i32_121
  let c128_i32_122 : BitVec 32 := 128#32
  let v216 : BitVec 32 := Scalar.muli v215 c128_i32_122
  let v217 : BitVec 32 := v216
  let c64_i32_123 : BitVec 32 := 64#32
  let v218 : BitVec 32 := Scalar.subi v217 c64_i32_123
  let v219 : BitVec 32 := Scalar.maxsi c0_i32_124 v218
  let v220 : BitVec 32 := Scalar.minsi c0_i32_125 v219
  let v221 : BitVec 32 := v220
  let v229 : Index := Scalar.indexCast v221
  let c2176 : Index := 2176#32
  ![0, v229.toNat, 2176]
def k0_off23 (c0_i32_20 : BitVec 32) : Fin 3 → Nat :=
  let c0_144 : Index := 0#32
  let c0_i32_24 : BitVec 32 := 0#32
  let c0_i32_23 : BitVec 32 := 0#32
  let c0_i32 : BitVec 32 := 0#32
  let c2_i32_19 : BitVec 32 := 2#32
  let v36 : BitVec 32 := Scalar.muli c0_i32 c2_i32_19
  let v37 : BitVec 32 := Scalar.addi v36 c0_i32_20
  let c128_i32_21 : BitVec 32 := 128#32
  let v38 : BitVec 32 := Scalar.muli v37 c128_i32_21
  let v39 : BitVec 32 := v38
  let c64_i32_22 : BitVec 32 := 64#32
  let v40 : BitVec 32 := Scalar.subi v39 c64_i32_22
  let v41 : BitVec 32 := Scalar.maxsi c0_i32_23 v40
  let v42 : BitVec 32 := Scalar.minsi c0_i32_24 v41
  let v43 : BitVec 32 := v42
  let v247 : Index := Scalar.indexCast v43
  let c1152 : Index := 1152#32
  ![0, v247.toNat, 1152]
def k0_off24 (c0_i32_20 : BitVec 32) : Fin 3 → Nat :=
  let c0_151 : Index := 0#32
  let c0_i32 : BitVec 32 := 0#32
  let c2_i32_19 : BitVec 32 := 2#32
  let v36 : BitVec 32 := Scalar.muli c0_i32 c2_i32_19
  let v37 : BitVec 32 := Scalar.addi v36 c0_i32_20
  let c128_i32_21 : BitVec 32 := 128#32
  let v38 : BitVec 32 := Scalar.muli v37 c128_i32_21
  let v39 : BitVec 32 := v38
  let v288 : Index := Scalar.indexCast v39
  let c128_152 : Index := 128#32
  ![0, v288.toNat, 128]
def k0_mult13 : BitVec 32 :=
  let c0_i32 : BitVec 32 := 0#32
  let c2_i32_153 : BitVec 32 := 2#32
  let v292 : BitVec 32 := Scalar.muli c0_i32 c2_i32_153
  let c0_i32_154 : BitVec 32 := 0#32
  let v293 : BitVec 32 := Scalar.addi v292 c0_i32_154
  let c128_i32_155 : BitVec 32 := 128#32
  let v294 : BitVec 32 := Scalar.muli v293 c128_i32_155
  v294
def k0_mult14 : BitVec 32 :=
  let c0_i32_158 : BitVec 32 := 0#32
  let c0_i32_157 : BitVec 32 := 0#32
  let c0_i32 : BitVec 32 := 0#32
  let c2_i32_153 : BitVec 32 := 2#32
  let v292 : BitVec 32 := Scalar.muli c0_i32 c2_i32_153
  let c0_i32_154 : BitVec 32 := 0#32
  let v293 : BitVec 32 := Scalar.addi v292 c0_i32_154
  let c128_i32_155 : BitVec 32 := 128#32
  let v294 : BitVec 32 := Scalar.muli v293 c128_i32_155
  let v295 : BitVec 32 := v294
  let c64_i32_156 : BitVec 32 := 64#32
  let v296 : BitVec 32 := Scalar.subi v295 c64_i32_156
  let v297 : BitVec 32 := Scalar.maxsi c0_i32_157 v296
  let v298 : BitVec 32 := Scalar.minsi c0_i32_158 v297
  v298
def k0_off25 (c0_i32_154 : BitVec 32) : Fin 3 → Nat :=
  let c0_164 : Index := 0#32
  let c0_i32 : BitVec 32 := 0#32
  let c2_i32_153 : BitVec 32 := 2#32
  let v292 : BitVec 32 := Scalar.muli c0_i32 c2_i32_153
  let v293 : BitVec 32 := Scalar.addi v292 c0_i32_154
  let c128_i32_155 : BitVec 32 := 128#32
  let v294 : BitVec 32 := Scalar.muli v293 c128_i32_155
  let v295 : BitVec 32 := v294
  let v304 : Index := Scalar.indexCast v295
  let c1792 : Index := 1792#32
  ![0, v304.toNat, 1792]
def k0_off26 (c0_i32_154 : BitVec 32) : Fin 3 → Nat :=
  let c0_165 : Index := 0#32
  let c0_i32_158 : BitVec 32 := 0#32
  let c0_i32_157 : BitVec 32 := 0#32
  let c0_i32 : BitVec 32 := 0#32
  let c2_i32_153 : BitVec 32 := 2#32
  let v292 : BitVec 32 := Scalar.muli c0_i32 c2_i32_153
  let v293 : BitVec 32 := Scalar.addi v292 c0_i32_154
  let c128_i32_155 : BitVec 32 := 128#32
  let v294 : BitVec 32 := Scalar.muli v293 c128_i32_155
  let v295 : BitVec 32 := v294
  let c64_i32_156 : BitVec 32 := 64#32
  let v296 : BitVec 32 := Scalar.subi v295 c64_i32_156
  let v297 : BitVec 32 := Scalar.maxsi c0_i32_157 v296
  let v298 : BitVec 32 := Scalar.minsi c0_i32_158 v297
  let v299 : BitVec 32 := v298
  let v307 : Index := Scalar.indexCast v299
  let c2304 : Index := 2304#32
  ![0, v307.toNat, 2304]
def k0_off27 (c0_i32_42 : BitVec 32) : Fin 3 → Nat :=
  let c0_177 : Index := 0#32
  let c0_i32_46 : BitVec 32 := 0#32
  let c0_i32_45 : BitVec 32 := 0#32
  let c0_i32 : BitVec 32 := 0#32
  let c2_i32_41 : BitVec 32 := 2#32
  let v69 : BitVec 32 := Scalar.muli c0_i32 c2_i32_41
  let v70 : BitVec 32 := Scalar.addi v69 c0_i32_42
  let c128_i32_43 : BitVec 32 := 128#32
  let v71 : BitVec 32 := Scalar.muli v70 c128_i32_43
  let v72 : BitVec 32 := v71
  let c64_i32_44 : BitVec 32 := 64#32
  let v73 : BitVec 32 := Scalar.subi v72 c64_i32_44
  let v74 : BitVec 32 := Scalar.maxsi c0_i32_45 v73
  let v75 : BitVec 32 := Scalar.minsi c0_i32_46 v74
  let v76 : BitVec 32 := v75
  let v325 : Index := Scalar.indexCast v76
  let c1280 : Index := 1280#32
  ![0, v325.toNat, 1280]
def k0_off28 (c0_i32_42 : BitVec 32) : Fin 3 → Nat :=
  let c0_183 : Index := 0#32
  let c0_i32 : BitVec 32 := 0#32
  let c2_i32_41 : BitVec 32 := 2#32
  let v69 : BitVec 32 := Scalar.muli c0_i32 c2_i32_41
  let v70 : BitVec 32 := Scalar.addi v69 c0_i32_42
  let c128_i32_43 : BitVec 32 := 128#32
  let v71 : BitVec 32 := Scalar.muli v70 c128_i32_43
  let v72 : BitVec 32 := v71
  let v366 : Index := Scalar.indexCast v72
  let c256_184 : Index := 256#32
  ![0, v366.toNat, 256]
def k0_mult15 : BitVec 32 :=
  let c0_i32 : BitVec 32 := 0#32
  let c2_i32_185 : BitVec 32 := 2#32
  let v370 : BitVec 32 := Scalar.muli c0_i32 c2_i32_185
  let c0_i32_186 : BitVec 32 := 0#32
  let v371 : BitVec 32 := Scalar.addi v370 c0_i32_186
  let c128_i32_187 : BitVec 32 := 128#32
  let v372 : BitVec 32 := Scalar.muli v371 c128_i32_187
  v372
def k0_mult16 : BitVec 32 :=
  let c0_i32_190 : BitVec 32 := 0#32
  let c0_i32_189 : BitVec 32 := 0#32
  let c0_i32 : BitVec 32 := 0#32
  let c2_i32_185 : BitVec 32 := 2#32
  let v370 : BitVec 32 := Scalar.muli c0_i32 c2_i32_185
  let c0_i32_186 : BitVec 32 := 0#32
  let v371 : BitVec 32 := Scalar.addi v370 c0_i32_186
  let c128_i32_187 : BitVec 32 := 128#32
  let v372 : BitVec 32 := Scalar.muli v371 c128_i32_187
  let v373 : BitVec 32 := v372
  let c64_i32_188 : BitVec 32 := 64#32
  let v374 : BitVec 32 := Scalar.subi v373 c64_i32_188
  let v375 : BitVec 32 := Scalar.maxsi c0_i32_189 v374
  let v376 : BitVec 32 := Scalar.minsi c0_i32_190 v375
  v376
def k0_off29 (c0_i32_186 : BitVec 32) : Fin 3 → Nat :=
  let c0_196 : Index := 0#32
  let c0_i32 : BitVec 32 := 0#32
  let c2_i32_185 : BitVec 32 := 2#32
  let v370 : BitVec 32 := Scalar.muli c0_i32 c2_i32_185
  let v371 : BitVec 32 := Scalar.addi v370 c0_i32_186
  let c128_i32_187 : BitVec 32 := 128#32
  let v372 : BitVec 32 := Scalar.muli v371 c128_i32_187
  let v373 : BitVec 32 := v372
  let v382 : Index := Scalar.indexCast v373
  let c1920 : Index := 1920#32
  ![0, v382.toNat, 1920]
def k0_off30 (c0_i32_186 : BitVec 32) : Fin 3 → Nat :=
  let c0_197 : Index := 0#32
  let c0_i32_190 : BitVec 32 := 0#32
  let c0_i32_189 : BitVec 32 := 0#32
  let c0_i32 : BitVec 32 := 0#32
  let c2_i32_185 : BitVec 32 := 2#32
  let v370 : BitVec 32 := Scalar.muli c0_i32 c2_i32_185
  let v371 : BitVec 32 := Scalar.addi v370 c0_i32_186
  let c128_i32_187 : BitVec 32 := 128#32
  let v372 : BitVec 32 := Scalar.muli v371 c128_i32_187
  let v373 : BitVec 32 := v372
  let c64_i32_188 : BitVec 32 := 64#32
  let v374 : BitVec 32 := Scalar.subi v373 c64_i32_188
  let v375 : BitVec 32 := Scalar.maxsi c0_i32_189 v374
  let v376 : BitVec 32 := Scalar.minsi c0_i32_190 v375
  let v377 : BitVec 32 := v376
  let v385 : Index := Scalar.indexCast v377
  let c2432 : Index := 2432#32
  ![0, v385.toNat, 2432]
def k0_off31 (c0_i32_64 : BitVec 32) : Fin 3 → Nat :=
  let c0_209 : Index := 0#32
  let c0_i32_68 : BitVec 32 := 0#32
  let c0_i32_67 : BitVec 32 := 0#32
  let c0_i32 : BitVec 32 := 0#32
  let c2_i32_63 : BitVec 32 := 2#32
  let v102 : BitVec 32 := Scalar.muli c0_i32 c2_i32_63
  let v103 : BitVec 32 := Scalar.addi v102 c0_i32_64
  let c128_i32_65 : BitVec 32 := 128#32
  let v104 : BitVec 32 := Scalar.muli v103 c128_i32_65
  let v105 : BitVec 32 := v104
  let c64_i32_66 : BitVec 32 := 64#32
  let v106 : BitVec 32 := Scalar.subi v105 c64_i32_66
  let v107 : BitVec 32 := Scalar.maxsi c0_i32_67 v106
  let v108 : BitVec 32 := Scalar.minsi c0_i32_68 v107
  let v109 : BitVec 32 := v108
  let v403 : Index := Scalar.indexCast v109
  let c1408 : Index := 1408#32
  ![0, v403.toNat, 1408]
def k0_off32 (c0_i32_64 : BitVec 32) : Fin 3 → Nat :=
  let c0_215 : Index := 0#32
  let c0_i32 : BitVec 32 := 0#32
  let c2_i32_63 : BitVec 32 := 2#32
  let v102 : BitVec 32 := Scalar.muli c0_i32 c2_i32_63
  let v103 : BitVec 32 := Scalar.addi v102 c0_i32_64
  let c128_i32_65 : BitVec 32 := 128#32
  let v104 : BitVec 32 := Scalar.muli v103 c128_i32_65
  let v105 : BitVec 32 := v104
  let v444 : Index := Scalar.indexCast v105
  let c384_216 : Index := 384#32
  ![0, v444.toNat, 384]
def k0_off33 (c0_i32_64 : BitVec 32) : Fin 3 → Nat :=
  let c0_217 : Index := 0#32
  let c0_i32 : BitVec 32 := 0#32
  let c2_i32_63 : BitVec 32 := 2#32
  let v102 : BitVec 32 := Scalar.muli c0_i32 c2_i32_63
  let v103 : BitVec 32 := Scalar.addi v102 c0_i32_64
  let c128_i32_65 : BitVec 32 := 128#32
  let v104 : BitVec 32 := Scalar.muli v103 c128_i32_65
  let v105 : BitVec 32 := v104
  let v448 : Index := Scalar.indexCast v105
  let c0_218 : Index := 0#32
  ![0, v448.toNat, 0]
def k0_mult17 : BitVec 32 :=
  let c0_i32 : BitVec 32 := 0#32
  let c2_i32_219 : BitVec 32 := 2#32
  let v452 : BitVec 32 := Scalar.muli c0_i32 c2_i32_219
  let c0_i32_220 : BitVec 32 := 0#32
  let v453 : BitVec 32 := Scalar.addi v452 c0_i32_220
  let c128_i32_221 : BitVec 32 := 128#32
  let v454 : BitVec 32 := Scalar.muli v453 c128_i32_221
  v454
def k0_mult18 : BitVec 32 :=
  let c0_i32_224 : BitVec 32 := 0#32
  let c0_i32_223 : BitVec 32 := 0#32
  let c0_i32 : BitVec 32 := 0#32
  let c2_i32_219 : BitVec 32 := 2#32
  let v452 : BitVec 32 := Scalar.muli c0_i32 c2_i32_219
  let c0_i32_220 : BitVec 32 := 0#32
  let v453 : BitVec 32 := Scalar.addi v452 c0_i32_220
  let c128_i32_221 : BitVec 32 := 128#32
  let v454 : BitVec 32 := Scalar.muli v453 c128_i32_221
  let v455 : BitVec 32 := v454
  let c64_i32_222 : BitVec 32 := 64#32
  let v456 : BitVec 32 := Scalar.subi v455 c64_i32_222
  let v457 : BitVec 32 := Scalar.maxsi c0_i32_223 v456
  let v458 : BitVec 32 := Scalar.minsi c0_i32_224 v457
  v458
def k0_off34 (c0_i32_220 : BitVec 32) : Fin 3 → Nat :=
  let c0_230 : Index := 0#32
  let c0_i32 : BitVec 32 := 0#32
  let c2_i32_219 : BitVec 32 := 2#32
  let v452 : BitVec 32 := Scalar.muli c0_i32 c2_i32_219
  let v453 : BitVec 32 := Scalar.addi v452 c0_i32_220
  let c128_i32_221 : BitVec 32 := 128#32
  let v454 : BitVec 32 := Scalar.muli v453 c128_i32_221
  let v455 : BitVec 32 := v454
  let v464 : Index := Scalar.indexCast v455
  let c3072 : Index := 3072#32
  ![0, v464.toNat, 3072]
def k0_off35 (c0_i32_220 : BitVec 32) : Fin 3 → Nat :=
  let c0_231 : Index := 0#32
  let c0_i32_224 : BitVec 32 := 0#32
  let c0_i32_223 : BitVec 32 := 0#32
  let c0_i32 : BitVec 32 := 0#32
  let c2_i32_219 : BitVec 32 := 2#32
  let v452 : BitVec 32 := Scalar.muli c0_i32 c2_i32_219
  let v453 : BitVec 32 := Scalar.addi v452 c0_i32_220
  let c128_i32_221 : BitVec 32 := 128#32
  let v454 : BitVec 32 := Scalar.muli v453 c128_i32_221
  let v455 : BitVec 32 := v454
  let c64_i32_222 : BitVec 32 := 64#32
  let v456 : BitVec 32 := Scalar.subi v455 c64_i32_222
  let v457 : BitVec 32 := Scalar.maxsi c0_i32_223 v456
  let v458 : BitVec 32 := Scalar.minsi c0_i32_224 v457
  let v459 : BitVec 32 := v458
  let v467 : Index := Scalar.indexCast v459
  let c3584 : Index := 3584#32
  ![0, v467.toNat, 3584]
def k0_off36 (c0_i32_86 : BitVec 32) : Fin 3 → Nat :=
  let c0_243 : Index := 0#32
  let c0_i32_90 : BitVec 32 := 0#32
  let c0_i32_89 : BitVec 32 := 0#32
  let c0_i32 : BitVec 32 := 0#32
  let c2_i32_85 : BitVec 32 := 2#32
  let v135 : BitVec 32 := Scalar.muli c0_i32 c2_i32_85
  let v136 : BitVec 32 := Scalar.addi v135 c0_i32_86
  let c128_i32_87 : BitVec 32 := 128#32
  let v137 : BitVec 32 := Scalar.muli v136 c128_i32_87
  let v138 : BitVec 32 := v137
  let c64_i32_88 : BitVec 32 := 64#32
  let v139 : BitVec 32 := Scalar.subi v138 c64_i32_88
  let v140 : BitVec 32 := Scalar.maxsi c0_i32_89 v139
  let v141 : BitVec 32 := Scalar.minsi c0_i32_90 v140
  let v142 : BitVec 32 := v141
  let v485 : Index := Scalar.indexCast v142
  let c2560 : Index := 2560#32
  ![0, v485.toNat, 2560]
def k0_off37 (c0_i32_86 : BitVec 32) : Fin 3 → Nat :=
  let c0_254 : Index := 0#32
  let c0_i32 : BitVec 32 := 0#32
  let c2_i32_85 : BitVec 32 := 2#32
  let v135 : BitVec 32 := Scalar.muli c0_i32 c2_i32_85
  let v136 : BitVec 32 := Scalar.addi v135 c0_i32_86
  let c128_i32_87 : BitVec 32 := 128#32
  let v137 : BitVec 32 := Scalar.muli v136 c128_i32_87
  let v138 : BitVec 32 := v137
  let v527 : Index := Scalar.indexCast v138
  let c512_255 : Index := 512#32
  ![0, v527.toNat, 512]
def k0_mult19 : BitVec 32 :=
  let c0_i32 : BitVec 32 := 0#32
  let c2_i32_256 : BitVec 32 := 2#32
  let v531 : BitVec 32 := Scalar.muli c0_i32 c2_i32_256
  let c0_i32_257 : BitVec 32 := 0#32
  let v532 : BitVec 32 := Scalar.addi v531 c0_i32_257
  let c128_i32_258 : BitVec 32 := 128#32
  let v533 : BitVec 32 := Scalar.muli v532 c128_i32_258
  v533
def k0_mult20 : BitVec 32 :=
  let c0_i32_261 : BitVec 32 := 0#32
  let c0_i32_260 : BitVec 32 := 0#32
  let c0_i32 : BitVec 32 := 0#32
  let c2_i32_256 : BitVec 32 := 2#32
  let v531 : BitVec 32 := Scalar.muli c0_i32 c2_i32_256
  let c0_i32_257 : BitVec 32 := 0#32
  let v532 : BitVec 32 := Scalar.addi v531 c0_i32_257
  let c128_i32_258 : BitVec 32 := 128#32
  let v533 : BitVec 32 := Scalar.muli v532 c128_i32_258
  let v534 : BitVec 32 := v533
  let c64_i32_259 : BitVec 32 := 64#32
  let v535 : BitVec 32 := Scalar.subi v534 c64_i32_259
  let v536 : BitVec 32 := Scalar.maxsi c0_i32_260 v535
  let v537 : BitVec 32 := Scalar.minsi c0_i32_261 v536
  v537
def k0_off38 (c0_i32_257 : BitVec 32) : Fin 3 → Nat :=
  let c0_267 : Index := 0#32
  let c0_i32 : BitVec 32 := 0#32
  let c2_i32_256 : BitVec 32 := 2#32
  let v531 : BitVec 32 := Scalar.muli c0_i32 c2_i32_256
  let v532 : BitVec 32 := Scalar.addi v531 c0_i32_257
  let c128_i32_258 : BitVec 32 := 128#32
  let v533 : BitVec 32 := Scalar.muli v532 c128_i32_258
  let v534 : BitVec 32 := v533
  let v543 : Index := Scalar.indexCast v534
  let c3200 : Index := 3200#32
  ![0, v543.toNat, 3200]
def k0_off39 (c0_i32_257 : BitVec 32) : Fin 3 → Nat :=
  let c0_268 : Index := 0#32
  let c0_i32_261 : BitVec 32 := 0#32
  let c0_i32_260 : BitVec 32 := 0#32
  let c0_i32 : BitVec 32 := 0#32
  let c2_i32_256 : BitVec 32 := 2#32
  let v531 : BitVec 32 := Scalar.muli c0_i32 c2_i32_256
  let v532 : BitVec 32 := Scalar.addi v531 c0_i32_257
  let c128_i32_258 : BitVec 32 := 128#32
  let v533 : BitVec 32 := Scalar.muli v532 c128_i32_258
  let v534 : BitVec 32 := v533
  let c64_i32_259 : BitVec 32 := 64#32
  let v535 : BitVec 32 := Scalar.subi v534 c64_i32_259
  let v536 : BitVec 32 := Scalar.maxsi c0_i32_260 v535
  let v537 : BitVec 32 := Scalar.minsi c0_i32_261 v536
  let v538 : BitVec 32 := v537
  let v546 : Index := Scalar.indexCast v538
  let c3712 : Index := 3712#32
  ![0, v546.toNat, 3712]
def k0_off40 (c0_i32_121 : BitVec 32) : Fin 3 → Nat :=
  let c0_280 : Index := 0#32
  let c0_i32_125 : BitVec 32 := 0#32
  let c0_i32_124 : BitVec 32 := 0#32
  let c0_i32 : BitVec 32 := 0#32
  let c2_i32_120 : BitVec 32 := 2#32
  let v214 : BitVec 32 := Scalar.muli c0_i32 c2_i32_120
  let v215 : BitVec 32 := Scalar.addi v214 c0_i32_121
  let c128_i32_122 : BitVec 32 := 128#32
  let v216 : BitVec 32 := Scalar.muli v215 c128_i32_122
  let v217 : BitVec 32 := v216
  let c64_i32_123 : BitVec 32 := 64#32
  let v218 : BitVec 32 := Scalar.subi v217 c64_i32_123
  let v219 : BitVec 32 := Scalar.maxsi c0_i32_124 v218
  let v220 : BitVec 32 := Scalar.minsi c0_i32_125 v219
  let v221 : BitVec 32 := v220
  let v564 : Index := Scalar.indexCast v221
  let c2688 : Index := 2688#32
  ![0, v564.toNat, 2688]
def k0_off41 (c0_i32_121 : BitVec 32) : Fin 3 → Nat :=
  let c0_290 : Index := 0#32
  let c0_i32 : BitVec 32 := 0#32
  let c2_i32_120 : BitVec 32 := 2#32
  let v214 : BitVec 32 := Scalar.muli c0_i32 c2_i32_120
  let v215 : BitVec 32 := Scalar.addi v214 c0_i32_121
  let c128_i32_122 : BitVec 32 := 128#32
  let v216 : BitVec 32 := Scalar.muli v215 c128_i32_122
  let v217 : BitVec 32 := v216
  let v605 : Index := Scalar.indexCast v217
  let c640_291 : Index := 640#32
  ![0, v605.toNat, 640]
def k0_mult21 : BitVec 32 :=
  let c0_i32 : BitVec 32 := 0#32
  let c2_i32_292 : BitVec 32 := 2#32
  let v609 : BitVec 32 := Scalar.muli c0_i32 c2_i32_292
  let c0_i32_293 : BitVec 32 := 0#32
  let v610 : BitVec 32 := Scalar.addi v609 c0_i32_293
  let c128_i32_294 : BitVec 32 := 128#32
  let v611 : BitVec 32 := Scalar.muli v610 c128_i32_294
  v611
def k0_mult22 : BitVec 32 :=
  let c0_i32_297 : BitVec 32 := 0#32
  let c0_i32_296 : BitVec 32 := 0#32
  let c0_i32 : BitVec 32 := 0#32
  let c2_i32_292 : BitVec 32 := 2#32
  let v609 : BitVec 32 := Scalar.muli c0_i32 c2_i32_292
  let c0_i32_293 : BitVec 32 := 0#32
  let v610 : BitVec 32 := Scalar.addi v609 c0_i32_293
  let c128_i32_294 : BitVec 32 := 128#32
  let v611 : BitVec 32 := Scalar.muli v610 c128_i32_294
  let v612 : BitVec 32 := v611
  let c64_i32_295 : BitVec 32 := 64#32
  let v613 : BitVec 32 := Scalar.subi v612 c64_i32_295
  let v614 : BitVec 32 := Scalar.maxsi c0_i32_296 v613
  let v615 : BitVec 32 := Scalar.minsi c0_i32_297 v614
  v615
def k0_off42 (c0_i32_293 : BitVec 32) : Fin 3 → Nat :=
  let c0_303 : Index := 0#32
  let c0_i32 : BitVec 32 := 0#32
  let c2_i32_292 : BitVec 32 := 2#32
  let v609 : BitVec 32 := Scalar.muli c0_i32 c2_i32_292
  let v610 : BitVec 32 := Scalar.addi v609 c0_i32_293
  let c128_i32_294 : BitVec 32 := 128#32
  let v611 : BitVec 32 := Scalar.muli v610 c128_i32_294
  let v612 : BitVec 32 := v611
  let v621 : Index := Scalar.indexCast v612
  let c3328 : Index := 3328#32
  ![0, v621.toNat, 3328]
def k0_off43 (c0_i32_293 : BitVec 32) : Fin 3 → Nat :=
  let c0_304 : Index := 0#32
  let c0_i32_297 : BitVec 32 := 0#32
  let c0_i32_296 : BitVec 32 := 0#32
  let c0_i32 : BitVec 32 := 0#32
  let c2_i32_292 : BitVec 32 := 2#32
  let v609 : BitVec 32 := Scalar.muli c0_i32 c2_i32_292
  let v610 : BitVec 32 := Scalar.addi v609 c0_i32_293
  let c128_i32_294 : BitVec 32 := 128#32
  let v611 : BitVec 32 := Scalar.muli v610 c128_i32_294
  let v612 : BitVec 32 := v611
  let c64_i32_295 : BitVec 32 := 64#32
  let v613 : BitVec 32 := Scalar.subi v612 c64_i32_295
  let v614 : BitVec 32 := Scalar.maxsi c0_i32_296 v613
  let v615 : BitVec 32 := Scalar.minsi c0_i32_297 v614
  let v616 : BitVec 32 := v615
  let v624 : Index := Scalar.indexCast v616
  let c3840 : Index := 3840#32
  ![0, v624.toNat, 3840]
def k0_off44 (c0_i32_154 : BitVec 32) : Fin 3 → Nat :=
  let c0_316 : Index := 0#32
  let c0_i32_158 : BitVec 32 := 0#32
  let c0_i32_157 : BitVec 32 := 0#32
  let c0_i32 : BitVec 32 := 0#32
  let c2_i32_153 : BitVec 32 := 2#32
  let v292 : BitVec 32 := Scalar.muli c0_i32 c2_i32_153
  let v293 : BitVec 32 := Scalar.addi v292 c0_i32_154
  let c128_i32_155 : BitVec 32 := 128#32
  let v294 : BitVec 32 := Scalar.muli v293 c128_i32_155
  let v295 : BitVec 32 := v294
  let c64_i32_156 : BitVec 32 := 64#32
  let v296 : BitVec 32 := Scalar.subi v295 c64_i32_156
  let v297 : BitVec 32 := Scalar.maxsi c0_i32_157 v296
  let v298 : BitVec 32 := Scalar.minsi c0_i32_158 v297
  let v299 : BitVec 32 := v298
  let v642 : Index := Scalar.indexCast v299
  let c2816 : Index := 2816#32
  ![0, v642.toNat, 2816]
def k0_off45 (c0_i32_154 : BitVec 32) : Fin 3 → Nat :=
  let c0_326 : Index := 0#32
  let c0_i32 : BitVec 32 := 0#32
  let c2_i32_153 : BitVec 32 := 2#32
  let v292 : BitVec 32 := Scalar.muli c0_i32 c2_i32_153
  let v293 : BitVec 32 := Scalar.addi v292 c0_i32_154
  let c128_i32_155 : BitVec 32 := 128#32
  let v294 : BitVec 32 := Scalar.muli v293 c128_i32_155
  let v295 : BitVec 32 := v294
  let v683 : Index := Scalar.indexCast v295
  let c768_327 : Index := 768#32
  ![0, v683.toNat, 768]
def k0_mult23 : BitVec 32 :=
  let c0_i32 : BitVec 32 := 0#32
  let c2_i32_328 : BitVec 32 := 2#32
  let v687 : BitVec 32 := Scalar.muli c0_i32 c2_i32_328
  let c0_i32_329 : BitVec 32 := 0#32
  let v688 : BitVec 32 := Scalar.addi v687 c0_i32_329
  let c128_i32_330 : BitVec 32 := 128#32
  let v689 : BitVec 32 := Scalar.muli v688 c128_i32_330
  v689
def k0_mult24 : BitVec 32 :=
  let c0_i32_333 : BitVec 32 := 0#32
  let c0_i32_332 : BitVec 32 := 0#32
  let c0_i32 : BitVec 32 := 0#32
  let c2_i32_328 : BitVec 32 := 2#32
  let v687 : BitVec 32 := Scalar.muli c0_i32 c2_i32_328
  let c0_i32_329 : BitVec 32 := 0#32
  let v688 : BitVec 32 := Scalar.addi v687 c0_i32_329
  let c128_i32_330 : BitVec 32 := 128#32
  let v689 : BitVec 32 := Scalar.muli v688 c128_i32_330
  let v690 : BitVec 32 := v689
  let c64_i32_331 : BitVec 32 := 64#32
  let v691 : BitVec 32 := Scalar.subi v690 c64_i32_331
  let v692 : BitVec 32 := Scalar.maxsi c0_i32_332 v691
  let v693 : BitVec 32 := Scalar.minsi c0_i32_333 v692
  v693
def k0_off46 (c0_i32_329 : BitVec 32) : Fin 3 → Nat :=
  let c0_339 : Index := 0#32
  let c0_i32 : BitVec 32 := 0#32
  let c2_i32_328 : BitVec 32 := 2#32
  let v687 : BitVec 32 := Scalar.muli c0_i32 c2_i32_328
  let v688 : BitVec 32 := Scalar.addi v687 c0_i32_329
  let c128_i32_330 : BitVec 32 := 128#32
  let v689 : BitVec 32 := Scalar.muli v688 c128_i32_330
  let v690 : BitVec 32 := v689
  let v699 : Index := Scalar.indexCast v690
  let c3456 : Index := 3456#32
  ![0, v699.toNat, 3456]
def k0_off47 (c0_i32_329 : BitVec 32) : Fin 3 → Nat :=
  let c0_340 : Index := 0#32
  let c0_i32_333 : BitVec 32 := 0#32
  let c0_i32_332 : BitVec 32 := 0#32
  let c0_i32 : BitVec 32 := 0#32
  let c2_i32_328 : BitVec 32 := 2#32
  let v687 : BitVec 32 := Scalar.muli c0_i32 c2_i32_328
  let v688 : BitVec 32 := Scalar.addi v687 c0_i32_329
  let c128_i32_330 : BitVec 32 := 128#32
  let v689 : BitVec 32 := Scalar.muli v688 c128_i32_330
  let v690 : BitVec 32 := v689
  let c64_i32_331 : BitVec 32 := 64#32
  let v691 : BitVec 32 := Scalar.subi v690 c64_i32_331
  let v692 : BitVec 32 := Scalar.maxsi c0_i32_332 v691
  let v693 : BitVec 32 := Scalar.minsi c0_i32_333 v692
  let v694 : BitVec 32 := v693
  let v702 : Index := Scalar.indexCast v694
  let c3968 : Index := 3968#32
  ![0, v702.toNat, 3968]
def k0_off48 (c0_i32_186 : BitVec 32) : Fin 3 → Nat :=
  let c0_352 : Index := 0#32
  let c0_i32_190 : BitVec 32 := 0#32
  let c0_i32_189 : BitVec 32 := 0#32
  let c0_i32 : BitVec 32 := 0#32
  let c2_i32_185 : BitVec 32 := 2#32
  let v370 : BitVec 32 := Scalar.muli c0_i32 c2_i32_185
  let v371 : BitVec 32 := Scalar.addi v370 c0_i32_186
  let c128_i32_187 : BitVec 32 := 128#32
  let v372 : BitVec 32 := Scalar.muli v371 c128_i32_187
  let v373 : BitVec 32 := v372
  let c64_i32_188 : BitVec 32 := 64#32
  let v374 : BitVec 32 := Scalar.subi v373 c64_i32_188
  let v375 : BitVec 32 := Scalar.maxsi c0_i32_189 v374
  let v376 : BitVec 32 := Scalar.minsi c0_i32_190 v375
  let v377 : BitVec 32 := v376
  let v720 : Index := Scalar.indexCast v377
  let c2944 : Index := 2944#32
  ![0, v720.toNat, 2944]
def k0_off49 (c0_i32_186 : BitVec 32) : Fin 3 → Nat :=
  let c0_362 : Index := 0#32
  let c0_i32 : BitVec 32 := 0#32
  let c2_i32_185 : BitVec 32 := 2#32
  let v370 : BitVec 32 := Scalar.muli c0_i32 c2_i32_185
  let v371 : BitVec 32 := Scalar.addi v370 c0_i32_186
  let c128_i32_187 : BitVec 32 := 128#32
  let v372 : BitVec 32 := Scalar.muli v371 c128_i32_187
  let v373 : BitVec 32 := v372
  let v761 : Index := Scalar.indexCast v373
  let c896_363 : Index := 896#32
  ![0, v761.toNat, 896]
def k0_off50 (c0_i32_186 : BitVec 32) : Fin 3 → Nat :=
  let c0_364 : Index := 0#32
  let c0_i32 : BitVec 32 := 0#32
  let c2_i32_185 : BitVec 32 := 2#32
  let v370 : BitVec 32 := Scalar.muli c0_i32 c2_i32_185
  let v371 : BitVec 32 := Scalar.addi v370 c0_i32_186
  let c128_i32_187 : BitVec 32 := 128#32
  let v372 : BitVec 32 := Scalar.muli v371 c128_i32_187
  let v373 : BitVec 32 := v372
  let v765 : Index := Scalar.indexCast v373
  let c128_365 : Index := 128#32
  ![0, v765.toNat, 128]
def k0_mult25 : BitVec 32 :=
  let c0_i32 : BitVec 32 := 0#32
  let c2_i32_366 : BitVec 32 := 2#32
  let v769 : BitVec 32 := Scalar.muli c0_i32 c2_i32_366
  let c0_i32_367 : BitVec 32 := 0#32
  let v770 : BitVec 32 := Scalar.addi v769 c0_i32_367
  let c128_i32_368 : BitVec 32 := 128#32
  let v771 : BitVec 32 := Scalar.muli v770 c128_i32_368
  v771
def k0_mult26 : BitVec 32 :=
  let c0_i32_371 : BitVec 32 := 0#32
  let c0_i32_370 : BitVec 32 := 0#32
  let c0_i32 : BitVec 32 := 0#32
  let c2_i32_366 : BitVec 32 := 2#32
  let v769 : BitVec 32 := Scalar.muli c0_i32 c2_i32_366
  let c0_i32_367 : BitVec 32 := 0#32
  let v770 : BitVec 32 := Scalar.addi v769 c0_i32_367
  let c128_i32_368 : BitVec 32 := 128#32
  let v771 : BitVec 32 := Scalar.muli v770 c128_i32_368
  let v772 : BitVec 32 := v771
  let c64_i32_369 : BitVec 32 := 64#32
  let v773 : BitVec 32 := Scalar.subi v772 c64_i32_369
  let v774 : BitVec 32 := Scalar.maxsi c0_i32_370 v773
  let v775 : BitVec 32 := Scalar.minsi c0_i32_371 v774
  v775
def k0_off51 (c0_i32_367 : BitVec 32) : Fin 3 → Nat :=
  let c0_377 : Index := 0#32
  let c0_i32 : BitVec 32 := 0#32
  let c2_i32_366 : BitVec 32 := 2#32
  let v769 : BitVec 32 := Scalar.muli c0_i32 c2_i32_366
  let v770 : BitVec 32 := Scalar.addi v769 c0_i32_367
  let c128_i32_368 : BitVec 32 := 128#32
  let v771 : BitVec 32 := Scalar.muli v770 c128_i32_368
  let v772 : BitVec 32 := v771
  let v781 : Index := Scalar.indexCast v772
  let c4608 : Index := 4608#32
  ![0, v781.toNat, 4608]
def k0_off52 (c0_i32_367 : BitVec 32) : Fin 3 → Nat :=
  let c0_378 : Index := 0#32
  let c0_i32_371 : BitVec 32 := 0#32
  let c0_i32_370 : BitVec 32 := 0#32
  let c0_i32 : BitVec 32 := 0#32
  let c2_i32_366 : BitVec 32 := 2#32
  let v769 : BitVec 32 := Scalar.muli c0_i32 c2_i32_366
  let v770 : BitVec 32 := Scalar.addi v769 c0_i32_367
  let c128_i32_368 : BitVec 32 := 128#32
  let v771 : BitVec 32 := Scalar.muli v770 c128_i32_368
  let v772 : BitVec 32 := v771
  let c64_i32_369 : BitVec 32 := 64#32
  let v773 : BitVec 32 := Scalar.subi v772 c64_i32_369
  let v774 : BitVec 32 := Scalar.maxsi c0_i32_370 v773
  let v775 : BitVec 32 := Scalar.minsi c0_i32_371 v774
  let v776 : BitVec 32 := v775
  let v784 : Index := Scalar.indexCast v776
  let c5120 : Index := 5120#32
  ![0, v784.toNat, 5120]
def k0_off53 (c0_i32_220 : BitVec 32) : Fin 3 → Nat :=
  let c0_390 : Index := 0#32
  let c0_i32_224 : BitVec 32 := 0#32
  let c0_i32_223 : BitVec 32 := 0#32
  let c0_i32 : BitVec 32 := 0#32
  let c2_i32_219 : BitVec 32 := 2#32
  let v452 : BitVec 32 := Scalar.muli c0_i32 c2_i32_219
  let v453 : BitVec 32 := Scalar.addi v452 c0_i32_220
  let c128_i32_221 : BitVec 32 := 128#32
  let v454 : BitVec 32 := Scalar.muli v453 c128_i32_221
  let v455 : BitVec 32 := v454
  let c64_i32_222 : BitVec 32 := 64#32
  let v456 : BitVec 32 := Scalar.subi v455 c64_i32_222
  let v457 : BitVec 32 := Scalar.maxsi c0_i32_223 v456
  let v458 : BitVec 32 := Scalar.minsi c0_i32_224 v457
  let v459 : BitVec 32 := v458
  let v802 : Index := Scalar.indexCast v459
  let c4096 : Index := 4096#32
  ![0, v802.toNat, 4096]
def k0_off54 (c0_i32_220 : BitVec 32) : Fin 3 → Nat :=
  let c0_401 : Index := 0#32
  let c0_i32 : BitVec 32 := 0#32
  let c2_i32_219 : BitVec 32 := 2#32
  let v452 : BitVec 32 := Scalar.muli c0_i32 c2_i32_219
  let v453 : BitVec 32 := Scalar.addi v452 c0_i32_220
  let c128_i32_221 : BitVec 32 := 128#32
  let v454 : BitVec 32 := Scalar.muli v453 c128_i32_221
  let v455 : BitVec 32 := v454
  let v844 : Index := Scalar.indexCast v455
  let c1024_402 : Index := 1024#32
  ![0, v844.toNat, 1024]
def k0_mult27 : BitVec 32 :=
  let c0_i32 : BitVec 32 := 0#32
  let c2_i32_403 : BitVec 32 := 2#32
  let v848 : BitVec 32 := Scalar.muli c0_i32 c2_i32_403
  let c0_i32_404 : BitVec 32 := 0#32
  let v849 : BitVec 32 := Scalar.addi v848 c0_i32_404
  let c128_i32_405 : BitVec 32 := 128#32
  let v850 : BitVec 32 := Scalar.muli v849 c128_i32_405
  v850
def k0_mult28 : BitVec 32 :=
  let c0_i32_408 : BitVec 32 := 0#32
  let c0_i32_407 : BitVec 32 := 0#32
  let c0_i32 : BitVec 32 := 0#32
  let c2_i32_403 : BitVec 32 := 2#32
  let v848 : BitVec 32 := Scalar.muli c0_i32 c2_i32_403
  let c0_i32_404 : BitVec 32 := 0#32
  let v849 : BitVec 32 := Scalar.addi v848 c0_i32_404
  let c128_i32_405 : BitVec 32 := 128#32
  let v850 : BitVec 32 := Scalar.muli v849 c128_i32_405
  let v851 : BitVec 32 := v850
  let c64_i32_406 : BitVec 32 := 64#32
  let v852 : BitVec 32 := Scalar.subi v851 c64_i32_406
  let v853 : BitVec 32 := Scalar.maxsi c0_i32_407 v852
  let v854 : BitVec 32 := Scalar.minsi c0_i32_408 v853
  v854
def k0_off55 (c0_i32_404 : BitVec 32) : Fin 3 → Nat :=
  let c0_414 : Index := 0#32
  let c0_i32 : BitVec 32 := 0#32
  let c2_i32_403 : BitVec 32 := 2#32
  let v848 : BitVec 32 := Scalar.muli c0_i32 c2_i32_403
  let v849 : BitVec 32 := Scalar.addi v848 c0_i32_404
  let c128_i32_405 : BitVec 32 := 128#32
  let v850 : BitVec 32 := Scalar.muli v849 c128_i32_405
  let v851 : BitVec 32 := v850
  let v860 : Index := Scalar.indexCast v851
  let c4736 : Index := 4736#32
  ![0, v860.toNat, 4736]
def k0_off56 (c0_i32_404 : BitVec 32) : Fin 3 → Nat :=
  let c0_415 : Index := 0#32
  let c0_i32_408 : BitVec 32 := 0#32
  let c0_i32_407 : BitVec 32 := 0#32
  let c0_i32 : BitVec 32 := 0#32
  let c2_i32_403 : BitVec 32 := 2#32
  let v848 : BitVec 32 := Scalar.muli c0_i32 c2_i32_403
  let v849 : BitVec 32 := Scalar.addi v848 c0_i32_404
  let c128_i32_405 : BitVec 32 := 128#32
  let v850 : BitVec 32 := Scalar.muli v849 c128_i32_405
  let v851 : BitVec 32 := v850
  let c64_i32_406 : BitVec 32 := 64#32
  let v852 : BitVec 32 := Scalar.subi v851 c64_i32_406
  let v853 : BitVec 32 := Scalar.maxsi c0_i32_407 v852
  let v854 : BitVec 32 := Scalar.minsi c0_i32_408 v853
  let v855 : BitVec 32 := v854
  let v863 : Index := Scalar.indexCast v855
  let c5248 : Index := 5248#32
  ![0, v863.toNat, 5248]
def k0_off57 (c0_i32_257 : BitVec 32) : Fin 3 → Nat :=
  let c0_427 : Index := 0#32
  let c0_i32_261 : BitVec 32 := 0#32
  let c0_i32_260 : BitVec 32 := 0#32
  let c0_i32 : BitVec 32 := 0#32
  let c2_i32_256 : BitVec 32 := 2#32
  let v531 : BitVec 32 := Scalar.muli c0_i32 c2_i32_256
  let v532 : BitVec 32 := Scalar.addi v531 c0_i32_257
  let c128_i32_258 : BitVec 32 := 128#32
  let v533 : BitVec 32 := Scalar.muli v532 c128_i32_258
  let v534 : BitVec 32 := v533
  let c64_i32_259 : BitVec 32 := 64#32
  let v535 : BitVec 32 := Scalar.subi v534 c64_i32_259
  let v536 : BitVec 32 := Scalar.maxsi c0_i32_260 v535
  let v537 : BitVec 32 := Scalar.minsi c0_i32_261 v536
  let v538 : BitVec 32 := v537
  let v881 : Index := Scalar.indexCast v538
  let c4224 : Index := 4224#32
  ![0, v881.toNat, 4224]
def k0_off58 (c0_i32_257 : BitVec 32) : Fin 3 → Nat :=
  let c0_437 : Index := 0#32
  let c0_i32 : BitVec 32 := 0#32
  let c2_i32_256 : BitVec 32 := 2#32
  let v531 : BitVec 32 := Scalar.muli c0_i32 c2_i32_256
  let v532 : BitVec 32 := Scalar.addi v531 c0_i32_257
  let c128_i32_258 : BitVec 32 := 128#32
  let v533 : BitVec 32 := Scalar.muli v532 c128_i32_258
  let v534 : BitVec 32 := v533
  let v922 : Index := Scalar.indexCast v534
  let c1152_438 : Index := 1152#32
  ![0, v922.toNat, 1152]
def k0_mult29 : BitVec 32 :=
  let c0_i32 : BitVec 32 := 0#32
  let c2_i32_439 : BitVec 32 := 2#32
  let v926 : BitVec 32 := Scalar.muli c0_i32 c2_i32_439
  let c0_i32_440 : BitVec 32 := 0#32
  let v927 : BitVec 32 := Scalar.addi v926 c0_i32_440
  let c128_i32_441 : BitVec 32 := 128#32
  let v928 : BitVec 32 := Scalar.muli v927 c128_i32_441
  v928
def k0_mult30 : BitVec 32 :=
  let c0_i32_444 : BitVec 32 := 0#32
  let c0_i32_443 : BitVec 32 := 0#32
  let c0_i32 : BitVec 32 := 0#32
  let c2_i32_439 : BitVec 32 := 2#32
  let v926 : BitVec 32 := Scalar.muli c0_i32 c2_i32_439
  let c0_i32_440 : BitVec 32 := 0#32
  let v927 : BitVec 32 := Scalar.addi v926 c0_i32_440
  let c128_i32_441 : BitVec 32 := 128#32
  let v928 : BitVec 32 := Scalar.muli v927 c128_i32_441
  let v929 : BitVec 32 := v928
  let c64_i32_442 : BitVec 32 := 64#32
  let v930 : BitVec 32 := Scalar.subi v929 c64_i32_442
  let v931 : BitVec 32 := Scalar.maxsi c0_i32_443 v930
  let v932 : BitVec 32 := Scalar.minsi c0_i32_444 v931
  v932
def k0_off59 (c0_i32_440 : BitVec 32) : Fin 3 → Nat :=
  let c0_450 : Index := 0#32
  let c0_i32 : BitVec 32 := 0#32
  let c2_i32_439 : BitVec 32 := 2#32
  let v926 : BitVec 32 := Scalar.muli c0_i32 c2_i32_439
  let v927 : BitVec 32 := Scalar.addi v926 c0_i32_440
  let c128_i32_441 : BitVec 32 := 128#32
  let v928 : BitVec 32 := Scalar.muli v927 c128_i32_441
  let v929 : BitVec 32 := v928
  let v938 : Index := Scalar.indexCast v929
  let c4864 : Index := 4864#32
  ![0, v938.toNat, 4864]
def k0_off60 (c0_i32_440 : BitVec 32) : Fin 3 → Nat :=
  let c0_451 : Index := 0#32
  let c0_i32_444 : BitVec 32 := 0#32
  let c0_i32_443 : BitVec 32 := 0#32
  let c0_i32 : BitVec 32 := 0#32
  let c2_i32_439 : BitVec 32 := 2#32
  let v926 : BitVec 32 := Scalar.muli c0_i32 c2_i32_439
  let v927 : BitVec 32 := Scalar.addi v926 c0_i32_440
  let c128_i32_441 : BitVec 32 := 128#32
  let v928 : BitVec 32 := Scalar.muli v927 c128_i32_441
  let v929 : BitVec 32 := v928
  let c64_i32_442 : BitVec 32 := 64#32
  let v930 : BitVec 32 := Scalar.subi v929 c64_i32_442
  let v931 : BitVec 32 := Scalar.maxsi c0_i32_443 v930
  let v932 : BitVec 32 := Scalar.minsi c0_i32_444 v931
  let v933 : BitVec 32 := v932
  let v941 : Index := Scalar.indexCast v933
  let c5376 : Index := 5376#32
  ![0, v941.toNat, 5376]
def k0_off61 (c0_i32_293 : BitVec 32) : Fin 3 → Nat :=
  let c0_463 : Index := 0#32
  let c0_i32_297 : BitVec 32 := 0#32
  let c0_i32_296 : BitVec 32 := 0#32
  let c0_i32 : BitVec 32 := 0#32
  let c2_i32_292 : BitVec 32 := 2#32
  let v609 : BitVec 32 := Scalar.muli c0_i32 c2_i32_292
  let v610 : BitVec 32 := Scalar.addi v609 c0_i32_293
  let c128_i32_294 : BitVec 32 := 128#32
  let v611 : BitVec 32 := Scalar.muli v610 c128_i32_294
  let v612 : BitVec 32 := v611
  let c64_i32_295 : BitVec 32 := 64#32
  let v613 : BitVec 32 := Scalar.subi v612 c64_i32_295
  let v614 : BitVec 32 := Scalar.maxsi c0_i32_296 v613
  let v615 : BitVec 32 := Scalar.minsi c0_i32_297 v614
  let v616 : BitVec 32 := v615
  let v959 : Index := Scalar.indexCast v616
  let c4352 : Index := 4352#32
  ![0, v959.toNat, 4352]
def k0_off62 (c0_i32_293 : BitVec 32) : Fin 3 → Nat :=
  let c0_473 : Index := 0#32
  let c0_i32 : BitVec 32 := 0#32
  let c2_i32_292 : BitVec 32 := 2#32
  let v609 : BitVec 32 := Scalar.muli c0_i32 c2_i32_292
  let v610 : BitVec 32 := Scalar.addi v609 c0_i32_293
  let c128_i32_294 : BitVec 32 := 128#32
  let v611 : BitVec 32 := Scalar.muli v610 c128_i32_294
  let v612 : BitVec 32 := v611
  let v1000 : Index := Scalar.indexCast v612
  let c1280_474 : Index := 1280#32
  ![0, v1000.toNat, 1280]
def k0_mult31 : BitVec 32 :=
  let c0_i32 : BitVec 32 := 0#32
  let c2_i32_475 : BitVec 32 := 2#32
  let v1004 : BitVec 32 := Scalar.muli c0_i32 c2_i32_475
  let c0_i32_476 : BitVec 32 := 0#32
  let v1005 : BitVec 32 := Scalar.addi v1004 c0_i32_476
  let c128_i32_477 : BitVec 32 := 128#32
  let v1006 : BitVec 32 := Scalar.muli v1005 c128_i32_477
  v1006
def k0_mult32 : BitVec 32 :=
  let c0_i32_480 : BitVec 32 := 0#32
  let c0_i32_479 : BitVec 32 := 0#32
  let c0_i32 : BitVec 32 := 0#32
  let c2_i32_475 : BitVec 32 := 2#32
  let v1004 : BitVec 32 := Scalar.muli c0_i32 c2_i32_475
  let c0_i32_476 : BitVec 32 := 0#32
  let v1005 : BitVec 32 := Scalar.addi v1004 c0_i32_476
  let c128_i32_477 : BitVec 32 := 128#32
  let v1006 : BitVec 32 := Scalar.muli v1005 c128_i32_477
  let v1007 : BitVec 32 := v1006
  let c64_i32_478 : BitVec 32 := 64#32
  let v1008 : BitVec 32 := Scalar.subi v1007 c64_i32_478
  let v1009 : BitVec 32 := Scalar.maxsi c0_i32_479 v1008
  let v1010 : BitVec 32 := Scalar.minsi c0_i32_480 v1009
  v1010
def k0_off63 (c0_i32_476 : BitVec 32) : Fin 3 → Nat :=
  let c0_486 : Index := 0#32
  let c0_i32 : BitVec 32 := 0#32
  let c2_i32_475 : BitVec 32 := 2#32
  let v1004 : BitVec 32 := Scalar.muli c0_i32 c2_i32_475
  let v1005 : BitVec 32 := Scalar.addi v1004 c0_i32_476
  let c128_i32_477 : BitVec 32 := 128#32
  let v1006 : BitVec 32 := Scalar.muli v1005 c128_i32_477
  let v1007 : BitVec 32 := v1006
  let v1016 : Index := Scalar.indexCast v1007
  let c4992 : Index := 4992#32
  ![0, v1016.toNat, 4992]
def k0_off64 (c0_i32_476 : BitVec 32) : Fin 3 → Nat :=
  let c0_487 : Index := 0#32
  let c0_i32_480 : BitVec 32 := 0#32
  let c0_i32_479 : BitVec 32 := 0#32
  let c0_i32 : BitVec 32 := 0#32
  let c2_i32_475 : BitVec 32 := 2#32
  let v1004 : BitVec 32 := Scalar.muli c0_i32 c2_i32_475
  let v1005 : BitVec 32 := Scalar.addi v1004 c0_i32_476
  let c128_i32_477 : BitVec 32 := 128#32
  let v1006 : BitVec 32 := Scalar.muli v1005 c128_i32_477
  let v1007 : BitVec 32 := v1006
  let c64_i32_478 : BitVec 32 := 64#32
  let v1008 : BitVec 32 := Scalar.subi v1007 c64_i32_478
  let v1009 : BitVec 32 := Scalar.maxsi c0_i32_479 v1008
  let v1010 : BitVec 32 := Scalar.minsi c0_i32_480 v1009
  let v1011 : BitVec 32 := v1010
  let v1019 : Index := Scalar.indexCast v1011
  let c5504 : Index := 5504#32
  ![0, v1019.toNat, 5504]
def k0_off65 (c0_i32_329 : BitVec 32) : Fin 3 → Nat :=
  let c0_499 : Index := 0#32
  let c0_i32_333 : BitVec 32 := 0#32
  let c0_i32_332 : BitVec 32 := 0#32
  let c0_i32 : BitVec 32 := 0#32
  let c2_i32_328 : BitVec 32 := 2#32
  let v687 : BitVec 32 := Scalar.muli c0_i32 c2_i32_328
  let v688 : BitVec 32 := Scalar.addi v687 c0_i32_329
  let c128_i32_330 : BitVec 32 := 128#32
  let v689 : BitVec 32 := Scalar.muli v688 c128_i32_330
  let v690 : BitVec 32 := v689
  let c64_i32_331 : BitVec 32 := 64#32
  let v691 : BitVec 32 := Scalar.subi v690 c64_i32_331
  let v692 : BitVec 32 := Scalar.maxsi c0_i32_332 v691
  let v693 : BitVec 32 := Scalar.minsi c0_i32_333 v692
  let v694 : BitVec 32 := v693
  let v1037 : Index := Scalar.indexCast v694
  let c4480 : Index := 4480#32
  ![0, v1037.toNat, 4480]
def k0_off66 (c0_i32_329 : BitVec 32) : Fin 3 → Nat :=
  let c0_509 : Index := 0#32
  let c0_i32 : BitVec 32 := 0#32
  let c2_i32_328 : BitVec 32 := 2#32
  let v687 : BitVec 32 := Scalar.muli c0_i32 c2_i32_328
  let v688 : BitVec 32 := Scalar.addi v687 c0_i32_329
  let c128_i32_330 : BitVec 32 := 128#32
  let v689 : BitVec 32 := Scalar.muli v688 c128_i32_330
  let v690 : BitVec 32 := v689
  let v1078 : Index := Scalar.indexCast v690
  let c1408_510 : Index := 1408#32
  ![0, v1078.toNat, 1408]
def k0_off67 (c0_i32_329 : BitVec 32) : Fin 3 → Nat :=
  let c0_511 : Index := 0#32
  let c0_i32 : BitVec 32 := 0#32
  let c2_i32_328 : BitVec 32 := 2#32
  let v687 : BitVec 32 := Scalar.muli c0_i32 c2_i32_328
  let v688 : BitVec 32 := Scalar.addi v687 c0_i32_329
  let c128_i32_330 : BitVec 32 := 128#32
  let v689 : BitVec 32 := Scalar.muli v688 c128_i32_330
  let v690 : BitVec 32 := v689
  let v1082 : Index := Scalar.indexCast v690
  let c256_512 : Index := 256#32
  ![0, v1082.toNat, 256]
def k0_mult33 : BitVec 32 :=
  let c0_i32 : BitVec 32 := 0#32
  let c2_i32_513 : BitVec 32 := 2#32
  let v1086 : BitVec 32 := Scalar.muli c0_i32 c2_i32_513
  let c0_i32_514 : BitVec 32 := 0#32
  let v1087 : BitVec 32 := Scalar.addi v1086 c0_i32_514
  let c128_i32_515 : BitVec 32 := 128#32
  let v1088 : BitVec 32 := Scalar.muli v1087 c128_i32_515
  v1088
def k0_mult34 : BitVec 32 :=
  let c0_i32_518 : BitVec 32 := 0#32
  let c0_i32_517 : BitVec 32 := 0#32
  let c0_i32 : BitVec 32 := 0#32
  let c2_i32_513 : BitVec 32 := 2#32
  let v1086 : BitVec 32 := Scalar.muli c0_i32 c2_i32_513
  let c0_i32_514 : BitVec 32 := 0#32
  let v1087 : BitVec 32 := Scalar.addi v1086 c0_i32_514
  let c128_i32_515 : BitVec 32 := 128#32
  let v1088 : BitVec 32 := Scalar.muli v1087 c128_i32_515
  let v1089 : BitVec 32 := v1088
  let c64_i32_516 : BitVec 32 := 64#32
  let v1090 : BitVec 32 := Scalar.subi v1089 c64_i32_516
  let v1091 : BitVec 32 := Scalar.maxsi c0_i32_517 v1090
  let v1092 : BitVec 32 := Scalar.minsi c0_i32_518 v1091
  v1092
def k0_off68 (c0_i32_514 : BitVec 32) : Fin 3 → Nat :=
  let c0_524 : Index := 0#32
  let c0_i32 : BitVec 32 := 0#32
  let c2_i32_513 : BitVec 32 := 2#32
  let v1086 : BitVec 32 := Scalar.muli c0_i32 c2_i32_513
  let v1087 : BitVec 32 := Scalar.addi v1086 c0_i32_514
  let c128_i32_515 : BitVec 32 := 128#32
  let v1088 : BitVec 32 := Scalar.muli v1087 c128_i32_515
  let v1089 : BitVec 32 := v1088
  let v1098 : Index := Scalar.indexCast v1089
  let c6144 : Index := 6144#32
  ![0, v1098.toNat, 6144]
def k0_off69 (c0_i32_514 : BitVec 32) : Fin 3 → Nat :=
  let c0_525 : Index := 0#32
  let c0_i32_518 : BitVec 32 := 0#32
  let c0_i32_517 : BitVec 32 := 0#32
  let c0_i32 : BitVec 32 := 0#32
  let c2_i32_513 : BitVec 32 := 2#32
  let v1086 : BitVec 32 := Scalar.muli c0_i32 c2_i32_513
  let v1087 : BitVec 32 := Scalar.addi v1086 c0_i32_514
  let c128_i32_515 : BitVec 32 := 128#32
  let v1088 : BitVec 32 := Scalar.muli v1087 c128_i32_515
  let v1089 : BitVec 32 := v1088
  let c64_i32_516 : BitVec 32 := 64#32
  let v1090 : BitVec 32 := Scalar.subi v1089 c64_i32_516
  let v1091 : BitVec 32 := Scalar.maxsi c0_i32_517 v1090
  let v1092 : BitVec 32 := Scalar.minsi c0_i32_518 v1091
  let v1093 : BitVec 32 := v1092
  let v1101 : Index := Scalar.indexCast v1093
  let c6656 : Index := 6656#32
  ![0, v1101.toNat, 6656]
def k0_off70 (c0_i32_367 : BitVec 32) : Fin 3 → Nat :=
  let c0_537 : Index := 0#32
  let c0_i32_371 : BitVec 32 := 0#32
  let c0_i32_370 : BitVec 32 := 0#32
  let c0_i32 : BitVec 32 := 0#32
  let c2_i32_366 : BitVec 32 := 2#32
  let v769 : BitVec 32 := Scalar.muli c0_i32 c2_i32_366
  let v770 : BitVec 32 := Scalar.addi v769 c0_i32_367
  let c128_i32_368 : BitVec 32 := 128#32
  let v771 : BitVec 32 := Scalar.muli v770 c128_i32_368
  let v772 : BitVec 32 := v771
  let c64_i32_369 : BitVec 32 := 64#32
  let v773 : BitVec 32 := Scalar.subi v772 c64_i32_369
  let v774 : BitVec 32 := Scalar.maxsi c0_i32_370 v773
  let v775 : BitVec 32 := Scalar.minsi c0_i32_371 v774
  let v776 : BitVec 32 := v775
  let v1119 : Index := Scalar.indexCast v776
  let c5632 : Index := 5632#32
  ![0, v1119.toNat, 5632]
def k0_off71 (c0_i32_367 : BitVec 32) : Fin 3 → Nat :=
  let c0_548 : Index := 0#32
  let c0_i32 : BitVec 32 := 0#32
  let c2_i32_366 : BitVec 32 := 2#32
  let v769 : BitVec 32 := Scalar.muli c0_i32 c2_i32_366
  let v770 : BitVec 32 := Scalar.addi v769 c0_i32_367
  let c128_i32_368 : BitVec 32 := 128#32
  let v771 : BitVec 32 := Scalar.muli v770 c128_i32_368
  let v772 : BitVec 32 := v771
  let v1161 : Index := Scalar.indexCast v772
  let c1536_549 : Index := 1536#32
  ![0, v1161.toNat, 1536]
def k0_mult35 : BitVec 32 :=
  let c0_i32 : BitVec 32 := 0#32
  let c2_i32_550 : BitVec 32 := 2#32
  let v1165 : BitVec 32 := Scalar.muli c0_i32 c2_i32_550
  let c0_i32_551 : BitVec 32 := 0#32
  let v1166 : BitVec 32 := Scalar.addi v1165 c0_i32_551
  let c128_i32_552 : BitVec 32 := 128#32
  let v1167 : BitVec 32 := Scalar.muli v1166 c128_i32_552
  v1167
def k0_mult36 : BitVec 32 :=
  let c0_i32_555 : BitVec 32 := 0#32
  let c0_i32_554 : BitVec 32 := 0#32
  let c0_i32 : BitVec 32 := 0#32
  let c2_i32_550 : BitVec 32 := 2#32
  let v1165 : BitVec 32 := Scalar.muli c0_i32 c2_i32_550
  let c0_i32_551 : BitVec 32 := 0#32
  let v1166 : BitVec 32 := Scalar.addi v1165 c0_i32_551
  let c128_i32_552 : BitVec 32 := 128#32
  let v1167 : BitVec 32 := Scalar.muli v1166 c128_i32_552
  let v1168 : BitVec 32 := v1167
  let c64_i32_553 : BitVec 32 := 64#32
  let v1169 : BitVec 32 := Scalar.subi v1168 c64_i32_553
  let v1170 : BitVec 32 := Scalar.maxsi c0_i32_554 v1169
  let v1171 : BitVec 32 := Scalar.minsi c0_i32_555 v1170
  v1171
def k0_off72 (c0_i32_551 : BitVec 32) : Fin 3 → Nat :=
  let c0_561 : Index := 0#32
  let c0_i32 : BitVec 32 := 0#32
  let c2_i32_550 : BitVec 32 := 2#32
  let v1165 : BitVec 32 := Scalar.muli c0_i32 c2_i32_550
  let v1166 : BitVec 32 := Scalar.addi v1165 c0_i32_551
  let c128_i32_552 : BitVec 32 := 128#32
  let v1167 : BitVec 32 := Scalar.muli v1166 c128_i32_552
  let v1168 : BitVec 32 := v1167
  let v1177 : Index := Scalar.indexCast v1168
  let c6272 : Index := 6272#32
  ![0, v1177.toNat, 6272]
def k0_off73 (c0_i32_551 : BitVec 32) : Fin 3 → Nat :=
  let c0_562 : Index := 0#32
  let c0_i32_555 : BitVec 32 := 0#32
  let c0_i32_554 : BitVec 32 := 0#32
  let c0_i32 : BitVec 32 := 0#32
  let c2_i32_550 : BitVec 32 := 2#32
  let v1165 : BitVec 32 := Scalar.muli c0_i32 c2_i32_550
  let v1166 : BitVec 32 := Scalar.addi v1165 c0_i32_551
  let c128_i32_552 : BitVec 32 := 128#32
  let v1167 : BitVec 32 := Scalar.muli v1166 c128_i32_552
  let v1168 : BitVec 32 := v1167
  let c64_i32_553 : BitVec 32 := 64#32
  let v1169 : BitVec 32 := Scalar.subi v1168 c64_i32_553
  let v1170 : BitVec 32 := Scalar.maxsi c0_i32_554 v1169
  let v1171 : BitVec 32 := Scalar.minsi c0_i32_555 v1170
  let v1172 : BitVec 32 := v1171
  let v1180 : Index := Scalar.indexCast v1172
  let c6784 : Index := 6784#32
  ![0, v1180.toNat, 6784]
def k0_off74 (c0_i32_404 : BitVec 32) : Fin 3 → Nat :=
  let c0_574 : Index := 0#32
  let c0_i32_408 : BitVec 32 := 0#32
  let c0_i32_407 : BitVec 32 := 0#32
  let c0_i32 : BitVec 32 := 0#32
  let c2_i32_403 : BitVec 32 := 2#32
  let v848 : BitVec 32 := Scalar.muli c0_i32 c2_i32_403
  let v849 : BitVec 32 := Scalar.addi v848 c0_i32_404
  let c128_i32_405 : BitVec 32 := 128#32
  let v850 : BitVec 32 := Scalar.muli v849 c128_i32_405
  let v851 : BitVec 32 := v850
  let c64_i32_406 : BitVec 32 := 64#32
  let v852 : BitVec 32 := Scalar.subi v851 c64_i32_406
  let v853 : BitVec 32 := Scalar.maxsi c0_i32_407 v852
  let v854 : BitVec 32 := Scalar.minsi c0_i32_408 v853
  let v855 : BitVec 32 := v854
  let v1198 : Index := Scalar.indexCast v855
  let c5760 : Index := 5760#32
  ![0, v1198.toNat, 5760]
def k0_off75 (c0_i32_404 : BitVec 32) : Fin 3 → Nat :=
  let c0_584 : Index := 0#32
  let c0_i32 : BitVec 32 := 0#32
  let c2_i32_403 : BitVec 32 := 2#32
  let v848 : BitVec 32 := Scalar.muli c0_i32 c2_i32_403
  let v849 : BitVec 32 := Scalar.addi v848 c0_i32_404
  let c128_i32_405 : BitVec 32 := 128#32
  let v850 : BitVec 32 := Scalar.muli v849 c128_i32_405
  let v851 : BitVec 32 := v850
  let v1239 : Index := Scalar.indexCast v851
  let c1664_585 : Index := 1664#32
  ![0, v1239.toNat, 1664]
def k0_mult37 : BitVec 32 :=
  let c0_i32 : BitVec 32 := 0#32
  let c2_i32_586 : BitVec 32 := 2#32
  let v1243 : BitVec 32 := Scalar.muli c0_i32 c2_i32_586
  let c0_i32_587 : BitVec 32 := 0#32
  let v1244 : BitVec 32 := Scalar.addi v1243 c0_i32_587
  let c128_i32_588 : BitVec 32 := 128#32
  let v1245 : BitVec 32 := Scalar.muli v1244 c128_i32_588
  v1245
def k0_mult38 : BitVec 32 :=
  let c0_i32_591 : BitVec 32 := 0#32
  let c0_i32_590 : BitVec 32 := 0#32
  let c0_i32 : BitVec 32 := 0#32
  let c2_i32_586 : BitVec 32 := 2#32
  let v1243 : BitVec 32 := Scalar.muli c0_i32 c2_i32_586
  let c0_i32_587 : BitVec 32 := 0#32
  let v1244 : BitVec 32 := Scalar.addi v1243 c0_i32_587
  let c128_i32_588 : BitVec 32 := 128#32
  let v1245 : BitVec 32 := Scalar.muli v1244 c128_i32_588
  let v1246 : BitVec 32 := v1245
  let c64_i32_589 : BitVec 32 := 64#32
  let v1247 : BitVec 32 := Scalar.subi v1246 c64_i32_589
  let v1248 : BitVec 32 := Scalar.maxsi c0_i32_590 v1247
  let v1249 : BitVec 32 := Scalar.minsi c0_i32_591 v1248
  v1249
def k0_off76 (c0_i32_587 : BitVec 32) : Fin 3 → Nat :=
  let c0_597 : Index := 0#32
  let c0_i32 : BitVec 32 := 0#32
  let c2_i32_586 : BitVec 32 := 2#32
  let v1243 : BitVec 32 := Scalar.muli c0_i32 c2_i32_586
  let v1244 : BitVec 32 := Scalar.addi v1243 c0_i32_587
  let c128_i32_588 : BitVec 32 := 128#32
  let v1245 : BitVec 32 := Scalar.muli v1244 c128_i32_588
  let v1246 : BitVec 32 := v1245
  let v1255 : Index := Scalar.indexCast v1246
  let c6400 : Index := 6400#32
  ![0, v1255.toNat, 6400]
def k0_off77 (c0_i32_587 : BitVec 32) : Fin 3 → Nat :=
  let c0_598 : Index := 0#32
  let c0_i32_591 : BitVec 32 := 0#32
  let c0_i32_590 : BitVec 32 := 0#32
  let c0_i32 : BitVec 32 := 0#32
  let c2_i32_586 : BitVec 32 := 2#32
  let v1243 : BitVec 32 := Scalar.muli c0_i32 c2_i32_586
  let v1244 : BitVec 32 := Scalar.addi v1243 c0_i32_587
  let c128_i32_588 : BitVec 32 := 128#32
  let v1245 : BitVec 32 := Scalar.muli v1244 c128_i32_588
  let v1246 : BitVec 32 := v1245
  let c64_i32_589 : BitVec 32 := 64#32
  let v1247 : BitVec 32 := Scalar.subi v1246 c64_i32_589
  let v1248 : BitVec 32 := Scalar.maxsi c0_i32_590 v1247
  let v1249 : BitVec 32 := Scalar.minsi c0_i32_591 v1248
  let v1250 : BitVec 32 := v1249
  let v1258 : Index := Scalar.indexCast v1250
  let c6912 : Index := 6912#32
  ![0, v1258.toNat, 6912]
def k0_off78 (c0_i32_440 : BitVec 32) : Fin 3 → Nat :=
  let c0_610 : Index := 0#32
  let c0_i32_444 : BitVec 32 := 0#32
  let c0_i32_443 : BitVec 32 := 0#32
  let c0_i32 : BitVec 32 := 0#32
  let c2_i32_439 : BitVec 32 := 2#32
  let v926 : BitVec 32 := Scalar.muli c0_i32 c2_i32_439
  let v927 : BitVec 32 := Scalar.addi v926 c0_i32_440
  let c128_i32_441 : BitVec 32 := 128#32
  let v928 : BitVec 32 := Scalar.muli v927 c128_i32_441
  let v929 : BitVec 32 := v928
  let c64_i32_442 : BitVec 32 := 64#32
  let v930 : BitVec 32 := Scalar.subi v929 c64_i32_442
  let v931 : BitVec 32 := Scalar.maxsi c0_i32_443 v930
  let v932 : BitVec 32 := Scalar.minsi c0_i32_444 v931
  let v933 : BitVec 32 := v932
  let v1276 : Index := Scalar.indexCast v933
  let c5888 : Index := 5888#32
  ![0, v1276.toNat, 5888]
def k0_off79 (c0_i32_440 : BitVec 32) : Fin 3 → Nat :=
  let c0_620 : Index := 0#32
  let c0_i32 : BitVec 32 := 0#32
  let c2_i32_439 : BitVec 32 := 2#32
  let v926 : BitVec 32 := Scalar.muli c0_i32 c2_i32_439
  let v927 : BitVec 32 := Scalar.addi v926 c0_i32_440
  let c128_i32_441 : BitVec 32 := 128#32
  let v928 : BitVec 32 := Scalar.muli v927 c128_i32_441
  let v929 : BitVec 32 := v928
  let v1317 : Index := Scalar.indexCast v929
  let c1792_621 : Index := 1792#32
  ![0, v1317.toNat, 1792]
def k0_mult39 : BitVec 32 :=
  let c0_i32 : BitVec 32 := 0#32
  let c2_i32_622 : BitVec 32 := 2#32
  let v1321 : BitVec 32 := Scalar.muli c0_i32 c2_i32_622
  let c0_i32_623 : BitVec 32 := 0#32
  let v1322 : BitVec 32 := Scalar.addi v1321 c0_i32_623
  let c128_i32_624 : BitVec 32 := 128#32
  let v1323 : BitVec 32 := Scalar.muli v1322 c128_i32_624
  v1323
def k0_mult40 : BitVec 32 :=
  let c0_i32_627 : BitVec 32 := 0#32
  let c0_i32_626 : BitVec 32 := 0#32
  let c0_i32 : BitVec 32 := 0#32
  let c2_i32_622 : BitVec 32 := 2#32
  let v1321 : BitVec 32 := Scalar.muli c0_i32 c2_i32_622
  let c0_i32_623 : BitVec 32 := 0#32
  let v1322 : BitVec 32 := Scalar.addi v1321 c0_i32_623
  let c128_i32_624 : BitVec 32 := 128#32
  let v1323 : BitVec 32 := Scalar.muli v1322 c128_i32_624
  let v1324 : BitVec 32 := v1323
  let c64_i32_625 : BitVec 32 := 64#32
  let v1325 : BitVec 32 := Scalar.subi v1324 c64_i32_625
  let v1326 : BitVec 32 := Scalar.maxsi c0_i32_626 v1325
  let v1327 : BitVec 32 := Scalar.minsi c0_i32_627 v1326
  v1327
def k0_off80 (c0_i32_623 : BitVec 32) : Fin 3 → Nat :=
  let c0_633 : Index := 0#32
  let c0_i32 : BitVec 32 := 0#32
  let c2_i32_622 : BitVec 32 := 2#32
  let v1321 : BitVec 32 := Scalar.muli c0_i32 c2_i32_622
  let v1322 : BitVec 32 := Scalar.addi v1321 c0_i32_623
  let c128_i32_624 : BitVec 32 := 128#32
  let v1323 : BitVec 32 := Scalar.muli v1322 c128_i32_624
  let v1324 : BitVec 32 := v1323
  let v1333 : Index := Scalar.indexCast v1324
  let c6528 : Index := 6528#32
  ![0, v1333.toNat, 6528]
def k0_off81 (c0_i32_623 : BitVec 32) : Fin 3 → Nat :=
  let c0_634 : Index := 0#32
  let c0_i32_627 : BitVec 32 := 0#32
  let c0_i32_626 : BitVec 32 := 0#32
  let c0_i32 : BitVec 32 := 0#32
  let c2_i32_622 : BitVec 32 := 2#32
  let v1321 : BitVec 32 := Scalar.muli c0_i32 c2_i32_622
  let v1322 : BitVec 32 := Scalar.addi v1321 c0_i32_623
  let c128_i32_624 : BitVec 32 := 128#32
  let v1323 : BitVec 32 := Scalar.muli v1322 c128_i32_624
  let v1324 : BitVec 32 := v1323
  let c64_i32_625 : BitVec 32 := 64#32
  let v1325 : BitVec 32 := Scalar.subi v1324 c64_i32_625
  let v1326 : BitVec 32 := Scalar.maxsi c0_i32_626 v1325
  let v1327 : BitVec 32 := Scalar.minsi c0_i32_627 v1326
  let v1328 : BitVec 32 := v1327
  let v1336 : Index := Scalar.indexCast v1328
  let c7040 : Index := 7040#32
  ![0, v1336.toNat, 7040]
def k0_off82 (c0_i32_476 : BitVec 32) : Fin 3 → Nat :=
  let c0_646 : Index := 0#32
  let c0_i32_480 : BitVec 32 := 0#32
  let c0_i32_479 : BitVec 32 := 0#32
  let c0_i32 : BitVec 32 := 0#32
  let c2_i32_475 : BitVec 32 := 2#32
  let v1004 : BitVec 32 := Scalar.muli c0_i32 c2_i32_475
  let v1005 : BitVec 32 := Scalar.addi v1004 c0_i32_476
  let c128_i32_477 : BitVec 32 := 128#32
  let v1006 : BitVec 32 := Scalar.muli v1005 c128_i32_477
  let v1007 : BitVec 32 := v1006
  let c64_i32_478 : BitVec 32 := 64#32
  let v1008 : BitVec 32 := Scalar.subi v1007 c64_i32_478
  let v1009 : BitVec 32 := Scalar.maxsi c0_i32_479 v1008
  let v1010 : BitVec 32 := Scalar.minsi c0_i32_480 v1009
  let v1011 : BitVec 32 := v1010
  let v1354 : Index := Scalar.indexCast v1011
  let c6016 : Index := 6016#32
  ![0, v1354.toNat, 6016]
def k0_off83 (c0_i32_476 : BitVec 32) : Fin 3 → Nat :=
  let c0_656 : Index := 0#32
  let c0_i32 : BitVec 32 := 0#32
  let c2_i32_475 : BitVec 32 := 2#32
  let v1004 : BitVec 32 := Scalar.muli c0_i32 c2_i32_475
  let v1005 : BitVec 32 := Scalar.addi v1004 c0_i32_476
  let c128_i32_477 : BitVec 32 := 128#32
  let v1006 : BitVec 32 := Scalar.muli v1005 c128_i32_477
  let v1007 : BitVec 32 := v1006
  let v1395 : Index := Scalar.indexCast v1007
  let c1920_657 : Index := 1920#32
  ![0, v1395.toNat, 1920]
def k0_off84 (c0_i32_476 : BitVec 32) : Fin 3 → Nat :=
  let c0_658 : Index := 0#32
  let c0_i32 : BitVec 32 := 0#32
  let c2_i32_475 : BitVec 32 := 2#32
  let v1004 : BitVec 32 := Scalar.muli c0_i32 c2_i32_475
  let v1005 : BitVec 32 := Scalar.addi v1004 c0_i32_476
  let c128_i32_477 : BitVec 32 := 128#32
  let v1006 : BitVec 32 := Scalar.muli v1005 c128_i32_477
  let v1007 : BitVec 32 := v1006
  let v1399 : Index := Scalar.indexCast v1007
  let c384_659 : Index := 384#32
  ![0, v1399.toNat, 384]
def k0_mult41 : BitVec 32 :=
  let c0_i32 : BitVec 32 := 0#32
  let c2_i32_660 : BitVec 32 := 2#32
  let v1403 : BitVec 32 := Scalar.muli c0_i32 c2_i32_660
  let c0_i32_661 : BitVec 32 := 0#32
  let v1404 : BitVec 32 := Scalar.addi v1403 c0_i32_661
  let c128_i32_662 : BitVec 32 := 128#32
  let v1405 : BitVec 32 := Scalar.muli v1404 c128_i32_662
  v1405
def k0_mult42 : BitVec 32 :=
  let c0_i32_665 : BitVec 32 := 0#32
  let c0_i32_664 : BitVec 32 := 0#32
  let c0_i32 : BitVec 32 := 0#32
  let c2_i32_660 : BitVec 32 := 2#32
  let v1403 : BitVec 32 := Scalar.muli c0_i32 c2_i32_660
  let c0_i32_661 : BitVec 32 := 0#32
  let v1404 : BitVec 32 := Scalar.addi v1403 c0_i32_661
  let c128_i32_662 : BitVec 32 := 128#32
  let v1405 : BitVec 32 := Scalar.muli v1404 c128_i32_662
  let v1406 : BitVec 32 := v1405
  let c64_i32_663 : BitVec 32 := 64#32
  let v1407 : BitVec 32 := Scalar.subi v1406 c64_i32_663
  let v1408 : BitVec 32 := Scalar.maxsi c0_i32_664 v1407
  let v1409 : BitVec 32 := Scalar.minsi c0_i32_665 v1408
  v1409
def k0_off85 (c0_i32_661 : BitVec 32) : Fin 3 → Nat :=
  let c0_671 : Index := 0#32
  let c0_i32 : BitVec 32 := 0#32
  let c2_i32_660 : BitVec 32 := 2#32
  let v1403 : BitVec 32 := Scalar.muli c0_i32 c2_i32_660
  let v1404 : BitVec 32 := Scalar.addi v1403 c0_i32_661
  let c128_i32_662 : BitVec 32 := 128#32
  let v1405 : BitVec 32 := Scalar.muli v1404 c128_i32_662
  let v1406 : BitVec 32 := v1405
  let v1415 : Index := Scalar.indexCast v1406
  let c7680 : Index := 7680#32
  ![0, v1415.toNat, 7680]
def k0_off86 (c0_i32_661 : BitVec 32) : Fin 3 → Nat :=
  let c0_672 : Index := 0#32
  let c0_i32_665 : BitVec 32 := 0#32
  let c0_i32_664 : BitVec 32 := 0#32
  let c0_i32 : BitVec 32 := 0#32
  let c2_i32_660 : BitVec 32 := 2#32
  let v1403 : BitVec 32 := Scalar.muli c0_i32 c2_i32_660
  let v1404 : BitVec 32 := Scalar.addi v1403 c0_i32_661
  let c128_i32_662 : BitVec 32 := 128#32
  let v1405 : BitVec 32 := Scalar.muli v1404 c128_i32_662
  let v1406 : BitVec 32 := v1405
  let c64_i32_663 : BitVec 32 := 64#32
  let v1407 : BitVec 32 := Scalar.subi v1406 c64_i32_663
  let v1408 : BitVec 32 := Scalar.maxsi c0_i32_664 v1407
  let v1409 : BitVec 32 := Scalar.minsi c0_i32_665 v1408
  let v1410 : BitVec 32 := v1409
  let v1418 : Index := Scalar.indexCast v1410
  let c8192 : Index := 8192#32
  ![0, v1418.toNat, 8192]
def k0_off87 (c0_i32_514 : BitVec 32) : Fin 3 → Nat :=
  let c0_684 : Index := 0#32
  let c0_i32_518 : BitVec 32 := 0#32
  let c0_i32_517 : BitVec 32 := 0#32
  let c0_i32 : BitVec 32 := 0#32
  let c2_i32_513 : BitVec 32 := 2#32
  let v1086 : BitVec 32 := Scalar.muli c0_i32 c2_i32_513
  let v1087 : BitVec 32 := Scalar.addi v1086 c0_i32_514
  let c128_i32_515 : BitVec 32 := 128#32
  let v1088 : BitVec 32 := Scalar.muli v1087 c128_i32_515
  let v1089 : BitVec 32 := v1088
  let c64_i32_516 : BitVec 32 := 64#32
  let v1090 : BitVec 32 := Scalar.subi v1089 c64_i32_516
  let v1091 : BitVec 32 := Scalar.maxsi c0_i32_517 v1090
  let v1092 : BitVec 32 := Scalar.minsi c0_i32_518 v1091
  let v1093 : BitVec 32 := v1092
  let v1436 : Index := Scalar.indexCast v1093
  let c7168 : Index := 7168#32
  ![0, v1436.toNat, 7168]
def k0_off88 (c0_i32_514 : BitVec 32) : Fin 3 → Nat :=
  let c0_695 : Index := 0#32
  let c0_i32 : BitVec 32 := 0#32
  let c2_i32_513 : BitVec 32 := 2#32
  let v1086 : BitVec 32 := Scalar.muli c0_i32 c2_i32_513
  let v1087 : BitVec 32 := Scalar.addi v1086 c0_i32_514
  let c128_i32_515 : BitVec 32 := 128#32
  let v1088 : BitVec 32 := Scalar.muli v1087 c128_i32_515
  let v1089 : BitVec 32 := v1088
  let v1478 : Index := Scalar.indexCast v1089
  let c2048_696 : Index := 2048#32
  ![0, v1478.toNat, 2048]
def k0_mult43 : BitVec 32 :=
  let c0_i32 : BitVec 32 := 0#32
  let c2_i32_697 : BitVec 32 := 2#32
  let v1482 : BitVec 32 := Scalar.muli c0_i32 c2_i32_697
  let c0_i32_698 : BitVec 32 := 0#32
  let v1483 : BitVec 32 := Scalar.addi v1482 c0_i32_698
  let c128_i32_699 : BitVec 32 := 128#32
  let v1484 : BitVec 32 := Scalar.muli v1483 c128_i32_699
  v1484
def k0_mult44 : BitVec 32 :=
  let c0_i32_702 : BitVec 32 := 0#32
  let c0_i32_701 : BitVec 32 := 0#32
  let c0_i32 : BitVec 32 := 0#32
  let c2_i32_697 : BitVec 32 := 2#32
  let v1482 : BitVec 32 := Scalar.muli c0_i32 c2_i32_697
  let c0_i32_698 : BitVec 32 := 0#32
  let v1483 : BitVec 32 := Scalar.addi v1482 c0_i32_698
  let c128_i32_699 : BitVec 32 := 128#32
  let v1484 : BitVec 32 := Scalar.muli v1483 c128_i32_699
  let v1485 : BitVec 32 := v1484
  let c64_i32_700 : BitVec 32 := 64#32
  let v1486 : BitVec 32 := Scalar.subi v1485 c64_i32_700
  let v1487 : BitVec 32 := Scalar.maxsi c0_i32_701 v1486
  let v1488 : BitVec 32 := Scalar.minsi c0_i32_702 v1487
  v1488
def k0_off89 (c0_i32_698 : BitVec 32) : Fin 3 → Nat :=
  let c0_708 : Index := 0#32
  let c0_i32 : BitVec 32 := 0#32
  let c2_i32_697 : BitVec 32 := 2#32
  let v1482 : BitVec 32 := Scalar.muli c0_i32 c2_i32_697
  let v1483 : BitVec 32 := Scalar.addi v1482 c0_i32_698
  let c128_i32_699 : BitVec 32 := 128#32
  let v1484 : BitVec 32 := Scalar.muli v1483 c128_i32_699
  let v1485 : BitVec 32 := v1484
  let v1494 : Index := Scalar.indexCast v1485
  let c7808 : Index := 7808#32
  ![0, v1494.toNat, 7808]
def k0_off90 (c0_i32_698 : BitVec 32) : Fin 3 → Nat :=
  let c0_709 : Index := 0#32
  let c0_i32_702 : BitVec 32 := 0#32
  let c0_i32_701 : BitVec 32 := 0#32
  let c0_i32 : BitVec 32 := 0#32
  let c2_i32_697 : BitVec 32 := 2#32
  let v1482 : BitVec 32 := Scalar.muli c0_i32 c2_i32_697
  let v1483 : BitVec 32 := Scalar.addi v1482 c0_i32_698
  let c128_i32_699 : BitVec 32 := 128#32
  let v1484 : BitVec 32 := Scalar.muli v1483 c128_i32_699
  let v1485 : BitVec 32 := v1484
  let c64_i32_700 : BitVec 32 := 64#32
  let v1486 : BitVec 32 := Scalar.subi v1485 c64_i32_700
  let v1487 : BitVec 32 := Scalar.maxsi c0_i32_701 v1486
  let v1488 : BitVec 32 := Scalar.minsi c0_i32_702 v1487
  let v1489 : BitVec 32 := v1488
  let v1497 : Index := Scalar.indexCast v1489
  let c8320 : Index := 8320#32
  ![0, v1497.toNat, 8320]
def k0_off91 (c0_i32_551 : BitVec 32) : Fin 3 → Nat :=
  let c0_721 : Index := 0#32
  let c0_i32_555 : BitVec 32 := 0#32
  let c0_i32_554 : BitVec 32 := 0#32
  let c0_i32 : BitVec 32 := 0#32
  let c2_i32_550 : BitVec 32 := 2#32
  let v1165 : BitVec 32 := Scalar.muli c0_i32 c2_i32_550
  let v1166 : BitVec 32 := Scalar.addi v1165 c0_i32_551
  let c128_i32_552 : BitVec 32 := 128#32
  let v1167 : BitVec 32 := Scalar.muli v1166 c128_i32_552
  let v1168 : BitVec 32 := v1167
  let c64_i32_553 : BitVec 32 := 64#32
  let v1169 : BitVec 32 := Scalar.subi v1168 c64_i32_553
  let v1170 : BitVec 32 := Scalar.maxsi c0_i32_554 v1169
  let v1171 : BitVec 32 := Scalar.minsi c0_i32_555 v1170
  let v1172 : BitVec 32 := v1171
  let v1515 : Index := Scalar.indexCast v1172
  let c7296 : Index := 7296#32
  ![0, v1515.toNat, 7296]
def k0_off92 (c0_i32_551 : BitVec 32) : Fin 3 → Nat :=
  let c0_731 : Index := 0#32
  let c0_i32 : BitVec 32 := 0#32
  let c2_i32_550 : BitVec 32 := 2#32
  let v1165 : BitVec 32 := Scalar.muli c0_i32 c2_i32_550
  let v1166 : BitVec 32 := Scalar.addi v1165 c0_i32_551
  let c128_i32_552 : BitVec 32 := 128#32
  let v1167 : BitVec 32 := Scalar.muli v1166 c128_i32_552
  let v1168 : BitVec 32 := v1167
  let v1556 : Index := Scalar.indexCast v1168
  let c2176_732 : Index := 2176#32
  ![0, v1556.toNat, 2176]
def k0_mult45 : BitVec 32 :=
  let c0_i32 : BitVec 32 := 0#32
  let c2_i32_733 : BitVec 32 := 2#32
  let v1560 : BitVec 32 := Scalar.muli c0_i32 c2_i32_733
  let c0_i32_734 : BitVec 32 := 0#32
  let v1561 : BitVec 32 := Scalar.addi v1560 c0_i32_734
  let c128_i32_735 : BitVec 32 := 128#32
  let v1562 : BitVec 32 := Scalar.muli v1561 c128_i32_735
  v1562
def k0_mult46 : BitVec 32 :=
  let c0_i32_738 : BitVec 32 := 0#32
  let c0_i32_737 : BitVec 32 := 0#32
  let c0_i32 : BitVec 32 := 0#32
  let c2_i32_733 : BitVec 32 := 2#32
  let v1560 : BitVec 32 := Scalar.muli c0_i32 c2_i32_733
  let c0_i32_734 : BitVec 32 := 0#32
  let v1561 : BitVec 32 := Scalar.addi v1560 c0_i32_734
  let c128_i32_735 : BitVec 32 := 128#32
  let v1562 : BitVec 32 := Scalar.muli v1561 c128_i32_735
  let v1563 : BitVec 32 := v1562
  let c64_i32_736 : BitVec 32 := 64#32
  let v1564 : BitVec 32 := Scalar.subi v1563 c64_i32_736
  let v1565 : BitVec 32 := Scalar.maxsi c0_i32_737 v1564
  let v1566 : BitVec 32 := Scalar.minsi c0_i32_738 v1565
  v1566
def k0_off93 (c0_i32_734 : BitVec 32) : Fin 3 → Nat :=
  let c0_744 : Index := 0#32
  let c0_i32 : BitVec 32 := 0#32
  let c2_i32_733 : BitVec 32 := 2#32
  let v1560 : BitVec 32 := Scalar.muli c0_i32 c2_i32_733
  let v1561 : BitVec 32 := Scalar.addi v1560 c0_i32_734
  let c128_i32_735 : BitVec 32 := 128#32
  let v1562 : BitVec 32 := Scalar.muli v1561 c128_i32_735
  let v1563 : BitVec 32 := v1562
  let v1572 : Index := Scalar.indexCast v1563
  let c7936 : Index := 7936#32
  ![0, v1572.toNat, 7936]
def k0_off94 (c0_i32_734 : BitVec 32) : Fin 3 → Nat :=
  let c0_745 : Index := 0#32
  let c0_i32_738 : BitVec 32 := 0#32
  let c0_i32_737 : BitVec 32 := 0#32
  let c0_i32 : BitVec 32 := 0#32
  let c2_i32_733 : BitVec 32 := 2#32
  let v1560 : BitVec 32 := Scalar.muli c0_i32 c2_i32_733
  let v1561 : BitVec 32 := Scalar.addi v1560 c0_i32_734
  let c128_i32_735 : BitVec 32 := 128#32
  let v1562 : BitVec 32 := Scalar.muli v1561 c128_i32_735
  let v1563 : BitVec 32 := v1562
  let c64_i32_736 : BitVec 32 := 64#32
  let v1564 : BitVec 32 := Scalar.subi v1563 c64_i32_736
  let v1565 : BitVec 32 := Scalar.maxsi c0_i32_737 v1564
  let v1566 : BitVec 32 := Scalar.minsi c0_i32_738 v1565
  let v1567 : BitVec 32 := v1566
  let v1575 : Index := Scalar.indexCast v1567
  let c8448 : Index := 8448#32
  ![0, v1575.toNat, 8448]
def k0_off95 (c0_i32_587 : BitVec 32) : Fin 3 → Nat :=
  let c0_757 : Index := 0#32
  let c0_i32_591 : BitVec 32 := 0#32
  let c0_i32_590 : BitVec 32 := 0#32
  let c0_i32 : BitVec 32 := 0#32
  let c2_i32_586 : BitVec 32 := 2#32
  let v1243 : BitVec 32 := Scalar.muli c0_i32 c2_i32_586
  let v1244 : BitVec 32 := Scalar.addi v1243 c0_i32_587
  let c128_i32_588 : BitVec 32 := 128#32
  let v1245 : BitVec 32 := Scalar.muli v1244 c128_i32_588
  let v1246 : BitVec 32 := v1245
  let c64_i32_589 : BitVec 32 := 64#32
  let v1247 : BitVec 32 := Scalar.subi v1246 c64_i32_589
  let v1248 : BitVec 32 := Scalar.maxsi c0_i32_590 v1247
  let v1249 : BitVec 32 := Scalar.minsi c0_i32_591 v1248
  let v1250 : BitVec 32 := v1249
  let v1593 : Index := Scalar.indexCast v1250
  let c7424 : Index := 7424#32
  ![0, v1593.toNat, 7424]
def k0_off96 (c0_i32_587 : BitVec 32) : Fin 3 → Nat :=
  let c0_767 : Index := 0#32
  let c0_i32 : BitVec 32 := 0#32
  let c2_i32_586 : BitVec 32 := 2#32
  let v1243 : BitVec 32 := Scalar.muli c0_i32 c2_i32_586
  let v1244 : BitVec 32 := Scalar.addi v1243 c0_i32_587
  let c128_i32_588 : BitVec 32 := 128#32
  let v1245 : BitVec 32 := Scalar.muli v1244 c128_i32_588
  let v1246 : BitVec 32 := v1245
  let v1634 : Index := Scalar.indexCast v1246
  let c2304_768 : Index := 2304#32
  ![0, v1634.toNat, 2304]
def k0_mult47 : BitVec 32 :=
  let c0_i32 : BitVec 32 := 0#32
  let c2_i32_769 : BitVec 32 := 2#32
  let v1638 : BitVec 32 := Scalar.muli c0_i32 c2_i32_769
  let c0_i32_770 : BitVec 32 := 0#32
  let v1639 : BitVec 32 := Scalar.addi v1638 c0_i32_770
  let c128_i32_771 : BitVec 32 := 128#32
  let v1640 : BitVec 32 := Scalar.muli v1639 c128_i32_771
  v1640
def k0_mult48 : BitVec 32 :=
  let c0_i32_774 : BitVec 32 := 0#32
  let c0_i32_773 : BitVec 32 := 0#32
  let c0_i32 : BitVec 32 := 0#32
  let c2_i32_769 : BitVec 32 := 2#32
  let v1638 : BitVec 32 := Scalar.muli c0_i32 c2_i32_769
  let c0_i32_770 : BitVec 32 := 0#32
  let v1639 : BitVec 32 := Scalar.addi v1638 c0_i32_770
  let c128_i32_771 : BitVec 32 := 128#32
  let v1640 : BitVec 32 := Scalar.muli v1639 c128_i32_771
  let v1641 : BitVec 32 := v1640
  let c64_i32_772 : BitVec 32 := 64#32
  let v1642 : BitVec 32 := Scalar.subi v1641 c64_i32_772
  let v1643 : BitVec 32 := Scalar.maxsi c0_i32_773 v1642
  let v1644 : BitVec 32 := Scalar.minsi c0_i32_774 v1643
  v1644
def k0_off97 (c0_i32_770 : BitVec 32) : Fin 3 → Nat :=
  let c0_780 : Index := 0#32
  let c0_i32 : BitVec 32 := 0#32
  let c2_i32_769 : BitVec 32 := 2#32
  let v1638 : BitVec 32 := Scalar.muli c0_i32 c2_i32_769
  let v1639 : BitVec 32 := Scalar.addi v1638 c0_i32_770
  let c128_i32_771 : BitVec 32 := 128#32
  let v1640 : BitVec 32 := Scalar.muli v1639 c128_i32_771
  let v1641 : BitVec 32 := v1640
  let v1650 : Index := Scalar.indexCast v1641
  let c8064 : Index := 8064#32
  ![0, v1650.toNat, 8064]
def k0_off98 (c0_i32_770 : BitVec 32) : Fin 3 → Nat :=
  let c0_781 : Index := 0#32
  let c0_i32_774 : BitVec 32 := 0#32
  let c0_i32_773 : BitVec 32 := 0#32
  let c0_i32 : BitVec 32 := 0#32
  let c2_i32_769 : BitVec 32 := 2#32
  let v1638 : BitVec 32 := Scalar.muli c0_i32 c2_i32_769
  let v1639 : BitVec 32 := Scalar.addi v1638 c0_i32_770
  let c128_i32_771 : BitVec 32 := 128#32
  let v1640 : BitVec 32 := Scalar.muli v1639 c128_i32_771
  let v1641 : BitVec 32 := v1640
  let c64_i32_772 : BitVec 32 := 64#32
  let v1642 : BitVec 32 := Scalar.subi v1641 c64_i32_772
  let v1643 : BitVec 32 := Scalar.maxsi c0_i32_773 v1642
  let v1644 : BitVec 32 := Scalar.minsi c0_i32_774 v1643
  let v1645 : BitVec 32 := v1644
  let v1653 : Index := Scalar.indexCast v1645
  let c8576 : Index := 8576#32
  ![0, v1653.toNat, 8576]
def k0_off99 (c0_i32_623 : BitVec 32) : Fin 3 → Nat :=
  let c0_793 : Index := 0#32
  let c0_i32_627 : BitVec 32 := 0#32
  let c0_i32_626 : BitVec 32 := 0#32
  let c0_i32 : BitVec 32 := 0#32
  let c2_i32_622 : BitVec 32 := 2#32
  let v1321 : BitVec 32 := Scalar.muli c0_i32 c2_i32_622
  let v1322 : BitVec 32 := Scalar.addi v1321 c0_i32_623
  let c128_i32_624 : BitVec 32 := 128#32
  let v1323 : BitVec 32 := Scalar.muli v1322 c128_i32_624
  let v1324 : BitVec 32 := v1323
  let c64_i32_625 : BitVec 32 := 64#32
  let v1325 : BitVec 32 := Scalar.subi v1324 c64_i32_625
  let v1326 : BitVec 32 := Scalar.maxsi c0_i32_626 v1325
  let v1327 : BitVec 32 := Scalar.minsi c0_i32_627 v1326
  let v1328 : BitVec 32 := v1327
  let v1671 : Index := Scalar.indexCast v1328
  let c7552 : Index := 7552#32
  ![0, v1671.toNat, 7552]
def k0_off100 (c0_i32_623 : BitVec 32) : Fin 3 → Nat :=
  let c0_803 : Index := 0#32
  let c0_i32 : BitVec 32 := 0#32
  let c2_i32_622 : BitVec 32 := 2#32
  let v1321 : BitVec 32 := Scalar.muli c0_i32 c2_i32_622
  let v1322 : BitVec 32 := Scalar.addi v1321 c0_i32_623
  let c128_i32_624 : BitVec 32 := 128#32
  let v1323 : BitVec 32 := Scalar.muli v1322 c128_i32_624
  let v1324 : BitVec 32 := v1323
  let v1712 : Index := Scalar.indexCast v1324
  let c2432_804 : Index := 2432#32
  ![0, v1712.toNat, 2432]
def k0_off101 (c0_i32_623 : BitVec 32) : Fin 3 → Nat :=
  let c0_805 : Index := 0#32
  let c0_i32 : BitVec 32 := 0#32
  let c2_i32_622 : BitVec 32 := 2#32
  let v1321 : BitVec 32 := Scalar.muli c0_i32 c2_i32_622
  let v1322 : BitVec 32 := Scalar.addi v1321 c0_i32_623
  let c128_i32_624 : BitVec 32 := 128#32
  let v1323 : BitVec 32 := Scalar.muli v1322 c128_i32_624
  let v1324 : BitVec 32 := v1323
  let v1716 : Index := Scalar.indexCast v1324
  let c512_806 : Index := 512#32
  ![0, v1716.toNat, 512]
def k0_mult49 : BitVec 32 :=
  let c0_i32 : BitVec 32 := 0#32
  let c2_i32_807 : BitVec 32 := 2#32
  let v1720 : BitVec 32 := Scalar.muli c0_i32 c2_i32_807
  let c0_i32_808 : BitVec 32 := 0#32
  let v1721 : BitVec 32 := Scalar.addi v1720 c0_i32_808
  let c128_i32_809 : BitVec 32 := 128#32
  let v1722 : BitVec 32 := Scalar.muli v1721 c128_i32_809
  v1722
def k0_mult50 : BitVec 32 :=
  let c0_i32_812 : BitVec 32 := 0#32
  let c0_i32_811 : BitVec 32 := 0#32
  let c0_i32 : BitVec 32 := 0#32
  let c2_i32_807 : BitVec 32 := 2#32
  let v1720 : BitVec 32 := Scalar.muli c0_i32 c2_i32_807
  let c0_i32_808 : BitVec 32 := 0#32
  let v1721 : BitVec 32 := Scalar.addi v1720 c0_i32_808
  let c128_i32_809 : BitVec 32 := 128#32
  let v1722 : BitVec 32 := Scalar.muli v1721 c128_i32_809
  let v1723 : BitVec 32 := v1722
  let c64_i32_810 : BitVec 32 := 64#32
  let v1724 : BitVec 32 := Scalar.subi v1723 c64_i32_810
  let v1725 : BitVec 32 := Scalar.maxsi c0_i32_811 v1724
  let v1726 : BitVec 32 := Scalar.minsi c0_i32_812 v1725
  v1726
def k0_off102 (c0_i32_808 : BitVec 32) : Fin 3 → Nat :=
  let c0_818 : Index := 0#32
  let c0_i32 : BitVec 32 := 0#32
  let c2_i32_807 : BitVec 32 := 2#32
  let v1720 : BitVec 32 := Scalar.muli c0_i32 c2_i32_807
  let v1721 : BitVec 32 := Scalar.addi v1720 c0_i32_808
  let c128_i32_809 : BitVec 32 := 128#32
  let v1722 : BitVec 32 := Scalar.muli v1721 c128_i32_809
  let v1723 : BitVec 32 := v1722
  let v1732 : Index := Scalar.indexCast v1723
  let c9216 : Index := 9216#32
  ![0, v1732.toNat, 9216]
def k0_off103 (c0_i32_808 : BitVec 32) : Fin 3 → Nat :=
  let c0_819 : Index := 0#32
  let c0_i32_812 : BitVec 32 := 0#32
  let c0_i32_811 : BitVec 32 := 0#32
  let c0_i32 : BitVec 32 := 0#32
  let c2_i32_807 : BitVec 32 := 2#32
  let v1720 : BitVec 32 := Scalar.muli c0_i32 c2_i32_807
  let v1721 : BitVec 32 := Scalar.addi v1720 c0_i32_808
  let c128_i32_809 : BitVec 32 := 128#32
  let v1722 : BitVec 32 := Scalar.muli v1721 c128_i32_809
  let v1723 : BitVec 32 := v1722
  let c64_i32_810 : BitVec 32 := 64#32
  let v1724 : BitVec 32 := Scalar.subi v1723 c64_i32_810
  let v1725 : BitVec 32 := Scalar.maxsi c0_i32_811 v1724
  let v1726 : BitVec 32 := Scalar.minsi c0_i32_812 v1725
  let v1727 : BitVec 32 := v1726
  let v1735 : Index := Scalar.indexCast v1727
  let c9728 : Index := 9728#32
  ![0, v1735.toNat, 9728]
def k0_off104 (c0_i32_661 : BitVec 32) : Fin 3 → Nat :=
  let c0_831 : Index := 0#32
  let c0_i32_665 : BitVec 32 := 0#32
  let c0_i32_664 : BitVec 32 := 0#32
  let c0_i32 : BitVec 32 := 0#32
  let c2_i32_660 : BitVec 32 := 2#32
  let v1403 : BitVec 32 := Scalar.muli c0_i32 c2_i32_660
  let v1404 : BitVec 32 := Scalar.addi v1403 c0_i32_661
  let c128_i32_662 : BitVec 32 := 128#32
  let v1405 : BitVec 32 := Scalar.muli v1404 c128_i32_662
  let v1406 : BitVec 32 := v1405
  let c64_i32_663 : BitVec 32 := 64#32
  let v1407 : BitVec 32 := Scalar.subi v1406 c64_i32_663
  let v1408 : BitVec 32 := Scalar.maxsi c0_i32_664 v1407
  let v1409 : BitVec 32 := Scalar.minsi c0_i32_665 v1408
  let v1410 : BitVec 32 := v1409
  let v1753 : Index := Scalar.indexCast v1410
  let c8704 : Index := 8704#32
  ![0, v1753.toNat, 8704]
def k0_off105 (c0_i32_661 : BitVec 32) : Fin 3 → Nat :=
  let c0_842 : Index := 0#32
  let c0_i32 : BitVec 32 := 0#32
  let c2_i32_660 : BitVec 32 := 2#32
  let v1403 : BitVec 32 := Scalar.muli c0_i32 c2_i32_660
  let v1404 : BitVec 32 := Scalar.addi v1403 c0_i32_661
  let c128_i32_662 : BitVec 32 := 128#32
  let v1405 : BitVec 32 := Scalar.muli v1404 c128_i32_662
  let v1406 : BitVec 32 := v1405
  let v1795 : Index := Scalar.indexCast v1406
  let c2560_843 : Index := 2560#32
  ![0, v1795.toNat, 2560]
def k0_mult51 : BitVec 32 :=
  let c0_i32 : BitVec 32 := 0#32
  let c2_i32_844 : BitVec 32 := 2#32
  let v1799 : BitVec 32 := Scalar.muli c0_i32 c2_i32_844
  let c0_i32_845 : BitVec 32 := 0#32
  let v1800 : BitVec 32 := Scalar.addi v1799 c0_i32_845
  let c128_i32_846 : BitVec 32 := 128#32
  let v1801 : BitVec 32 := Scalar.muli v1800 c128_i32_846
  v1801
def k0_mult52 : BitVec 32 :=
  let c0_i32_849 : BitVec 32 := 0#32
  let c0_i32_848 : BitVec 32 := 0#32
  let c0_i32 : BitVec 32 := 0#32
  let c2_i32_844 : BitVec 32 := 2#32
  let v1799 : BitVec 32 := Scalar.muli c0_i32 c2_i32_844
  let c0_i32_845 : BitVec 32 := 0#32
  let v1800 : BitVec 32 := Scalar.addi v1799 c0_i32_845
  let c128_i32_846 : BitVec 32 := 128#32
  let v1801 : BitVec 32 := Scalar.muli v1800 c128_i32_846
  let v1802 : BitVec 32 := v1801
  let c64_i32_847 : BitVec 32 := 64#32
  let v1803 : BitVec 32 := Scalar.subi v1802 c64_i32_847
  let v1804 : BitVec 32 := Scalar.maxsi c0_i32_848 v1803
  let v1805 : BitVec 32 := Scalar.minsi c0_i32_849 v1804
  v1805
def k0_off106 (c0_i32_845 : BitVec 32) : Fin 3 → Nat :=
  let c0_855 : Index := 0#32
  let c0_i32 : BitVec 32 := 0#32
  let c2_i32_844 : BitVec 32 := 2#32
  let v1799 : BitVec 32 := Scalar.muli c0_i32 c2_i32_844
  let v1800 : BitVec 32 := Scalar.addi v1799 c0_i32_845
  let c128_i32_846 : BitVec 32 := 128#32
  let v1801 : BitVec 32 := Scalar.muli v1800 c128_i32_846
  let v1802 : BitVec 32 := v1801
  let v1811 : Index := Scalar.indexCast v1802
  let c9344 : Index := 9344#32
  ![0, v1811.toNat, 9344]
def k0_off107 (c0_i32_845 : BitVec 32) : Fin 3 → Nat :=
  let c0_856 : Index := 0#32
  let c0_i32_849 : BitVec 32 := 0#32
  let c0_i32_848 : BitVec 32 := 0#32
  let c0_i32 : BitVec 32 := 0#32
  let c2_i32_844 : BitVec 32 := 2#32
  let v1799 : BitVec 32 := Scalar.muli c0_i32 c2_i32_844
  let v1800 : BitVec 32 := Scalar.addi v1799 c0_i32_845
  let c128_i32_846 : BitVec 32 := 128#32
  let v1801 : BitVec 32 := Scalar.muli v1800 c128_i32_846
  let v1802 : BitVec 32 := v1801
  let c64_i32_847 : BitVec 32 := 64#32
  let v1803 : BitVec 32 := Scalar.subi v1802 c64_i32_847
  let v1804 : BitVec 32 := Scalar.maxsi c0_i32_848 v1803
  let v1805 : BitVec 32 := Scalar.minsi c0_i32_849 v1804
  let v1806 : BitVec 32 := v1805
  let v1814 : Index := Scalar.indexCast v1806
  let c9856 : Index := 9856#32
  ![0, v1814.toNat, 9856]
def k0_off108 (c0_i32_698 : BitVec 32) : Fin 3 → Nat :=
  let c0_868 : Index := 0#32
  let c0_i32_702 : BitVec 32 := 0#32
  let c0_i32_701 : BitVec 32 := 0#32
  let c0_i32 : BitVec 32 := 0#32
  let c2_i32_697 : BitVec 32 := 2#32
  let v1482 : BitVec 32 := Scalar.muli c0_i32 c2_i32_697
  let v1483 : BitVec 32 := Scalar.addi v1482 c0_i32_698
  let c128_i32_699 : BitVec 32 := 128#32
  let v1484 : BitVec 32 := Scalar.muli v1483 c128_i32_699
  let v1485 : BitVec 32 := v1484
  let c64_i32_700 : BitVec 32 := 64#32
  let v1486 : BitVec 32 := Scalar.subi v1485 c64_i32_700
  let v1487 : BitVec 32 := Scalar.maxsi c0_i32_701 v1486
  let v1488 : BitVec 32 := Scalar.minsi c0_i32_702 v1487
  let v1489 : BitVec 32 := v1488
  let v1832 : Index := Scalar.indexCast v1489
  let c8832 : Index := 8832#32
  ![0, v1832.toNat, 8832]
def k0_off109 (c0_i32_698 : BitVec 32) : Fin 3 → Nat :=
  let c0_878 : Index := 0#32
  let c0_i32 : BitVec 32 := 0#32
  let c2_i32_697 : BitVec 32 := 2#32
  let v1482 : BitVec 32 := Scalar.muli c0_i32 c2_i32_697
  let v1483 : BitVec 32 := Scalar.addi v1482 c0_i32_698
  let c128_i32_699 : BitVec 32 := 128#32
  let v1484 : BitVec 32 := Scalar.muli v1483 c128_i32_699
  let v1485 : BitVec 32 := v1484
  let v1873 : Index := Scalar.indexCast v1485
  let c2688_879 : Index := 2688#32
  ![0, v1873.toNat, 2688]
def k0_mult53 : BitVec 32 :=
  let c0_i32 : BitVec 32 := 0#32
  let c2_i32_880 : BitVec 32 := 2#32
  let v1877 : BitVec 32 := Scalar.muli c0_i32 c2_i32_880
  let c0_i32_881 : BitVec 32 := 0#32
  let v1878 : BitVec 32 := Scalar.addi v1877 c0_i32_881
  let c128_i32_882 : BitVec 32 := 128#32
  let v1879 : BitVec 32 := Scalar.muli v1878 c128_i32_882
  v1879
def k0_mult54 : BitVec 32 :=
  let c0_i32_885 : BitVec 32 := 0#32
  let c0_i32_884 : BitVec 32 := 0#32
  let c0_i32 : BitVec 32 := 0#32
  let c2_i32_880 : BitVec 32 := 2#32
  let v1877 : BitVec 32 := Scalar.muli c0_i32 c2_i32_880
  let c0_i32_881 : BitVec 32 := 0#32
  let v1878 : BitVec 32 := Scalar.addi v1877 c0_i32_881
  let c128_i32_882 : BitVec 32 := 128#32
  let v1879 : BitVec 32 := Scalar.muli v1878 c128_i32_882
  let v1880 : BitVec 32 := v1879
  let c64_i32_883 : BitVec 32 := 64#32
  let v1881 : BitVec 32 := Scalar.subi v1880 c64_i32_883
  let v1882 : BitVec 32 := Scalar.maxsi c0_i32_884 v1881
  let v1883 : BitVec 32 := Scalar.minsi c0_i32_885 v1882
  v1883
def k0_off110 (c0_i32_881 : BitVec 32) : Fin 3 → Nat :=
  let c0_891 : Index := 0#32
  let c0_i32 : BitVec 32 := 0#32
  let c2_i32_880 : BitVec 32 := 2#32
  let v1877 : BitVec 32 := Scalar.muli c0_i32 c2_i32_880
  let v1878 : BitVec 32 := Scalar.addi v1877 c0_i32_881
  let c128_i32_882 : BitVec 32 := 128#32
  let v1879 : BitVec 32 := Scalar.muli v1878 c128_i32_882
  let v1880 : BitVec 32 := v1879
  let v1889 : Index := Scalar.indexCast v1880
  let c9472 : Index := 9472#32
  ![0, v1889.toNat, 9472]
def k0_off111 (c0_i32_881 : BitVec 32) : Fin 3 → Nat :=
  let c0_892 : Index := 0#32
  let c0_i32_885 : BitVec 32 := 0#32
  let c0_i32_884 : BitVec 32 := 0#32
  let c0_i32 : BitVec 32 := 0#32
  let c2_i32_880 : BitVec 32 := 2#32
  let v1877 : BitVec 32 := Scalar.muli c0_i32 c2_i32_880
  let v1878 : BitVec 32 := Scalar.addi v1877 c0_i32_881
  let c128_i32_882 : BitVec 32 := 128#32
  let v1879 : BitVec 32 := Scalar.muli v1878 c128_i32_882
  let v1880 : BitVec 32 := v1879
  let c64_i32_883 : BitVec 32 := 64#32
  let v1881 : BitVec 32 := Scalar.subi v1880 c64_i32_883
  let v1882 : BitVec 32 := Scalar.maxsi c0_i32_884 v1881
  let v1883 : BitVec 32 := Scalar.minsi c0_i32_885 v1882
  let v1884 : BitVec 32 := v1883
  let v1892 : Index := Scalar.indexCast v1884
  let c9984 : Index := 9984#32
  ![0, v1892.toNat, 9984]
def k0_off112 (c0_i32_734 : BitVec 32) : Fin 3 → Nat :=
  let c0_904 : Index := 0#32
  let c0_i32_738 : BitVec 32 := 0#32
  let c0_i32_737 : BitVec 32 := 0#32
  let c0_i32 : BitVec 32 := 0#32
  let c2_i32_733 : BitVec 32 := 2#32
  let v1560 : BitVec 32 := Scalar.muli c0_i32 c2_i32_733
  let v1561 : BitVec 32 := Scalar.addi v1560 c0_i32_734
  let c128_i32_735 : BitVec 32 := 128#32
  let v1562 : BitVec 32 := Scalar.muli v1561 c128_i32_735
  let v1563 : BitVec 32 := v1562
  let c64_i32_736 : BitVec 32 := 64#32
  let v1564 : BitVec 32 := Scalar.subi v1563 c64_i32_736
  let v1565 : BitVec 32 := Scalar.maxsi c0_i32_737 v1564
  let v1566 : BitVec 32 := Scalar.minsi c0_i32_738 v1565
  let v1567 : BitVec 32 := v1566
  let v1910 : Index := Scalar.indexCast v1567
  let c8960 : Index := 8960#32
  ![0, v1910.toNat, 8960]
def k0_off113 (c0_i32_734 : BitVec 32) : Fin 3 → Nat :=
  let c0_914 : Index := 0#32
  let c0_i32 : BitVec 32 := 0#32
  let c2_i32_733 : BitVec 32 := 2#32
  let v1560 : BitVec 32 := Scalar.muli c0_i32 c2_i32_733
  let v1561 : BitVec 32 := Scalar.addi v1560 c0_i32_734
  let c128_i32_735 : BitVec 32 := 128#32
  let v1562 : BitVec 32 := Scalar.muli v1561 c128_i32_735
  let v1563 : BitVec 32 := v1562
  let v1951 : Index := Scalar.indexCast v1563
  let c2816_915 : Index := 2816#32
  ![0, v1951.toNat, 2816]
def k0_mult55 : BitVec 32 :=
  let c0_i32 : BitVec 32 := 0#32
  let c2_i32_916 : BitVec 32 := 2#32
  let v1955 : BitVec 32 := Scalar.muli c0_i32 c2_i32_916
  let c0_i32_917 : BitVec 32 := 0#32
  let v1956 : BitVec 32 := Scalar.addi v1955 c0_i32_917
  let c128_i32_918 : BitVec 32 := 128#32
  let v1957 : BitVec 32 := Scalar.muli v1956 c128_i32_918
  v1957
def k0_mult56 : BitVec 32 :=
  let c0_i32_921 : BitVec 32 := 0#32
  let c0_i32_920 : BitVec 32 := 0#32
  let c0_i32 : BitVec 32 := 0#32
  let c2_i32_916 : BitVec 32 := 2#32
  let v1955 : BitVec 32 := Scalar.muli c0_i32 c2_i32_916
  let c0_i32_917 : BitVec 32 := 0#32
  let v1956 : BitVec 32 := Scalar.addi v1955 c0_i32_917
  let c128_i32_918 : BitVec 32 := 128#32
  let v1957 : BitVec 32 := Scalar.muli v1956 c128_i32_918
  let v1958 : BitVec 32 := v1957
  let c64_i32_919 : BitVec 32 := 64#32
  let v1959 : BitVec 32 := Scalar.subi v1958 c64_i32_919
  let v1960 : BitVec 32 := Scalar.maxsi c0_i32_920 v1959
  let v1961 : BitVec 32 := Scalar.minsi c0_i32_921 v1960
  v1961
def k0_off114 (c0_i32_917 : BitVec 32) : Fin 3 → Nat :=
  let c0_927 : Index := 0#32
  let c0_i32 : BitVec 32 := 0#32
  let c2_i32_916 : BitVec 32 := 2#32
  let v1955 : BitVec 32 := Scalar.muli c0_i32 c2_i32_916
  let v1956 : BitVec 32 := Scalar.addi v1955 c0_i32_917
  let c128_i32_918 : BitVec 32 := 128#32
  let v1957 : BitVec 32 := Scalar.muli v1956 c128_i32_918
  let v1958 : BitVec 32 := v1957
  let v1967 : Index := Scalar.indexCast v1958
  let c9600 : Index := 9600#32
  ![0, v1967.toNat, 9600]
def k0_off115 (c0_i32_917 : BitVec 32) : Fin 3 → Nat :=
  let c0_928 : Index := 0#32
  let c0_i32_921 : BitVec 32 := 0#32
  let c0_i32_920 : BitVec 32 := 0#32
  let c0_i32 : BitVec 32 := 0#32
  let c2_i32_916 : BitVec 32 := 2#32
  let v1955 : BitVec 32 := Scalar.muli c0_i32 c2_i32_916
  let v1956 : BitVec 32 := Scalar.addi v1955 c0_i32_917
  let c128_i32_918 : BitVec 32 := 128#32
  let v1957 : BitVec 32 := Scalar.muli v1956 c128_i32_918
  let v1958 : BitVec 32 := v1957
  let c64_i32_919 : BitVec 32 := 64#32
  let v1959 : BitVec 32 := Scalar.subi v1958 c64_i32_919
  let v1960 : BitVec 32 := Scalar.maxsi c0_i32_920 v1959
  let v1961 : BitVec 32 := Scalar.minsi c0_i32_921 v1960
  let v1962 : BitVec 32 := v1961
  let v1970 : Index := Scalar.indexCast v1962
  let c10112 : Index := 10112#32
  ![0, v1970.toNat, 10112]
def k0_off116 (c0_i32_770 : BitVec 32) : Fin 3 → Nat :=
  let c0_940 : Index := 0#32
  let c0_i32_774 : BitVec 32 := 0#32
  let c0_i32_773 : BitVec 32 := 0#32
  let c0_i32 : BitVec 32 := 0#32
  let c2_i32_769 : BitVec 32 := 2#32
  let v1638 : BitVec 32 := Scalar.muli c0_i32 c2_i32_769
  let v1639 : BitVec 32 := Scalar.addi v1638 c0_i32_770
  let c128_i32_771 : BitVec 32 := 128#32
  let v1640 : BitVec 32 := Scalar.muli v1639 c128_i32_771
  let v1641 : BitVec 32 := v1640
  let c64_i32_772 : BitVec 32 := 64#32
  let v1642 : BitVec 32 := Scalar.subi v1641 c64_i32_772
  let v1643 : BitVec 32 := Scalar.maxsi c0_i32_773 v1642
  let v1644 : BitVec 32 := Scalar.minsi c0_i32_774 v1643
  let v1645 : BitVec 32 := v1644
  let v1988 : Index := Scalar.indexCast v1645
  let c9088 : Index := 9088#32
  ![0, v1988.toNat, 9088]
def k0_off117 (c0_i32_770 : BitVec 32) : Fin 3 → Nat :=
  let c0_950 : Index := 0#32
  let c0_i32 : BitVec 32 := 0#32
  let c2_i32_769 : BitVec 32 := 2#32
  let v1638 : BitVec 32 := Scalar.muli c0_i32 c2_i32_769
  let v1639 : BitVec 32 := Scalar.addi v1638 c0_i32_770
  let c128_i32_771 : BitVec 32 := 128#32
  let v1640 : BitVec 32 := Scalar.muli v1639 c128_i32_771
  let v1641 : BitVec 32 := v1640
  let v2029 : Index := Scalar.indexCast v1641
  let c2944_951 : Index := 2944#32
  ![0, v2029.toNat, 2944]
def k0_off118 (c0_i32_770 : BitVec 32) : Fin 3 → Nat :=
  let c0_952 : Index := 0#32
  let c0_i32 : BitVec 32 := 0#32
  let c2_i32_769 : BitVec 32 := 2#32
  let v1638 : BitVec 32 := Scalar.muli c0_i32 c2_i32_769
  let v1639 : BitVec 32 := Scalar.addi v1638 c0_i32_770
  let c128_i32_771 : BitVec 32 := 128#32
  let v1640 : BitVec 32 := Scalar.muli v1639 c128_i32_771
  let v1641 : BitVec 32 := v1640
  let v2033 : Index := Scalar.indexCast v1641
  let c640_953 : Index := 640#32
  ![0, v2033.toNat, 640]
def k0_mult57 : BitVec 32 :=
  let c0_i32 : BitVec 32 := 0#32
  let c2_i32_954 : BitVec 32 := 2#32
  let v2037 : BitVec 32 := Scalar.muli c0_i32 c2_i32_954
  let c0_i32_955 : BitVec 32 := 0#32
  let v2038 : BitVec 32 := Scalar.addi v2037 c0_i32_955
  let c128_i32_956 : BitVec 32 := 128#32
  let v2039 : BitVec 32 := Scalar.muli v2038 c128_i32_956
  v2039
def k0_mult58 : BitVec 32 :=
  let c0_i32_959 : BitVec 32 := 0#32
  let c0_i32_958 : BitVec 32 := 0#32
  let c0_i32 : BitVec 32 := 0#32
  let c2_i32_954 : BitVec 32 := 2#32
  let v2037 : BitVec 32 := Scalar.muli c0_i32 c2_i32_954
  let c0_i32_955 : BitVec 32 := 0#32
  let v2038 : BitVec 32 := Scalar.addi v2037 c0_i32_955
  let c128_i32_956 : BitVec 32 := 128#32
  let v2039 : BitVec 32 := Scalar.muli v2038 c128_i32_956
  let v2040 : BitVec 32 := v2039
  let c64_i32_957 : BitVec 32 := 64#32
  let v2041 : BitVec 32 := Scalar.subi v2040 c64_i32_957
  let v2042 : BitVec 32 := Scalar.maxsi c0_i32_958 v2041
  let v2043 : BitVec 32 := Scalar.minsi c0_i32_959 v2042
  v2043
def k0_off119 (c0_i32_955 : BitVec 32) : Fin 3 → Nat :=
  let c0_965 : Index := 0#32
  let c0_i32 : BitVec 32 := 0#32
  let c2_i32_954 : BitVec 32 := 2#32
  let v2037 : BitVec 32 := Scalar.muli c0_i32 c2_i32_954
  let v2038 : BitVec 32 := Scalar.addi v2037 c0_i32_955
  let c128_i32_956 : BitVec 32 := 128#32
  let v2039 : BitVec 32 := Scalar.muli v2038 c128_i32_956
  let v2040 : BitVec 32 := v2039
  let v2049 : Index := Scalar.indexCast v2040
  let c10752 : Index := 10752#32
  ![0, v2049.toNat, 10752]
def k0_off120 (c0_i32_955 : BitVec 32) : Fin 3 → Nat :=
  let c0_966 : Index := 0#32
  let c0_i32_959 : BitVec 32 := 0#32
  let c0_i32_958 : BitVec 32 := 0#32
  let c0_i32 : BitVec 32 := 0#32
  let c2_i32_954 : BitVec 32 := 2#32
  let v2037 : BitVec 32 := Scalar.muli c0_i32 c2_i32_954
  let v2038 : BitVec 32 := Scalar.addi v2037 c0_i32_955
  let c128_i32_956 : BitVec 32 := 128#32
  let v2039 : BitVec 32 := Scalar.muli v2038 c128_i32_956
  let v2040 : BitVec 32 := v2039
  let c64_i32_957 : BitVec 32 := 64#32
  let v2041 : BitVec 32 := Scalar.subi v2040 c64_i32_957
  let v2042 : BitVec 32 := Scalar.maxsi c0_i32_958 v2041
  let v2043 : BitVec 32 := Scalar.minsi c0_i32_959 v2042
  let v2044 : BitVec 32 := v2043
  let v2052 : Index := Scalar.indexCast v2044
  let c11264 : Index := 11264#32
  ![0, v2052.toNat, 11264]
def k0_off121 (c0_i32_808 : BitVec 32) : Fin 3 → Nat :=
  let c0_978 : Index := 0#32
  let c0_i32_812 : BitVec 32 := 0#32
  let c0_i32_811 : BitVec 32 := 0#32
  let c0_i32 : BitVec 32 := 0#32
  let c2_i32_807 : BitVec 32 := 2#32
  let v1720 : BitVec 32 := Scalar.muli c0_i32 c2_i32_807
  let v1721 : BitVec 32 := Scalar.addi v1720 c0_i32_808
  let c128_i32_809 : BitVec 32 := 128#32
  let v1722 : BitVec 32 := Scalar.muli v1721 c128_i32_809
  let v1723 : BitVec 32 := v1722
  let c64_i32_810 : BitVec 32 := 64#32
  let v1724 : BitVec 32 := Scalar.subi v1723 c64_i32_810
  let v1725 : BitVec 32 := Scalar.maxsi c0_i32_811 v1724
  let v1726 : BitVec 32 := Scalar.minsi c0_i32_812 v1725
  let v1727 : BitVec 32 := v1726
  let v2070 : Index := Scalar.indexCast v1727
  let c10240 : Index := 10240#32
  ![0, v2070.toNat, 10240]
def k0_off122 (c0_i32_808 : BitVec 32) : Fin 3 → Nat :=
  let c0_989 : Index := 0#32
  let c0_i32 : BitVec 32 := 0#32
  let c2_i32_807 : BitVec 32 := 2#32
  let v1720 : BitVec 32 := Scalar.muli c0_i32 c2_i32_807
  let v1721 : BitVec 32 := Scalar.addi v1720 c0_i32_808
  let c128_i32_809 : BitVec 32 := 128#32
  let v1722 : BitVec 32 := Scalar.muli v1721 c128_i32_809
  let v1723 : BitVec 32 := v1722
  let v2112 : Index := Scalar.indexCast v1723
  let c3072_990 : Index := 3072#32
  ![0, v2112.toNat, 3072]
def k0_mult59 : BitVec 32 :=
  let c0_i32 : BitVec 32 := 0#32
  let c2_i32_991 : BitVec 32 := 2#32
  let v2116 : BitVec 32 := Scalar.muli c0_i32 c2_i32_991
  let c0_i32_992 : BitVec 32 := 0#32
  let v2117 : BitVec 32 := Scalar.addi v2116 c0_i32_992
  let c128_i32_993 : BitVec 32 := 128#32
  let v2118 : BitVec 32 := Scalar.muli v2117 c128_i32_993
  v2118
def k0_mult60 : BitVec 32 :=
  let c0_i32_996 : BitVec 32 := 0#32
  let c0_i32_995 : BitVec 32 := 0#32
  let c0_i32 : BitVec 32 := 0#32
  let c2_i32_991 : BitVec 32 := 2#32
  let v2116 : BitVec 32 := Scalar.muli c0_i32 c2_i32_991
  let c0_i32_992 : BitVec 32 := 0#32
  let v2117 : BitVec 32 := Scalar.addi v2116 c0_i32_992
  let c128_i32_993 : BitVec 32 := 128#32
  let v2118 : BitVec 32 := Scalar.muli v2117 c128_i32_993
  let v2119 : BitVec 32 := v2118
  let c64_i32_994 : BitVec 32 := 64#32
  let v2120 : BitVec 32 := Scalar.subi v2119 c64_i32_994
  let v2121 : BitVec 32 := Scalar.maxsi c0_i32_995 v2120
  let v2122 : BitVec 32 := Scalar.minsi c0_i32_996 v2121
  v2122
def k0_off123 (c0_i32_992 : BitVec 32) : Fin 3 → Nat :=
  let c0_1002 : Index := 0#32
  let c0_i32 : BitVec 32 := 0#32
  let c2_i32_991 : BitVec 32 := 2#32
  let v2116 : BitVec 32 := Scalar.muli c0_i32 c2_i32_991
  let v2117 : BitVec 32 := Scalar.addi v2116 c0_i32_992
  let c128_i32_993 : BitVec 32 := 128#32
  let v2118 : BitVec 32 := Scalar.muli v2117 c128_i32_993
  let v2119 : BitVec 32 := v2118
  let v2128 : Index := Scalar.indexCast v2119
  let c10880 : Index := 10880#32
  ![0, v2128.toNat, 10880]
def k0_off124 (c0_i32_992 : BitVec 32) : Fin 3 → Nat :=
  let c0_1003 : Index := 0#32
  let c0_i32_996 : BitVec 32 := 0#32
  let c0_i32_995 : BitVec 32 := 0#32
  let c0_i32 : BitVec 32 := 0#32
  let c2_i32_991 : BitVec 32 := 2#32
  let v2116 : BitVec 32 := Scalar.muli c0_i32 c2_i32_991
  let v2117 : BitVec 32 := Scalar.addi v2116 c0_i32_992
  let c128_i32_993 : BitVec 32 := 128#32
  let v2118 : BitVec 32 := Scalar.muli v2117 c128_i32_993
  let v2119 : BitVec 32 := v2118
  let c64_i32_994 : BitVec 32 := 64#32
  let v2120 : BitVec 32 := Scalar.subi v2119 c64_i32_994
  let v2121 : BitVec 32 := Scalar.maxsi c0_i32_995 v2120
  let v2122 : BitVec 32 := Scalar.minsi c0_i32_996 v2121
  let v2123 : BitVec 32 := v2122
  let v2131 : Index := Scalar.indexCast v2123
  let c11392 : Index := 11392#32
  ![0, v2131.toNat, 11392]
def k0_off125 (c0_i32_845 : BitVec 32) : Fin 3 → Nat :=
  let c0_1015 : Index := 0#32
  let c0_i32_849 : BitVec 32 := 0#32
  let c0_i32_848 : BitVec 32 := 0#32
  let c0_i32 : BitVec 32 := 0#32
  let c2_i32_844 : BitVec 32 := 2#32
  let v1799 : BitVec 32 := Scalar.muli c0_i32 c2_i32_844
  let v1800 : BitVec 32 := Scalar.addi v1799 c0_i32_845
  let c128_i32_846 : BitVec 32 := 128#32
  let v1801 : BitVec 32 := Scalar.muli v1800 c128_i32_846
  let v1802 : BitVec 32 := v1801
  let c64_i32_847 : BitVec 32 := 64#32
  let v1803 : BitVec 32 := Scalar.subi v1802 c64_i32_847
  let v1804 : BitVec 32 := Scalar.maxsi c0_i32_848 v1803
  let v1805 : BitVec 32 := Scalar.minsi c0_i32_849 v1804
  let v1806 : BitVec 32 := v1805
  let v2149 : Index := Scalar.indexCast v1806
  let c10368 : Index := 10368#32
  ![0, v2149.toNat, 10368]
def k0_off126 (c0_i32_845 : BitVec 32) : Fin 3 → Nat :=
  let c0_1025 : Index := 0#32
  let c0_i32 : BitVec 32 := 0#32
  let c2_i32_844 : BitVec 32 := 2#32
  let v1799 : BitVec 32 := Scalar.muli c0_i32 c2_i32_844
  let v1800 : BitVec 32 := Scalar.addi v1799 c0_i32_845
  let c128_i32_846 : BitVec 32 := 128#32
  let v1801 : BitVec 32 := Scalar.muli v1800 c128_i32_846
  let v1802 : BitVec 32 := v1801
  let v2190 : Index := Scalar.indexCast v1802
  let c3200_1026 : Index := 3200#32
  ![0, v2190.toNat, 3200]
def k0_mult61 : BitVec 32 :=
  let c0_i32 : BitVec 32 := 0#32
  let c2_i32_1027 : BitVec 32 := 2#32
  let v2194 : BitVec 32 := Scalar.muli c0_i32 c2_i32_1027
  let c0_i32_1028 : BitVec 32 := 0#32
  let v2195 : BitVec 32 := Scalar.addi v2194 c0_i32_1028
  let c128_i32_1029 : BitVec 32 := 128#32
  let v2196 : BitVec 32 := Scalar.muli v2195 c128_i32_1029
  v2196
def k0_mult62 : BitVec 32 :=
  let c0_i32_1032 : BitVec 32 := 0#32
  let c0_i32_1031 : BitVec 32 := 0#32
  let c0_i32 : BitVec 32 := 0#32
  let c2_i32_1027 : BitVec 32 := 2#32
  let v2194 : BitVec 32 := Scalar.muli c0_i32 c2_i32_1027
  let c0_i32_1028 : BitVec 32 := 0#32
  let v2195 : BitVec 32 := Scalar.addi v2194 c0_i32_1028
  let c128_i32_1029 : BitVec 32 := 128#32
  let v2196 : BitVec 32 := Scalar.muli v2195 c128_i32_1029
  let v2197 : BitVec 32 := v2196
  let c64_i32_1030 : BitVec 32 := 64#32
  let v2198 : BitVec 32 := Scalar.subi v2197 c64_i32_1030
  let v2199 : BitVec 32 := Scalar.maxsi c0_i32_1031 v2198
  let v2200 : BitVec 32 := Scalar.minsi c0_i32_1032 v2199
  v2200
def k0_off127 (c0_i32_1028 : BitVec 32) : Fin 3 → Nat :=
  let c0_1038 : Index := 0#32
  let c0_i32 : BitVec 32 := 0#32
  let c2_i32_1027 : BitVec 32 := 2#32
  let v2194 : BitVec 32 := Scalar.muli c0_i32 c2_i32_1027
  let v2195 : BitVec 32 := Scalar.addi v2194 c0_i32_1028
  let c128_i32_1029 : BitVec 32 := 128#32
  let v2196 : BitVec 32 := Scalar.muli v2195 c128_i32_1029
  let v2197 : BitVec 32 := v2196
  let v2206 : Index := Scalar.indexCast v2197
  let c11008 : Index := 11008#32
  ![0, v2206.toNat, 11008]
def k0_off128 (c0_i32_1028 : BitVec 32) : Fin 3 → Nat :=
  let c0_1039 : Index := 0#32
  let c0_i32_1032 : BitVec 32 := 0#32
  let c0_i32_1031 : BitVec 32 := 0#32
  let c0_i32 : BitVec 32 := 0#32
  let c2_i32_1027 : BitVec 32 := 2#32
  let v2194 : BitVec 32 := Scalar.muli c0_i32 c2_i32_1027
  let v2195 : BitVec 32 := Scalar.addi v2194 c0_i32_1028
  let c128_i32_1029 : BitVec 32 := 128#32
  let v2196 : BitVec 32 := Scalar.muli v2195 c128_i32_1029
  let v2197 : BitVec 32 := v2196
  let c64_i32_1030 : BitVec 32 := 64#32
  let v2198 : BitVec 32 := Scalar.subi v2197 c64_i32_1030
  let v2199 : BitVec 32 := Scalar.maxsi c0_i32_1031 v2198
  let v2200 : BitVec 32 := Scalar.minsi c0_i32_1032 v2199
  let v2201 : BitVec 32 := v2200
  let v2209 : Index := Scalar.indexCast v2201
  let c11520 : Index := 11520#32
  ![0, v2209.toNat, 11520]
def k0_off129 (c0_i32_881 : BitVec 32) : Fin 3 → Nat :=
  let c0_1051 : Index := 0#32
  let c0_i32_885 : BitVec 32 := 0#32
  let c0_i32_884 : BitVec 32 := 0#32
  let c0_i32 : BitVec 32 := 0#32
  let c2_i32_880 : BitVec 32 := 2#32
  let v1877 : BitVec 32 := Scalar.muli c0_i32 c2_i32_880
  let v1878 : BitVec 32 := Scalar.addi v1877 c0_i32_881
  let c128_i32_882 : BitVec 32 := 128#32
  let v1879 : BitVec 32 := Scalar.muli v1878 c128_i32_882
  let v1880 : BitVec 32 := v1879
  let c64_i32_883 : BitVec 32 := 64#32
  let v1881 : BitVec 32 := Scalar.subi v1880 c64_i32_883
  let v1882 : BitVec 32 := Scalar.maxsi c0_i32_884 v1881
  let v1883 : BitVec 32 := Scalar.minsi c0_i32_885 v1882
  let v1884 : BitVec 32 := v1883
  let v2227 : Index := Scalar.indexCast v1884
  let c10496 : Index := 10496#32
  ![0, v2227.toNat, 10496]
def k0_off130 (c0_i32_881 : BitVec 32) : Fin 3 → Nat :=
  let c0_1061 : Index := 0#32
  let c0_i32 : BitVec 32 := 0#32
  let c2_i32_880 : BitVec 32 := 2#32
  let v1877 : BitVec 32 := Scalar.muli c0_i32 c2_i32_880
  let v1878 : BitVec 32 := Scalar.addi v1877 c0_i32_881
  let c128_i32_882 : BitVec 32 := 128#32
  let v1879 : BitVec 32 := Scalar.muli v1878 c128_i32_882
  let v1880 : BitVec 32 := v1879
  let v2268 : Index := Scalar.indexCast v1880
  let c3328_1062 : Index := 3328#32
  ![0, v2268.toNat, 3328]
def k0_mult63 : BitVec 32 :=
  let c0_i32 : BitVec 32 := 0#32
  let c2_i32_1063 : BitVec 32 := 2#32
  let v2272 : BitVec 32 := Scalar.muli c0_i32 c2_i32_1063
  let c0_i32_1064 : BitVec 32 := 0#32
  let v2273 : BitVec 32 := Scalar.addi v2272 c0_i32_1064
  let c128_i32_1065 : BitVec 32 := 128#32
  let v2274 : BitVec 32 := Scalar.muli v2273 c128_i32_1065
  v2274
def k0_mult64 : BitVec 32 :=
  let c0_i32_1068 : BitVec 32 := 0#32
  let c0_i32_1067 : BitVec 32 := 0#32
  let c0_i32 : BitVec 32 := 0#32
  let c2_i32_1063 : BitVec 32 := 2#32
  let v2272 : BitVec 32 := Scalar.muli c0_i32 c2_i32_1063
  let c0_i32_1064 : BitVec 32 := 0#32
  let v2273 : BitVec 32 := Scalar.addi v2272 c0_i32_1064
  let c128_i32_1065 : BitVec 32 := 128#32
  let v2274 : BitVec 32 := Scalar.muli v2273 c128_i32_1065
  let v2275 : BitVec 32 := v2274
  let c64_i32_1066 : BitVec 32 := 64#32
  let v2276 : BitVec 32 := Scalar.subi v2275 c64_i32_1066
  let v2277 : BitVec 32 := Scalar.maxsi c0_i32_1067 v2276
  let v2278 : BitVec 32 := Scalar.minsi c0_i32_1068 v2277
  v2278
def k0_off131 (c0_i32_1064 : BitVec 32) : Fin 3 → Nat :=
  let c0_1074 : Index := 0#32
  let c0_i32 : BitVec 32 := 0#32
  let c2_i32_1063 : BitVec 32 := 2#32
  let v2272 : BitVec 32 := Scalar.muli c0_i32 c2_i32_1063
  let v2273 : BitVec 32 := Scalar.addi v2272 c0_i32_1064
  let c128_i32_1065 : BitVec 32 := 128#32
  let v2274 : BitVec 32 := Scalar.muli v2273 c128_i32_1065
  let v2275 : BitVec 32 := v2274
  let v2284 : Index := Scalar.indexCast v2275
  let c11136 : Index := 11136#32
  ![0, v2284.toNat, 11136]
def k0_off132 (c0_i32_1064 : BitVec 32) : Fin 3 → Nat :=
  let c0_1075 : Index := 0#32
  let c0_i32_1068 : BitVec 32 := 0#32
  let c0_i32_1067 : BitVec 32 := 0#32
  let c0_i32 : BitVec 32 := 0#32
  let c2_i32_1063 : BitVec 32 := 2#32
  let v2272 : BitVec 32 := Scalar.muli c0_i32 c2_i32_1063
  let v2273 : BitVec 32 := Scalar.addi v2272 c0_i32_1064
  let c128_i32_1065 : BitVec 32 := 128#32
  let v2274 : BitVec 32 := Scalar.muli v2273 c128_i32_1065
  let v2275 : BitVec 32 := v2274
  let c64_i32_1066 : BitVec 32 := 64#32
  let v2276 : BitVec 32 := Scalar.subi v2275 c64_i32_1066
  let v2277 : BitVec 32 := Scalar.maxsi c0_i32_1067 v2276
  let v2278 : BitVec 32 := Scalar.minsi c0_i32_1068 v2277
  let v2279 : BitVec 32 := v2278
  let v2287 : Index := Scalar.indexCast v2279
  let c11648 : Index := 11648#32
  ![0, v2287.toNat, 11648]
def k0_off133 (c0_i32_917 : BitVec 32) : Fin 3 → Nat :=
  let c0_1087 : Index := 0#32
  let c0_i32_921 : BitVec 32 := 0#32
  let c0_i32_920 : BitVec 32 := 0#32
  let c0_i32 : BitVec 32 := 0#32
  let c2_i32_916 : BitVec 32 := 2#32
  let v1955 : BitVec 32 := Scalar.muli c0_i32 c2_i32_916
  let v1956 : BitVec 32 := Scalar.addi v1955 c0_i32_917
  let c128_i32_918 : BitVec 32 := 128#32
  let v1957 : BitVec 32 := Scalar.muli v1956 c128_i32_918
  let v1958 : BitVec 32 := v1957
  let c64_i32_919 : BitVec 32 := 64#32
  let v1959 : BitVec 32 := Scalar.subi v1958 c64_i32_919
  let v1960 : BitVec 32 := Scalar.maxsi c0_i32_920 v1959
  let v1961 : BitVec 32 := Scalar.minsi c0_i32_921 v1960
  let v1962 : BitVec 32 := v1961
  let v2305 : Index := Scalar.indexCast v1962
  let c10624 : Index := 10624#32
  ![0, v2305.toNat, 10624]
def k0_off134 (c0_i32_917 : BitVec 32) : Fin 3 → Nat :=
  let c0_1097 : Index := 0#32
  let c0_i32 : BitVec 32 := 0#32
  let c2_i32_916 : BitVec 32 := 2#32
  let v1955 : BitVec 32 := Scalar.muli c0_i32 c2_i32_916
  let v1956 : BitVec 32 := Scalar.addi v1955 c0_i32_917
  let c128_i32_918 : BitVec 32 := 128#32
  let v1957 : BitVec 32 := Scalar.muli v1956 c128_i32_918
  let v1958 : BitVec 32 := v1957
  let v2346 : Index := Scalar.indexCast v1958
  let c3456_1098 : Index := 3456#32
  ![0, v2346.toNat, 3456]
def k0_off135 (c0_i32_917 : BitVec 32) : Fin 3 → Nat :=
  let c0_1099 : Index := 0#32
  let c0_i32 : BitVec 32 := 0#32
  let c2_i32_916 : BitVec 32 := 2#32
  let v1955 : BitVec 32 := Scalar.muli c0_i32 c2_i32_916
  let v1956 : BitVec 32 := Scalar.addi v1955 c0_i32_917
  let c128_i32_918 : BitVec 32 := 128#32
  let v1957 : BitVec 32 := Scalar.muli v1956 c128_i32_918
  let v1958 : BitVec 32 := v1957
  let v2350 : Index := Scalar.indexCast v1958
  let c768_1100 : Index := 768#32
  ![0, v2350.toNat, 768]
def k0_mult65 : BitVec 32 :=
  let c0_i32 : BitVec 32 := 0#32
  let c2_i32_1101 : BitVec 32 := 2#32
  let v2354 : BitVec 32 := Scalar.muli c0_i32 c2_i32_1101
  let c1_i32_1102 : BitVec 32 := 1#32
  let v2355 : BitVec 32 := Scalar.addi v2354 c1_i32_1102
  let c128_i32_1103 : BitVec 32 := 128#32
  let v2356 : BitVec 32 := Scalar.muli v2355 c128_i32_1103
  v2356
def k0_mult66 : BitVec 32 :=
  let c0_i32_1106 : BitVec 32 := 0#32
  let c0_i32_1105 : BitVec 32 := 0#32
  let c0_i32 : BitVec 32 := 0#32
  let c2_i32_1101 : BitVec 32 := 2#32
  let v2354 : BitVec 32 := Scalar.muli c0_i32 c2_i32_1101
  let c1_i32_1102 : BitVec 32 := 1#32
  let v2355 : BitVec 32 := Scalar.addi v2354 c1_i32_1102
  let c128_i32_1103 : BitVec 32 := 128#32
  let v2356 : BitVec 32 := Scalar.muli v2355 c128_i32_1103
  let v2357 : BitVec 32 := v2356
  let c64_i32_1104 : BitVec 32 := 64#32
  let v2358 : BitVec 32 := Scalar.subi v2357 c64_i32_1104
  let v2359 : BitVec 32 := Scalar.maxsi c0_i32_1105 v2358
  let v2360 : BitVec 32 := Scalar.minsi c0_i32_1106 v2359
  v2360
def k0_off136 (c0_i32_955 : BitVec 32) : Fin 3 → Nat :=
  let c0_1127 : Index := 0#32
  let c0_i32_959 : BitVec 32 := 0#32
  let c0_i32_958 : BitVec 32 := 0#32
  let c0_i32 : BitVec 32 := 0#32
  let c2_i32_954 : BitVec 32 := 2#32
  let v2037 : BitVec 32 := Scalar.muli c0_i32 c2_i32_954
  let v2038 : BitVec 32 := Scalar.addi v2037 c0_i32_955
  let c128_i32_956 : BitVec 32 := 128#32
  let v2039 : BitVec 32 := Scalar.muli v2038 c128_i32_956
  let v2040 : BitVec 32 := v2039
  let c64_i32_957 : BitVec 32 := 64#32
  let v2041 : BitVec 32 := Scalar.subi v2040 c64_i32_957
  let v2042 : BitVec 32 := Scalar.maxsi c0_i32_958 v2041
  let v2043 : BitVec 32 := Scalar.minsi c0_i32_959 v2042
  let v2044 : BitVec 32 := v2043
  let v2387 : Index := Scalar.indexCast v2044
  let c11776 : Index := 11776#32
  ![0, v2387.toNat, 11776]
def k0_off137 (c0_i32_955 : BitVec 32) : Fin 3 → Nat :=
  let c0_1138 : Index := 0#32
  let c0_i32 : BitVec 32 := 0#32
  let c2_i32_954 : BitVec 32 := 2#32
  let v2037 : BitVec 32 := Scalar.muli c0_i32 c2_i32_954
  let v2038 : BitVec 32 := Scalar.addi v2037 c0_i32_955
  let c128_i32_956 : BitVec 32 := 128#32
  let v2039 : BitVec 32 := Scalar.muli v2038 c128_i32_956
  let v2040 : BitVec 32 := v2039
  let v2429 : Index := Scalar.indexCast v2040
  let c3584_1139 : Index := 3584#32
  ![0, v2429.toNat, 3584]
def k0_mult67 : BitVec 32 :=
  let c0_i32 : BitVec 32 := 0#32
  let c2_i32_1140 : BitVec 32 := 2#32
  let v2433 : BitVec 32 := Scalar.muli c0_i32 c2_i32_1140
  let c1_i32_1141 : BitVec 32 := 1#32
  let v2434 : BitVec 32 := Scalar.addi v2433 c1_i32_1141
  let c128_i32_1142 : BitVec 32 := 128#32
  let v2435 : BitVec 32 := Scalar.muli v2434 c128_i32_1142
  v2435
def k0_mult68 : BitVec 32 :=
  let c0_i32_1145 : BitVec 32 := 0#32
  let c0_i32_1144 : BitVec 32 := 0#32
  let c0_i32 : BitVec 32 := 0#32
  let c2_i32_1140 : BitVec 32 := 2#32
  let v2433 : BitVec 32 := Scalar.muli c0_i32 c2_i32_1140
  let c1_i32_1141 : BitVec 32 := 1#32
  let v2434 : BitVec 32 := Scalar.addi v2433 c1_i32_1141
  let c128_i32_1142 : BitVec 32 := 128#32
  let v2435 : BitVec 32 := Scalar.muli v2434 c128_i32_1142
  let v2436 : BitVec 32 := v2435
  let c64_i32_1143 : BitVec 32 := 64#32
  let v2437 : BitVec 32 := Scalar.subi v2436 c64_i32_1143
  let v2438 : BitVec 32 := Scalar.maxsi c0_i32_1144 v2437
  let v2439 : BitVec 32 := Scalar.minsi c0_i32_1145 v2438
  v2439
def k0_off138 (c0_i32_992 : BitVec 32) : Fin 3 → Nat :=
  let c0_1166 : Index := 0#32
  let c0_i32_996 : BitVec 32 := 0#32
  let c0_i32_995 : BitVec 32 := 0#32
  let c0_i32 : BitVec 32 := 0#32
  let c2_i32_991 : BitVec 32 := 2#32
  let v2116 : BitVec 32 := Scalar.muli c0_i32 c2_i32_991
  let v2117 : BitVec 32 := Scalar.addi v2116 c0_i32_992
  let c128_i32_993 : BitVec 32 := 128#32
  let v2118 : BitVec 32 := Scalar.muli v2117 c128_i32_993
  let v2119 : BitVec 32 := v2118
  let c64_i32_994 : BitVec 32 := 64#32
  let v2120 : BitVec 32 := Scalar.subi v2119 c64_i32_994
  let v2121 : BitVec 32 := Scalar.maxsi c0_i32_995 v2120
  let v2122 : BitVec 32 := Scalar.minsi c0_i32_996 v2121
  let v2123 : BitVec 32 := v2122
  let v2466 : Index := Scalar.indexCast v2123
  let c11904 : Index := 11904#32
  ![0, v2466.toNat, 11904]
def k0_off139 (c0_i32_992 : BitVec 32) : Fin 3 → Nat :=
  let c0_1176 : Index := 0#32
  let c0_i32 : BitVec 32 := 0#32
  let c2_i32_991 : BitVec 32 := 2#32
  let v2116 : BitVec 32 := Scalar.muli c0_i32 c2_i32_991
  let v2117 : BitVec 32 := Scalar.addi v2116 c0_i32_992
  let c128_i32_993 : BitVec 32 := 128#32
  let v2118 : BitVec 32 := Scalar.muli v2117 c128_i32_993
  let v2119 : BitVec 32 := v2118
  let v2507 : Index := Scalar.indexCast v2119
  let c3712_1177 : Index := 3712#32
  ![0, v2507.toNat, 3712]
def k0_mult69 : BitVec 32 :=
  let c0_i32 : BitVec 32 := 0#32
  let c2_i32_1178 : BitVec 32 := 2#32
  let v2511 : BitVec 32 := Scalar.muli c0_i32 c2_i32_1178
  let c1_i32_1179 : BitVec 32 := 1#32
  let v2512 : BitVec 32 := Scalar.addi v2511 c1_i32_1179
  let c128_i32_1180 : BitVec 32 := 128#32
  let v2513 : BitVec 32 := Scalar.muli v2512 c128_i32_1180
  v2513
def k0_mult70 : BitVec 32 :=
  let c0_i32_1183 : BitVec 32 := 0#32
  let c0_i32_1182 : BitVec 32 := 0#32
  let c0_i32 : BitVec 32 := 0#32
  let c2_i32_1178 : BitVec 32 := 2#32
  let v2511 : BitVec 32 := Scalar.muli c0_i32 c2_i32_1178
  let c1_i32_1179 : BitVec 32 := 1#32
  let v2512 : BitVec 32 := Scalar.addi v2511 c1_i32_1179
  let c128_i32_1180 : BitVec 32 := 128#32
  let v2513 : BitVec 32 := Scalar.muli v2512 c128_i32_1180
  let v2514 : BitVec 32 := v2513
  let c64_i32_1181 : BitVec 32 := 64#32
  let v2515 : BitVec 32 := Scalar.subi v2514 c64_i32_1181
  let v2516 : BitVec 32 := Scalar.maxsi c0_i32_1182 v2515
  let v2517 : BitVec 32 := Scalar.minsi c0_i32_1183 v2516
  v2517
def k0_off140 (c0_i32_1028 : BitVec 32) : Fin 3 → Nat :=
  let c0_1204 : Index := 0#32
  let c0_i32_1032 : BitVec 32 := 0#32
  let c0_i32_1031 : BitVec 32 := 0#32
  let c0_i32 : BitVec 32 := 0#32
  let c2_i32_1027 : BitVec 32 := 2#32
  let v2194 : BitVec 32 := Scalar.muli c0_i32 c2_i32_1027
  let v2195 : BitVec 32 := Scalar.addi v2194 c0_i32_1028
  let c128_i32_1029 : BitVec 32 := 128#32
  let v2196 : BitVec 32 := Scalar.muli v2195 c128_i32_1029
  let v2197 : BitVec 32 := v2196
  let c64_i32_1030 : BitVec 32 := 64#32
  let v2198 : BitVec 32 := Scalar.subi v2197 c64_i32_1030
  let v2199 : BitVec 32 := Scalar.maxsi c0_i32_1031 v2198
  let v2200 : BitVec 32 := Scalar.minsi c0_i32_1032 v2199
  let v2201 : BitVec 32 := v2200
  let v2544 : Index := Scalar.indexCast v2201
  let c12032 : Index := 12032#32
  ![0, v2544.toNat, 12032]
def k0_off141 (c0_i32_1028 : BitVec 32) : Fin 3 → Nat :=
  let c0_1214 : Index := 0#32
  let c0_i32 : BitVec 32 := 0#32
  let c2_i32_1027 : BitVec 32 := 2#32
  let v2194 : BitVec 32 := Scalar.muli c0_i32 c2_i32_1027
  let v2195 : BitVec 32 := Scalar.addi v2194 c0_i32_1028
  let c128_i32_1029 : BitVec 32 := 128#32
  let v2196 : BitVec 32 := Scalar.muli v2195 c128_i32_1029
  let v2197 : BitVec 32 := v2196
  let v2585 : Index := Scalar.indexCast v2197
  let c3840_1215 : Index := 3840#32
  ![0, v2585.toNat, 3840]
def k0_mult71 : BitVec 32 :=
  let c0_i32 : BitVec 32 := 0#32
  let c2_i32_1216 : BitVec 32 := 2#32
  let v2589 : BitVec 32 := Scalar.muli c0_i32 c2_i32_1216
  let c1_i32_1217 : BitVec 32 := 1#32
  let v2590 : BitVec 32 := Scalar.addi v2589 c1_i32_1217
  let c128_i32_1218 : BitVec 32 := 128#32
  let v2591 : BitVec 32 := Scalar.muli v2590 c128_i32_1218
  v2591
def k0_mult72 : BitVec 32 :=
  let c0_i32_1221 : BitVec 32 := 0#32
  let c0_i32_1220 : BitVec 32 := 0#32
  let c0_i32 : BitVec 32 := 0#32
  let c2_i32_1216 : BitVec 32 := 2#32
  let v2589 : BitVec 32 := Scalar.muli c0_i32 c2_i32_1216
  let c1_i32_1217 : BitVec 32 := 1#32
  let v2590 : BitVec 32 := Scalar.addi v2589 c1_i32_1217
  let c128_i32_1218 : BitVec 32 := 128#32
  let v2591 : BitVec 32 := Scalar.muli v2590 c128_i32_1218
  let v2592 : BitVec 32 := v2591
  let c64_i32_1219 : BitVec 32 := 64#32
  let v2593 : BitVec 32 := Scalar.subi v2592 c64_i32_1219
  let v2594 : BitVec 32 := Scalar.maxsi c0_i32_1220 v2593
  let v2595 : BitVec 32 := Scalar.minsi c0_i32_1221 v2594
  v2595
def k0_off142 (c0_i32_1064 : BitVec 32) : Fin 3 → Nat :=
  let c0_1242 : Index := 0#32
  let c0_i32_1068 : BitVec 32 := 0#32
  let c0_i32_1067 : BitVec 32 := 0#32
  let c0_i32 : BitVec 32 := 0#32
  let c2_i32_1063 : BitVec 32 := 2#32
  let v2272 : BitVec 32 := Scalar.muli c0_i32 c2_i32_1063
  let v2273 : BitVec 32 := Scalar.addi v2272 c0_i32_1064
  let c128_i32_1065 : BitVec 32 := 128#32
  let v2274 : BitVec 32 := Scalar.muli v2273 c128_i32_1065
  let v2275 : BitVec 32 := v2274
  let c64_i32_1066 : BitVec 32 := 64#32
  let v2276 : BitVec 32 := Scalar.subi v2275 c64_i32_1066
  let v2277 : BitVec 32 := Scalar.maxsi c0_i32_1067 v2276
  let v2278 : BitVec 32 := Scalar.minsi c0_i32_1068 v2277
  let v2279 : BitVec 32 := v2278
  let v2622 : Index := Scalar.indexCast v2279
  let c12160 : Index := 12160#32
  ![0, v2622.toNat, 12160]
def k0_off143 (c0_i32_1064 : BitVec 32) : Fin 3 → Nat :=
  let c0_1252 : Index := 0#32
  let c0_i32 : BitVec 32 := 0#32
  let c2_i32_1063 : BitVec 32 := 2#32
  let v2272 : BitVec 32 := Scalar.muli c0_i32 c2_i32_1063
  let v2273 : BitVec 32 := Scalar.addi v2272 c0_i32_1064
  let c128_i32_1065 : BitVec 32 := 128#32
  let v2274 : BitVec 32 := Scalar.muli v2273 c128_i32_1065
  let v2275 : BitVec 32 := v2274
  let v2663 : Index := Scalar.indexCast v2275
  let c3968_1253 : Index := 3968#32
  ![0, v2663.toNat, 3968]
def k0_off144 (c0_i32_1064 : BitVec 32) : Fin 3 → Nat :=
  let c0_1254 : Index := 0#32
  let c0_i32 : BitVec 32 := 0#32
  let c2_i32_1063 : BitVec 32 := 2#32
  let v2272 : BitVec 32 := Scalar.muli c0_i32 c2_i32_1063
  let v2273 : BitVec 32 := Scalar.addi v2272 c0_i32_1064
  let c128_i32_1065 : BitVec 32 := 128#32
  let v2274 : BitVec 32 := Scalar.muli v2273 c128_i32_1065
  let v2275 : BitVec 32 := v2274
  let v2667 : Index := Scalar.indexCast v2275
  let c896_1255 : Index := 896#32
  ![0, v2667.toNat, 896]
def k0_mult73 : BitVec 32 :=
  let c0_i32 : BitVec 32 := 0#32
  let c2_i32_1256 : BitVec 32 := 2#32
  let v2671 : BitVec 32 := Scalar.muli c0_i32 c2_i32_1256
  let c1_i32_1257 : BitVec 32 := 1#32
  let v2672 : BitVec 32 := Scalar.addi v2671 c1_i32_1257
  let c128_i32_1258 : BitVec 32 := 128#32
  let v2673 : BitVec 32 := Scalar.muli v2672 c128_i32_1258
  v2673
def k0_mult74 : BitVec 32 :=
  let c0_i32_1261 : BitVec 32 := 0#32
  let c0_i32_1260 : BitVec 32 := 0#32
  let c0_i32 : BitVec 32 := 0#32
  let c2_i32_1256 : BitVec 32 := 2#32
  let v2671 : BitVec 32 := Scalar.muli c0_i32 c2_i32_1256
  let c1_i32_1257 : BitVec 32 := 1#32
  let v2672 : BitVec 32 := Scalar.addi v2671 c1_i32_1257
  let c128_i32_1258 : BitVec 32 := 128#32
  let v2673 : BitVec 32 := Scalar.muli v2672 c128_i32_1258
  let v2674 : BitVec 32 := v2673
  let c64_i32_1259 : BitVec 32 := 64#32
  let v2675 : BitVec 32 := Scalar.subi v2674 c64_i32_1259
  let v2676 : BitVec 32 := Scalar.maxsi c0_i32_1260 v2675
  let v2677 : BitVec 32 := Scalar.minsi c0_i32_1261 v2676
  v2677
def k0_mult75 : BitVec 32 :=
  let c0_i32 : BitVec 32 := 0#32
  let c2_i32_1296 : BitVec 32 := 2#32
  let v2750 : BitVec 32 := Scalar.muli c0_i32 c2_i32_1296
  let c1_i32_1297 : BitVec 32 := 1#32
  let v2751 : BitVec 32 := Scalar.addi v2750 c1_i32_1297
  let c128_i32_1298 : BitVec 32 := 128#32
  let v2752 : BitVec 32 := Scalar.muli v2751 c128_i32_1298
  v2752
def k0_mult76 : BitVec 32 :=
  let c0_i32_1301 : BitVec 32 := 0#32
  let c0_i32_1300 : BitVec 32 := 0#32
  let c0_i32 : BitVec 32 := 0#32
  let c2_i32_1296 : BitVec 32 := 2#32
  let v2750 : BitVec 32 := Scalar.muli c0_i32 c2_i32_1296
  let c1_i32_1297 : BitVec 32 := 1#32
  let v2751 : BitVec 32 := Scalar.addi v2750 c1_i32_1297
  let c128_i32_1298 : BitVec 32 := 128#32
  let v2752 : BitVec 32 := Scalar.muli v2751 c128_i32_1298
  let v2753 : BitVec 32 := v2752
  let c64_i32_1299 : BitVec 32 := 64#32
  let v2754 : BitVec 32 := Scalar.subi v2753 c64_i32_1299
  let v2755 : BitVec 32 := Scalar.maxsi c0_i32_1300 v2754
  let v2756 : BitVec 32 := Scalar.minsi c0_i32_1301 v2755
  v2756
def k0_mult77 : BitVec 32 :=
  let c0_i32 : BitVec 32 := 0#32
  let c2_i32_1335 : BitVec 32 := 2#32
  let v2828 : BitVec 32 := Scalar.muli c0_i32 c2_i32_1335
  let c1_i32_1336 : BitVec 32 := 1#32
  let v2829 : BitVec 32 := Scalar.addi v2828 c1_i32_1336
  let c128_i32_1337 : BitVec 32 := 128#32
  let v2830 : BitVec 32 := Scalar.muli v2829 c128_i32_1337
  v2830
def k0_mult78 : BitVec 32 :=
  let c0_i32_1340 : BitVec 32 := 0#32
  let c0_i32_1339 : BitVec 32 := 0#32
  let c0_i32 : BitVec 32 := 0#32
  let c2_i32_1335 : BitVec 32 := 2#32
  let v2828 : BitVec 32 := Scalar.muli c0_i32 c2_i32_1335
  let c1_i32_1336 : BitVec 32 := 1#32
  let v2829 : BitVec 32 := Scalar.addi v2828 c1_i32_1336
  let c128_i32_1337 : BitVec 32 := 128#32
  let v2830 : BitVec 32 := Scalar.muli v2829 c128_i32_1337
  let v2831 : BitVec 32 := v2830
  let c64_i32_1338 : BitVec 32 := 64#32
  let v2832 : BitVec 32 := Scalar.subi v2831 c64_i32_1338
  let v2833 : BitVec 32 := Scalar.maxsi c0_i32_1339 v2832
  let v2834 : BitVec 32 := Scalar.minsi c0_i32_1340 v2833
  v2834
def k0_mult79 : BitVec 32 :=
  let c0_i32 : BitVec 32 := 0#32
  let c2_i32_1374 : BitVec 32 := 2#32
  let v2906 : BitVec 32 := Scalar.muli c0_i32 c2_i32_1374
  let c1_i32_1375 : BitVec 32 := 1#32
  let v2907 : BitVec 32 := Scalar.addi v2906 c1_i32_1375
  let c128_i32_1376 : BitVec 32 := 128#32
  let v2908 : BitVec 32 := Scalar.muli v2907 c128_i32_1376
  v2908
def k0_mult80 : BitVec 32 :=
  let c0_i32_1379 : BitVec 32 := 0#32
  let c0_i32_1378 : BitVec 32 := 0#32
  let c0_i32 : BitVec 32 := 0#32
  let c2_i32_1374 : BitVec 32 := 2#32
  let v2906 : BitVec 32 := Scalar.muli c0_i32 c2_i32_1374
  let c1_i32_1375 : BitVec 32 := 1#32
  let v2907 : BitVec 32 := Scalar.addi v2906 c1_i32_1375
  let c128_i32_1376 : BitVec 32 := 128#32
  let v2908 : BitVec 32 := Scalar.muli v2907 c128_i32_1376
  let v2909 : BitVec 32 := v2908
  let c64_i32_1377 : BitVec 32 := 64#32
  let v2910 : BitVec 32 := Scalar.subi v2909 c64_i32_1377
  let v2911 : BitVec 32 := Scalar.maxsi c0_i32_1378 v2910
  let v2912 : BitVec 32 := Scalar.minsi c0_i32_1379 v2911
  v2912
def k0_mult81 : BitVec 32 :=
  let c0_i32 : BitVec 32 := 0#32
  let c2_i32_1415 : BitVec 32 := 2#32
  let v2988 : BitVec 32 := Scalar.muli c0_i32 c2_i32_1415
  let c1_i32_1416 : BitVec 32 := 1#32
  let v2989 : BitVec 32 := Scalar.addi v2988 c1_i32_1416
  let c128_i32_1417 : BitVec 32 := 128#32
  let v2990 : BitVec 32 := Scalar.muli v2989 c128_i32_1417
  v2990
def k0_mult82 : BitVec 32 :=
  let c0_i32_1420 : BitVec 32 := 0#32
  let c0_i32_1419 : BitVec 32 := 0#32
  let c0_i32 : BitVec 32 := 0#32
  let c2_i32_1415 : BitVec 32 := 2#32
  let v2988 : BitVec 32 := Scalar.muli c0_i32 c2_i32_1415
  let c1_i32_1416 : BitVec 32 := 1#32
  let v2989 : BitVec 32 := Scalar.addi v2988 c1_i32_1416
  let c128_i32_1417 : BitVec 32 := 128#32
  let v2990 : BitVec 32 := Scalar.muli v2989 c128_i32_1417
  let v2991 : BitVec 32 := v2990
  let c64_i32_1418 : BitVec 32 := 64#32
  let v2992 : BitVec 32 := Scalar.subi v2991 c64_i32_1418
  let v2993 : BitVec 32 := Scalar.maxsi c0_i32_1419 v2992
  let v2994 : BitVec 32 := Scalar.minsi c0_i32_1420 v2993
  v2994
def k0_mult83 : BitVec 32 :=
  let c0_i32 : BitVec 32 := 0#32
  let c2_i32_1455 : BitVec 32 := 2#32
  let v3067 : BitVec 32 := Scalar.muli c0_i32 c2_i32_1455
  let c1_i32_1456 : BitVec 32 := 1#32
  let v3068 : BitVec 32 := Scalar.addi v3067 c1_i32_1456
  let c128_i32_1457 : BitVec 32 := 128#32
  let v3069 : BitVec 32 := Scalar.muli v3068 c128_i32_1457
  v3069
def k0_mult84 : BitVec 32 :=
  let c0_i32_1460 : BitVec 32 := 0#32
  let c0_i32_1459 : BitVec 32 := 0#32
  let c0_i32 : BitVec 32 := 0#32
  let c2_i32_1455 : BitVec 32 := 2#32
  let v3067 : BitVec 32 := Scalar.muli c0_i32 c2_i32_1455
  let c1_i32_1456 : BitVec 32 := 1#32
  let v3068 : BitVec 32 := Scalar.addi v3067 c1_i32_1456
  let c128_i32_1457 : BitVec 32 := 128#32
  let v3069 : BitVec 32 := Scalar.muli v3068 c128_i32_1457
  let v3070 : BitVec 32 := v3069
  let c64_i32_1458 : BitVec 32 := 64#32
  let v3071 : BitVec 32 := Scalar.subi v3070 c64_i32_1458
  let v3072 : BitVec 32 := Scalar.maxsi c0_i32_1459 v3071
  let v3073 : BitVec 32 := Scalar.minsi c0_i32_1460 v3072
  v3073
def k0_mult85 : BitVec 32 :=
  let c0_i32 : BitVec 32 := 0#32
  let c2_i32_1494 : BitVec 32 := 2#32
  let v3145 : BitVec 32 := Scalar.muli c0_i32 c2_i32_1494
  let c1_i32_1495 : BitVec 32 := 1#32
  let v3146 : BitVec 32 := Scalar.addi v3145 c1_i32_1495
  let c128_i32_1496 : BitVec 32 := 128#32
  let v3147 : BitVec 32 := Scalar.muli v3146 c128_i32_1496
  v3147
def k0_mult86 : BitVec 32 :=
  let c0_i32_1499 : BitVec 32 := 0#32
  let c0_i32_1498 : BitVec 32 := 0#32
  let c0_i32 : BitVec 32 := 0#32
  let c2_i32_1494 : BitVec 32 := 2#32
  let v3145 : BitVec 32 := Scalar.muli c0_i32 c2_i32_1494
  let c1_i32_1495 : BitVec 32 := 1#32
  let v3146 : BitVec 32 := Scalar.addi v3145 c1_i32_1495
  let c128_i32_1496 : BitVec 32 := 128#32
  let v3147 : BitVec 32 := Scalar.muli v3146 c128_i32_1496
  let v3148 : BitVec 32 := v3147
  let c64_i32_1497 : BitVec 32 := 64#32
  let v3149 : BitVec 32 := Scalar.subi v3148 c64_i32_1497
  let v3150 : BitVec 32 := Scalar.maxsi c0_i32_1498 v3149
  let v3151 : BitVec 32 := Scalar.minsi c0_i32_1499 v3150
  v3151
def k0_mult87 : BitVec 32 :=
  let c0_i32 : BitVec 32 := 0#32
  let c2_i32_1533 : BitVec 32 := 2#32
  let v3223 : BitVec 32 := Scalar.muli c0_i32 c2_i32_1533
  let c1_i32_1534 : BitVec 32 := 1#32
  let v3224 : BitVec 32 := Scalar.addi v3223 c1_i32_1534
  let c128_i32_1535 : BitVec 32 := 128#32
  let v3225 : BitVec 32 := Scalar.muli v3224 c128_i32_1535
  v3225
def k0_mult88 : BitVec 32 :=
  let c0_i32_1538 : BitVec 32 := 0#32
  let c0_i32_1537 : BitVec 32 := 0#32
  let c0_i32 : BitVec 32 := 0#32
  let c2_i32_1533 : BitVec 32 := 2#32
  let v3223 : BitVec 32 := Scalar.muli c0_i32 c2_i32_1533
  let c1_i32_1534 : BitVec 32 := 1#32
  let v3224 : BitVec 32 := Scalar.addi v3223 c1_i32_1534
  let c128_i32_1535 : BitVec 32 := 128#32
  let v3225 : BitVec 32 := Scalar.muli v3224 c128_i32_1535
  let v3226 : BitVec 32 := v3225
  let c64_i32_1536 : BitVec 32 := 64#32
  let v3227 : BitVec 32 := Scalar.subi v3226 c64_i32_1536
  let v3228 : BitVec 32 := Scalar.maxsi c0_i32_1537 v3227
  let v3229 : BitVec 32 := Scalar.minsi c0_i32_1538 v3228
  v3229
def k0_mult89 : BitVec 32 :=
  let c0_i32 : BitVec 32 := 0#32
  let c2_i32_1574 : BitVec 32 := 2#32
  let v3305 : BitVec 32 := Scalar.muli c0_i32 c2_i32_1574
  let c1_i32_1575 : BitVec 32 := 1#32
  let v3306 : BitVec 32 := Scalar.addi v3305 c1_i32_1575
  let c128_i32_1576 : BitVec 32 := 128#32
  let v3307 : BitVec 32 := Scalar.muli v3306 c128_i32_1576
  v3307
def k0_mult90 : BitVec 32 :=
  let c0_i32_1579 : BitVec 32 := 0#32
  let c0_i32_1578 : BitVec 32 := 0#32
  let c0_i32 : BitVec 32 := 0#32
  let c2_i32_1574 : BitVec 32 := 2#32
  let v3305 : BitVec 32 := Scalar.muli c0_i32 c2_i32_1574
  let c1_i32_1575 : BitVec 32 := 1#32
  let v3306 : BitVec 32 := Scalar.addi v3305 c1_i32_1575
  let c128_i32_1576 : BitVec 32 := 128#32
  let v3307 : BitVec 32 := Scalar.muli v3306 c128_i32_1576
  let v3308 : BitVec 32 := v3307
  let c64_i32_1577 : BitVec 32 := 64#32
  let v3309 : BitVec 32 := Scalar.subi v3308 c64_i32_1577
  let v3310 : BitVec 32 := Scalar.maxsi c0_i32_1578 v3309
  let v3311 : BitVec 32 := Scalar.minsi c0_i32_1579 v3310
  v3311
def k0_mult91 : BitVec 32 :=
  let c0_i32 : BitVec 32 := 0#32
  let c2_i32_1614 : BitVec 32 := 2#32
  let v3384 : BitVec 32 := Scalar.muli c0_i32 c2_i32_1614
  let c1_i32_1615 : BitVec 32 := 1#32
  let v3385 : BitVec 32 := Scalar.addi v3384 c1_i32_1615
  let c128_i32_1616 : BitVec 32 := 128#32
  let v3386 : BitVec 32 := Scalar.muli v3385 c128_i32_1616
  v3386
def k0_mult92 : BitVec 32 :=
  let c0_i32_1619 : BitVec 32 := 0#32
  let c0_i32_1618 : BitVec 32 := 0#32
  let c0_i32 : BitVec 32 := 0#32
  let c2_i32_1614 : BitVec 32 := 2#32
  let v3384 : BitVec 32 := Scalar.muli c0_i32 c2_i32_1614
  let c1_i32_1615 : BitVec 32 := 1#32
  let v3385 : BitVec 32 := Scalar.addi v3384 c1_i32_1615
  let c128_i32_1616 : BitVec 32 := 128#32
  let v3386 : BitVec 32 := Scalar.muli v3385 c128_i32_1616
  let v3387 : BitVec 32 := v3386
  let c64_i32_1617 : BitVec 32 := 64#32
  let v3388 : BitVec 32 := Scalar.subi v3387 c64_i32_1617
  let v3389 : BitVec 32 := Scalar.maxsi c0_i32_1618 v3388
  let v3390 : BitVec 32 := Scalar.minsi c0_i32_1619 v3389
  v3390
def k0_mult93 : BitVec 32 :=
  let c0_i32 : BitVec 32 := 0#32
  let c2_i32_1653 : BitVec 32 := 2#32
  let v3462 : BitVec 32 := Scalar.muli c0_i32 c2_i32_1653
  let c1_i32_1654 : BitVec 32 := 1#32
  let v3463 : BitVec 32 := Scalar.addi v3462 c1_i32_1654
  let c128_i32_1655 : BitVec 32 := 128#32
  let v3464 : BitVec 32 := Scalar.muli v3463 c128_i32_1655
  v3464
def k0_mult94 : BitVec 32 :=
  let c0_i32_1658 : BitVec 32 := 0#32
  let c0_i32_1657 : BitVec 32 := 0#32
  let c0_i32 : BitVec 32 := 0#32
  let c2_i32_1653 : BitVec 32 := 2#32
  let v3462 : BitVec 32 := Scalar.muli c0_i32 c2_i32_1653
  let c1_i32_1654 : BitVec 32 := 1#32
  let v3463 : BitVec 32 := Scalar.addi v3462 c1_i32_1654
  let c128_i32_1655 : BitVec 32 := 128#32
  let v3464 : BitVec 32 := Scalar.muli v3463 c128_i32_1655
  let v3465 : BitVec 32 := v3464
  let c64_i32_1656 : BitVec 32 := 64#32
  let v3466 : BitVec 32 := Scalar.subi v3465 c64_i32_1656
  let v3467 : BitVec 32 := Scalar.maxsi c0_i32_1657 v3466
  let v3468 : BitVec 32 := Scalar.minsi c0_i32_1658 v3467
  v3468
def k0_mult95 : BitVec 32 :=
  let c0_i32 : BitVec 32 := 0#32
  let c2_i32_1692 : BitVec 32 := 2#32
  let v3540 : BitVec 32 := Scalar.muli c0_i32 c2_i32_1692
  let c1_i32_1693 : BitVec 32 := 1#32
  let v3541 : BitVec 32 := Scalar.addi v3540 c1_i32_1693
  let c128_i32_1694 : BitVec 32 := 128#32
  let v3542 : BitVec 32 := Scalar.muli v3541 c128_i32_1694
  v3542
def k0_mult96 : BitVec 32 :=
  let c0_i32_1697 : BitVec 32 := 0#32
  let c0_i32_1696 : BitVec 32 := 0#32
  let c0_i32 : BitVec 32 := 0#32
  let c2_i32_1692 : BitVec 32 := 2#32
  let v3540 : BitVec 32 := Scalar.muli c0_i32 c2_i32_1692
  let c1_i32_1693 : BitVec 32 := 1#32
  let v3541 : BitVec 32 := Scalar.addi v3540 c1_i32_1693
  let c128_i32_1694 : BitVec 32 := 128#32
  let v3542 : BitVec 32 := Scalar.muli v3541 c128_i32_1694
  let v3543 : BitVec 32 := v3542
  let c64_i32_1695 : BitVec 32 := 64#32
  let v3544 : BitVec 32 := Scalar.subi v3543 c64_i32_1695
  let v3545 : BitVec 32 := Scalar.maxsi c0_i32_1696 v3544
  let v3546 : BitVec 32 := Scalar.minsi c0_i32_1697 v3545
  v3546
def k0_mult97 : BitVec 32 :=
  let c0_i32 : BitVec 32 := 0#32
  let c2_i32_1733 : BitVec 32 := 2#32
  let v3622 : BitVec 32 := Scalar.muli c0_i32 c2_i32_1733
  let c1_i32_1734 : BitVec 32 := 1#32
  let v3623 : BitVec 32 := Scalar.addi v3622 c1_i32_1734
  let c128_i32_1735 : BitVec 32 := 128#32
  let v3624 : BitVec 32 := Scalar.muli v3623 c128_i32_1735
  v3624
def k0_mult98 : BitVec 32 :=
  let c0_i32_1738 : BitVec 32 := 0#32
  let c0_i32_1737 : BitVec 32 := 0#32
  let c0_i32 : BitVec 32 := 0#32
  let c2_i32_1733 : BitVec 32 := 2#32
  let v3622 : BitVec 32 := Scalar.muli c0_i32 c2_i32_1733
  let c1_i32_1734 : BitVec 32 := 1#32
  let v3623 : BitVec 32 := Scalar.addi v3622 c1_i32_1734
  let c128_i32_1735 : BitVec 32 := 128#32
  let v3624 : BitVec 32 := Scalar.muli v3623 c128_i32_1735
  let v3625 : BitVec 32 := v3624
  let c64_i32_1736 : BitVec 32 := 64#32
  let v3626 : BitVec 32 := Scalar.subi v3625 c64_i32_1736
  let v3627 : BitVec 32 := Scalar.maxsi c0_i32_1737 v3626
  let v3628 : BitVec 32 := Scalar.minsi c0_i32_1738 v3627
  v3628
def k0_mult99 : BitVec 32 :=
  let c0_i32 : BitVec 32 := 0#32
  let c2_i32_1773 : BitVec 32 := 2#32
  let v3701 : BitVec 32 := Scalar.muli c0_i32 c2_i32_1773
  let c1_i32_1774 : BitVec 32 := 1#32
  let v3702 : BitVec 32 := Scalar.addi v3701 c1_i32_1774
  let c128_i32_1775 : BitVec 32 := 128#32
  let v3703 : BitVec 32 := Scalar.muli v3702 c128_i32_1775
  v3703
def k0_mult100 : BitVec 32 :=
  let c0_i32_1778 : BitVec 32 := 0#32
  let c0_i32_1777 : BitVec 32 := 0#32
  let c0_i32 : BitVec 32 := 0#32
  let c2_i32_1773 : BitVec 32 := 2#32
  let v3701 : BitVec 32 := Scalar.muli c0_i32 c2_i32_1773
  let c1_i32_1774 : BitVec 32 := 1#32
  let v3702 : BitVec 32 := Scalar.addi v3701 c1_i32_1774
  let c128_i32_1775 : BitVec 32 := 128#32
  let v3703 : BitVec 32 := Scalar.muli v3702 c128_i32_1775
  let v3704 : BitVec 32 := v3703
  let c64_i32_1776 : BitVec 32 := 64#32
  let v3705 : BitVec 32 := Scalar.subi v3704 c64_i32_1776
  let v3706 : BitVec 32 := Scalar.maxsi c0_i32_1777 v3705
  let v3707 : BitVec 32 := Scalar.minsi c0_i32_1778 v3706
  v3707
def k0_mult101 : BitVec 32 :=
  let c0_i32 : BitVec 32 := 0#32
  let c2_i32_1812 : BitVec 32 := 2#32
  let v3779 : BitVec 32 := Scalar.muli c0_i32 c2_i32_1812
  let c1_i32_1813 : BitVec 32 := 1#32
  let v3780 : BitVec 32 := Scalar.addi v3779 c1_i32_1813
  let c128_i32_1814 : BitVec 32 := 128#32
  let v3781 : BitVec 32 := Scalar.muli v3780 c128_i32_1814
  v3781
def k0_mult102 : BitVec 32 :=
  let c0_i32_1817 : BitVec 32 := 0#32
  let c0_i32_1816 : BitVec 32 := 0#32
  let c0_i32 : BitVec 32 := 0#32
  let c2_i32_1812 : BitVec 32 := 2#32
  let v3779 : BitVec 32 := Scalar.muli c0_i32 c2_i32_1812
  let c1_i32_1813 : BitVec 32 := 1#32
  let v3780 : BitVec 32 := Scalar.addi v3779 c1_i32_1813
  let c128_i32_1814 : BitVec 32 := 128#32
  let v3781 : BitVec 32 := Scalar.muli v3780 c128_i32_1814
  let v3782 : BitVec 32 := v3781
  let c64_i32_1815 : BitVec 32 := 64#32
  let v3783 : BitVec 32 := Scalar.subi v3782 c64_i32_1815
  let v3784 : BitVec 32 := Scalar.maxsi c0_i32_1816 v3783
  let v3785 : BitVec 32 := Scalar.minsi c0_i32_1817 v3784
  v3785
def k0_mult103 : BitVec 32 :=
  let c0_i32 : BitVec 32 := 0#32
  let c2_i32_1851 : BitVec 32 := 2#32
  let v3857 : BitVec 32 := Scalar.muli c0_i32 c2_i32_1851
  let c1_i32_1852 : BitVec 32 := 1#32
  let v3858 : BitVec 32 := Scalar.addi v3857 c1_i32_1852
  let c128_i32_1853 : BitVec 32 := 128#32
  let v3859 : BitVec 32 := Scalar.muli v3858 c128_i32_1853
  v3859
def k0_mult104 : BitVec 32 :=
  let c0_i32_1856 : BitVec 32 := 0#32
  let c0_i32_1855 : BitVec 32 := 0#32
  let c0_i32 : BitVec 32 := 0#32
  let c2_i32_1851 : BitVec 32 := 2#32
  let v3857 : BitVec 32 := Scalar.muli c0_i32 c2_i32_1851
  let c1_i32_1852 : BitVec 32 := 1#32
  let v3858 : BitVec 32 := Scalar.addi v3857 c1_i32_1852
  let c128_i32_1853 : BitVec 32 := 128#32
  let v3859 : BitVec 32 := Scalar.muli v3858 c128_i32_1853
  let v3860 : BitVec 32 := v3859
  let c64_i32_1854 : BitVec 32 := 64#32
  let v3861 : BitVec 32 := Scalar.subi v3860 c64_i32_1854
  let v3862 : BitVec 32 := Scalar.maxsi c0_i32_1855 v3861
  let v3863 : BitVec 32 := Scalar.minsi c0_i32_1856 v3862
  v3863
def k0_mult105 : BitVec 32 :=
  let c0_i32 : BitVec 32 := 0#32
  let c2_i32_1892 : BitVec 32 := 2#32
  let v3939 : BitVec 32 := Scalar.muli c0_i32 c2_i32_1892
  let c1_i32_1893 : BitVec 32 := 1#32
  let v3940 : BitVec 32 := Scalar.addi v3939 c1_i32_1893
  let c128_i32_1894 : BitVec 32 := 128#32
  let v3941 : BitVec 32 := Scalar.muli v3940 c128_i32_1894
  v3941
def k0_mult106 : BitVec 32 :=
  let c0_i32_1897 : BitVec 32 := 0#32
  let c0_i32_1896 : BitVec 32 := 0#32
  let c0_i32 : BitVec 32 := 0#32
  let c2_i32_1892 : BitVec 32 := 2#32
  let v3939 : BitVec 32 := Scalar.muli c0_i32 c2_i32_1892
  let c1_i32_1893 : BitVec 32 := 1#32
  let v3940 : BitVec 32 := Scalar.addi v3939 c1_i32_1893
  let c128_i32_1894 : BitVec 32 := 128#32
  let v3941 : BitVec 32 := Scalar.muli v3940 c128_i32_1894
  let v3942 : BitVec 32 := v3941
  let c64_i32_1895 : BitVec 32 := 64#32
  let v3943 : BitVec 32 := Scalar.subi v3942 c64_i32_1895
  let v3944 : BitVec 32 := Scalar.maxsi c0_i32_1896 v3943
  let v3945 : BitVec 32 := Scalar.minsi c0_i32_1897 v3944
  v3945
def k0_mult107 : BitVec 32 :=
  let c0_i32 : BitVec 32 := 0#32
  let c2_i32_1932 : BitVec 32 := 2#32
  let v4018 : BitVec 32 := Scalar.muli c0_i32 c2_i32_1932
  let c1_i32_1933 : BitVec 32 := 1#32
  let v4019 : BitVec 32 := Scalar.addi v4018 c1_i32_1933
  let c128_i32_1934 : BitVec 32 := 128#32
  let v4020 : BitVec 32 := Scalar.muli v4019 c128_i32_1934
  v4020
def k0_mult108 : BitVec 32 :=
  let c0_i32_1937 : BitVec 32 := 0#32
  let c0_i32_1936 : BitVec 32 := 0#32
  let c0_i32 : BitVec 32 := 0#32
  let c2_i32_1932 : BitVec 32 := 2#32
  let v4018 : BitVec 32 := Scalar.muli c0_i32 c2_i32_1932
  let c1_i32_1933 : BitVec 32 := 1#32
  let v4019 : BitVec 32 := Scalar.addi v4018 c1_i32_1933
  let c128_i32_1934 : BitVec 32 := 128#32
  let v4020 : BitVec 32 := Scalar.muli v4019 c128_i32_1934
  let v4021 : BitVec 32 := v4020
  let c64_i32_1935 : BitVec 32 := 64#32
  let v4022 : BitVec 32 := Scalar.subi v4021 c64_i32_1935
  let v4023 : BitVec 32 := Scalar.maxsi c0_i32_1936 v4022
  let v4024 : BitVec 32 := Scalar.minsi c0_i32_1937 v4023
  v4024
def k0_mult109 : BitVec 32 :=
  let c0_i32 : BitVec 32 := 0#32
  let c2_i32_1971 : BitVec 32 := 2#32
  let v4096 : BitVec 32 := Scalar.muli c0_i32 c2_i32_1971
  let c1_i32_1972 : BitVec 32 := 1#32
  let v4097 : BitVec 32 := Scalar.addi v4096 c1_i32_1972
  let c128_i32_1973 : BitVec 32 := 128#32
  let v4098 : BitVec 32 := Scalar.muli v4097 c128_i32_1973
  v4098
def k0_mult110 : BitVec 32 :=
  let c0_i32_1976 : BitVec 32 := 0#32
  let c0_i32_1975 : BitVec 32 := 0#32
  let c0_i32 : BitVec 32 := 0#32
  let c2_i32_1971 : BitVec 32 := 2#32
  let v4096 : BitVec 32 := Scalar.muli c0_i32 c2_i32_1971
  let c1_i32_1972 : BitVec 32 := 1#32
  let v4097 : BitVec 32 := Scalar.addi v4096 c1_i32_1972
  let c128_i32_1973 : BitVec 32 := 128#32
  let v4098 : BitVec 32 := Scalar.muli v4097 c128_i32_1973
  let v4099 : BitVec 32 := v4098
  let c64_i32_1974 : BitVec 32 := 64#32
  let v4100 : BitVec 32 := Scalar.subi v4099 c64_i32_1974
  let v4101 : BitVec 32 := Scalar.maxsi c0_i32_1975 v4100
  let v4102 : BitVec 32 := Scalar.minsi c0_i32_1976 v4101
  v4102
def k0_mult111 : BitVec 32 :=
  let c0_i32 : BitVec 32 := 0#32
  let c2_i32_2010 : BitVec 32 := 2#32
  let v4174 : BitVec 32 := Scalar.muli c0_i32 c2_i32_2010
  let c1_i32_2011 : BitVec 32 := 1#32
  let v4175 : BitVec 32 := Scalar.addi v4174 c1_i32_2011
  let c128_i32_2012 : BitVec 32 := 128#32
  let v4176 : BitVec 32 := Scalar.muli v4175 c128_i32_2012
  v4176
def k0_mult112 : BitVec 32 :=
  let c0_i32_2015 : BitVec 32 := 0#32
  let c0_i32_2014 : BitVec 32 := 0#32
  let c0_i32 : BitVec 32 := 0#32
  let c2_i32_2010 : BitVec 32 := 2#32
  let v4174 : BitVec 32 := Scalar.muli c0_i32 c2_i32_2010
  let c1_i32_2011 : BitVec 32 := 1#32
  let v4175 : BitVec 32 := Scalar.addi v4174 c1_i32_2011
  let c128_i32_2012 : BitVec 32 := 128#32
  let v4176 : BitVec 32 := Scalar.muli v4175 c128_i32_2012
  let v4177 : BitVec 32 := v4176
  let c64_i32_2013 : BitVec 32 := 64#32
  let v4178 : BitVec 32 := Scalar.subi v4177 c64_i32_2013
  let v4179 : BitVec 32 := Scalar.maxsi c0_i32_2014 v4178
  let v4180 : BitVec 32 := Scalar.minsi c0_i32_2015 v4179
  v4180
def k0_mult113 : BitVec 32 :=
  let c0_i32 : BitVec 32 := 0#32
  let c2_i32_2051 : BitVec 32 := 2#32
  let v4256 : BitVec 32 := Scalar.muli c0_i32 c2_i32_2051
  let c1_i32_2052 : BitVec 32 := 1#32
  let v4257 : BitVec 32 := Scalar.addi v4256 c1_i32_2052
  let c128_i32_2053 : BitVec 32 := 128#32
  let v4258 : BitVec 32 := Scalar.muli v4257 c128_i32_2053
  v4258
def k0_mult114 : BitVec 32 :=
  let c0_i32_2056 : BitVec 32 := 0#32
  let c0_i32_2055 : BitVec 32 := 0#32
  let c0_i32 : BitVec 32 := 0#32
  let c2_i32_2051 : BitVec 32 := 2#32
  let v4256 : BitVec 32 := Scalar.muli c0_i32 c2_i32_2051
  let c1_i32_2052 : BitVec 32 := 1#32
  let v4257 : BitVec 32 := Scalar.addi v4256 c1_i32_2052
  let c128_i32_2053 : BitVec 32 := 128#32
  let v4258 : BitVec 32 := Scalar.muli v4257 c128_i32_2053
  let v4259 : BitVec 32 := v4258
  let c64_i32_2054 : BitVec 32 := 64#32
  let v4260 : BitVec 32 := Scalar.subi v4259 c64_i32_2054
  let v4261 : BitVec 32 := Scalar.maxsi c0_i32_2055 v4260
  let v4262 : BitVec 32 := Scalar.minsi c0_i32_2056 v4261
  v4262
def k0_mult115 : BitVec 32 :=
  let c0_i32 : BitVec 32 := 0#32
  let c2_i32_2091 : BitVec 32 := 2#32
  let v4335 : BitVec 32 := Scalar.muli c0_i32 c2_i32_2091
  let c1_i32_2092 : BitVec 32 := 1#32
  let v4336 : BitVec 32 := Scalar.addi v4335 c1_i32_2092
  let c128_i32_2093 : BitVec 32 := 128#32
  let v4337 : BitVec 32 := Scalar.muli v4336 c128_i32_2093
  v4337
def k0_mult116 : BitVec 32 :=
  let c0_i32_2096 : BitVec 32 := 0#32
  let c0_i32_2095 : BitVec 32 := 0#32
  let c0_i32 : BitVec 32 := 0#32
  let c2_i32_2091 : BitVec 32 := 2#32
  let v4335 : BitVec 32 := Scalar.muli c0_i32 c2_i32_2091
  let c1_i32_2092 : BitVec 32 := 1#32
  let v4336 : BitVec 32 := Scalar.addi v4335 c1_i32_2092
  let c128_i32_2093 : BitVec 32 := 128#32
  let v4337 : BitVec 32 := Scalar.muli v4336 c128_i32_2093
  let v4338 : BitVec 32 := v4337
  let c64_i32_2094 : BitVec 32 := 64#32
  let v4339 : BitVec 32 := Scalar.subi v4338 c64_i32_2094
  let v4340 : BitVec 32 := Scalar.maxsi c0_i32_2095 v4339
  let v4341 : BitVec 32 := Scalar.minsi c0_i32_2096 v4340
  v4341
def k0_mult117 : BitVec 32 :=
  let c0_i32 : BitVec 32 := 0#32
  let c2_i32_2130 : BitVec 32 := 2#32
  let v4413 : BitVec 32 := Scalar.muli c0_i32 c2_i32_2130
  let c1_i32_2131 : BitVec 32 := 1#32
  let v4414 : BitVec 32 := Scalar.addi v4413 c1_i32_2131
  let c128_i32_2132 : BitVec 32 := 128#32
  let v4415 : BitVec 32 := Scalar.muli v4414 c128_i32_2132
  v4415
def k0_mult118 : BitVec 32 :=
  let c0_i32_2135 : BitVec 32 := 0#32
  let c0_i32_2134 : BitVec 32 := 0#32
  let c0_i32 : BitVec 32 := 0#32
  let c2_i32_2130 : BitVec 32 := 2#32
  let v4413 : BitVec 32 := Scalar.muli c0_i32 c2_i32_2130
  let c1_i32_2131 : BitVec 32 := 1#32
  let v4414 : BitVec 32 := Scalar.addi v4413 c1_i32_2131
  let c128_i32_2132 : BitVec 32 := 128#32
  let v4415 : BitVec 32 := Scalar.muli v4414 c128_i32_2132
  let v4416 : BitVec 32 := v4415
  let c64_i32_2133 : BitVec 32 := 64#32
  let v4417 : BitVec 32 := Scalar.subi v4416 c64_i32_2133
  let v4418 : BitVec 32 := Scalar.maxsi c0_i32_2134 v4417
  let v4419 : BitVec 32 := Scalar.minsi c0_i32_2135 v4418
  v4419
def k0_mult119 : BitVec 32 :=
  let c0_i32 : BitVec 32 := 0#32
  let c2_i32_2169 : BitVec 32 := 2#32
  let v4491 : BitVec 32 := Scalar.muli c0_i32 c2_i32_2169
  let c1_i32_2170 : BitVec 32 := 1#32
  let v4492 : BitVec 32 := Scalar.addi v4491 c1_i32_2170
  let c128_i32_2171 : BitVec 32 := 128#32
  let v4493 : BitVec 32 := Scalar.muli v4492 c128_i32_2171
  v4493
def k0_mult120 : BitVec 32 :=
  let c0_i32_2174 : BitVec 32 := 0#32
  let c0_i32_2173 : BitVec 32 := 0#32
  let c0_i32 : BitVec 32 := 0#32
  let c2_i32_2169 : BitVec 32 := 2#32
  let v4491 : BitVec 32 := Scalar.muli c0_i32 c2_i32_2169
  let c1_i32_2170 : BitVec 32 := 1#32
  let v4492 : BitVec 32 := Scalar.addi v4491 c1_i32_2170
  let c128_i32_2171 : BitVec 32 := 128#32
  let v4493 : BitVec 32 := Scalar.muli v4492 c128_i32_2171
  let v4494 : BitVec 32 := v4493
  let c64_i32_2172 : BitVec 32 := 64#32
  let v4495 : BitVec 32 := Scalar.subi v4494 c64_i32_2172
  let v4496 : BitVec 32 := Scalar.maxsi c0_i32_2173 v4495
  let v4497 : BitVec 32 := Scalar.minsi c0_i32_2174 v4496
  v4497
def k0_mult121 : BitVec 32 :=
  let c0_i32 : BitVec 32 := 0#32
  let c2_i32_2210 : BitVec 32 := 2#32
  let v4573 : BitVec 32 := Scalar.muli c0_i32 c2_i32_2210
  let c1_i32_2211 : BitVec 32 := 1#32
  let v4574 : BitVec 32 := Scalar.addi v4573 c1_i32_2211
  let c128_i32_2212 : BitVec 32 := 128#32
  let v4575 : BitVec 32 := Scalar.muli v4574 c128_i32_2212
  v4575
def k0_mult122 : BitVec 32 :=
  let c0_i32_2215 : BitVec 32 := 0#32
  let c0_i32_2214 : BitVec 32 := 0#32
  let c0_i32 : BitVec 32 := 0#32
  let c2_i32_2210 : BitVec 32 := 2#32
  let v4573 : BitVec 32 := Scalar.muli c0_i32 c2_i32_2210
  let c1_i32_2211 : BitVec 32 := 1#32
  let v4574 : BitVec 32 := Scalar.addi v4573 c1_i32_2211
  let c128_i32_2212 : BitVec 32 := 128#32
  let v4575 : BitVec 32 := Scalar.muli v4574 c128_i32_2212
  let v4576 : BitVec 32 := v4575
  let c64_i32_2213 : BitVec 32 := 64#32
  let v4577 : BitVec 32 := Scalar.subi v4576 c64_i32_2213
  let v4578 : BitVec 32 := Scalar.maxsi c0_i32_2214 v4577
  let v4579 : BitVec 32 := Scalar.minsi c0_i32_2215 v4578
  v4579
def k0_mult123 : BitVec 32 :=
  let c0_i32 : BitVec 32 := 0#32
  let c2_i32_2250 : BitVec 32 := 2#32
  let v4652 : BitVec 32 := Scalar.muli c0_i32 c2_i32_2250
  let c1_i32_2251 : BitVec 32 := 1#32
  let v4653 : BitVec 32 := Scalar.addi v4652 c1_i32_2251
  let c128_i32_2252 : BitVec 32 := 128#32
  let v4654 : BitVec 32 := Scalar.muli v4653 c128_i32_2252
  v4654
def k0_mult124 : BitVec 32 :=
  let c0_i32_2255 : BitVec 32 := 0#32
  let c0_i32_2254 : BitVec 32 := 0#32
  let c0_i32 : BitVec 32 := 0#32
  let c2_i32_2250 : BitVec 32 := 2#32
  let v4652 : BitVec 32 := Scalar.muli c0_i32 c2_i32_2250
  let c1_i32_2251 : BitVec 32 := 1#32
  let v4653 : BitVec 32 := Scalar.addi v4652 c1_i32_2251
  let c128_i32_2252 : BitVec 32 := 128#32
  let v4654 : BitVec 32 := Scalar.muli v4653 c128_i32_2252
  let v4655 : BitVec 32 := v4654
  let c64_i32_2253 : BitVec 32 := 64#32
  let v4656 : BitVec 32 := Scalar.subi v4655 c64_i32_2253
  let v4657 : BitVec 32 := Scalar.maxsi c0_i32_2254 v4656
  let v4658 : BitVec 32 := Scalar.minsi c0_i32_2255 v4657
  v4658
def k0_mult125 : BitVec 32 :=
  let c0_i32 : BitVec 32 := 0#32
  let c2_i32_2289 : BitVec 32 := 2#32
  let v4730 : BitVec 32 := Scalar.muli c0_i32 c2_i32_2289
  let c1_i32_2290 : BitVec 32 := 1#32
  let v4731 : BitVec 32 := Scalar.addi v4730 c1_i32_2290
  let c128_i32_2291 : BitVec 32 := 128#32
  let v4732 : BitVec 32 := Scalar.muli v4731 c128_i32_2291
  v4732
def k0_mult126 : BitVec 32 :=
  let c0_i32_2294 : BitVec 32 := 0#32
  let c0_i32_2293 : BitVec 32 := 0#32
  let c0_i32 : BitVec 32 := 0#32
  let c2_i32_2289 : BitVec 32 := 2#32
  let v4730 : BitVec 32 := Scalar.muli c0_i32 c2_i32_2289
  let c1_i32_2290 : BitVec 32 := 1#32
  let v4731 : BitVec 32 := Scalar.addi v4730 c1_i32_2290
  let c128_i32_2291 : BitVec 32 := 128#32
  let v4732 : BitVec 32 := Scalar.muli v4731 c128_i32_2291
  let v4733 : BitVec 32 := v4732
  let c64_i32_2292 : BitVec 32 := 64#32
  let v4734 : BitVec 32 := Scalar.subi v4733 c64_i32_2292
  let v4735 : BitVec 32 := Scalar.maxsi c0_i32_2293 v4734
  let v4736 : BitVec 32 := Scalar.minsi c0_i32_2294 v4735
  v4736
def k0_mult127 : BitVec 32 :=
  let c0_i32 : BitVec 32 := 0#32
  let c2_i32_2328 : BitVec 32 := 2#32
  let v4808 : BitVec 32 := Scalar.muli c0_i32 c2_i32_2328
  let c1_i32_2329 : BitVec 32 := 1#32
  let v4809 : BitVec 32 := Scalar.addi v4808 c1_i32_2329
  let c128_i32_2330 : BitVec 32 := 128#32
  let v4810 : BitVec 32 := Scalar.muli v4809 c128_i32_2330
  v4810
def k0_mult128 : BitVec 32 :=
  let c0_i32_2333 : BitVec 32 := 0#32
  let c0_i32_2332 : BitVec 32 := 0#32
  let c0_i32 : BitVec 32 := 0#32
  let c2_i32_2328 : BitVec 32 := 2#32
  let v4808 : BitVec 32 := Scalar.muli c0_i32 c2_i32_2328
  let c1_i32_2329 : BitVec 32 := 1#32
  let v4809 : BitVec 32 := Scalar.addi v4808 c1_i32_2329
  let c128_i32_2330 : BitVec 32 := 128#32
  let v4810 : BitVec 32 := Scalar.muli v4809 c128_i32_2330
  let v4811 : BitVec 32 := v4810
  let c64_i32_2331 : BitVec 32 := 64#32
  let v4812 : BitVec 32 := Scalar.subi v4811 c64_i32_2331
  let v4813 : BitVec 32 := Scalar.maxsi c0_i32_2332 v4812
  let v4814 : BitVec 32 := Scalar.minsi c0_i32_2333 v4813
  v4814
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x8x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x256x24576 : Shape := ⟨3, ![8, 256, 24576]⟩
abbrev S9x8x128x256 : Shape := ⟨4, ![9, 8, 128, 256]⟩
abbrev S8x256x16x3x8x64 : Shape := ⟨6, ![8, 256, 16, 3, 8, 64]⟩
abbrev S8x256x16x1x8x64 : Shape := ⟨6, ![8, 256, 16, 1, 8, 64]⟩
abbrev S8x256x16x8x64 : Shape := ⟨5, ![8, 256, 16, 8, 64]⟩
abbrev S8x16x8x256x64 : Shape := ⟨5, ![8, 16, 8, 256, 64]⟩
abbrev S1x8x128x256 : Shape := ⟨4, ![1, 8, 128, 256]⟩
abbrev S8x128x256 : Shape := ⟨3, ![8, 128, 256]⟩
abbrev S8x256x256 : Shape := ⟨3, ![8, 256, 256]⟩
abbrev S8x16x8x256x256 : Shape := ⟨5, ![8, 16, 8, 256, 256]⟩
abbrev S1x1x8x256x256 : Shape := ⟨5, ![1, 1, 8, 256, 256]⟩
abbrev S_ : Shape := ⟨0, ![]⟩
abbrev S8x16x8x256 : Shape := ⟨4, ![8, 16, 8, 256]⟩
abbrev S8x16x8x256x1 : Shape := ⟨5, ![8, 16, 8, 256, 1]⟩
abbrev S8x256x8192 : Shape := ⟨3, ![8, 256, 8192]⟩
abbrev S8x256x16x112 : Shape := ⟨4, ![8, 256, 16, 112]⟩
abbrev S8x256x16x8 : Shape := ⟨4, ![8, 256, 16, 8]⟩
abbrev S8x256x16x128 : Shape := ⟨4, ![8, 256, 16, 128]⟩
abbrev S8x256x2048 : Shape := ⟨3, ![8, 256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x256x24576, .bf16⟩
  | .hbm, ⟨1, _⟩ => ⟨S9x8x128x256, .f32⟩
  | .hbm, ⟨2, _⟩ => ⟨S8x256x24576, .f32⟩
  | .hbm, ⟨3, _⟩ => ⟨S8x256x16x3x8x64, .f32⟩
  | .hbm, ⟨4, _⟩ => ⟨S8x256x16x1x8x64, .f32⟩
  | .hbm, ⟨5, _⟩ => ⟨S8x256x16x8x64, .f32⟩
  | .hbm, ⟨6, _⟩ => ⟨S8x16x8x256x64, .f32⟩
  | .hbm, ⟨7, _⟩ => ⟨S8x256x16x1x8x64, .f32⟩
  | .hbm, ⟨8, _⟩ => ⟨S8x256x16x8x64, .f32⟩
  | .hbm, ⟨9, _⟩ => ⟨S8x16x8x256x64, .f32⟩
  | .hbm, ⟨10, _⟩ => ⟨S8x256x16x1x8x64, .f32⟩
  | .hbm, ⟨11, _⟩ => ⟨S8x256x16x8x64, .f32⟩
  | .hbm, ⟨12, _⟩ => ⟨S8x16x8x256x64, .f32⟩
  | .hbm, ⟨13, _⟩ => ⟨S1x8x128x256, .f32⟩
  | .hbm, ⟨14, _⟩ => ⟨S8x128x256, .f32⟩
  | .hbm, ⟨15, _⟩ => ⟨S1x8x128x256, .f32⟩
  | .hbm, ⟨16, _⟩ => ⟨S8x128x256, .f32⟩
  | .hbm, ⟨17, _⟩ => ⟨S8x256x256, .f32⟩
  | .hbm, ⟨18, _⟩ => ⟨S8x16x8x256x256, .f32⟩
  | .hbm, ⟨19, _⟩ => ⟨S1x1x8x256x256, .f32⟩
  | .hbm, ⟨20, _⟩ => ⟨S8x16x8x256x256, .f32⟩
  | .hbm, ⟨21, _⟩ => ⟨S8x16x8x256x256, .f32⟩
  | .hbm, ⟨22, _⟩ => ⟨S_, .f32⟩
  | .hbm, ⟨23, _⟩ => ⟨S8x16x8x256, .f32⟩
  | .hbm, ⟨24, _⟩ => ⟨S_, .f32⟩
  | .hbm, ⟨25, _⟩ => ⟨S8x16x8x256x256, .f32⟩
  | .hbm, ⟨26, _⟩ => ⟨S8x16x8x256x1, .f32⟩
  | .hbm, ⟨27, _⟩ => ⟨S8x16x8x256x256, .f32⟩
  | .hbm, ⟨28, _⟩ => ⟨S8x16x8x256x256, .f32⟩
  | .hbm, ⟨29, _⟩ => ⟨S8x16x8x256x256, .f32⟩
  | .hbm, ⟨30, _⟩ => ⟨S_, .f32⟩
  | .hbm, ⟨31, _⟩ => ⟨S8x16x8x256, .f32⟩
  | .hbm, ⟨32, _⟩ => ⟨S8x16x8x256x64, .f32⟩
  | .hbm, ⟨33, _⟩ => ⟨S8x256x16x8x64, .f32⟩
  | .hbm, ⟨34, _⟩ => ⟨S8x256x8192, .f32⟩
  | .hbm, ⟨35, _⟩ => ⟨S8x256x8192, .bf16⟩
  | .hbm, ⟨36, _⟩ => ⟨S_, .f32⟩
  | .hbm, ⟨37, _⟩ => ⟨S8x256x16x112, .f32⟩
  | .hbm, ⟨38, _⟩ => ⟨S8x256x16x8, .f32⟩
  | .hbm, ⟨39, _⟩ => ⟨S8x256x16x8, .f32⟩
  | .hbm, ⟨40, _⟩ => ⟨S8x256x16x128, .f32⟩
  | .hbm, ⟨41, _⟩ => ⟨S8x256x2048, .f32⟩
  | _, _ => ⟨S8x256x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S256x512 : Shape := ⟨2, ![256, 512]⟩
abbrev S_ : Shape := ⟨0, ![]⟩
abbrev S512x1024 : Shape := ⟨2, ![512, 1024]⟩
abbrev S512x256 : Shape := ⟨2, ![512, 256]⟩
abbrev S512x512 : Shape := ⟨2, ![512, 512]⟩
abbrev S128x2048 : Shape := ⟨2, ![128, 2048]⟩
abbrev S32x8192 : Shape := ⟨2, ![32, 8192]⟩
abbrev S512x128 : Shape := ⟨2, ![512, 128]⟩
abbrev S128x512 : Shape := ⟨2, ![128, 512]⟩
abbrev S32x2048 : Shape := ⟨2, ![32, 2048]⟩
abbrev S4x512x128 : Shape := ⟨3, ![4, 512, 128]⟩
abbrev S256x128 : Shape := ⟨2, ![256, 128]⟩
abbrev S64x128 : Shape := ⟨2, ![64, 128]⟩
abbrev S1x64x128 : Shape := ⟨3, ![1, 64, 128]⟩
abbrev S1x256x128 : Shape := ⟨3, ![1, 256, 128]⟩
abbrev S16x128 : Shape := ⟨2, ![16, 128]⟩
abbrev S1x16x128 : Shape := ⟨3, ![1, 16, 128]⟩
abbrev S256x256 : Shape := ⟨2, ![256, 256]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S2048x1024 : Shape := ⟨2, ![2048, 1024]⟩

abbrev nBuf : Space → Nat
  | .hbm => 32
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .bf16⟩
  | .hbm, ⟨3, _⟩ => ⟨S32768x512, .bf16⟩
  | .hbm, ⟨4, _⟩ => ⟨S8192x2048, .bf16⟩
  | .hbm, ⟨5, _⟩ => ⟨S2048x8192, .bf16⟩
  | .hbm, ⟨6, _⟩ => ⟨S32768x128, .f32⟩
  | .hbm, ⟨7, _⟩ => ⟨S8192x512, .f32⟩
  | .hbm, ⟨8, _⟩ => ⟨S2048x2048, .f32⟩
  | .hbm, ⟨9, _⟩ => ⟨S1x512, .f32⟩
  | .hbm, ⟨10, _⟩ => ⟨S1x512, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S256x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S256x512, .i32⟩
  | .hbm, ⟨22, _⟩ => ⟨S_, .i32⟩
  | .hbm, ⟨23, _⟩ => ⟨S256x512, .i32⟩
  | .hbm, ⟨24, _⟩ => ⟨S256x512, .i32⟩
  | .hbm, ⟨25, _⟩ => ⟨S256x512, .i32⟩
  | .hbm, ⟨26, _⟩ => ⟨S_, .i32⟩
  | .hbm, ⟨27, _⟩ => ⟨S256x512, .i32⟩
  | .hbm, ⟨28, _⟩ => ⟨S256x512, .i32⟩
  | .hbm, ⟨29, _⟩ => ⟨S256x512, .i1⟩
  | .hbm, ⟨30, _⟩ => ⟨S256x512, .bf16⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S128x2048, .bf16⟩
  | .local _ .vmem, ⟨9, _⟩ => ⟨S128x2048, .bf16⟩
  | .local _ .vmem, ⟨10, _⟩ => ⟨S32x8192, .bf16⟩
  | .local _ .vmem, ⟨11, _⟩ => ⟨S32x8192, .bf16⟩
  | .local _ .vmem, ⟨12, _⟩ => ⟨S512x128, .f32⟩
  | .local _ .vmem, ⟨13, _⟩ => ⟨S512x128, .f32⟩
  | .local _ .vmem, ⟨14, _⟩ => ⟨S128x512, .f32⟩
  | .local _ .vmem, ⟨15, _⟩ => ⟨S128x512, .f32⟩
  | .local _ .vmem, ⟨16, _⟩ => ⟨S32x2048, .f32⟩
  | .local _ .vmem, ⟨17, _⟩ => ⟨S32x2048, .f32⟩
  | .local _ .vmem, ⟨18, _⟩ => ⟨S256x512, .bf16⟩
  | .local _ .vmem, ⟨19, _⟩ => ⟨S1x512, .f32⟩
  | .local _ .vmem, ⟨20, _⟩ => ⟨S1x512, .f32⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x4096, .bf16⟩
  | .local _ .vmem, ⟨25, _⟩ => ⟨S4096x1024, .bf16⟩
  | .local _ .vmem, ⟨26, _⟩ => ⟨S1x1024, .f32⟩
  | .local _ .vmem, ⟨27, _⟩ => ⟨S256x1024, .bf16⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S4x512x128, .f32⟩
  | .local _ .vmem, ⟨34, _⟩ => ⟨S512x128, .f32⟩
  | .local _ .vmem, ⟨35, _⟩ => ⟨S4x512x128, .f32⟩
  | .local _ .vmem, ⟨36, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S32768x1024 : Shape := ⟨2, ![32768, 1024]⟩
abbrev S32768x256 : Shape := ⟨2, ![32768, 256]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S32768x8x64 : Shape := ⟨3, ![32768, 8, 64]⟩
abbrev S32768x8 : Shape := ⟨2, ![32768, 8]⟩
abbrev S_ : Shape := ⟨0, ![]⟩
abbrev S32768x8x1 : Shape := ⟨3, ![32768, 8, 1]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 200
  | .vmem => 0
  | .smem => 0
  | _ => 0

abbrev hbmTy0_0 (i : Nat) : BufTy := match i % 128 with
  | 0 => ⟨S32768x1024, .f32⟩
  | 1 => ⟨S32768x256, .f32⟩
  | 2 => ⟨S32768x512, .bf16⟩
  | 3 => ⟨S32768x512, .bf16⟩
  | 4 => ⟨S8192x2048, .bf16⟩
  | 5 => ⟨S2048x8192, .bf16⟩
  | 6 => ⟨S32768x128, .f32⟩
  | 7 => ⟨S8192x512, .f32⟩
  | 8 => ⟨S2048x2048, .f32⟩
  | 9 => ⟨S1x512, .f32⟩
  | 10 => ⟨S1x512, .f32⟩
  | 11 => ⟨S1024x1024, .bf16⟩
  | 12 => ⟨S1x1024, .f32⟩
  | 13 => ⟨S1x1024, .f32⟩
  | 14 => ⟨S1024x4096, .bf16⟩
  | 15 => ⟨S4096x1024, .bf16⟩
  | 16 => ⟨S1x1024, .f32⟩
  | 17 => ⟨S256x1024, .bf16⟩
  | 18 => ⟨S1024x1024, .bf16⟩
  | 19 => ⟨S1x1024, .f32⟩
  | 20 => ⟨S1x1024, .f32⟩
  | 21 => ⟨S32768x512, .f32⟩
  | 22 => ⟨S32768x8x64, .f32⟩
  | 23 => ⟨S8192x2048, .f32⟩
  | 24 => ⟨S32768x8x64, .f32⟩
  | 25 => ⟨S2048x8192, .f32⟩
  | 26 => ⟨S32768x8x64, .f32⟩
  | 27 => ⟨S32768x8, .f32⟩
  | 28 => ⟨S32768x128, .f32⟩
  | 29 => ⟨S32768x8, .f32⟩
  | 30 => ⟨S32768x128, .f32⟩
  | 31 => ⟨S32768x8, .f32⟩
  | 32 => ⟨S32768x8, .f32⟩
  | 33 => ⟨S32768x128, .f32⟩
  | 34 => ⟨S32768x8, .f32⟩
  | 35 => ⟨S32768x128, .f32⟩
  | 36 => ⟨S32768x8, .f32⟩
  | 37 => ⟨S32768x8, .f32⟩
  | 38 => ⟨S32768x8, .f32⟩
  | 39 => ⟨S_, .f32⟩
  | 40 => ⟨S32768x8, .f32⟩
  | 41 => ⟨S32768x8, .f32⟩
  | 42 => ⟨S32768x8, .f32⟩
  | 43 => ⟨S32768x8, .f32⟩
  | 44 => ⟨S_, .f32⟩
  | 45 => ⟨S32768x8, .f32⟩
  | 46 => ⟨S32768x8, .f32⟩
  | 47 => ⟨S32768x8, .f32⟩
  | 48 => ⟨S32768x8, .f32⟩
  | 49 => ⟨S_, .f32⟩
  | 50 => ⟨S32768x8, .f32⟩
  | 51 => ⟨S32768x8, .f32⟩
  | 52 => ⟨S32768x8, .f32⟩
  | 53 => ⟨S32768x8, .f32⟩
  | 54 => ⟨S32768x8, .f32⟩
  | 55 => ⟨S32768x8, .f32⟩
  | 56 => ⟨S32768x8, .f32⟩
  | 57 => ⟨S32768x8x1, .f32⟩
  | 58 => ⟨S32768x8x1, .f32⟩
  | 59 => ⟨S32768x8x64, .f32⟩
  | 60 => ⟨S32768x8x64, .f32⟩
  | 61 => ⟨S32768x8x64, .f32⟩
  | 62 => ⟨S32768x8x64, .f32⟩
  | 63 => ⟨S32768x8, .f32⟩
  | 64 => ⟨S32768x8x1, .f32⟩
  | 65 => ⟨S32768x8x1, .f32⟩
  | 66 => ⟨S32768x8x64, .f32⟩
  | 67 => ⟨S32768x8x64, .f32⟩
  | 68 => ⟨S32768x8x64, .f32⟩
  | 69 => ⟨S32768x8x64, .f32⟩
  | 70 => ⟨S32768x8, .f32⟩
  | 71 => ⟨S32768x8x1, .f32⟩
  | 72 => ⟨S32768x8x1, .f32⟩
  | 73 => ⟨S32768x8x64, .f32⟩
  | 74 => ⟨S32768x8x64, .f32⟩
  | 75 => ⟨S32768x8x64, .f32⟩
  | 76 => ⟨S32768x8x64, .f32⟩
  | 77 => ⟨S32768x8x64, .f32⟩
  | 78 => ⟨S32768x8x64, .f32⟩
  | 79 => ⟨S32768x512, .f32⟩
  | 80 => ⟨S32768x512, .f32⟩
  | 81 => ⟨S32768x512, .f32⟩
  | 82 => ⟨S_, .f32⟩
  | 83 => ⟨S32768, .f32⟩
  | 84 => ⟨S32768x1, .f32⟩
  | 85 => ⟨S_, .f32⟩
  | 86 => ⟨S32768x1, .f32⟩
  | 87 => ⟨S32768x1, .f32⟩
  | 88 => ⟨S_, .f32⟩
  | 89 => ⟨S32768x1, .f32⟩
  | 90 => ⟨S32768x1, .f32⟩
  | 91 => ⟨S32768x1, .f32⟩
  | 92 => ⟨S32768x512, .f32⟩
  | 93 => ⟨S32768x512, .f32⟩
  | 94 => ⟨S32768x512, .f32⟩
  | 95 => ⟨S32768x512, .f32⟩
  | 96 => ⟨S32768x512, .f32⟩
  | 97 => ⟨S_, .f32⟩
  | 98 => ⟨S32768, .f32⟩
  | 99 => ⟨S32768x1, .f32⟩
  | 100 => ⟨S_, .f32⟩
  | 101 => ⟨S32768x1, .f32⟩
  | 102 => ⟨S32768x1, .f32⟩
  | 103 => ⟨S_, .f32⟩
  | 104 => ⟨S32768x1, .f32⟩
  | 105 => ⟨S32768x1, .f32⟩
  | 106 => ⟨S32768x1, .f32⟩
  | 107 => ⟨S32768x512, .f32⟩
  | 108 => ⟨S32768x512, .f32⟩
  | 109 => ⟨S32768x512, .f32⟩
  | 110 => ⟨S32768x512, .f32⟩
  | 111 => ⟨S32768x1024, .f32⟩
  | 112 => ⟨S1024x1024, .f32⟩
  | 113 => ⟨S32768x1024, .f32⟩
  | 114 => ⟨S32768x1024, .f32⟩
  | 115 => ⟨S_, .f32⟩
  | 116 => ⟨S32768, .f32⟩
  | 117 => ⟨S32768x1, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S32768x1024, .f32⟩
  | 126 => ⟨S32768x1024, .f32⟩
  | 127 => ⟨S32768x1024, .f32⟩
  | _ => ⟨S32768x1024, .f32⟩

abbrev hbmTy0_1 (i : Nat) : BufTy := match i % 128 with
  | 0 => ⟨S32768x1024, .f32⟩
  | 1 => ⟨S32768x1024, .f32⟩
  | 2 => ⟨S32768x1024, .f32⟩
  | 3 => ⟨S_, .f32⟩
  | 4 => ⟨S32768, .f32⟩
  | 5 => ⟨S32768x1, .f32⟩
  | 6 => ⟨S_, .f32⟩
  | 7 => ⟨S32768x1, .f32⟩
  | 8 => ⟨S32768x1, .f32⟩
  | 9 => ⟨S_, .f32⟩
  | 10 => ⟨S32768x1, .f32⟩
  | 11 => ⟨S32768x1, .f32⟩
  | 12 => ⟨S32768x1, .f32⟩
  | 13 => ⟨S32768x1024, .f32⟩
  | 14 => ⟨S32768x1024, .f32⟩
  | 15 => ⟨S32768x1024, .f32⟩
  | 16 => ⟨S32768x1024, .f32⟩
  | 17 => ⟨S1024x4096, .f32⟩
  | 18 => ⟨S32768x4096, .f32⟩
  | 19 => ⟨S_, .f32⟩
  | 20 => ⟨S32768x4096, .f32⟩
  | 21 => ⟨S32768x4096, .f32⟩
  | 22 => ⟨S32768x4096, .f32⟩
  | 23 => ⟨S4096x1024, .f32⟩
  | 24 => ⟨S32768x1024, .f32⟩
  | 25 => ⟨S32768x1024, .f32⟩
  | 26 => ⟨S_, .f32⟩
  | 27 => ⟨S32768, .f32⟩
  | 28 => ⟨S32768x1, .f32⟩
  | 29 => ⟨S_, .f32⟩
  | 30 => ⟨S32768x1, .f32⟩
  | 31 => ⟨S32768x1, .f32⟩
  | 32 => ⟨S_, .f32⟩
  | 33 => ⟨S32768x1, .f32⟩
  | 34 => ⟨S32768x1, .f32⟩
  | 35 => ⟨S32768x1, .f32⟩
  | 36 => ⟨S32768x1024, .f32⟩
  | 37 => ⟨S32768x1024, .f32⟩
  | 38 => ⟨S32768x1024, .f32⟩
  | 39 => ⟨S32768x1024, .f32⟩
  | 40 => ⟨S32768x1024, .f32⟩
  | 41 => ⟨S1024x1024, .f32⟩
  | 42 => ⟨S32768x1024, .f32⟩
  | 43 => ⟨S32768x1024, .f32⟩
  | 44 => ⟨S32768x1024, .f32⟩
  | 45 => ⟨S32768x1024, .f32⟩
  | 46 => ⟨S32768x1024, .f32⟩
  | 47 => ⟨S_, .f32⟩
  | 48 => ⟨S32768x1024, .f32⟩
  | 49 => ⟨S32768x1024, .f32⟩
  | 50 => ⟨S_, .f32⟩
  | 51 => ⟨S32768x1024, .f32⟩
  | 52 => ⟨S32768x1024, .f32⟩
  | 53 => ⟨S256x1024, .f32⟩
  | 54 => ⟨S32768x1024, .f32⟩
  | 55 => ⟨S32768x1024, .f32⟩
  | 56 => ⟨S32768x1024, .f32⟩
  | 57 => ⟨S_, .f32⟩
  | 58 => ⟨S32768, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S32768x1, .f32⟩
  | 67 => ⟨S32768x1024, .f32⟩
  | 68 => ⟨S32768x1024, .f32⟩
  | 69 => ⟨S32768x1024, .f32⟩
  | 70 => ⟨S32768x1024, .f32⟩
  | 71 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_2 : Ref sig .tc := ⟨.hbm, 82, rfl⟩
abbrev main_v58 : Ref sig .tc := ⟨.hbm, 83, rfl⟩
abbrev main_v59 : Ref sig .tc := ⟨.hbm, 84, rfl⟩
abbrev main_cst_3 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_cst_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_8 : Ref sig .tc := ⟨.hbm, 115, rfl⟩
abbrev main_v85 : Ref sig .tc := ⟨.hbm, 116, rfl⟩
abbrev main_v86 : Ref sig .tc := ⟨.hbm, 117, rfl⟩
abbrev main_cst_9 : Ref sig .tc := ⟨.hbm, 118, rfl⟩
abbrev main_v87 : Ref sig .tc := ⟨.hbm, 119, rfl⟩
abbrev main_v88 : Ref sig .tc := ⟨.hbm, 120, rfl⟩
abbrev main_cst_10 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_11 : Ref sig .tc := ⟨.hbm, 131, rfl⟩
abbrev main_v98 : Ref sig .tc := ⟨.hbm, 132, rfl⟩
abbrev main_v99 : Ref sig .tc := ⟨.hbm, 133, rfl⟩
abbrev main_cst_12 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_14 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_15 : Ref sig .tc := ⟨.hbm, 154, rfl⟩
abbrev main_v117 : Ref sig .tc := ⟨.hbm, 155, rfl⟩
abbrev main_v118 : Ref sig .tc := ⟨.hbm, 156, rfl⟩
abbrev main_cst_16 : Ref sig .tc := ⟨.hbm, 157, rfl⟩
abbrev main_v119 : Ref sig .tc := ⟨.hbm, 158, rfl⟩
abbrev main_v120 : Ref sig .tc := ⟨.hbm, 159, rfl⟩
abbrev main_cst_17 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_18 : Ref sig .tc := ⟨.hbm, 175, rfl⟩
abbrev main_v135 : Ref sig .tc := ⟨.hbm, 176, rfl⟩
abbrev main_v136 : Ref sig .tc := ⟨.hbm, 177, rfl⟩
abbrev main_cst_19 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_20 : Ref sig .tc := ⟨.hbm, 185, rfl⟩
abbrev main_v143 : Ref sig .tc := ⟨.hbm, 186, rfl⟩
abbrev main_v144 : Ref sig .tc := ⟨.hbm, 187, rfl⟩
abbrev main_cst_21 : Ref sig .tc := ⟨.hbm, 188, rfl⟩
abbrev main_v145 : Ref sig .tc := ⟨.hbm, 189, rfl⟩
abbrev main_v146 : Ref sig .tc := ⟨.hbm, 190, rfl⟩
abbrev main_cst_22 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x2304 : Shape := ⟨2, ![1024, 2304]⟩
abbrev S32768x768 : Shape := ⟨2, ![32768, 768]⟩
abbrev S32768x1536 : Shape := ⟨2, ![32768, 1536]⟩
abbrev S8192x6144 : Shape := ⟨2, ![8192, 6144]⟩
abbrev S2048x24576 : Shape := ⟨2, ![2048, 24576]⟩
abbrev S512x1024 : Shape := ⟨2, ![512, 1024]⟩
abbrev S512x768 : Shape := ⟨2, ![512, 768]⟩
abbrev S512x1536 : Shape := ⟨2, ![512, 1536]⟩
abbrev S128x6144 : Shape := ⟨2, ![128, 6144]⟩
abbrev S32x24576 : Shape := ⟨2, ![32, 24576]⟩
abbrev S3x4x512x128 : Shape := ⟨4, ![3, 4, 512, 128]⟩
abbrev S3x4x4x128x128 : Shape := ⟨5, ![3, 4, 4, 128, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x1x512x128 : Shape := ⟨4, ![1, 1, 512, 128]⟩
abbrev S128x128 : Shape := ⟨2, ![128, 128]⟩
abbrev S1x1x1x128x128 : Shape := ⟨5, ![1, 1, 1, 128, 128]⟩
abbrev S32x128 : Shape := ⟨2, ![32, 128]⟩
abbrev S1024x768 : Shape := ⟨2, ![1024, 768]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2304, .bf16⟩
  | .hbm, ⟨3, _⟩ => ⟨S32768x768, .bf16⟩
  | .hbm, ⟨4, _⟩ => ⟨S32768x1536, .bf16⟩
  | .hbm, ⟨5, _⟩ => ⟨S8192x6144, .bf16⟩
  | .hbm, ⟨6, _⟩ => ⟨S2048x24576, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x768, .bf16⟩
  | .local _ .vmem, ⟨5, _⟩ => ⟨S512x768, .bf16⟩
  | .local _ .vmem, ⟨6, _⟩ => ⟨S512x1536, .bf16⟩
  | .local _ .vmem, ⟨7, _⟩ => ⟨S512x1536, .bf16⟩
  | .local _ .vmem, ⟨8, _⟩ => ⟨S128x6144, .bf16⟩
  | .local _ .vmem, ⟨9, _⟩ => ⟨S128x6144, .bf16⟩
  | .local _ .vmem, ⟨10, _⟩ => ⟨S32x24576, .bf16⟩
  | .local _ .vmem, ⟨11, _⟩ => ⟨S32x24576, .bf16⟩
  | .local _ .vmem, ⟨12, _⟩ => ⟨S3x4x512x128, .f32⟩
  | .local _ .vmem, ⟨13, _⟩ => ⟨S3x4x4x128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x24576 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1x1024 : Shape := ⟨2, ![1, 1024]⟩
abbrev S1024x2304 : Shape := ⟨2, ![1024, 2304]⟩
abbrev S_ : Shape := ⟨0, ![]⟩
abbrev S32768 : Shape := ⟨1, ![32768]⟩
abbrev S32768x1 : Shape := ⟨2, ![32768, 1]⟩
abbrev S32768x2304 : Shape := ⟨2, ![32768, 2304]⟩
abbrev S32768x1536 : Shape := ⟨2, ![32768, 1536]⟩
abbrev S32768x768 : Shape := ⟨2, ![32768, 768]⟩
abbrev S8192x6144 : Shape := ⟨2, ![8192, 6144]⟩
abbrev S2048x24576 : Shape := ⟨2, ![2048, 24576]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2304, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x2304, .f32⟩
  | .hbm, ⟨19, _⟩ => ⟨S32768x2304, .f32⟩
  | .hbm, ⟨20, _⟩ => ⟨S32768x2304, .bf16⟩
  | .hbm, ⟨21, _⟩ => ⟨S32768x1536, .bf16⟩
  | .hbm, ⟨22, _⟩ => ⟨S32768x768, .bf16⟩
  | .hbm, ⟨23, _⟩ => ⟨S8192x6144, .bf16⟩
  | .hbm, ⟨24, _⟩ => ⟨S2048x24576, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Dil.Task.lean ====
/- One task of the dilated attention's body, in one vocabulary: the tile of unnormalised outputs and the
   statistics a pair of heads leaves, as functions of the five vectors the body loads for it, and what they are
   at an index: a row of attention over the 256 keys. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Dil

open Cert.KernelIdeal Cert.KernelIdeal.Gen Idealize.ShloMosaic Idealize.ShloMosaic.TcCoe Idealize.SL.Sem

/-! ## A row of attention -/

/-- The score of key `k`: the product of the query's and the key's 64 lanes, and the key's bias. -/
def sc (q : Fin 64 → EReal) (K : Fin 256 → Fin 64 → EReal) (b : Fin 256 → EReal) (k : Fin 256) : EReal :=
  (∑ d : Fin 64, q d * K k d) + b k

/-- The largest score of the row (folded from −∞). -/
def mx (s : Fin 256 → EReal) : EReal := Finset.univ.fold max (Ideal.ofBits .f32 0xFF800000#32) s

/-- The weight of key `k`: two to the score less the largest. -/
def wt (s : Fin 256 → EReal) (k : Fin 256) : EReal := Ideal.exp2 (s k - mx s)

/-- The weights' sum. -/
def den (s : Fin 256 → EReal) : EReal := ∑ k : Fin 256, wt s k

/-- The weighted sum of one lane of the values. -/
def num (s : Fin 256 → EReal) (v : Fin 256 → EReal) : EReal := ∑ k : Fin 256, wt s k * v k

/-! ## The task's vectors -/

/-- The lanes of the pair's first head. -/
abbrev low : IVec S128x128 1 := k0_pay3
/-- The lanes of its second. -/
abbrev high : IVec S128x128 1 := xori k0_pay3 (constantI S128x128 1 1#1)
/-- The lane numbers. -/
abbrev lane : IVec S128x128 32 := iota .tc S128x128 32 [1] iota_S128x128_d1_w32

variable {F : FTy → Type} [FloatOps F]

/-- The scores of one head of the pair: the other head's lanes of the query masked to zero. -/
def scores (mask : IVec S128x128 1) (Q : Vec F S1x128x128 .bf16) (K : Vec F S1x256x128 .bf16)
    (B : Vec F S1x1x128x256 .f32) : FVec F S128x256 .f32 :=
  addf (matmul dot_S128x128_S256x128_S128x256_1_1_0_0_n_n none
      (select mask (shapeCast S128x128 Q shapeCasts_S1x128x128_S128x128) (broadcast S128x128 (Scalar.ofBits .bf16 0x0000#16)))
      (shapeCast S256x128 K shapeCasts_S1x256x128_S256x128) (constant S128x256 .f32 0x00000000#32))
    (shapeCast S128x256 B shapeCasts_S1x1x128x256_S128x256)

/-- Each row's largest score. -/
def tops (s : FVec F S128x256 .f32) : FVec F S128x1 .f32 :=
  shapeCast S128x1 (multiReduction .maximumf [1] S128 s 0xFF800000#32 reduces_S128x256_S128 (.inl rfl) rfl) shapeCasts_S128_S128x1

/-- The weights against the values, with a column block of ones beside them. -/
def sums (s : FVec F S128x256 .f32) (V : Vec F S1x256x128 .bf16) : FVec F S128x256 .f32 :=
  matmul dot_S128x256_S256x256_S128x256_1_0_0_1_n_n none
    (truncf .bf16 (exp2 (subf s (broadcastTo S128x256 (tops s) broadcasts_S128x1_S128x256))) bitsLt_bf16_f32)
    (concatenate S256x256 1 [⟨S256x128, shapeCast S256x128 V shapeCasts_S1x256x128_S256x128⟩,
      ⟨S256x128, broadcast S256x128 (Scalar.ofBits .bf16 0x3F80#16)⟩] concatenates_S256x128_S256x128_S256x256_d1)
    (constant S128x256 .f32 0x00000000#32)

/-- The tile of unnormalised outputs the pair leaves. -/
def outTile (Q : Vec F S1x128x128 .bf16) (K V : Vec F S1x256x128 .bf16) (B0 B1 : Vec F S1x1x128x256 .f32) :
    FVec F S1x128x128 .bf16 :=
  shapeCast S1x128x128 (truncf .bf16 (select low
      (extractStridedSlice S128x128 ![0, 0] (sums (scores low Q K B0) V) slices_S128x256_o0_0_S128x128)
      (extractStridedSlice S128x128 ![0, 0] (sums (scores high Q K B1) V) slices_S128x256_o0_0_S128x128)) bitsLt_bf16_f32)
    shapeCasts_S128x128_S1x128x128

/-- The statistics with one head's two lanes put in: the largest scores in lane `a`, the weights' sums in lane `b`. -/
def putStats (a b : BitVec 32) (s : FVec F S128x256 .f32) (V : Vec F S1x256x128 .bf16) (acc : FVec F S128x128 .f32) :
    FVec F S128x128 .f32 :=
  select (cmpi .eq lane (broadcast S128x128 a))
    (broadcastTo S128x128 (shapeCast S128x1 (tops s) shapeCasts_S128x1_S128x1) broadcasts_S128x1_S128x128)
    (select (cmpi .eq lane (broadcast S128x128 b))
      (extractStridedSlice S128x128 ![0, 128] (sums s V) slices_S128x256_o0_128_S128x128) acc)

/-- The statistics with one pair's four lanes put in. -/
def putPair (a0 b0 a1 b1 : BitVec 32) (Q : Vec F S1x128x128 .bf16) (K V : Vec F S1x256x128 .bf16)
    (B0 B1 : Vec F S1x1x128x256 .f32) (acc : FVec F S128x128 .f32) : FVec F S128x128 .f32 :=
  putStats a1 b1 (scores high Q K B1) V (putStats a0 b0 (scores low Q K B0) V acc)

/-! ## What they are at an index, over the extended reals -/

/-- The lanes below 64 are the first head's. -/
theorem lane_low : ∀ x : Fin 128, IntOp.cmpi CmpIPredicate.slt (BitVec.ofNat 32 x.val) 64#32 = if x.val < 64 then 1#1 else 0#1 := by
  decide +kernel

/-- The others the second's. -/
theorem lane_high : ∀ x : Fin 128,
    IntOp.xori (IntOp.cmpi CmpIPredicate.slt (BitVec.ofNat 32 x.val) 64#32) 1#1 = if x.val < 64 then 0#1 else 1#1 := by
  decide +kernel

theorem sum_low (f : Fin 128 → EReal) :
    ∑ x : Fin 128, Scalar.select (IntOp.cmpi CmpIPredicate.slt (BitVec.ofNat 32 x.val) 64#32) (f x) 0
      = ∑ d : Fin 64, f ⟨d.val, by omega⟩ := by
  rw [Fin.sum_univ_two_halves 64 64 rfl]
  refine (congrArg₂ (· + ·) (Finset.sum_congr rfl fun d _ => ?_) (Finset.sum_eq_zero fun d _ => ?_)).trans (add_zero _)
  · rw [lane_low, if_pos (by dsimp only; omega)]; rfl
  · rw [lane_low, if_neg (by dsimp only; omega)]; rfl

theorem sum_high (f : Fin 128 → EReal) :
    ∑ x : Fin 128, Scalar.select (IntOp.xori (IntOp.cmpi CmpIPredicate.slt (BitVec.ofNat 32 x.val) 64#32) 1#1) (f x) 0
      = ∑ d : Fin 64, f ⟨64 + d.val, by omega⟩ := by
  rw [Fin.sum_univ_two_halves 64 64 rfl]
  refine (congrArg₂ (· + ·) (Finset.sum_eq_zero fun d _ => ?_) (Finset.sum_congr rfl fun d _ => ?_)).trans (zero_add _)
  · rw [lane_high, if_pos (by dsimp only; omega)]; rfl
  · rw [lane_high, if_neg (by dsimp only; omega)]; rfl

theorem scores_low_at (Q : Vec Ideal S1x128x128 .bf16) (K : Vec Ideal S1x256x128 .bf16) (B : Vec Ideal S1x1x128x256 .f32)
    (p : Fin 128) (k : Fin 256) :
    scores (F := Ideal) low Q K B (ix2 p k)
      = sc (fun d => Q (ix3 0 p ⟨d.val, by omega⟩)) (fun k d => K (ix3 0 k ⟨d.val, by omega⟩)) (fun k => B (ix4 0 0 p k)) k := by
  pointwise [scores, sc, k0_pay3]
  rw [sum_low fun x => Q (ix3 0 p x) * K (ix3 0 k x)]

theorem scores_high_at (Q : Vec Ideal S1x128x128 .bf16) (K : Vec Ideal S1x256x128 .bf16) (B : Vec Ideal S1x1x128x256 .f32)
    (p : Fin 128) (k : Fin 256) :
    scores (F := Ideal) high Q K B (ix2 p k)
      = sc (fun d => Q (ix3 0 p ⟨64 + d.val, by omega⟩)) (fun k d => K (ix3 0 k ⟨64 + d.val, by omega⟩)) (fun k => B (ix4 0 0 p k)) k := by
  pointwise [scores, sc, k0_pay3]
  rw [sum_high fun x => Q (ix3 0 p x) * K (ix3 0 k x)]

theorem tops_at (s : FVec Ideal S128x256 .f32) (p : Fin 128) (z : Fin 1) : tops (F := Ideal) s (ix2 p z) = mx fun k => s (ix2 p k) := by
  pointwise [tops, mx]

theorem sums_at (s : FVec Ideal S128x256 .f32) (V : Vec Ideal S1x256x128 .bf16) (p l : Fin 128) :
    sums (F := Ideal) s V (ix2 p ⟨l.val, by omega⟩) = num (fun k => s (ix2 p k)) (fun k => V (ix3 0 k l)) := by
  pointwise [sums, num, wt, tops_at]
  rfl

theorem sums_one_at (s : FVec Ideal S128x256 .f32) (V : Vec Ideal S1x256x128 .bf16) (p l : Fin 128) :
    sums (F := Ideal) s V (ix2 p ⟨128 + l.val, by omega⟩) = den (fun k => s (ix2 p k)) := by
  pointwise [sums, den, wt, tops_at]
  rfl

theorem low_at (p l : Fin 128) : k0_pay3 (ix2 p l) = if l.val < 64 then 1#1 else 0#1 := by
  pointwise [k0_pay3]
  exact lane_low l

theorem select_eq {α : Type} (x a : BitVec 32) (u v : α) :
    Scalar.select (IntOp.cmpi CmpIPredicate.eq x a) u v = if x = a then u else v := by
  by_cases h : x = a
  · simp [Scalar.select, IntOp.cmpi, h]
  · have hb : (x == a) = false := by simpa using h
    simp [Scalar.select, IntOp.cmpi, h, hb]

/-- The output tile: in a lane of the first head its row's weighted sum of the lane, in a lane of the second the second's. -/
theorem outTile_at (Q : Vec Ideal S1x128x128 .bf16) (K V : Vec Ideal S1x256x128 .bf16) (B0 B1 : Vec Ideal S1x1x128x256 .f32)
    (z : Fin 1) (p l : Fin 128) :
    outTile (F := Ideal) Q K V B0 B1 (ix3 z p l)
      = if l.val < 64 then
          num (sc (fun d => Q (ix3 0 p ⟨d.val, by omega⟩)) (fun k d => K (ix3 0 k ⟨d.val, by omega⟩)) (fun k => B0 (ix4 0 0 p k)))
            (fun k => V (ix3 0 k l))
        else
          num (sc (fun d => Q (ix3 0 p ⟨64 + d.val, by omega⟩)) (fun k d => K (ix3 0 k ⟨64 + d.val, by omega⟩)) (fun k => B1 (ix4 0 0 p k)))
            (fun k => V (ix3 0 k l)) := by
  pointwise [outTile]
  by_cases h : l.val < 64
  · refine Eq.trans ?_ (if_pos h).symm
    refine (congrArg (fun b => Scalar.select b _ _) ((low_at p l).trans (if_pos h))).trans ?_
    refine (sums_at (scores low Q K B0) V p l).trans ?_
    rw [funext fun k => scores_low_at Q K B0 p k]
  · refine Eq.trans ?_ (if_neg h).symm
    refine (congrArg (fun b => Scalar.select b _ _) ((low_at p l).trans (if_neg h))).trans ?_
    refine (sums_at (scores high Q K B1) V p l).trans ?_
    rw [funext fun k => scores_high_at Q K B1 p k]

/-- One head's two lanes of the statistics. -/
theorem putStats_at (a b : BitVec 32) (s : FVec Ideal S128x256 .f32) (V : Vec Ideal S1x256x128 .bf16) (acc : FVec Ideal S128x128 .f32)
    (p l : Fin 128) :
    putStats (F := Ideal) a b s V acc (ix2 p l)
      = if BitVec.ofNat 32 l.val = a then mx fun k => s (ix2 p k)
        else if BitVec.ofNat 32 l.val = b then den fun k => s (ix2 p k) else acc (ix2 p l) := by
  pointwise [putStats]
  rw [select_eq, select_eq, tops_at, sums_one_at]

end Cert.KernelIdeal.Dil

end
-- ==== Proof.Dil.Array.lean ====
/- The two results as functions of the two argument arrays. -/
module

public import proofs.«01_k».proof.Proof.Dil.Task

@[expose] public section

set_option maxRecDepth 16384

noncomputable section

namespace Cert.KernelIdeal.Dil

open Cert.KernelIdeal Cert.KernelIdeal.Gen Idealize.ShloMosaic Idealize.ShloMosaic.TcCoe Idealize.SL.Sem

/-- Row `q`, column `c` of sequence `b` of the projections. -/
def atA (A : Vec Ideal S8x256x24576 .bf16) (b : Fin 8) (q : Fin 256) (c : ℕ) : EReal := A (ix3 b q (Fin.ofNat 24576 c))

/-- The scores of query row `q` of head `h` of subsequence `r` of sequence `b`. -/
def rowA (A : Vec Ideal S8x256x24576 .bf16) (B : Vec Ideal S9x8x128x256 .f32) (b : Fin 8) (q : Fin 256) (r h : ℕ) : Fin 256 → EReal :=
  sc (fun d => atA A b q (1536 * r + 64 * h + d.val)) (fun k d => atA A b k (1536 * r + 512 + 64 * h + d.val))
    (fun k => B (ix4 (Fin.ofNat 9 (6 + 2 * (q.val / 128))) (Fin.ofNat 8 h) (Fin.ofNat 128 q.val) k))

/-- The attention's output. -/
def outA (A : Vec Ideal S8x256x24576 .bf16) (B : Vec Ideal S9x8x128x256 .f32) (b : Fin 8) (q : Fin 256) (c : ℕ) : EReal :=
  num (rowA A B b q (c / 512) (c % 512 / 64)) (fun k => atA A b k (1536 * (c / 512) + 1024 + c % 512))

/-- Its statistics: of each subsequence's 128 lanes the first eight hold the heads' largest scores, the next eight the
    weights' sums, the others zero. -/
def statA (A : Vec Ideal S8x256x24576 .bf16) (B : Vec Ideal S9x8x128x256 .f32) (b : Fin 8) (q : Fin 256) (c : ℕ) : EReal :=
  if c % 128 < 8 then mx (rowA A B b q (c / 128) (c % 128))
  else if c % 128 < 16 then den (rowA A B b q (c / 128) (c % 128 - 8))
  else 0

def OUTA (A : Vec Ideal S8x256x24576 .bf16) (B : Vec Ideal S9x8x128x256 .f32) : Vec Ideal S8x256x8192 .bf16 :=
  fun y => outA A B (y 0) (y 1) (y 2).val

def STATA (A : Vec Ideal S8x256x24576 .bf16) (B : Vec Ideal S9x8x128x256 .f32) : Vec Ideal S8x256x2048 .f32 :=
  fun y => statA A B (y 0) (y 1) (y 2).val

theorem OUTA_ix3 (A : Vec Ideal S8x256x24576 .bf16) (B : Vec Ideal S9x8x128x256 .f32) (b : Fin 8) (q : Fin 256) (c : Fin 8192) :
    OUTA A B (ix3 b q c) = outA A B b q c.val := rfl

theorem STATA_ix3 (A : Vec Ideal S8x256x24576 .bf16) (B : Vec Ideal S9x8x128x256 .f32) (b : Fin 8) (q : Fin 256) (c : Fin 2048) :
    STATA A B (ix3 b q c) = statA A B b q c.val := rfl

end Cert.KernelIdeal.Dil

end
-- ==== Proof.Dil.Block.lean ====
/- The two output blocks as functions of the input blocks, and each task's tile as a part of them. -/
module

public import proofs.«01_k».proof.Proof.Dil.Task
public import Idealize.ShloMosaic.Lib.Pipeline.ValueKit

@[expose] public section

set_option maxRecDepth 16384

noncomputable section

namespace Cert.KernelIdeal.Dil

open Cert.KernelIdeal Cert.KernelIdeal.Gen Idealize.ShloMosaic Idealize.ShloMosaic.TcCoe Idealize.SL.Sem

theorem ix3_surj (x : S1x128x128.Idx) : ∃ z p l, x = ix3 z p l := by
  idx_vars x
  exact ⟨_, _, _, rfl⟩

/-- Row `q`, column `c` of the projections' block. -/
def atX (X : Vec Ideal S1x256x12288 .bf16) (q c : ℕ) : EReal := X (ix3 (0 : Fin 1) (Fin.ofNat 256 q) (Fin.ofNat 12288 c))

/-- The scores of query row `q` of head `h` of the block's subsequence `r`. -/
def row (X : Vec Ideal S1x256x12288 .bf16) (B : Vec Ideal S3x8x128x256 .f32) (q r h : ℕ) : Fin 256 → EReal :=
  sc (fun d => atX X q (1536 * r + 64 * h + d.val)) (fun k d => atX X k.val (1536 * r + 512 + 64 * h + d.val))
    (fun k => B (ix4 (Fin.ofNat 3 (2 * (q / 128))) (Fin.ofNat 8 h) (Fin.ofNat 128 q) k))

/-- The output block: lane `c` of row `q` is lane `c % 64` of head `c % 512 / 64` of subsequence `c / 512`. -/
def OUT (X : Vec Ideal S1x256x12288 .bf16) (B : Vec Ideal S3x8x128x256 .f32) : Vec Ideal S1x256x4096 .bf16 := fun y =>
  num (row X B (y 1).val ((y 2).val / 512) ((y 2).val % 512 / 64))
    (fun k => atX X k.val (1536 * ((y 2).val / 512) + 1024 + (y 2).val % 512))

/-- The statistics' block: of each subsequence's 128 lanes the first eight hold the heads' largest scores, the next eight
    the weights' sums, the others zero. -/
def STAT (X : Vec Ideal S1x256x12288 .bf16) (B : Vec Ideal S3x8x128x256 .f32) : Vec Ideal S1x256x1024 .f32 := fun y =>
  if (y 2).val % 128 < 8 then mx (row X B (y 1).val ((y 2).val / 128) ((y 2).val % 128))
  else if (y 2).val % 128 < 16 then den (row X B (y 1).val ((y 2).val / 128) ((y 2).val % 128 - 8))
  else 0

/-- The query rows a task loads. -/
abbrev ldQ (arg2 : Memref sig .tc .vmem S1x256x12288 .bf16) (harg2 : arg2.IsWhole) (x0 : Vec Ideal S1x256x12288 .bf16) (q0 qc : ℕ)
    (h : ∀ a, (![0, q0, qc] : Fin 3 → ℕ) a + (![1, 128, 128] : Fin 3 → ℕ) a ≤ S1x256x12288.size a) : Vec Ideal S1x128x128 .bf16 :=
  View.readAt (Elt Ideal) arg2.view (Rect.unit (s := S1x256x12288) ![0, q0, qc] ![1, 128, 128] h).toLoadRect (harg2.unread x0)

/-- The key, or value, rows a task loads. -/
abbrev ldK (arg2 : Memref sig .tc .vmem S1x256x12288 .bf16) (harg2 : arg2.IsWhole) (x0 : Vec Ideal S1x256x12288 .bf16) (kc : ℕ)
    (h : ∀ a, (![0, 0, kc] : Fin 3 → ℕ) a + (![1, 256, 128] : Fin 3 → ℕ) a ≤ S1x256x12288.size a) : Vec Ideal S1x256x128 .bf16 :=
  View.readAt (Elt Ideal) arg2.view (Rect.unit (s := S1x256x12288) ![0, 0, kc] ![1, 256, 128] h).toLoadRect (harg2.unread x0)

/-- The biases a task loads for a head. -/
abbrev ldB (arg3 : Memref sig .tc .vmem S3x8x128x256 .f32) (harg3 : arg3.IsWhole) (x1 : Vec Ideal S3x8x128x256 .f32) (b0 h0 : ℕ)
    (h : ∀ a, (![b0, h0, 0, 0] : Fin 4 → ℕ) a + (![1, 1, 128, 256] : Fin 4 → ℕ) a ≤ S3x8x128x256.size a) : Vec Ideal S1x1x128x256 .f32 :=
  View.readAt (Elt Ideal) arg3.view (Rect.unit (s := S3x8x128x256) ![b0, h0, 0, 0] ![1, 1, 128, 256] h).toLoadRect (harg3.unread x1)

section
variable (arg2 : Memref sig .tc .vmem S1x256x12288 .bf16) (harg2 : arg2.IsWhole) (arg3 : Memref sig .tc .vmem S3x8x128x256 .f32)
  (harg3 : arg3.IsWhole) (X : Vec Ideal S1x256x12288 .bf16) (B : Vec Ideal S3x8x128x256 .f32)

theorem ldQ_at (q0 qc : ℕ) (h) (z : Fin 1) (p l : Fin 128) : ldQ arg2 harg2 X q0 qc h (ix3 z p l) = atX X (q0 + p.val) (qc + l.val) := by
  unfold ldQ
  rw [View.readAt_eq_ld, harg2.read_unread]
  have h1 := h 1; have h2 := h 2
  simp [Shape.size] at h1 h2
  have g1 : q0 + p.val < 256 := by omega
  have g2 : qc + l.val < 12288 := by omega
  refine congrArg X (funext fun a => Fin.ext ?_)
  fin_cases a
  · exact (ValueKit.rect_emb_unit_val _ _ _ _ _).trans (by simp)
  · exact (ValueKit.rect_emb_unit_val _ _ _ _ _).trans (Nat.mod_eq_of_lt g1).symm
  · exact (ValueKit.rect_emb_unit_val _ _ _ _ _).trans (Nat.mod_eq_of_lt g2).symm

theorem ldK_at (kc : ℕ) (h) (z : Fin 1) (k : Fin 256) (l : Fin 128) : ldK arg2 harg2 X kc h (ix3 z k l) = atX X k.val (kc + l.val) := by
  unfold ldK
  rw [View.readAt_eq_ld, harg2.read_unread]
  have h2 := h 2
  simp [Shape.size] at h2
  have g2 : kc + l.val < 12288 := by omega
  refine congrArg X (funext fun a => Fin.ext ?_)
  fin_cases a
  · exact (ValueKit.rect_emb_unit_val _ _ _ _ _).trans (by simp)
  · exact (ValueKit.rect_emb_unit_val _ _ _ _ _).trans ((Nat.zero_add _).trans (Nat.mod_eq_of_lt k.isLt).symm)
  · exact (ValueKit.rect_emb_unit_val _ _ _ _ _).trans (Nat.mod_eq_of_lt g2).symm

theorem ldB_at (b0 h0 : ℕ) (h) (z w : Fin 1) (p : Fin 128) (k : Fin 256) :
    ldB arg3 harg3 B b0 h0 h (ix4 z w p k) = B (ix4 (Fin.ofNat 3 b0) (Fin.ofNat 8 h0) p k) := by
  unfold ldB
  rw [View.readAt_eq_ld, harg3.read_unread]
  have h1 := h 0; have h2 := h 1
  simp [Shape.size] at h1 h2
  refine congrArg B (funext fun a => Fin.ext ?_)
  fin_cases a
  · exact (ValueKit.rect_emb_unit_val _ _ _ _ _).trans ((by simp : b0 + z.val = b0).trans (Nat.mod_eq_of_lt (by omega)).symm)
  · exact (ValueKit.rect_emb_unit_val _ _ _ _ _).trans ((by simp : h0 + w.val = h0).trans (Nat.mod_eq_of_lt (by omega)).symm)
  · exact (ValueKit.rect_emb_unit_val _ _ _ _ _).trans (Nat.zero_add _)
  · exact (ValueKit.rect_emb_unit_val _ _ _ _ _).trans (Nat.zero_add _)

/-- The places task `(n, r, j)` loads from: half `n` of the queries, subsequence `r`, pair `j` of the heads. -/
structure Place (n r j q0 qc kc vc b0 h0 h1 : ℕ) : Prop where
  hn : n < 2
  hr : r < 8
  hj : j < 4
  hq : q0 = 128 * n
  hqc : qc = 1536 * r + 128 * j
  hkc : kc = 1536 * r + 512 + 128 * j
  hvc : vc = 1536 * r + 1024 + 128 * j
  hb0 : b0 = 2 * n
  hh0 : h0 = 2 * j
  hh1 : h1 = 2 * j + 1

variable {n r j q0 qc kc vc b0 h0 h1 : ℕ} (e : Place n r j q0 qc kc vc b0 h0 h1)
include e

/-- The scores of the pair's first head, of the loads. -/
theorem row_low (hQ hK hB0) (p : Fin 128) :
    sc (fun d => ldQ arg2 harg2 X q0 qc hQ (ix3 0 p ⟨d.val, by omega⟩)) (fun k d => ldK arg2 harg2 X kc hK (ix3 0 k ⟨d.val, by omega⟩))
      (fun k => ldB arg3 harg3 B b0 h0 hB0 (ix4 0 0 p k)) = row X B (q0 + p.val) r (2 * j) := by
  obtain ⟨hn, hr, hj, rfl, rfl, rfl, rfl, rfl, rfl, rfl⟩ := e
  simp only [ldQ_at, ldK_at, ldB_at, row]
  congr 1
  · funext d; congr 1; omega
  · funext k d; congr 1; omega
  · funext k
    have a : (128 * n + p.val) / 128 = n := by omega
    have b : Fin.ofNat 128 (128 * n + p.val) = p := Fin.ext (by show (128 * n + p.val) % 128 = _; omega)
    rw [a, b]

/-- And those of its second. -/
theorem row_high (hQ hK hB1) (p : Fin 128) :
    sc (fun d => ldQ arg2 harg2 X q0 qc hQ (ix3 0 p ⟨64 + d.val, by omega⟩)) (fun k d => ldK arg2 harg2 X kc hK (ix3 0 k ⟨64 + d.val, by omega⟩))
      (fun k => ldB arg3 harg3 B b0 h1 hB1 (ix4 0 0 p k)) = row X B (q0 + p.val) r (2 * j + 1) := by
  obtain ⟨hn, hr, hj, rfl, rfl, rfl, rfl, rfl, rfl, rfl⟩ := e
  simp only [ldQ_at, ldK_at, ldB_at, row]
  congr 1
  · funext d; congr 1; omega
  · funext k d; congr 1; omega
  · funext k
    have a : (128 * n + p.val) / 128 = n := by omega
    have b : Fin.ofNat 128 (128 * n + p.val) = p := Fin.ext (by show (128 * n + p.val) % 128 = _; omega)
    rw [a, b]

/-- Task `(n, r, j)`'s tile, of its loads, is the block's function at the tile's place. -/
theorem tile_eq {oc : ℕ} (ho : oc = 512 * r + 128 * j) (hQ hK hV hB0 hB1)
    (hO : ∀ a, (![0, q0, oc] : Fin 3 → ℕ) a + (![1, 128, 128] : Fin 3 → ℕ) a ≤ S1x256x4096.size a) (x : S1x128x128.Idx) :
    outTile (F := Ideal) (ldQ arg2 harg2 X q0 qc hQ) (ldK arg2 harg2 X kc hK) (ldK arg2 harg2 X vc hV)
      (ldB arg3 harg3 B b0 h0 hB0) (ldB arg3 harg3 B b0 h1 hB1) x
    = OUT X B ((Rect.unit (s := S1x256x4096) ![0, q0, oc] ![1, 128, 128] hO).emb x) := by
  obtain ⟨z, p, l, rfl⟩ := ix3_surj x
  rw [outTile_at, row_low arg2 harg2 arg3 harg3 X B e, row_high arg2 harg2 arg3 harg3 X B e]
  simp only [ldK_at]
  unfold OUT
  have e1 : (((Rect.unit (s := S1x256x4096) ![0, q0, oc] ![1, 128, 128] hO).emb (ix3 z p l)) 1).val = q0 + p.val :=
    ValueKit.rect_emb_unit_val _ _ _ _ _
  have e2 : (((Rect.unit (s := S1x256x4096) ![0, q0, oc] ![1, 128, 128] hO).emb (ix3 z p l)) 2).val = oc + l.val :=
    ValueKit.rect_emb_unit_val _ _ _ _ _
  rw [e1, e2]
  obtain ⟨hn, hr, hj, rfl, rfl, rfl, rfl, rfl, rfl, rfl⟩ := e
  subst ho
  have a1 : (512 * r + 128 * j + l.val) / 512 = r := by omega
  have a2 : (512 * r + 128 * j + l.val) % 512 = 128 * j + l.val := by omega
  rw [a1, a2]
  split_ifs with hl
  · have a3 : (128 * j + l.val) / 64 = 2 * j := by omega
    rw [a3]; congr 1; funext k; congr 1; omega
  · have a3 : (128 * j + l.val) / 64 = 2 * j + 1 := by omega
    rw [a3]; congr 1; funext k; congr 1; omega

/-- One pair's four lanes, of its loads. -/
theorem putPair_ld (a0 b0' a1 b1 : BitVec 32) (hQ hK hV hB0 hB1) (acc : FVec Ideal S128x128 .f32) (p l : Fin 128) :
    putPair (F := Ideal) a0 b0' a1 b1 (ldQ arg2 harg2 X q0 qc hQ) (ldK arg2 harg2 X kc hK) (ldK arg2 harg2 X vc hV)
      (ldB arg3 harg3 B b0 h0 hB0) (ldB arg3 harg3 B b0 h1 hB1) acc (ix2 p l)
    = if BitVec.ofNat 32 l.val = a1 then mx (row X B (q0 + p.val) r (2 * j + 1))
      else if BitVec.ofNat 32 l.val = b1 then den (row X B (q0 + p.val) r (2 * j + 1))
      else if BitVec.ofNat 32 l.val = a0 then mx (row X B (q0 + p.val) r (2 * j))
      else if BitVec.ofNat 32 l.val = b0' then den (row X B (q0 + p.val) r (2 * j)) else acc (ix2 p l) := by
  unfold putPair
  have hl : (fun k => scores (F := Ideal) low (ldQ arg2 harg2 X q0 qc hQ) (ldK arg2 harg2 X kc hK) (ldB arg3 harg3 B b0 h0 hB0) (ix2 p k))
      = row X B (q0 + p.val) r (2 * j) := (funext fun k => scores_low_at _ _ _ p k).trans (row_low arg2 harg2 arg3 harg3 X B e hQ hK hB0 p)
  have hh : (fun k => scores (F := Ideal) high (ldQ arg2 harg2 X q0 qc hQ) (ldK arg2 harg2 X kc hK) (ldB arg3 harg3 B b0 h1 hB1) (ix2 p k))
      = row X B (q0 + p.val) r (2 * j + 1) := (funext fun k => scores_high_at _ _ _ p k).trans (row_high arg2 harg2 arg3 harg3 X B e hQ hK hB1 p)
  rw [putStats_at, putStats_at, hl, hh]

end

theorem lane_eq (l : Fin 128) (a : ℕ) (ha : a < 128) : (BitVec.ofNat 32 l.val = BitVec.ofNat 32 a) = (l.val = a) := by
  refine propext ⟨fun h => ?_, fun h => by rw [h]⟩
  have := congrArg BitVec.toNat h
  rw [BitVec.toNat_ofNat, BitVec.toNat_ofNat] at this
  have := l.isLt
  omega

/-- Eight heads' lanes, laid out one by one, are the block's function of the lane. -/
theorem ladder (m d : ℕ → EReal) (l : Fin 128) :
    (if BitVec.ofNat 32 l.val = 7#32 then m 7 else if BitVec.ofNat 32 l.val = 15#32 then d 7
      else if BitVec.ofNat 32 l.val = 6#32 then m 6 else if BitVec.ofNat 32 l.val = 14#32 then d 6
      else if BitVec.ofNat 32 l.val = 5#32 then m 5 else if BitVec.ofNat 32 l.val = 13#32 then d 5
      else if BitVec.ofNat 32 l.val = 4#32 then m 4 else if BitVec.ofNat 32 l.val = 12#32 then d 4
      else if BitVec.ofNat 32 l.val = 3#32 then m 3 else if BitVec.ofNat 32 l.val = 11#32 then d 3
      else if BitVec.ofNat 32 l.val = 2#32 then m 2 else if BitVec.ofNat 32 l.val = 10#32 then d 2
      else if BitVec.ofNat 32 l.val = 1#32 then m 1 else if BitVec.ofNat 32 l.val = 9#32 then d 1
      else if BitVec.ofNat 32 l.val = 0#32 then m 0 else if BitVec.ofNat 32 l.val = 8#32 then d 0 else (0 : EReal))
    = if l.val < 8 then m l.val else if l.val < 16 then d (l.val - 8) else 0 := by
  simp only [lane_eq l _ (by decide : 0 < 128), lane_eq l _ (by decide : 1 < 128), lane_eq l _ (by decide : 2 < 128), lane_eq l _ (by decide : 3 < 128),
    lane_eq l _ (by decide : 4 < 128), lane_eq l _ (by decide : 5 < 128), lane_eq l _ (by decide : 6 < 128), lane_eq l _ (by decide : 7 < 128),
    lane_eq l _ (by decide : 8 < 128), lane_eq l _ (by decide : 9 < 128), lane_eq l _ (by decide : 10 < 128), lane_eq l _ (by decide : 11 < 128),
    lane_eq l _ (by decide : 12 < 128), lane_eq l _ (by decide : 13 < 128), lane_eq l _ (by decide : 14 < 128), lane_eq l _ (by decide : 15 < 128)]
  generalize l.val = i
  by_cases h : i < 16
  · interval_cases i <;> simp
  · simp only [if_neg h, if_neg (show ¬ i < 8 by omega)]
    repeat rw [if_neg (by omega)]

/-- A subsequence's statistics for one half of its queries, of the four pairs' loads, are the block's function there. -/
theorem stat_eq (arg2 : Memref sig .tc .vmem S1x256x12288 .bf16) (harg2 : arg2.IsWhole) (arg3 : Memref sig .tc .vmem S3x8x128x256 .f32)
    (harg3 : arg3.IsWhole) (X : Vec Ideal S1x256x12288 .bf16) (B : Vec Ideal S3x8x128x256 .f32)
    {n r q0 b0 qc0 kc0 vc0 h00 h10 qc1 kc1 vc1 h01 h11 qc2 kc2 vc2 h02 h12 qc3 kc3 vc3 h03 h13 oc : ℕ}
    (e0 : Place n r 0 q0 qc0 kc0 vc0 b0 h00 h10) (e1 : Place n r 1 q0 qc1 kc1 vc1 b0 h01 h11) (e2 : Place n r 2 q0 qc2 kc2 vc2 b0 h02 h12) (e3 : Place n r 3 q0 qc3 kc3 vc3 b0 h03 h13)
    (ho : oc = 128 * r) (hQ0 hK0 hV0 hB00 hB10 hQ1 hK1 hV1 hB01 hB11 hQ2 hK2 hV2 hB02 hB12 hQ3 hK3 hV3 hB03 hB13)
    (hO : ∀ a, (![0, q0, oc] : Fin 3 → ℕ) a + (![1, 128, 128] : Fin 3 → ℕ) a ≤ S1x256x1024.size a) (x : S1x128x128.Idx) :
    shapeCast S1x128x128
      (putPair (F := Ideal) 6#32 14#32 7#32 15#32 (ldQ arg2 harg2 X q0 qc3 hQ3) (ldK arg2 harg2 X kc3 hK3) (ldK arg2 harg2 X vc3 hV3)
        (ldB arg3 harg3 B b0 h03 hB03) (ldB arg3 harg3 B b0 h13 hB13)
        (putPair (F := Ideal) 4#32 12#32 5#32 13#32 (ldQ arg2 harg2 X q0 qc2 hQ2) (ldK arg2 harg2 X kc2 hK2) (ldK arg2 harg2 X vc2 hV2)
        (ldB arg3 harg3 B b0 h02 hB02) (ldB arg3 harg3 B b0 h12 hB12)
        (putPair (F := Ideal) 2#32 10#32 3#32 11#32 (ldQ arg2 harg2 X q0 qc1 hQ1) (ldK arg2 harg2 X kc1 hK1) (ldK arg2 harg2 X vc1 hV1)
        (ldB arg3 harg3 B b0 h01 hB01) (ldB arg3 harg3 B b0 h11 hB11)
        (putPair (F := Ideal) 0#32 8#32 1#32 9#32 (ldQ arg2 harg2 X q0 qc0 hQ0) (ldK arg2 harg2 X kc0 hK0) (ldK arg2 harg2 X vc0 hV0)
        (ldB arg3 harg3 B b0 h00 hB00) (ldB arg3 harg3 B b0 h10 hB10)
        (broadcast S128x128 (Scalar.ofBits (F := Ideal) .f32 0x00000000#32))))))
      shapeCasts_S128x128_S1x128x128 x
    = STAT X B ((Rect.unit (s := S1x256x1024) ![0, q0, oc] ![1, 128, 128] hO).emb x) := by
  obtain ⟨z, p, l, rfl⟩ := ix3_surj x
  pointwise []
  rw [putPair_ld arg2 harg2 arg3 harg3 X B e3, putPair_ld arg2 harg2 arg3 harg3 X B e2, putPair_ld arg2 harg2 arg3 harg3 X B e1,
    putPair_ld arg2 harg2 arg3 harg3 X B e0]
  pointwise []
  unfold STAT
  have a1 : (((Rect.unit (s := S1x256x1024) ![0, q0, oc] ![1, 128, 128] hO).emb (ix3 z p l)) 1).val = q0 + p.val :=
    ValueKit.rect_emb_unit_val _ _ _ _ _
  have a2 : (((Rect.unit (s := S1x256x1024) ![0, q0, oc] ![1, 128, 128] hO).emb (ix3 z p l)) 2).val = oc + l.val :=
    ValueKit.rect_emb_unit_val _ _ _ _ _
  rw [a1, a2]
  have a3 : (oc + l.val) / 128 = r := by omega
  have a4 : (oc + l.val) % 128 = l.val := by omega
  rw [a3, a4]
  exact ladder (fun h => mx (row X B (q0 + p.val) r h)) (fun h => den (row X B (q0 + p.val) r h)) l

end Cert.KernelIdeal.Dil

end
-- ==== Proof.Dil.Pieces.lean ====
/- The pieces the body leaves in its output blocks, each one task's tile. -/
module

public import proofs.«01_k».proof.Proof.Dil.Block
public import proofs.«01_k».proof.Proof.Gen.KernelIdeal.Value

@[expose] public section

set_option maxRecDepth 65536

noncomputable section

namespace Cert.KernelIdeal.Dil

open Cert.KernelIdeal Cert.KernelIdeal.Gen Idealize.ShloMosaic Idealize.ShloMosaic.TcCoe Idealize.SL.Sem

/-- A list of pieces that all restrict one function, its first piece checked apart. -/
theorem pieces_cons {S : Shape} {e : EltTy} (G : S.Idx → Elt Ideal e) (p : View.Piece (Elt Ideal) S e) (L : List (View.Piece (Elt Ideal) S e))
    (h : ∀ x : p.1.shape.Idx, p.2 x = G (p.1.emb x)) (hL : ∀ p ∈ L, ∀ x : p.1.shape.Idx, p.2 x = G (p.1.emb x)) :
    ∀ q ∈ p :: L, ∀ x : q.1.shape.Idx, q.2 x = G (q.1.emb x) :=
  List.forall_mem_cons.2 ⟨h, hL⟩

set_option maxHeartbeats 8000000 in
theorem out2 (c : Dev nD) (i : grid0.Coords) (arg2 : Memref sig .tc .vmem S1x256x12288 .bf16) (harg2 : arg2.IsWhole) (arg3 : Memref sig .tc .vmem S3x8x128x256 .f32) (harg3 : arg3.IsWhole) (arg4 : Memref sig .tc .vmem S1x256x4096 .bf16) (harg4 : arg4.IsWhole) (arg5 : Memref sig .tc .vmem S1x256x1024 .f32) (harg5 : arg5.IsWhole)
    (x0 : Vec Ideal S1x256x12288 .bf16) (x1 : Vec Ideal S3x8x128x256 .f32) :
    out0_A_2 c i arg2 harg2 arg3 harg3 arg4 harg4 arg5 harg5 x0 x1 = OUT x0 x1 := by
  funext y
  unfold out0_A_2
  rw [View.read_writes_junk_eq_canon]
  refine View.canon_apply_of_pieces (OUT x0 x1) _ ?_ y (cover0_A_2 c i arg2 harg2 arg3 harg3 arg4 harg4 arg5 harg5 x0 x1 y)
  unfold kernelRun0_A
  dsimp only
  refine pieces_cons _ _ _ (tile_eq arg2 harg2 arg3 harg3 x0 x1 (⟨by decide, by decide, by decide, rfl, rfl, rfl, rfl, rfl, rfl, rfl⟩ : Place 1 7 3 128 11136 11648 12160 2 6 7) (oc := 3968) rfl _ _ _ _ _ (by decide)) ?_
  refine pieces_cons _ _ _ (tile_eq arg2 harg2 arg3 harg3 x0 x1 (⟨by decide, by decide, by decide, rfl, rfl, rfl, rfl, rfl, rfl, rfl⟩ : Place 1 7 2 128 11008 11520 12032 2 4 5) (oc := 3840) rfl _ _ _ _ _ (by decide)) ?_
  refine pieces_cons _ _ _ (tile_eq arg2 harg2 arg3 harg3 x0 x1 (⟨by decide, by decide, by decide, rfl, rfl, rfl, rfl, rfl, rfl, rfl⟩ : Place 1 7 1 128 10880 11392 11904 2 2 3) (oc := 3712) rfl _ _ _ _ _ (by decide)) ?_
  refine pieces_cons _ _ _ (tile_eq arg2 harg2 arg3 harg3 x0 x1 (⟨by decide, by decide, by decide, rfl, rfl, rfl, rfl, rfl, rfl, rfl⟩ : Place 1 7 0 128 10752 11264 11776 2 0 1) (oc := 3584) rfl _ _ _ _ _ (by decide)) ?_
  refine pieces_cons _ _ _ (tile_eq arg2 harg2 arg3 harg3 x0 x1 (⟨by decide, by decide, by decide, rfl, rfl, rfl, rfl, rfl, rfl, rfl⟩ : Place 1 6 3 128 9600 10112 10624 2 6 7) (oc := 3456) rfl _ _ _ _ _ (by decide)) ?_
  refine pieces_cons _ _ _ (tile_eq arg2 harg2 arg3 harg3 x0 x1 (⟨by decide, by decide, by decide, rfl, rfl, rfl, rfl, rfl, rfl, rfl⟩ : Place 1 6 2 128 9472 9984 10496 2 4 5) (oc := 3328) rfl _ _ _ _ _ (by decide)) ?_
  refine pieces_cons _ _ _ (tile_eq arg2 harg2 arg3 harg3 x0 x1 (⟨by decide, by decide, by decide, rfl, rfl, rfl, rfl, rfl, rfl, rfl⟩ : Place 1 6 1 128 9344 9856 10368 2 2 3) (oc := 3200) rfl _ _ _ _ _ (by decide)) ?_
  refine pieces_cons _ _ _ (tile_eq arg2 harg2 arg3 harg3 x0 x1 (⟨by decide, by decide, by decide, rfl, rfl, rfl, rfl, rfl, rfl, rfl⟩ : Place 1 6 0 128 9216 9728 10240 2 0 1) (oc := 3072) rfl _ _ _ _ _ (by decide)) ?_
  refine pieces_cons _ _ _ (tile_eq arg2 harg2 arg3 harg3 x0 x1 (⟨by decide, by decide, by decide, rfl, rfl, rfl, rfl, rfl, rfl, rfl⟩ : Place 1 5 3 128 8064 8576 9088 2 6 7) (oc := 2944) rfl _ _ _ _ _ (by decide)) ?_
  refine pieces_cons _ _ _ (tile_eq arg2 harg2 arg3 harg3 x0 x1 (⟨by decide, by decide, by decide, rfl, rfl, rfl, rfl, rfl, rfl, rfl⟩ : Place 1 5 2 128 7936 8448 8960 2 4 5) (oc := 2816) rfl _ _ _ _ _ (by decide)) ?_
  refine pieces_cons _ _ _ (tile_eq arg2 harg2 arg3 harg3 x0 x1 (⟨by decide, by decide, by decide, rfl, rfl, rfl, rfl, rfl, rfl, rfl⟩ : Place 1 5 1 128 7808 8320 8832 2 2 3) (oc := 2688) rfl _ _ _ _ _ (by decide)) ?_
  refine pieces_cons _ _ _ (tile_eq arg2 harg2 arg3 harg3 x0 x1 (⟨by decide, by decide, by decide, rfl, rfl, rfl, rfl, rfl, rfl, rfl⟩ : Place 1 5 0 128 7680 8192 8704 2 0 1) (oc := 2560) rfl _ _ _ _ _ (by decide)) ?_
  refine pieces_cons _ _ _ (tile_eq arg2 harg2 arg3 harg3 x0 x1 (⟨by decide, by decide, by decide, rfl, rfl, rfl, rfl, rfl, rfl, rfl⟩ : Place 1 4 3 128 6528 7040 7552 2 6 7) (oc := 2432) rfl _ _ _ _ _ (by decide)) ?_
  refine pieces_cons _ _ _ (tile_eq arg2 harg2 arg3 harg3 x0 x1 (⟨by decide, by decide, by decide, rfl, rfl, rfl, rfl, rfl, rfl, rfl⟩ : Place 1 4 2 128 6400 6912 7424 2 4 5) (oc := 2304) rfl _ _ _ _ _ (by decide)) ?_
  refine pieces_cons _ _ _ (tile_eq arg2 harg2 arg3 harg3 x0 x1 (⟨by decide, by decide, by decide, rfl, rfl, rfl, rfl, rfl, rfl, rfl⟩ : Place 1 4 1 128 6272 6784 7296 2 2 3) (oc := 2176) rfl _ _ _ _ _ (by decide)) ?_
  refine pieces_cons _ _ _ (tile_eq arg2 harg2 arg3 harg3 x0 x1 (⟨by decide, by decide, by decide, rfl, rfl, rfl, rfl, rfl, rfl, rfl⟩ : Place 1 4 0 128 6144 6656 7168 2 0 1) (oc := 2048) rfl _ _ _ _ _ (by decide)) ?_
  refine pieces_cons _ _ _ (tile_eq arg2 harg2 arg3 harg3 x0 x1 (⟨by decide, by decide, by decide, rfl, rfl, rfl, rfl, rfl, rfl, rfl⟩ : Place 1 3 3 128 4992 5504 6016 2 6 7) (oc := 1920) rfl _ _ _ _ _ (by decide)) ?_
  refine pieces_cons _ _ _ (tile_eq arg2 harg2 arg3 harg3 x0 x1 (⟨by decide, by decide, by decide, rfl, rfl, rfl, rfl, rfl, rfl, rfl⟩ : Place 1 3 2 128 4864 5376 5888 2 4 5) (oc := 1792) rfl _ _ _ _ _ (by decide)) ?_
  refine pieces_cons _ _ _ (tile_eq arg2 harg2 arg3 harg3 x0 x1 (⟨by decide, by decide, by decide, rfl, rfl, rfl, rfl, rfl, rfl, rfl⟩ : Place 1 3 1 128 4736 5248 5760 2 2 3) (oc := 1664) rfl _ _ _ _ _ (by decide)) ?_
  refine pieces_cons _ _ _ (tile_eq arg2 harg2 arg3 harg3 x0 x1 (⟨by decide, by decide, by decide, rfl, rfl, rfl, rfl, rfl, rfl, rfl⟩ : Place 1 3 0 128 4608 5120 5632 2 0 1) (oc := 1536) rfl _ _ _ _ _ (by decide)) ?_
  refine pieces_cons _ _ _ (tile_eq arg2 harg2 arg3 harg3 x0 x1 (⟨by decide, by decide, by decide, rfl, rfl, rfl, rfl, rfl, rfl, rfl⟩ : Place 1 2 3 128 3456 3968 4480 2 6 7) (oc := 1408) rfl _ _ _ _ _ (by decide)) ?_
  refine pieces_cons _ _ _ (tile_eq arg2 harg2 arg3 harg3 x0 x1 (⟨by decide, by decide, by decide, rfl, rfl, rfl, rfl, rfl, rfl, rfl⟩ : Place 1 2 2 128 3328 3840 4352 2 4 5) (oc := 1280) rfl _ _ _ _ _ (by decide)) ?_
  refine pieces_cons _ _ _ (tile_eq arg2 harg2 arg3 harg3 x0 x1 (⟨by decide, by decide, by decide, rfl, rfl, rfl, rfl, rfl, rfl, rfl⟩ : Place 1 2 1 128 3200 3712 4224 2 2 3) (oc := 1152) rfl _ _ _ _ _ (by decide)) ?_
  refine pieces_cons _ _ _ (tile_eq arg2 harg2 arg3 harg3 x0 x1 (⟨by decide, by decide, by decide, rfl, rfl, rfl, rfl, rfl, rfl, rfl⟩ : Place 1 2 0 128 3072 3584 4096 2 0 1) (oc := 1024) rfl _ _ _ _ _ (by decide)) ?_
  refine pieces_cons _ _ _ (tile_eq arg2 harg2 arg3 harg3 x0 x1 (⟨by decide, by decide, by decide, rfl, rfl, rfl, rfl, rfl, rfl, rfl⟩ : Place 1 1 3 128 1920 2432 2944 2 6 7) (oc := 896) rfl _ _ _ _ _ (by decide)) ?_
  refine pieces_cons _ _ _ (tile_eq arg2 harg2 arg3 harg3 x0 x1 (⟨by decide, by decide, by decide, rfl, rfl, rfl, rfl, rfl, rfl, rfl⟩ : Place 1 1 2 128 1792 2304 2816 2 4 5) (oc := 768) rfl _ _ _ _ _ (by decide)) ?_
  refine pieces_cons _ _ _ (tile_eq arg2 harg2 arg3 harg3 x0 x1 (⟨by decide, by decide, by decide, rfl, rfl, rfl, rfl, rfl, rfl, rfl⟩ : Place 1 1 1 128 1664 2176 2688 2 2 3) (oc := 640) rfl _ _ _ _ _ (by decide)) ?_
  refine pieces_cons _ _ _ (tile_eq arg2 harg2 arg3 harg3 x0 x1 (⟨by decide, by decide, by decide, rfl, rfl, rfl, rfl, rfl, rfl, rfl⟩ : Place 1 1 0 128 1536 2048 2560 2 0 1) (oc := 512) rfl _ _ _ _ _ (by decide)) ?_
  refine pieces_cons _ _ _ (tile_eq arg2 harg2 arg3 harg3 x0 x1 (⟨by decide, by decide, by decide, rfl, rfl, rfl, rfl, rfl, rfl, rfl⟩ : Place 1 0 3 128 384 896 1408 2 6 7) (oc := 384) rfl _ _ _ _ _ (by decide)) ?_
  refine pieces_cons _ _ _ (tile_eq arg2 harg2 arg3 harg3 x0 x1 (⟨by decide, by decide, by decide, rfl, rfl, rfl, rfl, rfl, rfl, rfl⟩ : Place 1 0 2 128 256 768 1280 2 4 5) (oc := 256) rfl _ _ _ _ _ (by decide)) ?_
  refine pieces_cons _ _ _ (tile_eq arg2 harg2 arg3 harg3 x0 x1 (⟨by decide, by decide, by decide, rfl, rfl, rfl, rfl, rfl, rfl, rfl⟩ : Place 1 0 1 128 128 640 1152 2 2 3) (oc := 128) rfl _ _ _ _ _ (by decide)) ?_
  refine pieces_cons _ _ _ (tile_eq arg2 harg2 arg3 harg3 x0 x1 (⟨by decide, by decide, by decide, rfl, rfl, rfl, rfl, rfl, rfl, rfl⟩ : Place 1 0 0 128 0 512 1024 2 0 1) (oc := 0) rfl _ _ _ _ _ (by decide)) ?_
  refine pieces_cons _ _ _ (tile_eq arg2 harg2 arg3 harg3 x0 x1 (⟨by decide, by decide, by decide, rfl, rfl, rfl, rfl, rfl, rfl, rfl⟩ : Place 0 7 3 0 11136 11648 12160 0 6 7) (oc := 3968) rfl _ _ _ _ _ (by decide)) ?_
  refine pieces_cons _ _ _ (tile_eq arg2 harg2 arg3 harg3 x0 x1 (⟨by decide, by decide, by decide, rfl, rfl, rfl, rfl, rfl, rfl, rfl⟩ : Place 0 7 2 0 11008 11520 12032 0 4 5) (oc := 3840) rfl _ _ _ _ _ (by decide)) ?_
  refine pieces_cons _ _ _ (tile_eq arg2 harg2 arg3 harg3 x0 x1 (⟨by decide, by decide, by decide, rfl, rfl, rfl, rfl, rfl, rfl, rfl⟩ : Place 0 7 1 0 10880 11392 11904 0 2 3) (oc := 3712) rfl _ _ _ _ _ (by decide)) ?_
  refine pieces_cons _ _ _ (tile_eq arg2 harg2 arg3 harg3 x0 x1 (⟨by decide, by decide, by decide, rfl, rfl, rfl, rfl, rfl, rfl, rfl⟩ : Place 0 7 0 0 10752 11264 11776 0 0 1) (oc := 3584) rfl _ _ _ _ _ (by decide)) ?_
  refine pieces_cons _ _ _ (tile_eq arg2 harg2 arg3 harg3 x0 x1 (⟨by decide, by decide, by decide, rfl, rfl, rfl, rfl, rfl, rfl, rfl⟩ : Place 0 6 3 0 9600 10112 10624 0 6 7) (oc := 3456) rfl _ _ _ _ _ (by decide)) ?_
  refine pieces_cons _ _ _ (tile_eq arg2 harg2 arg3 harg3 x0 x1 (⟨by decide, by decide, by decide, rfl, rfl, rfl, rfl, rfl, rfl, rfl⟩ : Place 0 6 2 0 9472 9984 10496 0 4 5) (oc := 3328) rfl _ _ _ _ _ (by decide)) ?_
  refine pieces_cons _ _ _ (tile_eq arg2 harg2 arg3 harg3 x0 x1 (⟨by decide, by decide, by decide, rfl, rfl, rfl, rfl, rfl, rfl, rfl⟩ : Place 0 6 1 0 9344 9856 10368 0 2 3) (oc := 3200) rfl _ _ _ _ _ (by decide)) ?_
  refine pieces_cons _ _ _ (tile_eq arg2 harg2 arg3 harg3 x0 x1 (⟨by decide, by decide, by decide, rfl, rfl, rfl, rfl, rfl, rfl, rfl⟩ : Place 0 6 0 0 9216 9728 10240 0 0 1) (oc := 3072) rfl _ _ _ _ _ (by decide)) ?_
  refine pieces_cons _ _ _ (tile_eq arg2 harg2 arg3 harg3 x0 x1 (⟨by decide, by decide, by decide, rfl, rfl, rfl, rfl, rfl, rfl, rfl⟩ : Place 0 5 3 0 8064 8576 9088 0 6 7) (oc := 2944) rfl _ _ _ _ _ (by decide)) ?_
  refine pieces_cons _ _ _ (tile_eq arg2 harg2 arg3 harg3 x0 x1 (⟨by decide, by decide, by decide, rfl, rfl, rfl, rfl, rfl, rfl, rfl⟩ : Place 0 5 2 0 7936 8448 8960 0 4 5) (oc := 2816) rfl _ _ _ _ _ (by decide)) ?_
  refine pieces_cons _ _ _ (tile_eq arg2 harg2 arg3 harg3 x0 x1 (⟨by decide, by decide, by decide, rfl, rfl, rfl, rfl, rfl, rfl, rfl⟩ : Place 0 5 1 0 7808 8320 8832 0 2 3) (oc := 2688) rfl _ _ _ _ _ (by decide)) ?_
  refine pieces_cons _ _ _ (tile_eq arg2 harg2 arg3 harg3 x0 x1 (⟨by decide, by decide, by decide, rfl, rfl, rfl, rfl, rfl, rfl, rfl⟩ : Place 0 5 0 0 7680 8192 8704 0 0 1) (oc := 2560) rfl _ _ _ _ _ (by decide)) ?_
  refine pieces_cons _ _ _ (tile_eq arg2 harg2 arg3 harg3 x0 x1 (⟨by decide, by decide, by decide, rfl, rfl, rfl, rfl, rfl, rfl, rfl⟩ : Place 0 4 3 0 6528 7040 7552 0 6 7) (oc := 2432) rfl _ _ _ _ _ (by decide)) ?_
  refine pieces_cons _ _ _ (tile_eq arg2 harg2 arg3 harg3 x0 x1 (⟨by decide, by decide, by decide, rfl, rfl, rfl, rfl, rfl, rfl, rfl⟩ : Place 0 4 2 0 6400 6912 7424 0 4 5) (oc := 2304) rfl _ _ _ _ _ (by decide)) ?_
  refine pieces_cons _ _ _ (tile_eq arg2 harg2 arg3 harg3 x0 x1 (⟨by decide, by decide, by decide, rfl, rfl, rfl, rfl, rfl, rfl, rfl⟩ : Place 0 4 1 0 6272 6784 7296 0 2 3) (oc := 2176) rfl _ _ _ _ _ (by decide)) ?_
  refine pieces_cons _ _ _ (tile_eq arg2 harg2 arg3 harg3 x0 x1 (⟨by decide, by decide, by decide, rfl, rfl, rfl, rfl, rfl, rfl, rfl⟩ : Place 0 4 0 0 6144 6656 7168 0 0 1) (oc := 2048) rfl _ _ _ _ _ (by decide)) ?_
  refine pieces_cons _ _ _ (tile_eq arg2 harg2 arg3 harg3 x0 x1 (⟨by decide, by decide, by decide, rfl, rfl, rfl, rfl, rfl, rfl, rfl⟩ : Place 0 3 3 0 4992 5504 6016 0 6 7) (oc := 1920) rfl _ _ _ _ _ (by decide)) ?_
  refine pieces_cons _ _ _ (tile_eq arg2 harg2 arg3 harg3 x0 x1 (⟨by decide, by decide, by decide, rfl, rfl, rfl, rfl, rfl, rfl, rfl⟩ : Place 0 3 2 0 4864 5376 5888 0 4 5) (oc := 1792) rfl _ _ _ _ _ (by decide)) ?_
  refine pieces_cons _ _ _ (tile_eq arg2 harg2 arg3 harg3 x0 x1 (⟨by decide, by decide, by decide, rfl, rfl, rfl, rfl, rfl, rfl, rfl⟩ : Place 0 3 1 0 4736 5248 5760 0 2 3) (oc := 1664) rfl _ _ _ _ _ (by decide)) ?_
  refine pieces_cons _ _ _ (tile_eq arg2 harg2 arg3 harg3 x0 x1 (⟨by decide, by decide, by decide, rfl, rfl, rfl, rfl, rfl, rfl, rfl⟩ : Place 0 3 0 0 4608 5120 5632 0 0 1) (oc := 1536) rfl _ _ _ _ _ (by decide)) ?_
  refine pieces_cons _ _ _ (tile_eq arg2 harg2 arg3 harg3 x0 x1 (⟨by decide, by decide, by decide, rfl, rfl, rfl, rfl, rfl, rfl, rfl⟩ : Place 0 2 3 0 3456 3968 4480 0 6 7) (oc := 1408) rfl _ _ _ _ _ (by decide)) ?_
  refine pieces_cons _ _ _ (tile_eq arg2 harg2 arg3 harg3 x0 x1 (⟨by decide, by decide, by decide, rfl, rfl, rfl, rfl, rfl, rfl, rfl⟩ : Place 0 2 2 0 3328 3840 4352 0 4 5) (oc := 1280) rfl _ _ _ _ _ (by decide)) ?_
  refine pieces_cons _ _ _ (tile_eq arg2 harg2 arg3 harg3 x0 x1 (⟨by decide, by decide, by decide, rfl, rfl, rfl, rfl, rfl, rfl, rfl⟩ : Place 0 2 1 0 3200 3712 4224 0 2 3) (oc := 1152) rfl _ _ _ _ _ (by decide)) ?_
  refine pieces_cons _ _ _ (tile_eq arg2 harg2 arg3 harg3 x0 x1 (⟨by decide, by decide, by decide, rfl, rfl, rfl, rfl, rfl, rfl, rfl⟩ : Place 0 2 0 0 3072 3584 4096 0 0 1) (oc := 1024) rfl _ _ _ _ _ (by decide)) ?_
  refine pieces_cons _ _ _ (tile_eq arg2 harg2 arg3 harg3 x0 x1 (⟨by decide, by decide, by decide, rfl, rfl, rfl, rfl, rfl, rfl, rfl⟩ : Place 0 1 3 0 1920 2432 2944 0 6 7) (oc := 896) rfl _ _ _ _ _ (by decide)) ?_
  refine pieces_cons _ _ _ (tile_eq arg2 harg2 arg3 harg3 x0 x1 (⟨by decide, by decide, by decide, rfl, rfl, rfl, rfl, rfl, rfl, rfl⟩ : Place 0 1 2 0 1792 2304 2816 0 4 5) (oc := 768) rfl _ _ _ _ _ (by decide)) ?_
  refine pieces_cons _ _ _ (tile_eq arg2 harg2 arg3 harg3 x0 x1 (⟨by decide, by decide, by decide, rfl, rfl, rfl, rfl, rfl, rfl, rfl⟩ : Place 0 1 1 0 1664 2176 2688 0 2 3) (oc := 640) rfl _ _ _ _ _ (by decide)) ?_
  refine pieces_cons _ _ _ (tile_eq arg2 harg2 arg3 harg3 x0 x1 (⟨by decide, by decide, by decide, rfl, rfl, rfl, rfl, rfl, rfl, rfl⟩ : Place 0 1 0 0 1536 2048 2560 0 0 1) (oc := 512) rfl _ _ _ _ _ (by decide)) ?_
  refine pieces_cons _ _ _ (tile_eq arg2 harg2 arg3 harg3 x0 x1 (⟨by decide, by decide, by decide, rfl, rfl, rfl, rfl, rfl, rfl, rfl⟩ : Place 0 0 3 0 384 896 1408 0 6 7) (oc := 384) rfl _ _ _ _ _ (by decide)) ?_
  refine pieces_cons _ _ _ (tile_eq arg2 harg2 arg3 harg3 x0 x1 (⟨by decide, by decide, by decide, rfl, rfl, rfl, rfl, rfl, rfl, rfl⟩ : Place 0 0 2 0 256 768 1280 0 4 5) (oc := 256) rfl _ _ _ _ _ (by decide)) ?_
  refine pieces_cons _ _ _ (tile_eq arg2 harg2 arg3 harg3 x0 x1 (⟨by decide, by decide, by decide, rfl, rfl, rfl, rfl, rfl, rfl, rfl⟩ : Place 0 0 1 0 128 640 1152 0 2 3) (oc := 128) rfl _ _ _ _ _ (by decide)) ?_
  refine pieces_cons _ _ _ (tile_eq arg2 harg2 arg3 harg3 x0 x1 (⟨by decide, by decide, by decide, rfl, rfl, rfl, rfl, rfl, rfl, rfl⟩ : Place 0 0 0 0 0 512 1024 0 0 1) (oc := 0) rfl _ _ _ _ _ (by decide)) ?_
  exact fun _ h => absurd h List.not_mem_nil

set_option maxHeartbeats 8000000 in
theorem out3 (c : Dev nD) (i : grid0.Coords) (arg2 : Memref sig .tc .vmem S1x256x12288 .bf16) (harg2 : arg2.IsWhole) (arg3 : Memref sig .tc .vmem S3x8x128x256 .f32) (harg3 : arg3.IsWhole) (arg4 : Memref sig .tc .vmem S1x256x4096 .bf16) (harg4 : arg4.IsWhole) (arg5 : Memref sig .tc .vmem S1x256x1024 .f32) (harg5 : arg5.IsWhole)
    (x0 : Vec Ideal S1x256x12288 .bf16) (x1 : Vec Ideal S3x8x128x256 .f32) :
    out0_A_3 c i arg2 harg2 arg3 harg3 arg4 harg4 arg5 harg5 x0 x1 = STAT x0 x1 := by
  funext y
  unfold out0_A_3
  rw [View.read_writes_junk_eq_canon]
  refine View.canon_apply_of_pieces (STAT x0 x1) _ ?_ y (cover0_A_3 c i arg2 harg2 arg3 harg3 arg4 harg4 arg5 harg5 x0 x1 y)
  unfold kernelRun0_A
  dsimp only
  refine pieces_cons _ _ _ (stat_eq arg2 harg2 arg3 harg3 x0 x1 (⟨by decide, by decide, by decide, rfl, rfl, rfl, rfl, rfl, rfl, rfl⟩ : Place 1 7 0 128 10752 11264 11776 2 0 1) (⟨by decide, by decide, by decide, rfl, rfl, rfl, rfl, rfl, rfl, rfl⟩ : Place 1 7 1 128 10880 11392 11904 2 2 3) (⟨by decide, by decide, by decide, rfl, rfl, rfl, rfl, rfl, rfl, rfl⟩ : Place 1 7 2 128 11008 11520 12032 2 4 5) (⟨by decide, by decide, by decide, rfl, rfl, rfl, rfl, rfl, rfl, rfl⟩ : Place 1 7 3 128 11136 11648 12160 2 6 7) (oc := 896) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 6 0 128 9216 9728 10240 2 0 1) (⟨by decide, by decide, by decide, rfl, rfl, rfl, rfl, rfl, rfl, rfl⟩ : Place 1 6 1 128 9344 9856 10368 2 2 3) (⟨by decide, by decide, by decide, rfl, rfl, rfl, rfl, rfl, rfl, rfl⟩ : Place 1 6 2 128 9472 9984 10496 2 4 5) (⟨by decide, by decide, by decide, rfl, rfl, rfl, rfl, rfl, rfl, rfl⟩ : Place 1 6 3 128 9600 10112 10624 2 6 7) (oc := 768) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 5 0 128 7680 8192 8704 2 0 1) (⟨by decide, by decide, by decide, rfl, rfl, rfl, rfl, rfl, rfl, rfl⟩ : Place 1 5 1 128 7808 8320 8832 2 2 3) (⟨by decide, by decide, by decide, rfl, rfl, rfl, rfl, rfl, rfl, rfl⟩ : Place 1 5 2 128 7936 8448 8960 2 4 5) (⟨by decide, by decide, by decide, rfl, rfl, rfl, rfl, rfl, rfl, rfl⟩ : Place 1 5 3 128 8064 8576 9088 2 6 7) (oc := 640) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 4 0 128 6144 6656 7168 2 0 1) (⟨by decide, by decide, by decide, rfl, rfl, rfl, rfl, rfl, rfl, rfl⟩ : Place 1 4 1 128 6272 6784 7296 2 2 3) (⟨by decide, by decide, by decide, rfl, rfl, rfl, rfl, rfl, rfl, rfl⟩ : Place 1 4 2 128 6400 6912 7424 2 4 5) (⟨by decide, by decide, by decide, rfl, rfl, rfl, rfl, rfl, rfl, rfl⟩ : Place 1 4 3 128 6528 7040 7552 2 6 7) (oc := 512) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 3 0 128 4608 5120 5632 2 0 1) (⟨by decide, by decide, by decide, rfl, rfl, rfl, rfl, rfl, rfl, rfl⟩ : Place 1 3 1 128 4736 5248 5760 2 2 3) (⟨by decide, by decide, by decide, rfl, rfl, rfl, rfl, rfl, rfl, rfl⟩ : Place 1 3 2 128 4864 5376 5888 2 4 5) (⟨by decide, by decide, by decide, rfl, rfl, rfl, rfl, rfl, rfl, rfl⟩ : Place 1 3 3 128 4992 5504 6016 2 6 7) (oc := 384) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 2 0 128 3072 3584 4096 2 0 1) (⟨by decide, by decide, by decide, rfl, rfl, rfl, rfl, rfl, rfl, rfl⟩ : Place 1 2 1 128 3200 3712 4224 2 2 3) (⟨by decide, by decide, by decide, rfl, rfl, rfl, rfl, rfl, rfl, rfl⟩ : Place 1 2 2 128 3328 3840 4352 2 4 5) (⟨by decide, by decide, by decide, rfl, rfl, rfl, rfl, rfl, rfl, rfl⟩ : Place 1 2 3 128 3456 3968 4480 2 6 7) (oc := 256) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 1 0 128 1536 2048 2560 2 0 1) (⟨by decide, by decide, by decide, rfl, rfl, rfl, rfl, rfl, rfl, rfl⟩ : Place 1 1 1 128 1664 2176 2688 2 2 3) (⟨by decide, by decide, by decide, rfl, rfl, rfl, rfl, rfl, rfl, rfl⟩ : Place 1 1 2 128 1792 2304 2816 2 4 5) (⟨by decide, by decide, by decide, rfl, rfl, rfl, rfl, rfl, rfl, rfl⟩ : Place 1 1 3 128 1920 2432 2944 2 6 7) (oc := 128) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 1 0 0 128 0 512 1024 2 0 1) (⟨by decide, by decide, by decide, rfl, rfl, rfl, rfl, rfl, rfl, rfl⟩ : Place 1 0 1 128 128 640 1152 2 2 3) (⟨by decide, by decide, by decide, rfl, rfl, rfl, rfl, rfl, rfl, rfl⟩ : Place 1 0 2 128 256 768 1280 2 4 5) (⟨by decide, by decide, by decide, rfl, rfl, rfl, rfl, rfl, rfl, rfl⟩ : Place 1 0 3 128 384 896 1408 2 6 7) (oc := 0) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 7 0 0 10752 11264 11776 0 0 1) (⟨by decide, by decide, by decide, rfl, rfl, rfl, rfl, rfl, rfl, rfl⟩ : Place 0 7 1 0 10880 11392 11904 0 2 3) (⟨by decide, by decide, by decide, rfl, rfl, rfl, rfl, rfl, rfl, rfl⟩ : Place 0 7 2 0 11008 11520 12032 0 4 5) (⟨by decide, by decide, by decide, rfl, rfl, rfl, rfl, rfl, rfl, rfl⟩ : Place 0 7 3 0 11136 11648 12160 0 6 7) (oc := 896) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 6 0 0 9216 9728 10240 0 0 1) (⟨by decide, by decide, by decide, rfl, rfl, rfl, rfl, rfl, rfl, rfl⟩ : Place 0 6 1 0 9344 9856 10368 0 2 3) (⟨by decide, by decide, by decide, rfl, rfl, rfl, rfl, rfl, rfl, rfl⟩ : Place 0 6 2 0 9472 9984 10496 0 4 5) (⟨by decide, by decide, by decide, rfl, rfl, rfl, rfl, rfl, rfl, rfl⟩ : Place 0 6 3 0 9600 10112 10624 0 6 7) (oc := 768) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 5 0 0 7680 8192 8704 0 0 1) (⟨by decide, by decide, by decide, rfl, rfl, rfl, rfl, rfl, rfl, rfl⟩ : Place 0 5 1 0 7808 8320 8832 0 2 3) (⟨by decide, by decide, by decide, rfl, rfl, rfl, rfl, rfl, rfl, rfl⟩ : Place 0 5 2 0 7936 8448 8960 0 4 5) (⟨by decide, by decide, by decide, rfl, rfl, rfl, rfl, rfl, rfl, rfl⟩ : Place 0 5 3 0 8064 8576 9088 0 6 7) (oc := 640) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 4 0 0 6144 6656 7168 0 0 1) (⟨by decide, by decide, by decide, rfl, rfl, rfl, rfl, rfl, rfl, rfl⟩ : Place 0 4 1 0 6272 6784 7296 0 2 3) (⟨by decide, by decide, by decide, rfl, rfl, rfl, rfl, rfl, rfl, rfl⟩ : Place 0 4 2 0 6400 6912 7424 0 4 5) (⟨by decide, by decide, by decide, rfl, rfl, rfl, rfl, rfl, rfl, rfl⟩ : Place 0 4 3 0 6528 7040 7552 0 6 7) (oc := 512) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 3 0 0 4608 5120 5632 0 0 1) (⟨by decide, by decide, by decide, rfl, rfl, rfl, rfl, rfl, rfl, rfl⟩ : Place 0 3 1 0 4736 5248 5760 0 2 3) (⟨by decide, by decide, by decide, rfl, rfl, rfl, rfl, rfl, rfl, rfl⟩ : Place 0 3 2 0 4864 5376 5888 0 4 5) (⟨by decide, by decide, by decide, rfl, rfl, rfl, rfl, rfl, rfl, rfl⟩ : Place 0 3 3 0 4992 5504 6016 0 6 7) (oc := 384) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 2 0 0 3072 3584 4096 0 0 1) (⟨by decide, by decide, by decide, rfl, rfl, rfl, rfl, rfl, rfl, rfl⟩ : Place 0 2 1 0 3200 3712 4224 0 2 3) (⟨by decide, by decide, by decide, rfl, rfl, rfl, rfl, rfl, rfl, rfl⟩ : Place 0 2 2 0 3328 3840 4352 0 4 5) (⟨by decide, by decide, by decide, rfl, rfl, rfl, rfl, rfl, rfl, rfl⟩ : Place 0 2 3 0 3456 3968 4480 0 6 7) (oc := 256) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 1 0 0 1536 2048 2560 0 0 1) (⟨by decide, by decide, by decide, rfl, rfl, rfl, rfl, rfl, rfl, rfl⟩ : Place 0 1 1 0 1664 2176 2688 0 2 3) (⟨by decide, by decide, by decide, rfl, rfl, rfl, rfl, rfl, rfl, rfl⟩ : Place 0 1 2 0 1792 2304 2816 0 4 5) (⟨by decide, by decide, by decide, rfl, rfl, rfl, rfl, rfl, rfl, rfl⟩ : Place 0 1 3 0 1920 2432 2944 0 6 7) (oc := 128) rfl _ _ _ _ _ _ _ _ _ _ _ _ _ _ _ _ _ _ _ _ (by decide)) ?_
  refine pieces_cons _ _ _ (stat_eq arg2 harg2 arg3 harg3 x0 x1 (⟨by decide, by decide, by decide, rfl, rfl, rfl, rfl, rfl, rfl, rfl⟩ : Place 0 0 0 0 0 512 1024 0 0 1) (⟨by decide, by decide, by decide, rfl, rfl, rfl, rfl, rfl, rfl, rfl⟩ : Place 0 0 1 0 128 640 1152 0 2 3) (⟨by decide, by decide, by decide, rfl, rfl, rfl, rfl, rfl, rfl, rfl⟩ : Place 0 0 2 0 256 768 1280 0 4 5) (⟨by decide, by decide, by decide, rfl, rfl, rfl, rfl, rfl, rfl, rfl⟩ : Place 0 0 3 0 384 896 1408 0 6 7) (oc := 0) rfl _ _ _ _ _ _ _ _ _ _ _ _ _ _ _ _ _ _ _ _ (by decide)) ?_
  exact fun _ h => absurd h List.not_mem_nil

end Cert.KernelIdeal.Dil

end
-- ==== Proof.Dil.Bridge.lean ====
/- The two result arrays after the run. -/
module

public import proofs.«01_k».proof.Proof.Dil.Array
public import proofs.«01_k».proof.Proof.Dil.Pieces
public import Idealize.ShloMosaic.Lib.Claim

@[expose] public section

set_option maxRecDepth 16384

noncomputable section

namespace Cert.KernelIdeal.Dil

open Cert.KernelIdeal Cert.KernelIdeal.Gen Idealize.ShloMosaic Idealize.ShloMosaic.TcCoe Idealize.SL.Sem

/-- The blocks' places: point `t` stages sequence `t / 2`'s half `t % 2` of the subsequences. -/
theorem idx : ∀ t : Fin cfg0.N, win0_0.index t = ![t.val / 2, 0, t.val % 2] ∧ win0_1.index t = ![2, 0, 0, 0]
    ∧ win0_2.index t = ![t.val / 2, 0, t.val % 2] ∧ win0_3.index t = ![t.val / 2, 0, t.val % 2] ∧ t.val / 2 < 8 :=
  (by decide +kernel : ∀ t : Fin grid0.N, _)

section
variable (A : Vec Ideal S8x256x24576 .bf16) (B : Vec Ideal S9x8x128x256 .f32)
  (X : Vec Ideal S1x256x12288 .bf16) (C : Vec Ideal S3x8x128x256 .f32) (b : Fin 8) (g : ℕ) (hg : g < 2)
  (hX : ∀ (q : Fin 256) (c : Fin 12288), X (ix3 0 q c) = A (ix3 b q (Fin.ofNat 24576 (12288 * g + c.val))))
  (hC : ∀ (n : Fin 3) (h : Fin 8) (q : Fin 128) (k : Fin 256), C (ix4 n h q k) = B (ix4 (Fin.ofNat 9 (6 + n.val)) h q k))
include hg hX hC

/-- A block's columns are the array's, half a row apart. -/
theorem atX_eq (q : Fin 256) (c : ℕ) (hc : c < 12288) : atX X q.val c = atA A b q (12288 * g + c) := by
  have e1 : Fin.ofNat 256 q.val = q := Fin.ext (Nat.mod_eq_of_lt q.isLt)
  have e2 : (Fin.ofNat 12288 c).val = c := Nat.mod_eq_of_lt hc
  unfold atX atA
  rw [e1, hX, e2]

/-- So a block's scores are the array's. -/
theorem row_eq (q : Fin 256) (r h : ℕ) (hr : r < 8) (hh : h < 8) : row X C q.val r h = rowA A B b q (8 * g + r) h := by
  unfold row rowA
  congr 1
  · funext d
    rw [atX_eq A B X C b g hg hX hC q _ (by omega)]; congr 1; omega
  · funext k d
    rw [atX_eq A B X C b g hg hX hC k _ (by omega)]; congr 1; omega
  · funext k
    have := q.isLt
    have e : (Fin.ofNat 3 (2 * (q.val / 128))).val = 2 * (q.val / 128) := Nat.mod_eq_of_lt (by omega)
    rw [hC, e]

theorem out_block (q : Fin 256) (l : Fin 4096) : OUT X C (ix3 0 q l) = outA A B b q (4096 * g + l.val) := by
  show num (row X C q.val (l.val / 512) (l.val % 512 / 64)) (fun k => atX X k.val (1536 * (l.val / 512) + 1024 + l.val % 512)) = _
  have := l.isLt
  rw [row_eq A B X C b g hg hX hC q _ _ (by omega) (by omega)]
  unfold outA
  have e1 : (4096 * g + l.val) / 512 = 8 * g + l.val / 512 := by omega
  have e2 : (4096 * g + l.val) % 512 = l.val % 512 := by omega
  rw [e1, e2]
  congr 1; funext k
  rw [atX_eq A B X C b g hg hX hC k _ (by omega)]; congr 1; omega

theorem stat_block (q : Fin 256) (l : Fin 1024) : STAT X C (ix3 0 q l) = statA A B b q (1024 * g + l.val) := by
  show (if l.val % 128 < 8 then mx (row X C q.val (l.val / 128) (l.val % 128))
    else if l.val % 128 < 16 then den (row X C q.val (l.val / 128) (l.val % 128 - 8)) else 0) = _
  have := l.isLt
  unfold statA
  have e1 : (1024 * g + l.val) / 128 = 8 * g + l.val / 128 := by omega
  have e2 : (1024 * g + l.val) % 128 = l.val % 128 := by omega
  rw [e1, e2]
  split_ifs with h h'
  · rw [row_eq A B X C b g hg hX hC q _ _ (by omega) (by omega)]
  · rw [row_eq A B X C b g hg hX hC q _ _ (by omega) (by omega)]
  · rfl
end

variable (m : (ℓ : Loc nD τ sig) → Buf (Elt Ideal) ℓ)

/-- The projections' block at point `t`. -/
theorem iblk0 (c : Dev nD) (t : Fin cfg0.N) (q : Fin 256) (k : Fin 12288) : (iblk m c 0 t : Vec Ideal S1x256x12288 .bf16) (ix3 0 q k)
    = (m ((c : Thread nD τ).loc main_arg0) : Vec Ideal S8x256x24576 .bf16) (ix3 ⟨t.val / 2, (idx t).2.2.2.2⟩ q (Fin.ofNat 24576 (12288 * (t.val % 2) + k.val))) := by
  have e : (Fin.ofNat 24576 (12288 * (t.val % 2) + k.val)).val = 12288 * (t.val % 2) + k.val := Nat.mod_eq_of_lt (by omega)
  blk_ext [iblk, V, idx t, e]

/-- The biases' block. -/
theorem iblk1 (c : Dev nD) (t : Fin cfg0.N) (n : Fin 3) (h : Fin 8) (q : Fin 128) (k : Fin 256) : (iblk m c 1 t : Vec Ideal S3x8x128x256 .f32) (ix4 n h q k)
    = (m ((c : Thread nD τ).loc main_arg1) : Vec Ideal S9x8x128x256 .f32) (ix4 (Fin.ofNat 9 (6 + n.val)) h q k) := by
  have e : (Fin.ofNat 9 (6 + n.val)).val = 6 + n.val := Nat.mod_eq_of_lt (by omega)
  blk_ext [iblk, V, idx t, e]

/-- The first result after the run. -/
theorem final2 (c : Dev nD) : (dats m 0 c).arrAt 2 (cfgs 0).N
    = OUTA (m ((c : Thread nD τ).loc main_arg0)) (m ((c : Thread nD τ).loc main_arg1)) := by
  refine (dats m 0 c).arrAt_eq_of_covers 2 _ (by decide +kernel) fun t _ y => ?_
  blk_simp
  rw [after0_2]
  simp only [outsAt0]
  rw [out2]
  idx_vars y
  obtain rfl : y0 = 0 := Subsingleton.elim _ _
  have hX := iblk0 m c t
  have hC := iblk1 m c t
  refine (out_block _ _ _ _ _ _ (by omega) hX hC y1 y2).trans ?_
  refine (OUTA_ix3 _ _ _ _ (⟨4096 * (t.val % 2) + y2.val, by omega⟩ : Fin 8192)).symm.trans ?_
  blk_ext [idx t]

/-- And the second. -/
theorem final3 (c : Dev nD) : (dats m 0 c).arrAt 3 (cfgs 0).N
    = STATA (m ((c : Thread nD τ).loc main_arg0)) (m ((c : Thread nD τ).loc main_arg1)) := by
  refine (dats m 0 c).arrAt_eq_of_covers 3 _ (by decide +kernel) fun t _ y => ?_
  blk_simp
  rw [after0_3]
  simp only [outsAt0]
  rw [out3]
  idx_vars y
  obtain rfl : y0 = 0 := Subsingleton.elim _ _
  have hX := iblk0 m c t
  have hC := iblk1 m c t
  refine (stat_block _ _ _ _ _ _ (by omega) hX hC y1 y2).trans ?_
  refine (STATA_ix3 _ _ _ _ (⟨1024 * (t.val % 2) + y2.val, by omega⟩ : Fin 2048)).symm.trans ?_
  blk_ext [idx t]

end Cert.KernelIdeal.Dil

end
-- ==== Proof.Dil.Ref.lean ====
/- The reference's two results are the same functions of the arguments. -/
module

public import proofs.«01_k».proof.Proof.Dil.Array
public import proofs.«01_k».proof.Proof.Gen.ReferenceIdeal.Read
public import Idealize.ShloMosaic.Lib.Pointwise

@[expose] public section

set_option maxRecDepth 16384

noncomputable section

namespace Cert.KernelIdeal.Dil

open Cert.ReferenceIdeal Cert.ReferenceIdeal.Gen Cert.ReferenceIdeal.Read Idealize.ShloMosaic Idealize.ShloMosaic.TcCoe Idealize.SL.Sem

/-- A power of two is the kernel's own exponential. -/
theorem pow_two (x : EReal) : Ideal.pow (Ideal.ofBits .f32 0x40000000#32) x = Ideal.exp2 x := by
  rw [show Ideal.ofBits .f32 0x40000000#32 = ((2 : ℝ) : EReal) by simp [Ideal.ofBits, Ideal.ieee, -EReal.coe_mul]; norm_num]
  have h0 : ¬ (2 : ℝ) < 0 := by norm_num
  induction x with
  | bot => exact (if_neg h0).trans (if_pos one_lt_two)
  | top => exact (if_neg h0).trans (if_pos one_lt_two)
  | coe x => rfl

section
variable (A : Vec Ideal Cert.ReferenceIdeal.S8x256x24576 .bf16) (B : Vec Ideal Cert.ReferenceIdeal.S9x8x128x256 .f32)

theorem score_at (b : Fin 8) (r : Fin 16) (h : Fin 8) (q k : Fin 256) :
    val_main_v19 (F := Ideal) A B (ix5 b r h q k) = rowA A B b q r.val h.val k := by
  pointwise [val_main_v19, val_main_v18, val_main_v17, val_main_v16, val_main_v15, val_main_v14, val_main_v13, val_main_v12, val_main_v11,
    val_main_v7, val_main_v6, val_main_v5, val_main_v4, val_main_v3, val_main_v2, val_main_v1, val_main_v0, rowA, sc]
  refine congrArg₂ (· + ·) (Finset.sum_congr rfl fun d _ => congrArg₂ (· * ·) ?_ ?_) ?_
  · refine congrArg (fun c => A (ix3 b q c)) (Fin.ext ?_)
    have := d.isLt; have := r.isLt; have := h.isLt
    exact (show r.val * 1536 + h.val * 64 + d.val = (1536 * r.val + 64 * h.val + d.val) % 24576 by omega)
  · refine congrArg (fun c => A (ix3 b k c)) (Fin.ext ?_)
    have := d.isLt; have := r.isLt; have := h.isLt
    exact (show r.val * 1536 + 512 + h.val * 64 + d.val = (1536 * r.val + 512 + 64 * h.val + d.val) % 24576 by omega)
  · have eh : Fin.ofNat 8 h.val = h := Fin.ext (Nat.mod_eq_of_lt h.isLt)
    have := q.isLt
    rw [eh]
    by_cases hq : q.val < 128
    · rw [dif_pos hq]
      have e1 : q.val / 128 = 0 := by omega
      have e2 : Fin.ofNat 128 q.val = ⟨q.val, hq⟩ := Fin.ext (Nat.mod_eq_of_lt hq)
      rw [e1, e2]; rfl
    · rw [dif_neg hq]
      have e1 : q.val / 128 = 1 := by omega
      have e2 : Fin.ofNat 128 q.val = ⟨q.val - 128, by omega⟩ := Fin.ext (show q.val % 128 = q.val - 128 by omega)
      rw [e1, e2]; rfl

theorem top_at (b : Fin 8) (r : Fin 16) (h : Fin 8) (q : Fin 256) :
    val_main_v20 (F := Ideal) A B (ix4 b r h q) = mx (rowA A B b q r.val h.val) := by
  pointwise [val_main_v20, val_main_cst, mx, score_at]

theorem weight_at (b : Fin 8) (r : Fin 16) (h : Fin 8) (q k : Fin 256) :
    val_main_v25 (F := Ideal) A B (ix5 b r h q k) = wt (rowA A B b q r.val h.val) k := by
  pointwise [val_main_v25, val_main_v24, val_main_v23, val_main_v22, val_main_cst_0, val_main_v21, top_at, score_at, wt]
  exact pow_two _

theorem den_at (b : Fin 8) (r : Fin 16) (h : Fin 8) (q : Fin 256) :
    val_main_v26 (F := Ideal) A B (ix4 b r h q) = den (rowA A B b q r.val h.val) := by
  pointwise [val_main_v26, val_main_cst_1, weight_at, den]

theorem num_at (b : Fin 8) (r : Fin 16) (h : Fin 8) (q : Fin 256) (d : Fin 64) :
    val_main_v27 (F := Ideal) A B (ix5 b r h q d) = num (rowA A B b q r.val h.val) (fun k => atA A b k (1536 * r.val + 1024 + 64 * h.val + d.val)) := by
  pointwise [val_main_v27, val_main_v10, val_main_v9, val_main_v8, val_main_v1, val_main_v0, weight_at, num]
  refine Finset.sum_congr rfl fun k _ => congrArg (_ * ·) (congrArg (fun c => A (ix3 b k c)) (Fin.ext ?_))
  have := d.isLt; have := r.isLt; have := h.isLt
  exact (show r.val * 1536 + 1024 + h.val * 64 + d.val = (1536 * r.val + 1024 + 64 * h.val + d.val) % 24576 by omega)

theorem out_at (b : Fin 8) (q : Fin 256) (c : Fin 8192) : val_main_v30 (F := Ideal) A B (ix3 b q c) = outA A B b q c.val := by
  pointwise [val_main_v30, val_main_v29, val_main_v28, num_at]
  have e1 : c.val % 512 / 64 = c.val / 64 % 8 := by omega
  have e2 : 1536 * (c.val / 512) + 1024 + c.val % 512 = 1536 * (c.val / 512) + 1024 + 64 * (c.val / 64 % 8) + c.val % 64 := by omega
  unfold outA
  rw [e1, e2]

theorem stat_at (b : Fin 8) (q : Fin 256) (c : Fin 2048) : val_main_v35 (F := Ideal) A B (ix3 b q c) = statA A B b q c.val := by
  pointwise [val_main_v35, val_main_v34, val_main_v33, val_main_v32, val_main_v31, val_main_cst_2, top_at, den_at]
  unfold statA
  by_cases h : c.val % 128 < 8
  · rw [dif_pos h, if_pos h]
  · rw [dif_neg h, if_neg h]
    by_cases h' : c.val % 128 < 16
    · rw [dif_pos (by omega), if_pos h']
    · rw [dif_neg (by omega), if_neg h']

/-- The reference's first result. -/
theorem ref_out : val_main_v30 (F := Ideal) A B = OUTA A B := by
  funext y
  idx_vars y
  exact out_at A B _ _ _

/-- And its second. -/
theorem ref_stat : val_main_v35 (F := Ideal) A B = STATA A B := by
  funext y
  idx_vars y
  exact stat_at A B _ _ _
end

end Cert.KernelIdeal.Dil

end
-- ==== Proof.Post.Row.lean ====
/- One token of the block after the attentions: the functions of its row that both programs compute. -/
module

public import Idealize.ShloMosaic.Lib.Pointwise

@[expose] public section

set_option backward.proofsInPublic true
set_option maxRecDepth 16384

noncomputable section

namespace Cert.Kernel2Ideal.Post

open Idealize.ShloMosaic

/-- Places in a longer row. -/
theorem fin_lt0 {n : ℕ} (i : Fin n) (N : ℕ) (h : Nat.ble n N = true) : i.val < N := i.isLt.trans_le (Nat.le_of_ble_eq_true h)
theorem fin_lt {n : ℕ} (i : Fin n) (a N : ℕ) (h : Nat.ble (a + n) N = true) : a + i.val < N :=
  (Nat.add_lt_add_left i.isLt a).trans_le (Nat.le_of_ble_eq_true h)

/-- The word both programs add under the root. -/
def eps : EReal := Ideal.ofBits .f32 0x358637BD#32

/-- A row over its root mean square, times the gain. -/
def rms {n : ℕ} (D : EReal) (x g : Fin n → EReal) (c : Fin n) : EReal :=
  x c * Ideal.rsqrt (Ideal.div (∑ k, x k * x k) D + eps) * g c

/-- The two row lengths, as the programs divide by them. -/
def D512 : EReal := Ideal.ofBits .f32 0x44000000#32
def D1024 : EReal := Ideal.ofBits .f32 0x44800000#32

section
variable (s1 s4 s16 : Fin 128 → EReal)

/-- The largest of the three maxima at a lane. -/
def top (l : Fin 128) : EReal := max (max (s1 l) (s4 l)) (s16 l)

/-- How one attention's weights scale to the common maximum. -/
def sc (s : Fin 128 → EReal) (l : Fin 128) : EReal := Ideal.exp2 (s l - top s1 s4 s16 l)

/-- A head's sum stands eight lanes after its maximum. -/
def up (l : Fin 128) : Fin 128 := ⟨(l.val + 128 - 120) % 128, Nat.mod_lt _ (by norm_num)⟩

/-- The sum over the union of the three attentions' keys. -/
def tot (l : Fin 128) : EReal :=
  sc s1 s4 s16 s1 l * s1 (up l) + sc s1 s4 s16 s4 l * s4 (up l) + sc s1 s4 s16 s16 l * s16 (up l)

/-- What one attention's numerator is multiplied by. -/
def share (s : Fin 128 → EReal) (l : Fin 128) : EReal := Ideal.div (sc s1 s4 s16 s l) (tot s1 s4 s16 l)

/-- The head of an output channel. -/
def lane (c : Fin 512) : Fin 128 := ⟨c.val / 64, by have := c.isLt; omega⟩

/-- The three dilated attentions as one attention over the union of their keys. -/
def ob (n1 n4 n16 : Fin 512 → EReal) (c : Fin 512) : EReal :=
  share s1 s4 s16 s1 (lane c) * n1 c + share s1 s4 s16 s4 (lane c) * n4 c + share s1 s4 s16 s16 (lane c) * n16 c

end

/-- The output projection of the two groups of heads. -/
def proj (a b : Fin 512 → EReal) (w : Fin 1024 → Fin 1024 → EReal) (c : Fin 1024) : EReal :=
  (∑ k : Fin 512, a k * w ⟨k.val, by have := k.isLt; omega⟩ c) + ∑ k : Fin 512, b k * w ⟨512 + k.val, by have := k.isLt; omega⟩ c

/-- The row after the attention's residual. -/
def resid (x m gpm : Fin 1024 → EReal) (c : Fin 1024) : EReal := x c + rms D1024 m gpm c

/-- One hidden unit: the square of the positive part. -/
def hidden (v : Fin 1024 → EReal) (wup : Fin 1024 → Fin 4096 → EReal) (j : Fin 4096) : EReal :=
  max (∑ k, v k * wup k j) 0 * max (∑ k, v k * wup k j) 0

/-- The feed-forward row, its hidden units in two halves. -/
def ff (v : Fin 1024 → EReal) (wup : Fin 1024 → Fin 4096 → EReal) (wdn : Fin 4096 → Fin 1024 → EReal) (c : Fin 1024) : EReal :=
  (∑ j : Fin 2048, hidden v wup ⟨j.val, by have := j.isLt; omega⟩ * wdn ⟨j.val, by have := j.isLt; omega⟩ c)
    + ∑ j : Fin 2048, hidden v wup ⟨2048 + j.val, by have := j.isLt; omega⟩ * wdn ⟨2048 + j.val, by have := j.isLt; omega⟩ c

/-- The gated embedding. -/
def gated (h : Fin 1024 → EReal) (p : Fin 256 → EReal) (wpp : Fin 256 → Fin 1024 → EReal) (wpg : Fin 1024 → Fin 1024 → EReal)
    (bpg : Fin 1024 → EReal) (c : Fin 1024) : EReal :=
  Ideal.logistic ((∑ k, h k * wpg k c) + bpg c) * ∑ k, p k * wpp k c

/-- The whole row. -/
def row (x : Fin 1024 → EReal) (p : Fin 256 → EReal) (oa n1 n4 n16 : Fin 512 → EReal) (s1 s4 s16 : Fin 128 → EReal)
    (goa gob : Fin 512 → EReal) (wo : Fin 1024 → Fin 1024 → EReal) (gpm gpre : Fin 1024 → EReal)
    (wup : Fin 1024 → Fin 4096 → EReal) (wdn : Fin 4096 → Fin 1024 → EReal) (gmlp : Fin 1024 → EReal)
    (wpp : Fin 256 → Fin 1024 → EReal) (wpg : Fin 1024 → Fin 1024 → EReal) (bpg gple : Fin 1024 → EReal) : Fin 1024 → EReal :=
  let h := resid x (proj (rms D512 oa goa) (rms D512 (ob s1 s4 s16 n1 n4 n16) gob) wo) gpm
  let h2 := resid h (ff (rms D1024 h gpre) wup wdn) gmlp
  resid h2 (gated h2 p wpp wpg bpg) gple

/-- A sum over the whole row is the sum over its halves. -/
theorem sum_half {n : ℕ} (f : Fin (n + n) → EReal) :
    ∑ k, f k = (∑ k : Fin n, f ⟨k.val, by have := k.isLt; omega⟩) + ∑ k : Fin n, f ⟨n + k.val, by have := k.isLt; omega⟩ :=
  Fin.sum_univ_add f

/-- A maximum that is a number, a sum that is a positive number. -/
def Good (s : Fin 128 → EReal) : Prop :=
  ∀ l : Fin 128, l.val < 8 → ∃ a b : ℝ, 0 < b ∧ s l = (a : EReal) ∧ s (up l) = (b : EReal)

section
variable {s1 s4 s16 : Fin 128 → EReal} (h1 : Good s1) (h4 : Good s4) (h16 : Good s16)
include h1 h4 h16

theorem top_real (l : Fin 128) (hl : l.val < 8) : ∃ t : ℝ, top s1 s4 s16 l = (t : EReal) := by
  obtain ⟨a1, _, _, e1, _⟩ := h1 l hl
  obtain ⟨a4, _, _, e4, _⟩ := h4 l hl
  obtain ⟨a16, _, _, e16, _⟩ := h16 l hl
  exact ⟨max (max a1 a4) a16, by
    unfold top
    rw [e1, e4, e16, EReal.coe_strictMono.monotone.map_max, EReal.coe_strictMono.monotone.map_max]⟩

theorem sc_real {s : Fin 128 → EReal} (h : Good s) (l : Fin 128) (hl : l.val < 8) : ∃ a : ℝ, 0 < a ∧ sc s1 s4 s16 s l = (a : EReal) := by
  obtain ⟨t, et⟩ := top_real h1 h4 h16 l hl
  obtain ⟨a, _, _, e, _⟩ := h l hl
  refine ⟨(2 : ℝ) ^ (a - t), Real.rpow_pos_of_pos two_pos _, ?_⟩
  unfold sc
  rw [e, et, ← EReal.coe_sub]
  rfl

theorem tot_real (l : Fin 128) (hl : l.val < 8) : ∃ t : ℝ, 0 < t ∧ tot s1 s4 s16 l = (t : EReal) := by
  obtain ⟨a1, p1, e1⟩ := sc_real h1 h4 h16 h1 l hl
  obtain ⟨a4, p4, e4⟩ := sc_real h1 h4 h16 h4 l hl
  obtain ⟨a16, p16, e16⟩ := sc_real h1 h4 h16 h16 l hl
  obtain ⟨_, b1, q1, _, f1⟩ := h1 l hl
  obtain ⟨_, b4, q4, _, f4⟩ := h4 l hl
  obtain ⟨_, b16, q16, _, f16⟩ := h16 l hl
  refine ⟨a1 * b1 + a4 * b4 + a16 * b16, by positivity, ?_⟩
  unfold tot
  rw [e1, e4, e16, f1, f4, f16]
  push_cast
  rfl

theorem div_pos_eq (x : EReal) {t : ℝ} (ht : 0 < t) : Ideal.div x (t : EReal) = x * ((t⁻¹ : ℝ) : EReal) := by
  have h : ((t : ℝ) : EReal) ≠ 0 := fun h => ht.ne' (EReal.coe_eq_zero.1 h)
  unfold Ideal.div
  rw [if_neg h, EReal.coe_inv]

theorem share_real {s : Fin 128 → EReal} (h : Good s) (l : Fin 128) (hl : l.val < 8) : ∃ a : ℝ, share s1 s4 s16 s l = (a : EReal) := by
  obtain ⟨a, _, e⟩ := sc_real h1 h4 h16 h l hl
  obtain ⟨t, ht, f⟩ := tot_real h1 h4 h16 l hl
  exact ⟨a * t⁻¹, by unfold share; rw [e, f, div_pos_eq h1 h4 h16 _ ht, EReal.coe_mul]⟩

/-- One attention's normalised output times its share of the sum, as the numerator times its share. -/
theorem share_norm {s : Fin 128 → EReal} (h : Good s) (l : Fin 128) (hl : l.val < 8) (n : EReal) :
    Ideal.div (sc s1 s4 s16 s l * s (up l)) (tot s1 s4 s16 l) * Ideal.div n (s (up l)) = share s1 s4 s16 s l * n := by
  obtain ⟨a, _, e⟩ := sc_real h1 h4 h16 h l hl
  obtain ⟨t, ht, f⟩ := tot_real h1 h4 h16 l hl
  obtain ⟨_, b, hb, _, g⟩ := h l hl
  unfold share
  rw [e, f, g, div_pos_eq h1 h4 h16 _ ht, div_pos_eq h1 h4 h16 _ ht, div_pos_eq h1 h4 h16 _ hb, ← EReal.coe_mul, ← EReal.coe_mul, ← EReal.coe_mul,
    mul_comm n, ← mul_assoc, ← EReal.coe_mul]
  congr 2
  field_simp

end

/-- The first eight lanes of a row spread over the channels of their heads by a product with ones and zeros: the two halves of
    the row are the number and what a rounding left of it, here nothing. -/
theorem spread (w : Fin 128 → EReal) (hw : ∀ l : Fin 128, l.val < 8 → ∃ a : ℝ, w l = (a : EReal)) (c : Fin 512) (e1 e2 : Fin 128 → EReal)
    (he : ∀ l : Fin 128, e1 l = if l.val = c.val / 64 then 1 else 0) :
    (∑ x, Scalar.select (IntOp.cmpi CmpIPredicate.slt (BitVec.ofNat 32 x.val) 8#32) (w x * e1 x) 0)
      + ∑ x, (Scalar.select (IntOp.cmpi CmpIPredicate.slt (BitVec.ofNat 32 x.val) 8#32) (w x) 0
          - Scalar.select (IntOp.cmpi CmpIPredicate.slt (BitVec.ofNat 32 x.val) 8#32) (w x) 0) * e2 x = w (lane c) := by
  have hs : ∀ x : Fin 128, IntOp.cmpi CmpIPredicate.slt (BitVec.ofNat 32 x.val) 8#32 = if x.val < 8 then 1#1 else 0#1 := by decide
  have hsel : ∀ (x : Fin 128) (a : EReal), Scalar.select (IntOp.cmpi CmpIPredicate.slt (BitVec.ofNat 32 x.val) 8#32) a 0 = if x.val < 8 then a else 0 := by
    intro x a
    rw [hs]
    split_ifs <;> rfl
  have hc : c.val / 64 < 8 := by have := c.isLt; omega
  rw [show (∑ x : Fin 128, (Scalar.select (IntOp.cmpi CmpIPredicate.slt (BitVec.ofNat 32 x.val) 8#32) (w x) 0
      - Scalar.select (IntOp.cmpi CmpIPredicate.slt (BitVec.ofNat 32 x.val) 8#32) (w x) 0) * e2 x) = 0 from
    Finset.sum_eq_zero fun x _ => by
      rw [hsel]
      split_ifs with h
      · obtain ⟨a, e⟩ := hw x h
        rw [e, ← EReal.coe_sub, sub_self, EReal.coe_zero, zero_mul]
      · rw [sub_zero, zero_mul], add_zero]
  rw [Finset.sum_eq_single (lane c)]
  · rw [hsel, if_pos (show (lane c).val < 8 from hc), he, if_pos (show (lane c).val = c.val / 64 from rfl), mul_one]
  · intro x _ hx
    rw [hsel, he, if_neg (show ¬ x.val = c.val / 64 from fun h => hx (Fin.ext h)), mul_zero, ite_self]
  · exact fun h => absurd (Finset.mem_univ _) h

end Cert.Kernel2Ideal.Post

end
-- ==== Proof.Post.Stage.lean ====
/- The kernel's values for half a block of rows, one element at a time, are the functions of Row. -/
module

public import proofs.«01_k».proof.Proof.Post.Row
public import proofs.«01_k».proof.Proof.Gen.Kernel2Ideal.Value
public import Idealize.ShloMosaic.Lib.Pointwise

@[expose] public section

set_option maxRecDepth 16384
set_option backward.proofsInPublic true

noncomputable section

namespace Cert.Kernel2Ideal.Post

open Cert.Kernel2Ideal Cert.Kernel2Ideal.Gen Idealize.ShloMosaic Idealize.ShloMosaic.TcCoe Idealize.SL.Sem

section
variable (r : Fin 256)

/-! Four slabs of 128 channels side by side. -/

theorem slabs4A_at (a0 a1 a2 a3 : Vec Ideal S1x256x128 .f32) (n : Fin 512 → EReal)
    (h0 : ∀ l : Fin 128, a0 (ix3 0 r l) = n ⟨l.val, by have := l.isLt; omega⟩) (h1 : ∀ l : Fin 128, a1 (ix3 0 r l) = n ⟨128 + l.val, by have := l.isLt; omega⟩)
    (h2 : ∀ l : Fin 128, a2 (ix3 0 r l) = n ⟨256 + l.val, by have := l.isLt; omega⟩) (h3 : ∀ l : Fin 128, a3 (ix3 0 r l) = n ⟨384 + l.val, by have := l.isLt; omega⟩)
    (c : Fin 512) : k0_pay28 (F := Ideal) (k0_pay24 a0) (k0_pay25 a1) (k0_pay26 a2) (k0_pay27 a3) (ix2 r c) = n c := by
  pointwise [k0_pay28, k0_pay24, k0_pay25, k0_pay26, k0_pay27, h0, h1, h2, h3]
  split_ifs <;> first | rfl | exact congrArg n (Fin.ext (by dsimp only; omega))

theorem slabs16A_at (a0 a1 a2 a3 : Vec Ideal S1x256x128 .f32) (n : Fin 512 → EReal)
    (h0 : ∀ l : Fin 128, a0 (ix3 0 r l) = n ⟨l.val, by have := l.isLt; omega⟩) (h1 : ∀ l : Fin 128, a1 (ix3 0 r l) = n ⟨128 + l.val, by have := l.isLt; omega⟩)
    (h2 : ∀ l : Fin 128, a2 (ix3 0 r l) = n ⟨256 + l.val, by have := l.isLt; omega⟩) (h3 : ∀ l : Fin 128, a3 (ix3 0 r l) = n ⟨384 + l.val, by have := l.isLt; omega⟩)
    (c : Fin 512) : k0_pay116 (F := Ideal) a0 a1 a2 a3 (ix2 r c) = n c := by
  pointwise [k0_pay116, h0, h1, h2, h3]
  split_ifs <;> first | rfl | exact congrArg n (Fin.ext (by dsimp only; omega))

theorem slabs4B_at (a0 a1 a2 a3 : Vec Ideal S1x256x128 .f32) (n : Fin 512 → EReal)
    (h0 : ∀ l : Fin 128, a0 (ix3 0 r l) = n ⟨l.val, by have := l.isLt; omega⟩) (h1 : ∀ l : Fin 128, a1 (ix3 0 r l) = n ⟨128 + l.val, by have := l.isLt; omega⟩)
    (h2 : ∀ l : Fin 128, a2 (ix3 0 r l) = n ⟨256 + l.val, by have := l.isLt; omega⟩) (h3 : ∀ l : Fin 128, a3 (ix3 0 r l) = n ⟨384 + l.val, by have := l.isLt; omega⟩)
    (c : Fin 512) : k0_pay149 (F := Ideal) a0 a1 a2 a3 (ix2 r c) = n c := by
  pointwise [k0_pay149, h0, h1, h2, h3]
  split_ifs <;> first | rfl | exact congrArg n (Fin.ext (by dsimp only; omega))

theorem slabs16B_at (a0 a1 a2 a3 : Vec Ideal S1x256x128 .f32) (n : Fin 512 → EReal)
    (h0 : ∀ l : Fin 128, a0 (ix3 0 r l) = n ⟨l.val, by have := l.isLt; omega⟩) (h1 : ∀ l : Fin 128, a1 (ix3 0 r l) = n ⟨128 + l.val, by have := l.isLt; omega⟩)
    (h2 : ∀ l : Fin 128, a2 (ix3 0 r l) = n ⟨256 + l.val, by have := l.isLt; omega⟩) (h3 : ∀ l : Fin 128, a3 (ix3 0 r l) = n ⟨384 + l.val, by have := l.isLt; omega⟩)
    (c : Fin 512) : k0_pay237 (F := Ideal) (k0_pay235 a0) (k0_pay236 a1) a2 a3 (ix2 r c) = n c := by
  pointwise [k0_pay237, k0_pay235, k0_pay236, h0, h1, h2, h3]
  split_ifs <;> first | rfl | exact congrArg n (Fin.ext (by dsimp only; omega))

/-! The merge of the three dilated attentions. -/

section
variable (s1 s4 s16 : Vec Ideal S256x128 .f32)

theorem totA_at (l : Fin 128) : k0_pay121 (F := Ideal) s1 s4 s16 (ix2 r l) = tot (fun l => s1 (ix2 r l)) (fun l => s4 (ix2 r l)) (fun l => s16 (ix2 r l)) l := by
  pointwise [k0_pay121, k0_pay120, k0_pay119, k0_pay118, k0_pay117]
  rfl

theorem sc1A_at (l : Fin 128) : k0_pay118 (F := Ideal) s1 s4 s16 (ix2 r l) = sc (fun l => s1 (ix2 r l)) (fun l => s4 (ix2 r l)) (fun l => s16 (ix2 r l)) (fun l => s1 (ix2 r l)) l := by
  pointwise [k0_pay118, k0_pay117]
  rfl

theorem sc4A_at (l : Fin 128) : k0_pay119 (F := Ideal) s1 s4 s16 (ix2 r l) = sc (fun l => s1 (ix2 r l)) (fun l => s4 (ix2 r l)) (fun l => s16 (ix2 r l)) (fun l => s4 (ix2 r l)) l := by
  pointwise [k0_pay119, k0_pay117]
  rfl

theorem sc16A_at (l : Fin 128) : k0_pay120 (F := Ideal) s1 s4 s16 (ix2 r l) = sc (fun l => s1 (ix2 r l)) (fun l => s4 (ix2 r l)) (fun l => s16 (ix2 r l)) (fun l => s16 (ix2 r l)) l := by
  pointwise [k0_pay120, k0_pay117]
  rfl

theorem totB_at (l : Fin 128) : k0_pay242 (F := Ideal) s1 s4 s16 (ix2 r l) = tot (fun l => s1 (ix2 r l)) (fun l => s4 (ix2 r l)) (fun l => s16 (ix2 r l)) l := by
  pointwise [k0_pay242, k0_pay241, k0_pay240, k0_pay239, k0_pay238]
  rfl

theorem sc1B_at (l : Fin 128) : k0_pay239 (F := Ideal) s1 s4 s16 (ix2 r l) = sc (fun l => s1 (ix2 r l)) (fun l => s4 (ix2 r l)) (fun l => s16 (ix2 r l)) (fun l => s1 (ix2 r l)) l := by
  pointwise [k0_pay239, k0_pay238]
  rfl

theorem sc4B_at (l : Fin 128) : k0_pay240 (F := Ideal) s1 s4 s16 (ix2 r l) = sc (fun l => s1 (ix2 r l)) (fun l => s4 (ix2 r l)) (fun l => s16 (ix2 r l)) (fun l => s4 (ix2 r l)) l := by
  pointwise [k0_pay240, k0_pay238]
  rfl

theorem sc16B_at (l : Fin 128) : k0_pay241 (F := Ideal) s1 s4 s16 (ix2 r l) = sc (fun l => s1 (ix2 r l)) (fun l => s4 (ix2 r l)) (fun l => s16 (ix2 r l)) (fun l => s16 (ix2 r l)) l := by
  pointwise [k0_pay241, k0_pay238]
  rfl

variable {s1 s4 s16} (h1 : Good (fun l => s1 (ix2 r l))) (h4 : Good (fun l => s4 (ix2 r l))) (h16 : Good (fun l => s16 (ix2 r l)))
  (o1 o4 o16 : Vec Ideal S256x512 .f32) (E : Vec Ideal S256x512 .bf16) (hE : ∀ j c, E (ix2 j c) = if j.val % 128 = c.val / 64 then 1 else 0)
include h1 h4 h16 hE

theorem spread_share {s : Vec Ideal S256x128 .f32} (h : Good (fun l => s (ix2 r l))) (c : Fin 512) :
    (∑ x : Fin 128, Scalar.select (IntOp.cmpi CmpIPredicate.slt (BitVec.ofNat 32 x.val) 8#32)
        (Ideal.div (sc (fun l => s1 (ix2 r l)) (fun l => s4 (ix2 r l)) (fun l => s16 (ix2 r l)) (fun l => s (ix2 r l)) x) (tot (fun l => s1 (ix2 r l)) (fun l => s4 (ix2 r l)) (fun l => s16 (ix2 r l)) x) * E (ix2 ⟨x.val, by have := x.isLt; omega⟩ c)) 0)
      + ∑ x : Fin 128, (Scalar.select (IntOp.cmpi CmpIPredicate.slt (BitVec.ofNat 32 x.val) 8#32)
            (Ideal.div (sc (fun l => s1 (ix2 r l)) (fun l => s4 (ix2 r l)) (fun l => s16 (ix2 r l)) (fun l => s (ix2 r l)) x) (tot (fun l => s1 (ix2 r l)) (fun l => s4 (ix2 r l)) (fun l => s16 (ix2 r l)) x)) 0
          - Scalar.select (IntOp.cmpi CmpIPredicate.slt (BitVec.ofNat 32 x.val) 8#32)
            (Ideal.div (sc (fun l => s1 (ix2 r l)) (fun l => s4 (ix2 r l)) (fun l => s16 (ix2 r l)) (fun l => s (ix2 r l)) x) (tot (fun l => s1 (ix2 r l)) (fun l => s4 (ix2 r l)) (fun l => s16 (ix2 r l)) x)) 0) * E (ix2 ⟨128 + x.val, by have := x.isLt; omega⟩ c)
      = share (fun l => s1 (ix2 r l)) (fun l => s4 (ix2 r l)) (fun l => s16 (ix2 r l)) (fun l => s (ix2 r l)) (lane c) :=
  spread (share (fun l => s1 (ix2 r l)) (fun l => s4 (ix2 r l)) (fun l => s16 (ix2 r l)) (fun l => s (ix2 r l))) (share_real h1 h4 h16 h) c _ _ fun l => by
    rw [hE]
    have := l.isLt
    rw [show (⟨l.val, by omega⟩ : Fin 256).val % 128 = l.val from Nat.mod_eq_of_lt l.isLt]

theorem obA_at (c : Fin 512) :
    k0_pay124 (F := Ideal) o1 o4 o16 (k0_pay119 s1 s4 s16) (k0_pay120 s1 s4 s16) (k0_pay121 s1 s4 s16) (k0_pay122 s1 s4 s16) k0_pay123 E E E (ix2 r c)
      = ob (fun l => s1 (ix2 r l)) (fun l => s4 (ix2 r l)) (fun l => s16 (ix2 r l)) (fun c => o1 (ix2 r c)) (fun c => o4 (ix2 r c)) (fun c => o16 (ix2 r c)) c := by
  pointwise [k0_pay124, k0_pay122, k0_pay123, totA_at, sc1A_at, sc4A_at, sc16A_at]
  rw [spread_share r h1 h4 h16 E hE h1, spread_share r h1 h4 h16 E hE h4, spread_share r h1 h4 h16 E hE h16]
  rfl

theorem obB_at (c : Fin 512) :
    k0_pay247 (F := Ideal) o4 o16 (k0_pay241 s1 s4 s16) (k0_pay242 s1 s4 s16) (k0_pay243 o1 s1 s4 s16 E) (k0_pay244 s1 s4 s16) k0_pay245 k0_pay246 E E (ix2 r c)
      = ob (fun l => s1 (ix2 r l)) (fun l => s4 (ix2 r l)) (fun l => s16 (ix2 r l)) (fun c => o1 (ix2 r c)) (fun c => o4 (ix2 r c)) (fun c => o16 (ix2 r c)) c := by
  pointwise [k0_pay247, k0_pay243, k0_pay244, k0_pay245, k0_pay246, totB_at, sc1B_at, sc4B_at, sc16B_at]
  rw [spread_share r h1 h4 h16 E hE h1, spread_share r h1 h4 h16 E hE h4, spread_share r h1 h4 h16 E hE h16]
  rfl

end

/-! The norms, the products and the residuals. -/

section
variable (oa : Vec Ideal S256x512 .bf16) (b : Vec Ideal S256x512 .f32) (g : Vec Ideal S1x512 .f32)

theorem o1A_at (c : Fin 512) : k0_pay2 (F := Ideal) oa (ix2 r c) = oa (ix2 r c) := by
  pointwise [k0_pay2]

theorem o1B_at (c : Fin 512) : k0_pay127 (F := Ideal) oa (ix2 r c) = oa (ix2 r c) := by
  pointwise [k0_pay127]

theorem oaA_at (c : Fin 512) : k0_pay125 (F := Ideal) oa g (ix2 r c) = rms D512 (fun c => oa (ix2 r c)) (fun c => g (ix2 0 c)) c := by
  pointwise [k0_pay125, rms, D512, eps]

theorem obnA_at (c : Fin 512) : k0_pay126 (F := Ideal) b g (ix2 r c) = rms D512 (fun c => b (ix2 r c)) (fun c => g (ix2 0 c)) c := by
  pointwise [k0_pay126, rms, D512, eps]

theorem oaB_at (c : Fin 512) : k0_pay248 (F := Ideal) oa g (ix2 r c) = rms D512 (fun c => oa (ix2 r c)) (fun c => g (ix2 0 c)) c := by
  pointwise [k0_pay248, rms, D512, eps]

theorem obnB_at (c : Fin 512) : k0_pay249 (F := Ideal) b g (ix2 r c) = rms D512 (fun c => b (ix2 r c)) (fun c => g (ix2 0 c)) c := by
  pointwise [k0_pay249, rms, D512, eps]

end

section
variable (a b : Vec Ideal S256x512 .bf16) (w0 w1 : Vec Ideal S512x1024 .bf16) (x : Vec Ideal S256x1024 .f32) (g g' : Vec Ideal S1x1024 .f32)
  (W : Fin 1024 → Fin 1024 → EReal) (hw0 : ∀ k c, w0 (ix2 k c) = W ⟨k.val, by have := k.isLt; omega⟩ c) (hw1 : ∀ k c, w1 (ix2 k c) = W ⟨512 + k.val, by have := k.isLt; omega⟩ c)
include hw0 hw1

theorem hA_at (c : Fin 1024) : k0_pay250 (F := Ideal) a b w0 w1 x g (ix2 r c)
    = resid (fun c => x (ix2 r c)) (proj (fun c => a (ix2 r c)) (fun c => b (ix2 r c)) W) (fun c => g (ix2 0 c)) c := by
  pointwise [k0_pay250, hw0, hw1, resid, proj, rms, D1024, eps]

theorem hB_at (c : Fin 1024) : k0_pay253 (F := Ideal) a b w0 w1 x g (ix2 r c)
    = resid (fun c => x (ix2 r c)) (proj (fun c => a (ix2 r c)) (fun c => b (ix2 r c)) W) (fun c => g (ix2 0 c)) c := by
  pointwise [k0_pay253, hw0, hw1, resid, proj, rms, D1024, eps]

omit hw0 hw1 in
theorem vA_at (c : Fin 1024) : k0_pay252 (F := Ideal) (k0_pay250 a b w0 w1 x g) g' (k0_pay251 a b w0 w1 x g) (ix2 r c)
    = rms D1024 (fun c => k0_pay250 (F := Ideal) a b w0 w1 x g (ix2 r c)) (fun c => g' (ix2 0 c)) c := by
  pointwise [k0_pay252, k0_pay251, rms, D1024, eps]

omit hw0 hw1 in
theorem vB_at (c : Fin 1024) : k0_pay254 (F := Ideal) a b w0 w1 x g g' (ix2 r c)
    = rms D1024 (fun c => k0_pay253 (F := Ideal) a b w0 w1 x g (ix2 r c)) (fun c => g' (ix2 0 c)) c := by
  pointwise [k0_pay254, rms, D1024, eps]

end

section
variable (v : Vec Ideal S256x1024 .bf16) (v' : Vec Ideal S256x1024 .f32) (u0 u1 : Vec Ideal S1024x2048 .bf16) (d0 d1 : Vec Ideal S2048x1024 .bf16)
  (U : Fin 1024 → Fin 4096 → EReal) (D : Fin 4096 → Fin 1024 → EReal)
  (hu0 : ∀ k j, u0 (ix2 k j) = U k ⟨j.val, by have := j.isLt; omega⟩) (hu1 : ∀ k j, u1 (ix2 k j) = U k ⟨2048 + j.val, by have := j.isLt; omega⟩)
  (hd0 : ∀ j c, d0 (ix2 j c) = D ⟨j.val, by have := j.isLt; omega⟩ c) (hd1 : ∀ j c, d1 (ix2 j c) = D ⟨2048 + j.val, by have := j.isLt; omega⟩ c)
include hu0 hu1 hd0 hd1

theorem ffA_at (c : Fin 1024) : k0_pay257 (F := Ideal) v u0 d0 u1 d1 (ix2 r c) = ff (fun k => v (ix2 r k)) U D c := by
  pointwise [k0_pay257, hu0, hu1, hd0, hd1, ff, hidden]

theorem ffB_at (c : Fin 1024) : k0_pay259 (F := Ideal) (k0_pay256 v' u0 d0) (k0_pay258 v' u1) d1 (ix2 r c) = ff (fun k => v' (ix2 r k)) U D c := by
  pointwise [k0_pay259, k0_pay256, k0_pay258, k0_pay255, hu0, hu1, hd0, hd1, ff, hidden]

end

section
variable (h f : Vec Ideal S256x1024 .f32) (g : Vec Ideal S1x1024 .f32) (wpg : Vec Ideal S1024x1024 .bf16) (bpg : Vec Ideal S1x1024 .f32)
  (p : Vec Ideal S256x256 .f32) (wpp : Vec Ideal S256x1024 .bf16) (g' : Vec Ideal S1x1024 .f32)

theorem h2A_at (c : Fin 1024) : k0_pay260 (F := Ideal) h f g (ix2 r c)
    = resid (fun c => h (ix2 r c)) (fun c => f (ix2 r c)) (fun c => g (ix2 0 c)) c := by
  pointwise [k0_pay260, resid, rms, D1024, eps]

theorem h2B_at (c : Fin 1024) : k0_pay263 (F := Ideal) h f g (ix2 r c)
    = resid (fun c => h (ix2 r c)) (fun c => f (ix2 r c)) (fun c => g (ix2 0 c)) c := by
  pointwise [k0_pay263, resid, rms, D1024, eps]

theorem outA_at (c : Fin 1024) : k0_pay262 (F := Ideal) (k0_pay260 h f g) g' (k0_pay261 h f g wpg bpg p wpp) (ix2 r c)
    = resid (fun c => k0_pay260 (F := Ideal) h f g (ix2 r c)) (gated (fun c => k0_pay260 (F := Ideal) h f g (ix2 r c)) (fun k => p (ix2 r k))
      (fun k c => wpp (ix2 k c)) (fun k c => wpg (ix2 k c)) (fun c => bpg (ix2 0 c))) (fun c => g' (ix2 0 c)) c := by
  pointwise [k0_pay262, k0_pay261, resid, rms, gated, D1024, eps]

theorem gatedB_at (c : Fin 1024) : k0_pay264 (F := Ideal) h f g wpg bpg p wpp (ix2 r c)
    = gated (fun c => k0_pay263 (F := Ideal) h f g (ix2 r c)) (fun k => p (ix2 r k))
      (fun k c => wpp (ix2 k c)) (fun k c => wpg (ix2 k c)) (fun c => bpg (ix2 0 c)) c := by
  pointwise [k0_pay264, gated]

theorem outB_at (c : Fin 1024) :
    k0_pay1 (F := Ideal) (k0_pay263 h f g) (k0_pay264 h f g wpg bpg p wpp) g' (k0_pay265 h f g wpg bpg p wpp) k0_pay266 (ix2 r c)
    = resid (fun c => k0_pay263 (F := Ideal) h f g (ix2 r c)) (gated (fun c => k0_pay263 (F := Ideal) h f g (ix2 r c)) (fun k => p (ix2 r k))
      (fun k c => wpp (ix2 k c)) (fun k c => wpg (ix2 k c)) (fun c => bpg (ix2 0 c))) (fun c => g' (ix2 0 c)) c := by
  pointwise [k0_pay1, k0_pay265, k0_pay266, gatedB_at, resid, rms, D1024, eps]

end

end

end Cert.Kernel2Ideal.Post

end
-- ==== Proof.Post.Chain.lean ====
/- Half a block of rows, from what the kernel loads to what it stores: each row is the function of Row. -/
module

public import proofs.«01_k».proof.Proof.Post.Stage

@[expose] public section

set_option maxRecDepth 16384
set_option backward.proofsInPublic true

noncomputable section

namespace Cert.Kernel2Ideal.Post

open Cert.Kernel2Ideal Cert.Kernel2Ideal.Gen Idealize.ShloMosaic Idealize.ShloMosaic.TcCoe Idealize.SL.Sem

section
variable (r : Fin 256) (x : Vec Ideal S256x1024 .f32) (p : Vec Ideal S256x256 .f32) (oa o1 : Vec Ideal S256x512 .bf16)
  (a0 a1 a2 a3 b0 b1 b2 b3 : Vec Ideal S1x256x128 .f32) (s1 s4 s16 : Vec Ideal S256x128 .f32) (E : Vec Ideal S256x512 .bf16)
  (goa gob : Vec Ideal S1x512 .f32) (w0 w1 : Vec Ideal S512x1024 .bf16) (gpm gpre : Vec Ideal S1x1024 .f32)
  (u0 u1 : Vec Ideal S1024x2048 .bf16) (d0 d1 : Vec Ideal S2048x1024 .bf16) (gmlp : Vec Ideal S1x1024 .f32) (wpp : Vec Ideal S256x1024 .bf16)
  (wpg : Vec Ideal S1024x1024 .bf16) (bpg gple : Vec Ideal S1x1024 .f32)
  {X : Fin 1024 → EReal} {P : Fin 256 → EReal} {OA N1 N4 N16 : Fin 512 → EReal} {T1 T4 T16 : Fin 128 → EReal}
  {GOA GOB : Fin 512 → EReal} {W : Fin 1024 → Fin 1024 → EReal} {GPM GPRE : Fin 1024 → EReal}
  {U : Fin 1024 → Fin 4096 → EReal} {D : Fin 4096 → Fin 1024 → EReal} {GMLP : Fin 1024 → EReal}
  {WPP : Fin 256 → Fin 1024 → EReal} {WPG : Fin 1024 → Fin 1024 → EReal} {BPG GPLE : Fin 1024 → EReal}
  (g1 : Good T1) (g4 : Good T4) (g16 : Good T16)
  (hx : ∀ k, x (ix2 r k) = X k) (hp : ∀ k, p (ix2 r k) = P k) (hoa : ∀ k, oa (ix2 r k) = OA k) (ho1 : ∀ k, o1 (ix2 r k) = N1 k)
  (ha0 : ∀ l : Fin 128, a0 (ix3 0 r l) = N4 ⟨l.val, fin_lt0 l 512 rfl⟩) (ha1 : ∀ l : Fin 128, a1 (ix3 0 r l) = N4 ⟨128 + l.val, fin_lt l 128 512 rfl⟩)
  (ha2 : ∀ l : Fin 128, a2 (ix3 0 r l) = N4 ⟨256 + l.val, fin_lt l 256 512 rfl⟩) (ha3 : ∀ l : Fin 128, a3 (ix3 0 r l) = N4 ⟨384 + l.val, fin_lt l 384 512 rfl⟩)
  (hb0 : ∀ l : Fin 128, b0 (ix3 0 r l) = N16 ⟨l.val, fin_lt0 l 512 rfl⟩) (hb1 : ∀ l : Fin 128, b1 (ix3 0 r l) = N16 ⟨128 + l.val, fin_lt l 128 512 rfl⟩)
  (hb2 : ∀ l : Fin 128, b2 (ix3 0 r l) = N16 ⟨256 + l.val, fin_lt l 256 512 rfl⟩) (hb3 : ∀ l : Fin 128, b3 (ix3 0 r l) = N16 ⟨384 + l.val, fin_lt l 384 512 rfl⟩)
  (hs1 : ∀ l, s1 (ix2 r l) = T1 l) (hs4 : ∀ l, s4 (ix2 r l) = T4 l) (hs16 : ∀ l, s16 (ix2 r l) = T16 l)
  (hE : ∀ j c, E (ix2 j c) = if j.val % 128 = c.val / 64 then 1 else 0)
  (hgoa : ∀ k, goa (ix2 0 k) = GOA k) (hgob : ∀ k, gob (ix2 0 k) = GOB k)
  (hw0 : ∀ k c, w0 (ix2 k c) = W ⟨k.val, fin_lt0 k 1024 rfl⟩ c) (hw1 : ∀ k c, w1 (ix2 k c) = W ⟨512 + k.val, fin_lt k 512 1024 rfl⟩ c)
  (hgpm : ∀ k, gpm (ix2 0 k) = GPM k) (hgpre : ∀ k, gpre (ix2 0 k) = GPRE k)
  (hu0 : ∀ k j, u0 (ix2 k j) = U k ⟨j.val, fin_lt0 j 4096 rfl⟩) (hu1 : ∀ k j, u1 (ix2 k j) = U k ⟨2048 + j.val, fin_lt j 2048 4096 rfl⟩)
  (hd0 : ∀ j c, d0 (ix2 j c) = D ⟨j.val, fin_lt0 j 4096 rfl⟩ c) (hd1 : ∀ j c, d1 (ix2 j c) = D ⟨2048 + j.val, fin_lt j 2048 4096 rfl⟩ c)
  (hgmlp : ∀ k, gmlp (ix2 0 k) = GMLP k) (hwpp : ∀ k c, wpp (ix2 k c) = WPP k c) (hwpg : ∀ k c, wpg (ix2 k c) = WPG k c)
  (hbpg : ∀ k, bpg (ix2 0 k) = BPG k) (hgple : ∀ k, gple (ix2 0 k) = GPLE k)
include g1 g4 g16 hx hp hoa ho1 ha0 ha1 ha2 ha3 hb0 hb1 hb2 hb3 hs1 hs4 hs16 hE hgoa hgob hw0 hw1 hgpm hgpre hu0 hu1 hd0 hd1 hgmlp hwpp hwpg hbpg hgple

theorem chainA (c : Fin 1024) :
    k0_pay262 (F := Ideal) (k0_pay260 (k0_pay250 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm) (k0_pay257 (k0_pay252 (k0_pay250 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm) gpre (k0_pay251 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm)) u0 d0 u1 d1) gmlp) gple (k0_pay261 (k0_pay250 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm) (k0_pay257 (k0_pay252 (k0_pay250 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm) gpre (k0_pay251 (k0_pay125 oa goa) (k0_pay126 (k0_pay124 (k0_pay2 o1) (k0_pay28 (k0_pay24 a0) (k0_pay25 a1) (k0_pay26 a2) (k0_pay27 a3)) (k0_pay116 b0 b1 b2 b3) (k0_pay119 s1 s4 s16) (k0_pay120 s1 s4 s16) (k0_pay121 s1 s4 s16) (k0_pay122 s1 s4 s16) k0_pay123 E E E) gob) w0 w1 x gpm)) u0 d0 u1 d1) gmlp wpg bpg p wpp) (ix2 r c)
      = row X P OA N1 N4 N16 T1 T4 T16 GOA GOB W GPM GPRE U D GMLP WPP WPG BPG GPLE c := by
  have e1 : (fun l => s1 (ix2 r l)) = T1 := funext hs1
  have e4 : (fun l => s4 (ix2 r l)) = T4 := funext hs4
  have e16 : (fun l => s16 (ix2 r l)) = T16 := funext hs16
  simp only [outA_at, h2A_at, ffA_at (hu0 := hu0) (hu1 := hu1) (hd0 := hd0) (hd1 := hd1), vA_at, hA_at (hw0 := hw0) (hw1 := hw1), oaA_at, obnA_at,
    obA_at r (e1 ▸ g1) (e4 ▸ g4) (e16 ▸ g16) _ _ _ E hE, o1A_at, slabs4A_at r a0 a1 a2 a3 N4 ha0 ha1 ha2 ha3, slabs16A_at r b0 b1 b2 b3 N16 hb0 hb1 hb2 hb3,
    hx, hp, hoa, ho1, hs1, hs4, hs16, hgoa, hgob, hgpm, hgpre, hgmlp, hwpp, hwpg, hbpg, hgple]
  rfl

theorem chainB (c : Fin 1024) :
    k0_pay1 (F := Ideal) (k0_pay263 (k0_pay253 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm) (k0_pay259 (k0_pay256 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u0 d0) (k0_pay258 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u1) d1) gmlp) (k0_pay264 (k0_pay253 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm) (k0_pay259 (k0_pay256 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u0 d0) (k0_pay258 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u1) d1) gmlp wpg bpg p wpp) gple (k0_pay265 (k0_pay253 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm) (k0_pay259 (k0_pay256 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u0 d0) (k0_pay258 (k0_pay254 (k0_pay248 oa goa) (k0_pay249 (k0_pay247 (k0_pay149 a0 a1 a2 a3) (k0_pay237 (k0_pay235 b0) (k0_pay236 b1) b2 b3) (k0_pay241 s1 s4 s16) (k0_pay242 s1 s4 s16) (k0_pay243 (k0_pay127 o1) s1 s4 s16 E) (k0_pay244 s1 s4 s16) k0_pay245 k0_pay246 E E) gob) w0 w1 x gpm gpre) u1) d1) gmlp wpg bpg p wpp) k0_pay266 (ix2 r c)
      = row X P OA N1 N4 N16 T1 T4 T16 GOA GOB W GPM GPRE U D GMLP WPP WPG BPG GPLE c := by
  have e1 : (fun l => s1 (ix2 r l)) = T1 := funext hs1
  have e4 : (fun l => s4 (ix2 r l)) = T4 := funext hs4
  have e16 : (fun l => s16 (ix2 r l)) = T16 := funext hs16
  simp only [outB_at, h2B_at, ffB_at (hu0 := hu0) (hu1 := hu1) (hd0 := hd0) (hd1 := hd1), vB_at, hB_at (hw0 := hw0) (hw1 := hw1), oaB_at, obnB_at,
    obB_at r (e1 ▸ g1) (e4 ▸ g4) (e16 ▸ g16) _ _ _ E hE, o1B_at, slabs4B_at r a0 a1 a2 a3 N4 ha0 ha1 ha2 ha3, slabs16B_at r b0 b1 b2 b3 N16 hb0 hb1 hb2 hb3,
    hx, hp, hoa, ho1, hs1, hs4, hs16, hgoa, hgob, hgpm, hgpre, hgmlp, hwpp, hwpg, hbpg, hgple]
  rfl

end

end Cert.Kernel2Ideal.Post

end
-- ==== Proof.Post.Scratch.lean ====
/- The dilated attentions' blocks put back in the order of the rows: what the kernel's strided stores leave in the scratch
   buffers, and what it loads from them. -/
module

public import proofs.«01_k».proof.Proof.Post.Row
public import proofs.«01_k».proof.Proof.Gen.Kernel2Ideal.Value
public import Idealize.ShloMosaic.Lib.Pointwise
public import Idealize.ShloMosaic.Lib.Pipeline.ValueKit

@[expose] public section

set_option backward.proofsInPublic true
set_option maxRecDepth 65536

noncomputable section

namespace Cert.Kernel2Ideal.Post

open Cert.Kernel2Ideal Cert.Kernel2Ideal.Gen Idealize.ShloMosaic Idealize.ShloMosaic.TcCoe Idealize.SL.Sem

theorem ix3_surj {a b c : ℕ} (x : (⟨3, ![a, b, c]⟩ : Shape).Idx) : ∃ z p l, x = ix3 z p l := by
  exact ⟨x 0, x 1, x 2, funext fun a => by fin_cases a <;> rfl⟩

theorem ix2_surj {a b : ℕ} (x : (⟨2, ![a, b]⟩ : Shape).Idx) : ∃ p l, x = ix2 p l := by
  exact ⟨x 0, x 1, funext fun a => by fin_cases a <;> rfl⟩

/-! Numerators: four slabs of 128 channels, the stores of `st` residues interleaved. -/

/-- The stores with number below `k` into the rows from `lo` on are there and leave the values of `G`. -/
def Tiles (G : S4x512x128.Idx → EReal) (st lo k : ℕ) (L : List (View.Piece (Elt Ideal) S4x512x128 .f32)) : Prop :=
  (∀ q ∈ L, ∀ x, q.2 x = G (q.1.emb x)) ∧
    ∀ y : S4x512x128.Idx, lo ≤ (y 1).val → (y 1).val < lo + 256 → (y 1).val % st * 4 + (y 0).val < k → ∃ q ∈ L, y ∈ q.1.set

theorem tiles_nil (G st lo) : Tiles G st lo 0 [] := ⟨fun _ h => absurd h List.not_mem_nil, fun _ _ _ h => absurd h (Nat.not_lt_zero _)⟩

theorem tiles_more {G st lo k L} (lo' : ℕ) (h : Tiles G st lo k L) : Tiles G st lo' 0 L := ⟨h.1, fun _ _ _ h => absurd h (Nat.not_lt_zero _)⟩

theorem tiles_cons {G : S4x512x128.Idx → EReal} {st lo k n d0 d1 : ℕ} {hin hpos}
    {v : (⟨3, ![1, n, 128]⟩ : Shape).Idx → EReal} {L : List (View.Piece (Elt Ideal) S4x512x128 .f32)}
    (hst : st * n = 256) (h0 : 0 < st) (hk : k < 4 * st) (hlo : lo % st = 0) (e : d0 = k % 4 ∧ d1 = lo + k / 4)
    (hv : ∀ (r : Fin n) (l : Fin 128) (h : d1 + st * r.val < 512) (h' : d0 < 4), v (ix3 0 r l) = G (ix3 ⟨d0, h'⟩ ⟨d1 + st * r.val, h⟩ l))
    (hL : Tiles G st lo k L) :
    Tiles G st lo (k + 1) (⟨⟨⟨![d0, d1, 0], ![1, n, 128], ![1, st, 1], hin⟩, hpos⟩, v⟩ :: L) := by
  obtain ⟨e0, e1⟩ := e
  have hk4 : k / 4 < st := by omega
  refine ⟨List.forall_mem_cons.2 ⟨fun x => ?_, hL.1⟩, fun y hy hy' hk' => ?_⟩
  · obtain ⟨z, r, l, rfl⟩ := ix3_surj (a := 1) (b := n) (c := 128) x
    obtain rfl : z = 0 := Subsingleton.elim _ _
    have hr : d1 + st * r.val < 512 := by
      have := hin 1
      have hr := r.isLt
      have t : d1 + st * (n - 1) < 512 := by
        rcases this with h | h
        · exact absurd (show n = 0 from h) (by omega)
        · exact h
      have : st * r.val ≤ st * (n - 1) := Nat.mul_le_mul_left _ (by omega)
      omega
    have h4 : d0 < 4 := by omega
    refine (hv r l hr h4).trans (congrArg G (funext fun a => Fin.ext ?_))
    fin_cases a
    · exact (show d0 = d0 + 1 * 0 by omega)
    · rfl
    · exact (show l.val = 0 + 1 * l.val by omega)
  · rcases Nat.lt_succ_iff_lt_or_eq.1 hk' with h | h
    · obtain ⟨q, hq, hy⟩ := hL.2 y hy hy' h
      exact ⟨q, List.mem_cons_of_mem _ hq, hy⟩
    · refine ⟨_, List.mem_cons_self .., (LoadRect.mem_set _).2 fun a => ?_⟩
      have y0 : (y 0).val < 4 := (y 0).isLt
      have y2 : (y 2).val < 128 := (y 2).isLt
      fin_cases a
      · exact ⟨0, Nat.one_pos, (show (y 0).val = d0 + 1 * 0 by omega)⟩
      · have hm : (y 1).val % st = k / 4 := by omega
        have hd : lo / st * st = lo := Nat.div_mul_cancel (Nat.dvd_of_mod_eq_zero hlo)
        have hy1 := Nat.div_add_mod (y 1).val st
        refine ⟨(y 1).val / st - lo / st, ?_, ?_⟩
        · have : (y 1).val / st < lo / st + n := by
            rw [Nat.div_lt_iff_lt_mul h0, Nat.add_mul, hd, Nat.mul_comm n, hst]; exact hy'
          have : lo / st ≤ (y 1).val / st := Nat.div_le_div_right hy
          exact (show (y 1).val / st - lo / st < n by omega)
        · refine (show (y 1).val = d1 + st * ((y 1).val / st - lo / st) from ?_)
          rw [Nat.mul_sub, Nat.mul_comm st (lo / st), hd]
          have : lo ≤ st * ((y 1).val / st) := by
            rw [← hd, Nat.mul_comm]; exact Nat.mul_le_mul_left _ (Nat.div_le_div_right hy)
          omega
      · exact ⟨(y 2).val, y2, (show (y 2).val = 0 + 1 * (y 2).val by omega)⟩

theorem tiles_load {G : S4x512x128.Idx → EReal} {st lo : ℕ} {L : List (View.Piece (Elt Ideal) S4x512x128 .f32)} (hT : Tiles G st lo (4 * st) L) (h0 : 0 < st)
    (v : View sig .tc .vmem S4x512x128 .f32) (s : ℕ) (hs : s < 4) (h) (r : Fin 256) (l : Fin 128) (hr : lo + r.val < 512) :
    (View.readCov (Val := Elt Ideal) v L (Rect.unit (s := S4x512x128) ![s, lo, 0] S1x256x128.size h).toLoadRect : Vec Ideal S1x256x128 .f32) (ix3 0 r l)
      = G (ix3 ⟨s, hs⟩ ⟨lo + r.val, hr⟩ l) := by
  rw [View.readCov_eq_canon']
  have e : (Rect.unit (s := S4x512x128) ![s, lo, 0] S1x256x128.size h).toLoadRect.idx (ix3 0 r l) = ix3 ⟨s, hs⟩ ⟨lo + r.val, hr⟩ l := by
    refine funext fun a => Fin.ext ?_
    fin_cases a
    · exact (show s + 1 * 0 = s by omega)
    · exact (show lo + 1 * r.val = lo + r.val by omega)
    · exact (show 0 + 1 * l.val = l.val by omega)
  dsimp only
  rw [e]
  refine View.canon_apply_of_pieces (Val := Elt Ideal) G L hT.1 _ (hT.2 _ ?_ ?_ ?_)
  · exact (show lo ≤ lo + r.val by omega)
  · exact (show lo + r.val < lo + 256 by have := r.isLt; omega)
  · exact (show (lo + r.val) % st * 4 + s < 4 * st by have := Nat.mod_lt (lo + r.val) h0; omega)

/-- A dilated attention's numerators at slab, row and lane. -/
def slab4 (X : Vec Ideal S128x2048 .bf16) (y : S4x512x128.Idx) : EReal :=
  X (ix2 ⟨(y 1).val / 4, by have : (y 1).val < 512 := (y 1).isLt; omega⟩
    ⟨(y 1).val % 4 * 512 + (y 0).val * 128 + (y 2).val, by have : (y 0).val < 4 := (y 0).isLt; have : (y 2).val < 128 := (y 2).isLt; omega⟩)
def slab16 (X : Vec Ideal S32x8192 .bf16) (y : S4x512x128.Idx) : EReal :=
  X (ix2 ⟨(y 1).val / 16, by have : (y 1).val < 512 := (y 1).isLt; omega⟩
    ⟨(y 1).val % 16 * 512 + (y 0).val * 128 + (y 2).val, by have : (y 0).val < 4 := (y 0).isLt; have : (y 2).val < 128 := (y 2).isLt; omega⟩)

section
variable (arg5 : Memref sig .tc .vmem S128x2048 .bf16) (harg5 : arg5.IsWhole) (x4 : Vec Ideal S128x2048 .bf16)
  (arg6 : Memref sig .tc .vmem S32x8192 .bf16) (harg6 : arg6.IsWhole) (x5 : Vec Ideal S32x8192 .bf16)

/-- The piece of a block that a store takes. -/
abbrev ld4 (p0 p1 : ℕ) (h : ∀ a, (![p0, p1] : Fin 2 → ℕ) a + S64x128.size a ≤ S128x2048.size a) : Vec Ideal S64x128 .bf16 :=
  View.readAt (Elt Ideal) arg5.view (Rect.unit (s := S128x2048) ![p0, p1] S64x128.size h).toLoadRect (harg5.unread x4)
abbrev ld16 (p0 p1 : ℕ) (h : ∀ a, (![p0, p1] : Fin 2 → ℕ) a + S16x128.size a ≤ S32x8192.size a) : Vec Ideal S16x128 .bf16 :=
  View.readAt (Elt Ideal) arg6.view (Rect.unit (s := S32x8192) ![p0, p1] S16x128.size h).toLoadRect (harg6.unread x5)

variable {arg5 harg5 x4 arg6 harg6 x5}

theorem tiles4 {lo k d0 d1 p0 p1 : ℕ} {hin hpos h} {v : Vec Ideal S1x64x128 .f32} {L : List (View.Piece (Elt Ideal) S4x512x128 .f32)}
    (hv : v = shapeCast S1x64x128 (extf .f32 (ld4 arg5 harg5 x4 p0 p1 h) bitsLt_bf16_f32 : FVec Ideal S64x128 .f32) shapeCasts_S64x128_S1x64x128)
    (hk : k < 16 ∧ lo % 4 = 0 ∧ d0 = k % 4 ∧ d1 = lo + k / 4 ∧ p0 = lo / 4 ∧ p1 = 128 * k) (hL : Tiles (slab4 x4) 4 lo k L) :
    Tiles (slab4 x4) 4 lo (k + 1) (⟨⟨⟨![d0, d1, 0], S1x64x128.size, ![1, 4, 1], hin⟩, hpos⟩, v⟩ :: L) := by
  obtain ⟨a, b, c, d, e, f⟩ := hk
  refine tiles_cons (n := 64) rfl (by norm_num) a b ⟨c, d⟩ (fun r l hr h' => ?_) hL
  rw [hv]
  pointwise [slab4]
  unfold ld4
  rw [View.readAt_eq_ld, harg5.read_unread]
  refine congrArg x4 (funext fun a => Fin.ext ?_)
  have := r.isLt; have := l.isLt
  fin_cases a
  · refine (ValueKit.rect_emb_unit_val _ _ _ _ _).trans (show p0 + r.val = (d1 + 4 * r.val) / 4 from ?_)
    omega
  · refine (ValueKit.rect_emb_unit_val _ _ _ _ _).trans (show p1 + l.val = (d1 + 4 * r.val) % 4 * 512 + d0 * 128 + l.val from ?_)
    omega

theorem tiles16 {lo k d0 d1 p0 p1 : ℕ} {hin hpos h} {v : Vec Ideal S1x16x128 .f32} {L : List (View.Piece (Elt Ideal) S4x512x128 .f32)}
    (hv : v = shapeCast S1x16x128 (extf .f32 (ld16 arg6 harg6 x5 p0 p1 h) bitsLt_bf16_f32 : FVec Ideal S16x128 .f32) shapeCasts_S16x128_S1x16x128)
    (hk : k < 64 ∧ lo % 16 = 0 ∧ d0 = k % 4 ∧ d1 = lo + k / 4 ∧ p0 = lo / 16 ∧ p1 = 128 * k) (hL : Tiles (slab16 x5) 16 lo k L) :
    Tiles (slab16 x5) 16 lo (k + 1) (⟨⟨⟨![d0, d1, 0], S1x16x128.size, ![1, 16, 1], hin⟩, hpos⟩, v⟩ :: L) := by
  obtain ⟨a, b, c, d, e, f⟩ := hk
  refine tiles_cons (n := 16) rfl (by norm_num) a b ⟨c, d⟩ (fun r l hr h' => ?_) hL
  rw [hv]
  pointwise [slab16]
  unfold ld16
  rw [View.readAt_eq_ld, harg6.read_unread]
  refine congrArg x5 (funext fun a => Fin.ext ?_)
  have := r.isLt; have := l.isLt
  fin_cases a
  · refine (ValueKit.rect_emb_unit_val _ _ _ _ _).trans (show p0 + r.val = (d1 + 16 * r.val) / 16 from ?_)
    omega
  · refine (ValueKit.rect_emb_unit_val _ _ _ _ _).trans (show p1 + l.val = (d1 + 16 * r.val) % 16 * 512 + d0 * 128 + l.val from ?_)
    omega

theorem stores4A (c : Dev nD) : Tiles (slab4 x4) 4 0 16 (kernelRun0_A.sl.HS0_16 (F := Ideal) c arg5 harg5 x4) := by
  unfold kernelRun0_A.sl.HS0_16
  iterate 16 refine tiles4 rfl ⟨by decide, rfl, rfl, rfl, rfl, rfl⟩ ?_
  exact tiles_nil _ _ _

theorem stores4B (c : Dev nD) : Tiles (slab4 x4) 4 256 16 (kernelRun0_A.sl.HS0_32 (F := Ideal) c arg5 harg5 x4) := by
  unfold kernelRun0_A.sl.HS0_32
  iterate 16 refine tiles4 rfl ⟨by decide, rfl, rfl, rfl, rfl, rfl⟩ ?_
  exact tiles_more _ (stores4A c)

theorem stores16A (c : Dev nD) : Tiles (slab16 x5) 16 0 64 (kernelRun0_A.sl.HS2_64 (F := Ideal) c arg6 harg6 x5) := by
  unfold kernelRun0_A.sl.HS2_64 kernelRun0_A.sl.HS2_63
  iterate 64 refine tiles16 rfl ⟨by decide, rfl, rfl, rfl, rfl, rfl⟩ ?_
  exact tiles_nil _ _ _

theorem stores16B (c : Dev nD) : Tiles (slab16 x5) 16 256 64 (kernelRun0_A.sl.HS2_128 (F := Ideal) c arg6 harg6 x5) := by
  unfold kernelRun0_A.sl.HS2_128
  iterate 64 refine tiles16 rfl ⟨by decide, rfl, rfl, rfl, rfl, rfl⟩ ?_
  exact tiles_more _ (stores16A c)

end

/-! Statistics: one slab of 128 lanes. -/

/-- As `Tiles`, of the statistics. -/
def Lines (G : S512x128.Idx → EReal) (st lo k : ℕ) (L : List (View.Piece (Elt Ideal) S512x128 .f32)) : Prop :=
  (∀ q ∈ L, ∀ x, q.2 x = G (q.1.emb x)) ∧
    ∀ y : S512x128.Idx, lo ≤ (y 0).val → (y 0).val < lo + 256 → (y 0).val % st < k → ∃ q ∈ L, y ∈ q.1.set

theorem lines_nil (G st lo) : Lines G st lo 0 [] := ⟨fun _ h => absurd h List.not_mem_nil, fun _ _ _ h => absurd h (Nat.not_lt_zero _)⟩

theorem lines_more {G st lo k L} (lo' : ℕ) (h : Lines G st lo k L) : Lines G st lo' 0 L := ⟨h.1, fun _ _ _ h => absurd h (Nat.not_lt_zero _)⟩

theorem lines_cons {G : S512x128.Idx → EReal} {st lo k n d0 : ℕ} {hin hpos}
    {v : (⟨2, ![n, 128]⟩ : Shape).Idx → EReal} {L : List (View.Piece (Elt Ideal) S512x128 .f32)}
    (hst : st * n = 256) (h0 : 0 < st) (hk : k < st) (hlo : lo % st = 0) (e0 : d0 = lo + k)
    (hv : ∀ (r : Fin n) (l : Fin 128) (h : d0 + st * r.val < 512), v (ix2 r l) = G (ix2 ⟨d0 + st * r.val, h⟩ l))
    (hL : Lines G st lo k L) :
    Lines G st lo (k + 1) (⟨⟨⟨![d0, 0], ![n, 128], ![st, 1], hin⟩, hpos⟩, v⟩ :: L) := by
  refine ⟨List.forall_mem_cons.2 ⟨fun x => ?_, hL.1⟩, fun y hy hy' hk' => ?_⟩
  · obtain ⟨r, l, rfl⟩ := ix2_surj (a := n) (b := 128) x
    have hr : d0 + st * r.val < 512 := by
      have := hin 0
      have hr := r.isLt
      have t : d0 + st * (n - 1) < 512 := by
        rcases this with h | h
        · exact absurd (show n = 0 from h) (by omega)
        · exact h
      have : st * r.val ≤ st * (n - 1) := Nat.mul_le_mul_left _ (by omega)
      omega
    refine (hv r l hr).trans (congrArg G (funext fun a => Fin.ext ?_))
    fin_cases a
    · rfl
    · exact (show l.val = 0 + 1 * l.val by omega)
  · rcases Nat.lt_succ_iff_lt_or_eq.1 hk' with h | h
    · obtain ⟨q, hq, hy⟩ := hL.2 y hy hy' h
      exact ⟨q, List.mem_cons_of_mem _ hq, hy⟩
    · refine ⟨_, List.mem_cons_self .., (LoadRect.mem_set _).2 fun a => ?_⟩
      have y2 : (y 1).val < 128 := (y 1).isLt
      fin_cases a
      · have hd : lo / st * st = lo := Nat.div_mul_cancel (Nat.dvd_of_mod_eq_zero hlo)
        have hy1 := Nat.div_add_mod (y 0).val st
        refine ⟨(y 0).val / st - lo / st, ?_, ?_⟩
        · have : (y 0).val / st < lo / st + n := by
            rw [Nat.div_lt_iff_lt_mul h0, Nat.add_mul, hd, Nat.mul_comm n, hst]; exact hy'
          have : lo / st ≤ (y 0).val / st := Nat.div_le_div_right hy
          exact (show (y 0).val / st - lo / st < n by omega)
        · refine (show (y 0).val = d0 + st * ((y 0).val / st - lo / st) from ?_)
          rw [Nat.mul_sub, Nat.mul_comm st (lo / st), hd]
          have : lo ≤ st * ((y 0).val / st) := by
            rw [← hd, Nat.mul_comm]; exact Nat.mul_le_mul_left _ (Nat.div_le_div_right hy)
          omega
      · exact ⟨(y 1).val, y2, (show (y 1).val = 0 + 1 * (y 1).val by omega)⟩

theorem lines_load {G : S512x128.Idx → EReal} {st lo : ℕ} {L : List (View.Piece (Elt Ideal) S512x128 .f32)} (hT : Lines G st lo st L) (h0 : 0 < st)
    (v : View sig .tc .vmem S512x128 .f32) (h) (r : Fin 256) (l : Fin 128) (hr : lo + r.val < 512) :
    (View.readCov (Val := Elt Ideal) v L (Rect.unit (s := S512x128) ![lo, 0] S256x128.size h).toLoadRect : Vec Ideal S256x128 .f32) (ix2 r l)
      = G (ix2 ⟨lo + r.val, hr⟩ l) := by
  rw [View.readCov_eq_canon']
  have e : (Rect.unit (s := S512x128) ![lo, 0] S256x128.size h).toLoadRect.idx (ix2 r l) = ix2 ⟨lo + r.val, hr⟩ l := by
    refine funext fun a => Fin.ext ?_
    fin_cases a
    · exact (show lo + 1 * r.val = lo + r.val by omega)
    · exact (show 0 + 1 * l.val = l.val by omega)
  dsimp only
  rw [e]
  refine View.canon_apply_of_pieces (Val := Elt Ideal) G L hT.1 _ (hT.2 _ ?_ ?_ ?_)
  · exact (show lo ≤ lo + r.val by omega)
  · exact (show lo + r.val < lo + 256 by have := r.isLt; omega)
  · exact Nat.mod_lt _ h0

/-- A dilated attention's statistics at row and lane. -/
def stat4 (X : Vec Ideal S128x512 .f32) (y : S512x128.Idx) : EReal :=
  X (ix2 ⟨(y 0).val / 4, by have : (y 0).val < 512 := (y 0).isLt; omega⟩
    ⟨(y 0).val % 4 * 128 + (y 1).val, by have : (y 1).val < 128 := (y 1).isLt; omega⟩)
def stat16 (X : Vec Ideal S32x2048 .f32) (y : S512x128.Idx) : EReal :=
  X (ix2 ⟨(y 0).val / 16, by have : (y 0).val < 512 := (y 0).isLt; omega⟩
    ⟨(y 0).val % 16 * 128 + (y 1).val, by have : (y 1).val < 128 := (y 1).isLt; omega⟩)

section
variable (arg8 : Memref sig .tc .vmem S128x512 .f32) (harg8 : arg8.IsWhole) (x7 : Vec Ideal S128x512 .f32)
  (arg9 : Memref sig .tc .vmem S32x2048 .f32) (harg9 : arg9.IsWhole) (x8 : Vec Ideal S32x2048 .f32)

/-- The piece of a block that a store takes. -/
abbrev lds4 (p0 p1 : ℕ) (h : ∀ a, (![p0, p1] : Fin 2 → ℕ) a + S64x128.size a ≤ S128x512.size a) : Vec Ideal S64x128 .f32 :=
  View.readAt (Elt Ideal) arg8.view (Rect.unit (s := S128x512) ![p0, p1] S64x128.size h).toLoadRect (harg8.unread x7)
abbrev lds16 (p0 p1 : ℕ) (h : ∀ a, (![p0, p1] : Fin 2 → ℕ) a + S16x128.size a ≤ S32x2048.size a) : Vec Ideal S16x128 .f32 :=
  View.readAt (Elt Ideal) arg9.view (Rect.unit (s := S32x2048) ![p0, p1] S16x128.size h).toLoadRect (harg9.unread x8)

variable {arg8 harg8 x7 arg9 harg9 x8}

theorem lines4 {lo k d0 p0 p1 : ℕ} {hin hpos h} {v : Vec Ideal S64x128 .f32} {L : List (View.Piece (Elt Ideal) S512x128 .f32)}
    (hv : v = shapeCast S64x128 (lds4 arg8 harg8 x7 p0 p1 h) shapeCasts_S64x128_S64x128)
    (hk : k < 4 ∧ lo % 4 = 0 ∧ d0 = lo + k ∧ p0 = lo / 4 ∧ p1 = 128 * k) (hL : Lines (stat4 x7) 4 lo k L) :
    Lines (stat4 x7) 4 lo (k + 1) (⟨⟨⟨![d0, 0], S64x128.size, ![4, 1], hin⟩, hpos⟩, v⟩ :: L) := by
  obtain ⟨a, b, d, e, f⟩ := hk
  refine lines_cons (n := 64) rfl (by norm_num) a b d (fun r l hr => ?_) hL
  rw [hv]
  pointwise [stat4]
  unfold lds4
  rw [View.readAt_eq_ld, harg8.read_unread]
  refine congrArg x7 (funext fun a => Fin.ext ?_)
  have := r.isLt; have := l.isLt
  fin_cases a
  · refine (ValueKit.rect_emb_unit_val _ _ _ _ _).trans (show p0 + r.val = (d0 + 4 * r.val) / 4 from ?_)
    omega
  · refine (ValueKit.rect_emb_unit_val _ _ _ _ _).trans (show p1 + l.val = (d0 + 4 * r.val) % 4 * 128 + l.val from ?_)
    omega

theorem lines16 {lo k d0 p0 p1 : ℕ} {hin hpos h} {v : Vec Ideal S16x128 .f32} {L : List (View.Piece (Elt Ideal) S512x128 .f32)}
    (hv : v = shapeCast S16x128 (lds16 arg9 harg9 x8 p0 p1 h) shapeCasts_S16x128_S16x128)
    (hk : k < 16 ∧ lo % 16 = 0 ∧ d0 = lo + k ∧ p0 = lo / 16 ∧ p1 = 128 * k) (hL : Lines (stat16 x8) 16 lo k L) :
    Lines (stat16 x8) 16 lo (k + 1) (⟨⟨⟨![d0, 0], S16x128.size, ![16, 1], hin⟩, hpos⟩, v⟩ :: L) := by
  obtain ⟨a, b, d, e, f⟩ := hk
  refine lines_cons (n := 16) rfl (by norm_num) a b d (fun r l hr => ?_) hL
  rw [hv]
  pointwise [stat16]
  unfold lds16
  rw [View.readAt_eq_ld, harg9.read_unread]
  refine congrArg x8 (funext fun a => Fin.ext ?_)
  have := r.isLt; have := l.isLt
  fin_cases a
  · refine (ValueKit.rect_emb_unit_val _ _ _ _ _).trans (show p0 + r.val = (d0 + 16 * r.val) / 16 from ?_)
    omega
  · refine (ValueKit.rect_emb_unit_val _ _ _ _ _).trans (show p1 + l.val = (d0 + 16 * r.val) % 16 * 128 + l.val from ?_)
    omega

theorem stores_s4A (c : Dev nD) : Lines (stat4 x7) 4 0 4 (kernelRun0_A.sl.HS1_4 (F := Ideal) c arg8 harg8 x7) := by
  unfold kernelRun0_A.sl.HS1_4
  iterate 4 refine lines4 rfl ⟨by decide, rfl, rfl, rfl, rfl⟩ ?_
  exact lines_nil _ _ _

theorem stores_s4B (c : Dev nD) : Lines (stat4 x7) 4 256 4 (kernelRun0_A.sl.HS1_8 (F := Ideal) c arg8 harg8 x7) := by
  unfold kernelRun0_A.sl.HS1_8
  iterate 4 refine lines4 rfl ⟨by decide, rfl, rfl, rfl, rfl⟩ ?_
  exact lines_more _ (stores_s4A c)

theorem stores_s16A (c : Dev nD) : Lines (stat16 x8) 16 0 16 (kernelRun0_A.sl.HS3_16 (F := Ideal) c arg9 harg9 x8) := by
  unfold kernelRun0_A.sl.HS3_16
  iterate 16 refine lines16 rfl ⟨by decide, rfl, rfl, rfl, rfl⟩ ?_
  exact lines_nil _ _ _

theorem stores_s16B (c : Dev nD) : Lines (stat16 x8) 16 256 16 (kernelRun0_A.sl.HS3_32 (F := Ideal) c arg9 harg9 x8) := by
  unfold kernelRun0_A.sl.HS3_32
  iterate 16 refine lines16 rfl ⟨by decide, rfl, rfl, rfl, rfl⟩ ?_
  exact lines_more _ (stores_s16A c)

end

end Cert.Kernel2Ideal.Post

end
-- ==== Proof.Post.Block.lean ====
/- A block: every row the kernel stores is the function of Row, of the rows it loads. -/
module

public import proofs.«01_k».proof.Proof.Post.Chain
public import proofs.«01_k».proof.Proof.Post.Scratch

@[expose] public section

set_option backward.proofsInPublic true
set_option maxRecDepth 65536

noncomputable section

namespace Cert.Kernel2Ideal.Post

open Cert.Kernel2Ideal Cert.Kernel2Ideal.Gen Idealize.ShloMosaic Idealize.ShloMosaic.TcCoe Idealize.SL.Sem

/-- A load of a rectangle, at an index. -/
theorem load_at {n0 n1 s0 s1 : ℕ} {e : EltTy} (a : Memref sig .tc .vmem ⟨2, ![n0, n1]⟩ e) (ha : a.IsWhole) (X : Vec Ideal ⟨2, ![n0, n1]⟩ e)
    (p0 p1 : ℕ) (h) (i : Fin s0) (j : Fin s1) (i' : Fin n0) (j' : Fin n1) (hi : i'.val = p0 + i.val) (hj : j'.val = p1 + j.val) :
    (View.readAt (Elt Ideal) a.view (Rect.unit (s := ⟨2, ![n0, n1]⟩) ![p0, p1] (⟨2, ![s0, s1]⟩ : Shape).size h).toLoadRect (ha.unread X)
      : Vec Ideal ⟨2, ![s0, s1]⟩ e) (ix2 i j) = X (ix2 i' j') := by
  rw [View.readAt_eq_ld, ha.read_unread]
  refine congrArg X (funext fun a => Fin.ext ?_)
  fin_cases a
  · exact (ValueKit.rect_emb_unit_val _ _ _ _ _).trans hi.symm
  · exact (ValueKit.rect_emb_unit_val _ _ _ _ _).trans hj.symm

/-- The dilated attentions' numerators and statistics for a row of the block. -/
def nb4 (X : Vec Ideal S128x2048 .bf16) (n : Fin 512) (c : Fin 512) : EReal :=
  X (ix2 ⟨n.val / 4, by have := n.isLt; omega⟩ ⟨n.val % 4 * 512 + c.val, by have := c.isLt; omega⟩)
def nb16 (X : Vec Ideal S32x8192 .bf16) (n : Fin 512) (c : Fin 512) : EReal :=
  X (ix2 ⟨n.val / 16, by have := n.isLt; omega⟩ ⟨n.val % 16 * 512 + c.val, by have := c.isLt; omega⟩)
def sb4 (X : Vec Ideal S128x512 .f32) (n : Fin 512) (l : Fin 128) : EReal :=
  X (ix2 ⟨n.val / 4, by have := n.isLt; omega⟩ ⟨n.val % 4 * 128 + l.val, by have := l.isLt; omega⟩)
def sb16 (X : Vec Ideal S32x2048 .f32) (n : Fin 512) (l : Fin 128) : EReal :=
  X (ix2 ⟨n.val / 16, by have := n.isLt; omega⟩ ⟨n.val % 16 * 128 + l.val, by have := l.isLt; omega⟩)

theorem slab4_at (X : Vec Ideal S128x2048 .bf16) (s : ℕ) (hs : s < 4) (n : Fin 512) (l : Fin 128) (q : Fin 512) (hq : q.val = 128 * s + l.val) :
    slab4 X (ix3 ⟨s, hs⟩ n l) = nb4 X n q := by
  show X (ix2 ⟨n.val / 4, _⟩ ⟨n.val % 4 * 512 + s * 128 + l.val, _⟩) = X (ix2 ⟨n.val / 4, _⟩ ⟨n.val % 4 * 512 + q.val, _⟩)
  congr 2; exact Fin.ext (show n.val % 4 * 512 + s * 128 + l.val = n.val % 4 * 512 + q.val by omega)

theorem slab16_at (X : Vec Ideal S32x8192 .bf16) (s : ℕ) (hs : s < 4) (n : Fin 512) (l : Fin 128) (q : Fin 512) (hq : q.val = 128 * s + l.val) :
    slab16 X (ix3 ⟨s, hs⟩ n l) = nb16 X n q := by
  show X (ix2 ⟨n.val / 16, _⟩ ⟨n.val % 16 * 512 + s * 128 + l.val, _⟩) = X (ix2 ⟨n.val / 16, _⟩ ⟨n.val % 16 * 512 + q.val, _⟩)
  congr 2; exact Fin.ext (show n.val % 16 * 512 + s * 128 + l.val = n.val % 16 * 512 + q.val by omega)

/-- A row of the block the kernel stores. -/
def brow (x0 : Vec Ideal S512x1024 .f32) (x1 : Vec Ideal S512x256 .f32) (x2 : Vec Ideal S512x512 .bf16) (x3 : Vec Ideal S512x512 .bf16) (x4 : Vec Ideal S128x2048 .bf16) (x5 : Vec Ideal S32x8192 .bf16) (x6 : Vec Ideal S512x128 .f32) (x7 : Vec Ideal S128x512 .f32) (x8 : Vec Ideal S32x2048 .f32) (x9 : Vec Ideal S256x512 .bf16) (x10 : Vec Ideal S1x512 .f32) (x11 : Vec Ideal S1x512 .f32) (x12 : Vec Ideal S1024x1024 .bf16) (x13 : Vec Ideal S1x1024 .f32) (x14 : Vec Ideal S1x1024 .f32) (x15 : Vec Ideal S1024x4096 .bf16) (x16 : Vec Ideal S4096x1024 .bf16) (x17 : Vec Ideal S1x1024 .f32) (x18 : Vec Ideal S256x1024 .bf16) (x19 : Vec Ideal S1024x1024 .bf16) (x20 : Vec Ideal S1x1024 .f32) (x21 : Vec Ideal S1x1024 .f32) (n : Fin 512) : Fin 1024 → EReal :=
  row (fun k => x0 (ix2 n k)) (fun k => x1 (ix2 n k)) (fun k => x2 (ix2 n k)) (fun k => x3 (ix2 n k)) (nb4 x4 n) (nb16 x5 n)
    (fun l => x6 (ix2 n l)) (sb4 x7 n) (sb16 x8 n) (fun k => x10 (ix2 0 k)) (fun k => x11 (ix2 0 k)) (fun k c => x12 (ix2 k c))
    (fun k => x13 (ix2 0 k)) (fun k => x14 (ix2 0 k)) (fun k j => x15 (ix2 k j)) (fun j c => x16 (ix2 j c)) (fun k => x17 (ix2 0 k))
    (fun k c => x18 (ix2 k c)) (fun k c => x19 (ix2 k c)) (fun k => x20 (ix2 0 k)) (fun k => x21 (ix2 0 k))

/-- The block the kernel stores. -/
def OUT (x0 : Vec Ideal S512x1024 .f32) (x1 : Vec Ideal S512x256 .f32) (x2 : Vec Ideal S512x512 .bf16) (x3 : Vec Ideal S512x512 .bf16) (x4 : Vec Ideal S128x2048 .bf16) (x5 : Vec Ideal S32x8192 .bf16) (x6 : Vec Ideal S512x128 .f32) (x7 : Vec Ideal S128x512 .f32) (x8 : Vec Ideal S32x2048 .f32) (x9 : Vec Ideal S256x512 .bf16) (x10 : Vec Ideal S1x512 .f32) (x11 : Vec Ideal S1x512 .f32) (x12 : Vec Ideal S1024x1024 .bf16) (x13 : Vec Ideal S1x1024 .f32) (x14 : Vec Ideal S1x1024 .f32) (x15 : Vec Ideal S1024x4096 .bf16) (x16 : Vec Ideal S4096x1024 .bf16) (x17 : Vec Ideal S1x1024 .f32) (x18 : Vec Ideal S256x1024 .bf16) (x19 : Vec Ideal S1024x1024 .bf16) (x20 : Vec Ideal S1x1024 .f32) (x21 : Vec Ideal S1x1024 .f32) : Vec Ideal S512x1024 .f32 :=
  fun y => brow x0 x1 x2 x3 x4 x5 x6 x7 x8 x9 x10 x11 x12 x13 x14 x15 x16 x17 x18 x19 x20 x21 (y 0) (y 1)

theorem pieces_cons {S : Shape} {e : EltTy} (G : S.Idx → Elt Ideal e) (p : View.Piece (Elt Ideal) S e) (L : List (View.Piece (Elt Ideal) S e))
    (h : ∀ x : p.1.shape.Idx, p.2 x = G (p.1.emb x)) (hL : ∀ p ∈ L, ∀ x : p.1.shape.Idx, p.2 x = G (p.1.emb x)) :
    ∀ q ∈ p :: L, ∀ x : q.1.shape.Idx, q.2 x = G (q.1.emb x) :=
  List.forall_mem_cons.2 ⟨h, hL⟩

set_option maxHeartbeats 8000000 in
/-- What a grid point leaves in its output block. -/
theorem out22 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x128 .f32) (harg7 : arg7.IsWhole) (arg8 : Memref sig .tc .vmem S128x512 .f32) (harg8 : arg8.IsWhole) (arg9 : Memref sig .tc .vmem S32x2048 .f32) (harg9 : arg9.IsWhole) (arg10 : Memref sig .tc .vmem S256x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S1x1024 .f32) (harg18 : arg18.IsWhole) (arg19 : Memref sig .tc .vmem S256x1024 .bf16) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S512x1024 .f32) (harg23 : arg23.IsWhole) (arg24 : Memref sig .tc .vmem S4x512x128 .f32) (harg24 : arg24.IsWhole) (arg25 : Memref sig .tc .vmem S512x128 .f32) (harg25 : arg25.IsWhole) (arg26 : Memref sig .tc .vmem S4x512x128 .f32) (harg26 : arg26.IsWhole) (arg27 : Memref sig .tc .vmem S512x128 .f32) (harg27 : arg27.IsWhole) (x0 : Vec Ideal S512x1024 .f32) (x1 : Vec Ideal S512x256 .f32) (x2 : Vec Ideal S512x512 .bf16) (x3 : Vec Ideal S512x512 .bf16) (x4 : Vec Ideal S128x2048 .bf16) (x5 : Vec Ideal S32x8192 .bf16) (x6 : Vec Ideal S512x128 .f32) (x7 : Vec Ideal S128x512 .f32) (x8 : Vec Ideal S32x2048 .f32) (x9 : Vec Ideal S256x512 .bf16) (x10 : Vec Ideal S1x512 .f32) (x11 : Vec Ideal S1x512 .f32) (x12 : Vec Ideal S1024x1024 .bf16) (x13 : Vec Ideal S1x1024 .f32) (x14 : Vec Ideal S1x1024 .f32) (x15 : Vec Ideal S1024x4096 .bf16) (x16 : Vec Ideal S4096x1024 .bf16) (x17 : Vec Ideal S1x1024 .f32) (x18 : Vec Ideal S256x1024 .bf16) (x19 : Vec Ideal S1024x1024 .bf16) (x20 : Vec Ideal S1x1024 .f32) (x21 : Vec Ideal S1x1024 .f32)
    (hE : ∀ (j : Fin 256) (k : Fin 512), x9 (ix2 j k) = if j.val % 128 = k.val / 64 then 1 else 0)
    (g1 : ∀ n : Fin 512, Good fun l => x6 (ix2 n l)) (g4 : ∀ n, Good (sb4 x7 n)) (g16 : ∀ n, Good (sb16 x8 n)) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 = OUT x0 x1 x2 x3 x4 x5 x6 x7 x8 x9 x10 x11 x12 x13 x14 x15 x16 x17 x18 x19 x20 x21 := by
  funext y
  unfold out0_A_22
  rw [View.read_writes_junk_eq_canon]
  refine View.canon_apply_of_pieces (OUT x0 x1 x2 x3 x4 x5 x6 x7 x8 x9 x10 x11 x12 x13 x14 x15 x16 x17 x18 x19 x20 x21) _ ?_ y (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 y)
  unfold kernelRun0_A
  dsimp only
  refine pieces_cons _ _ _ (fun x => ?_) (pieces_cons _ _ _ (fun x => ?_) fun _ h => absurd h List.not_mem_nil)
  · obtain ⟨r, c1, rfl⟩ := ix2_surj (a := 256) (b := 1024) x
    have e : (Rect.unit (s := S512x1024) ![256, 0] S256x1024.size (by decide)).emb (ix2 r c1) = ix2 (⟨256 + r.val, by have := r.isLt; omega⟩ : Fin 512) c1 := by
      refine funext fun a => Fin.ext ?_
      fin_cases a
      · exact ValueKit.rect_emb_unit_val _ _ _ _ _
      · exact (ValueKit.rect_emb_unit_val _ _ _ _ _).trans (Nat.zero_add _)
    refine Eq.trans ?_ (congrArg (OUT x0 x1 x2 x3 x4 x5 x6 x7 x8 x9 x10 x11 x12 x13 x14 x15 x16 x17 x18 x19 x20 x21) e.symm)
    exact chainB r
      (View.readAt (Elt Ideal) arg1.view (Rect.unit (s := S512x1024) ![256, 0] S256x1024.size (by decide)).toLoadRect (harg1.unread x0))
      (View.readAt (Elt Ideal) arg2.view (Rect.unit (s := S512x256) ![256, 0] S256x256.size (by decide)).toLoadRect (harg2.unread x1))
      (View.readAt (Elt Ideal) arg3.view (Rect.unit (s := S512x512) ![256, 0] S256x512.size (by decide)).toLoadRect (harg3.unread x2))
      (View.readAt (Elt Ideal) arg4.view (Rect.unit (s := S512x512) ![256, 0] S256x512.size (by decide)).toLoadRect (harg4.unread x3))
      (View.readCov arg24.view (kernelRun0_A.sl.HS0_32 (F := Ideal) c arg5 harg5 x4) (Rect.unit (s := S4x512x128) ![0, 256, 0] S1x256x128.size (by decide)).toLoadRect)
      (View.readCov arg24.view (kernelRun0_A.sl.HS0_32 (F := Ideal) c arg5 harg5 x4) (Rect.unit (s := S4x512x128) ![1, 256, 0] S1x256x128.size (by decide)).toLoadRect)
      (View.readCov arg24.view (kernelRun0_A.sl.HS0_32 (F := Ideal) c arg5 harg5 x4) (Rect.unit (s := S4x512x128) ![2, 256, 0] S1x256x128.size (by decide)).toLoadRect)
      (View.readCov arg24.view (kernelRun0_A.sl.HS0_32 (F := Ideal) c arg5 harg5 x4) (Rect.unit (s := S4x512x128) ![3, 256, 0] S1x256x128.size (by decide)).toLoadRect)
      (View.readCov arg26.view (kernelRun0_A.sl.HS2_128 (F := Ideal) c arg6 harg6 x5) (Rect.unit (s := S4x512x128) ![0, 256, 0] S1x256x128.size (by decide)).toLoadRect)
      (View.readCov arg26.view (kernelRun0_A.sl.HS2_128 (F := Ideal) c arg6 harg6 x5) (Rect.unit (s := S4x512x128) ![1, 256, 0] S1x256x128.size (by decide)).toLoadRect)
      (View.readCov arg26.view (kernelRun0_A.sl.HS2_128 (F := Ideal) c arg6 harg6 x5) (Rect.unit (s := S4x512x128) ![2, 256, 0] S1x256x128.size (by decide)).toLoadRect)
      (View.readCov arg26.view (kernelRun0_A.sl.HS2_128 (F := Ideal) c arg6 harg6 x5) (Rect.unit (s := S4x512x128) ![3, 256, 0] S1x256x128.size (by decide)).toLoadRect)
      (View.readAt (Elt Ideal) arg7.view (Rect.unit (s := S512x128) ![256, 0] S256x128.size (by decide)).toLoadRect (harg7.unread x6))
      (View.readCov arg25.view (kernelRun0_A.sl.HS1_8 (F := Ideal) c arg8 harg8 x7) (Rect.unit (s := S512x128) ![256, 0] S256x128.size (by decide)).toLoadRect)
      (View.readCov arg27.view (kernelRun0_A.sl.HS3_32 (F := Ideal) c arg9 harg9 x8) (Rect.unit (s := S512x128) ![256, 0] S256x128.size (by decide)).toLoadRect)
      (View.readAt (Elt Ideal) arg10.view (Rect.unit (s := S256x512) ![0, 0] S256x512.size (by decide)).toLoadRect (harg10.unread x9))
      (View.readAt (Elt Ideal) arg11.view (Rect.unit (s := S1x512) ![0, 0] S1x512.size (by decide)).toLoadRect (harg11.unread x10))
      (View.readAt (Elt Ideal) arg12.view (Rect.unit (s := S1x512) ![0, 0] S1x512.size (by decide)).toLoadRect (harg12.unread x11))
      (View.readAt (Elt Ideal) arg13.view (Rect.unit (s := S1024x1024) ![0, 0] S512x1024.size (by decide)).toLoadRect (harg13.unread x12))
      (View.readAt (Elt Ideal) arg13.view (Rect.unit (s := S1024x1024) ![512, 0] S512x1024.size (by decide)).toLoadRect (harg13.unread x12))
      (View.readAt (Elt Ideal) arg14.view (Rect.unit (s := S1x1024) ![0, 0] S1x1024.size (by decide)).toLoadRect (harg14.unread x13))
      (View.readAt (Elt Ideal) arg15.view (Rect.unit (s := S1x1024) ![0, 0] S1x1024.size (by decide)).toLoadRect (harg15.unread x14))
      (View.readAt (Elt Ideal) arg16.view (Rect.unit (s := S1024x4096) ![0, 0] S1024x2048.size (by decide)).toLoadRect (harg16.unread x15))
      (View.readAt (Elt Ideal) arg16.view (Rect.unit (s := S1024x4096) ![0, 2048] S1024x2048.size (by decide)).toLoadRect (harg16.unread x15))
      (View.readAt (Elt Ideal) arg17.view (Rect.unit (s := S4096x1024) ![0, 0] S2048x1024.size (by decide)).toLoadRect (harg17.unread x16))
      (View.readAt (Elt Ideal) arg17.view (Rect.unit (s := S4096x1024) ![2048, 0] S2048x1024.size (by decide)).toLoadRect (harg17.unread x16))
      (View.readAt (Elt Ideal) arg18.view (Rect.unit (s := S1x1024) ![0, 0] S1x1024.size (by decide)).toLoadRect (harg18.unread x17))
      (View.readAt (Elt Ideal) arg19.view (Rect.unit (s := S256x1024) ![0, 0] S256x1024.size (by decide)).toLoadRect (harg19.unread x18))
      (View.readAt (Elt Ideal) arg20.view (Rect.unit (s := S1024x1024) ![0, 0] S1024x1024.size (by decide)).toLoadRect (harg20.unread x19))
      (View.readAt (Elt Ideal) arg21.view (Rect.unit (s := S1x1024) ![0, 0] S1x1024.size (by decide)).toLoadRect (harg21.unread x20))
      (View.readAt (Elt Ideal) arg22.view (Rect.unit (s := S1x1024) ![0, 0] S1x1024.size (by decide)).toLoadRect (harg22.unread x21))
      (g1 (⟨256 + r.val, by have := r.isLt; omega⟩ : Fin 512))
      (g4 (⟨256 + r.val, by have := r.isLt; omega⟩ : Fin 512))
      (g16 (⟨256 + r.val, by have := r.isLt; omega⟩ : Fin 512))
      (fun k => load_at arg1 harg1 x0 256 0 _ r k (⟨256 + r.val, by have := r.isLt; omega⟩ : Fin 512) k (by first | rfl | omega | (dsimp only; omega)) (by first | rfl | omega | (dsimp only; omega)))
      (fun k => load_at arg2 harg2 x1 256 0 _ r k (⟨256 + r.val, by have := r.isLt; omega⟩ : Fin 512) k (by first | rfl | omega | (dsimp only; omega)) (by first | rfl | omega | (dsimp only; omega)))
      (fun k => load_at arg3 harg3 x2 256 0 _ r k (⟨256 + r.val, by have := r.isLt; omega⟩ : Fin 512) k (by first | rfl | omega | (dsimp only; omega)) (by first | rfl | omega | (dsimp only; omega)))
      (fun k => load_at arg4 harg4 x3 256 0 _ r k (⟨256 + r.val, by have := r.isLt; omega⟩ : Fin 512) k (by first | rfl | omega | (dsimp only; omega)) (by first | rfl | omega | (dsimp only; omega)))
      (fun l => (tiles_load (stores4B c) (by norm_num) arg24.view 0 (by norm_num) _ r l (by have := r.isLt; omega)).trans (slab4_at x4 0 _ (⟨256 + r.val, by have := r.isLt; omega⟩ : Fin 512) l _ (by first | rfl | omega | (dsimp only; omega))))
      (fun l => (tiles_load (stores4B c) (by norm_num) arg24.view 1 (by norm_num) _ r l (by have := r.isLt; omega)).trans (slab4_at x4 1 _ (⟨256 + r.val, by have := r.isLt; omega⟩ : Fin 512) l _ (by first | rfl | omega | (dsimp only; omega))))
      (fun l => (tiles_load (stores4B c) (by norm_num) arg24.view 2 (by norm_num) _ r l (by have := r.isLt; omega)).trans (slab4_at x4 2 _ (⟨256 + r.val, by have := r.isLt; omega⟩ : Fin 512) l _ (by first | rfl | omega | (dsimp only; omega))))
      (fun l => (tiles_load (stores4B c) (by norm_num) arg24.view 3 (by norm_num) _ r l (by have := r.isLt; omega)).trans (slab4_at x4 3 _ (⟨256 + r.val, by have := r.isLt; omega⟩ : Fin 512) l _ (by first | rfl | omega | (dsimp only; omega))))
      (fun l => (tiles_load (stores16B c) (by norm_num) arg26.view 0 (by norm_num) _ r l (by have := r.isLt; omega)).trans (slab16_at x5 0 _ (⟨256 + r.val, by have := r.isLt; omega⟩ : Fin 512) l _ (by first | rfl | omega | (dsimp only; omega))))
      (fun l => (tiles_load (stores16B c) (by norm_num) arg26.view 1 (by norm_num) _ r l (by have := r.isLt; omega)).trans (slab16_at x5 1 _ (⟨256 + r.val, by have := r.isLt; omega⟩ : Fin 512) l _ (by first | rfl | omega | (dsimp only; omega))))
      (fun l => (tiles_load (stores16B c) (by norm_num) arg26.view 2 (by norm_num) _ r l (by have := r.isLt; omega)).trans (slab16_at x5 2 _ (⟨256 + r.val, by have := r.isLt; omega⟩ : Fin 512) l _ (by first | rfl | omega | (dsimp only; omega))))
      (fun l => (tiles_load (stores16B c) (by norm_num) arg26.view 3 (by norm_num) _ r l (by have := r.isLt; omega)).trans (slab16_at x5 3 _ (⟨256 + r.val, by have := r.isLt; omega⟩ : Fin 512) l _ (by first | rfl | omega | (dsimp only; omega))))
      (fun k => load_at arg7 harg7 x6 256 0 _ r k (⟨256 + r.val, by have := r.isLt; omega⟩ : Fin 512) k (by first | rfl | omega | (dsimp only; omega)) (by first | rfl | omega | (dsimp only; omega)))
      (fun l => lines_load (stores_s4B c) (by norm_num) arg25.view _ r l (by have := r.isLt; omega))
      (fun l => lines_load (stores_s16B c) (by norm_num) arg27.view _ r l (by have := r.isLt; omega))
      (fun j k => (load_at arg10 harg10 x9 0 0 _ j k j k (by first | rfl | omega | (dsimp only; omega)) (by first | rfl | omega | (dsimp only; omega))).trans (hE j k))
      (fun k => load_at arg11 harg11 x10 0 0 _ 0 k 0 k (by first | rfl | omega | (dsimp only; omega)) (by first | rfl | omega | (dsimp only; omega)))
      (fun k => load_at arg12 harg12 x11 0 0 _ 0 k 0 k (by first | rfl | omega | (dsimp only; omega)) (by first | rfl | omega | (dsimp only; omega)))
      (fun k j => load_at arg13 harg13 x12 0 0 _ k j _ _ (by first | rfl | omega | (dsimp only; omega)) (by first | rfl | omega | (dsimp only; omega)))
      (fun k j => load_at arg13 harg13 x12 512 0 _ k j _ _ (by first | rfl | omega | (dsimp only; omega)) (by first | rfl | omega | (dsimp only; omega)))
      (fun k => load_at arg14 harg14 x13 0 0 _ 0 k 0 k (by first | rfl | omega | (dsimp only; omega)) (by first | rfl | omega | (dsimp only; omega)))
      (fun k => load_at arg15 harg15 x14 0 0 _ 0 k 0 k (by first | rfl | omega | (dsimp only; omega)) (by first | rfl | omega | (dsimp only; omega)))
      (fun k j => load_at arg16 harg16 x15 0 0 _ k j _ _ (by first | rfl | omega | (dsimp only; omega)) (by first | rfl | omega | (dsimp only; omega)))
      (fun k j => load_at arg16 harg16 x15 0 2048 _ k j _ _ (by first | rfl | omega | (dsimp only; omega)) (by first | rfl | omega | (dsimp only; omega)))
      (fun k j => load_at arg17 harg17 x16 0 0 _ k j _ _ (by first | rfl | omega | (dsimp only; omega)) (by first | rfl | omega | (dsimp only; omega)))
      (fun k j => load_at arg17 harg17 x16 2048 0 _ k j _ _ (by first | rfl | omega | (dsimp only; omega)) (by first | rfl | omega | (dsimp only; omega)))
      (fun k => load_at arg18 harg18 x17 0 0 _ 0 k 0 k (by first | rfl | omega | (dsimp only; omega)) (by first | rfl | omega | (dsimp only; omega)))
      (fun k j => load_at arg19 harg19 x18 0 0 _ k j _ _ (by first | rfl | omega | (dsimp only; omega)) (by first | rfl | omega | (dsimp only; omega)))
      (fun k j => load_at arg20 harg20 x19 0 0 _ k j _ _ (by first | rfl | omega | (dsimp only; omega)) (by first | rfl | omega | (dsimp only; omega)))
      (fun k => load_at arg21 harg21 x20 0 0 _ 0 k 0 k (by first | rfl | omega | (dsimp only; omega)) (by first | rfl | omega | (dsimp only; omega)))
      (fun k => load_at arg22 harg22 x21 0 0 _ 0 k 0 k (by first | rfl | omega | (dsimp only; omega)) (by first | rfl | omega | (dsimp only; omega))) c1
  · obtain ⟨r, c1, rfl⟩ := ix2_surj (a := 256) (b := 1024) x
    have e : (Rect.unit (s := S512x1024) ![0, 0] S256x1024.size (by decide)).emb (ix2 r c1) = ix2 (⟨0 + r.val, by have := r.isLt; omega⟩ : Fin 512) c1 := by
      refine funext fun a => Fin.ext ?_
      fin_cases a
      · exact ValueKit.rect_emb_unit_val _ _ _ _ _
      · exact (ValueKit.rect_emb_unit_val _ _ _ _ _).trans (Nat.zero_add _)
    refine Eq.trans ?_ (congrArg (OUT x0 x1 x2 x3 x4 x5 x6 x7 x8 x9 x10 x11 x12 x13 x14 x15 x16 x17 x18 x19 x20 x21) e.symm)
    exact chainA r
      (View.readAt (Elt Ideal) arg1.view (Rect.unit (s := S512x1024) ![0, 0] S256x1024.size (by decide)).toLoadRect (harg1.unread x0))
      (View.readAt (Elt Ideal) arg2.view (Rect.unit (s := S512x256) ![0, 0] S256x256.size (by decide)).toLoadRect (harg2.unread x1))
      (View.readAt (Elt Ideal) arg3.view (Rect.unit (s := S512x512) ![0, 0] S256x512.size (by decide)).toLoadRect (harg3.unread x2))
      (View.readAt (Elt Ideal) arg4.view (Rect.unit (s := S512x512) ![0, 0] S256x512.size (by decide)).toLoadRect (harg4.unread x3))
      (View.readCov arg24.view (kernelRun0_A.sl.HS0_16 (F := Ideal) c arg5 harg5 x4) (Rect.unit (s := S4x512x128) ![0, 0, 0] S1x256x128.size (by decide)).toLoadRect)
      (View.readCov arg24.view (kernelRun0_A.sl.HS0_16 (F := Ideal) c arg5 harg5 x4) (Rect.unit (s := S4x512x128) ![1, 0, 0] S1x256x128.size (by decide)).toLoadRect)
      (View.readCov arg24.view (kernelRun0_A.sl.HS0_16 (F := Ideal) c arg5 harg5 x4) (Rect.unit (s := S4x512x128) ![2, 0, 0] S1x256x128.size (by decide)).toLoadRect)
      (View.readCov arg24.view (kernelRun0_A.sl.HS0_16 (F := Ideal) c arg5 harg5 x4) (Rect.unit (s := S4x512x128) ![3, 0, 0] S1x256x128.size (by decide)).toLoadRect)
      (View.readCov arg26.view (kernelRun0_A.sl.HS2_64 (F := Ideal) c arg6 harg6 x5) (Rect.unit (s := S4x512x128) ![0, 0, 0] S1x256x128.size (by decide)).toLoadRect)
      (View.readCov arg26.view (kernelRun0_A.sl.HS2_64 (F := Ideal) c arg6 harg6 x5) (Rect.unit (s := S4x512x128) ![1, 0, 0] S1x256x128.size (by decide)).toLoadRect)
      (View.readCov arg26.view (kernelRun0_A.sl.HS2_64 (F := Ideal) c arg6 harg6 x5) (Rect.unit (s := S4x512x128) ![2, 0, 0] S1x256x128.size (by decide)).toLoadRect)
      (View.readCov arg26.view (kernelRun0_A.sl.HS2_64 (F := Ideal) c arg6 harg6 x5) (Rect.unit (s := S4x512x128) ![3, 0, 0] S1x256x128.size (by decide)).toLoadRect)
      (View.readAt (Elt Ideal) arg7.view (Rect.unit (s := S512x128) ![0, 0] S256x128.size (by decide)).toLoadRect (harg7.unread x6))
      (View.readCov arg25.view (kernelRun0_A.sl.HS1_4 (F := Ideal) c arg8 harg8 x7) (Rect.unit (s := S512x128) ![0, 0] S256x128.size (by decide)).toLoadRect)
      (View.readCov arg27.view (kernelRun0_A.sl.HS3_16 (F := Ideal) c arg9 harg9 x8) (Rect.unit (s := S512x128) ![0, 0] S256x128.size (by decide)).toLoadRect)
      (View.readAt (Elt Ideal) arg10.view (Rect.unit (s := S256x512) ![0, 0] S256x512.size (by decide)).toLoadRect (harg10.unread x9))
      (View.readAt (Elt Ideal) arg11.view (Rect.unit (s := S1x512) ![0, 0] S1x512.size (by decide)).toLoadRect (harg11.unread x10))
      (View.readAt (Elt Ideal) arg12.view (Rect.unit (s := S1x512) ![0, 0] S1x512.size (by decide)).toLoadRect (harg12.unread x11))
      (View.readAt (Elt Ideal) arg13.view (Rect.unit (s := S1024x1024) ![0, 0] S512x1024.size (by decide)).toLoadRect (harg13.unread x12))
      (View.readAt (Elt Ideal) arg13.view (Rect.unit (s := S1024x1024) ![512, 0] S512x1024.size (by decide)).toLoadRect (harg13.unread x12))
      (View.readAt (Elt Ideal) arg14.view (Rect.unit (s := S1x1024) ![0, 0] S1x1024.size (by decide)).toLoadRect (harg14.unread x13))
      (View.readAt (Elt Ideal) arg15.view (Rect.unit (s := S1x1024) ![0, 0] S1x1024.size (by decide)).toLoadRect (harg15.unread x14))
      (View.readAt (Elt Ideal) arg16.view (Rect.unit (s := S1024x4096) ![0, 0] S1024x2048.size (by decide)).toLoadRect (harg16.unread x15))
      (View.readAt (Elt Ideal) arg16.view (Rect.unit (s := S1024x4096) ![0, 2048] S1024x2048.size (by decide)).toLoadRect (harg16.unread x15))
      (View.readAt (Elt Ideal) arg17.view (Rect.unit (s := S4096x1024) ![0, 0] S2048x1024.size (by decide)).toLoadRect (harg17.unread x16))
      (View.readAt (Elt Ideal) arg17.view (Rect.unit (s := S4096x1024) ![2048, 0] S2048x1024.size (by decide)).toLoadRect (harg17.unread x16))
      (View.readAt (Elt Ideal) arg18.view (Rect.unit (s := S1x1024) ![0, 0] S1x1024.size (by decide)).toLoadRect (harg18.unread x17))
      (View.readAt (Elt Ideal) arg19.view (Rect.unit (s := S256x1024) ![0, 0] S256x1024.size (by decide)).toLoadRect (harg19.unread x18))
      (View.readAt (Elt Ideal) arg20.view (Rect.unit (s := S1024x1024) ![0, 0] S1024x1024.size (by decide)).toLoadRect (harg20.unread x19))
      (View.readAt (Elt Ideal) arg21.view (Rect.unit (s := S1x1024) ![0, 0] S1x1024.size (by decide)).toLoadRect (harg21.unread x20))
      (View.readAt (Elt Ideal) arg22.view (Rect.unit (s := S1x1024) ![0, 0] S1x1024.size (by decide)).toLoadRect (harg22.unread x21))
      (g1 (⟨0 + r.val, by have := r.isLt; omega⟩ : Fin 512))
      (g4 (⟨0 + r.val, by have := r.isLt; omega⟩ : Fin 512))
      (g16 (⟨0 + r.val, by have := r.isLt; omega⟩ : Fin 512))
      (fun k => load_at arg1 harg1 x0 0 0 _ r k (⟨0 + r.val, by have := r.isLt; omega⟩ : Fin 512) k (by first | rfl | omega | (dsimp only; omega)) (by first | rfl | omega | (dsimp only; omega)))
      (fun k => load_at arg2 harg2 x1 0 0 _ r k (⟨0 + r.val, by have := r.isLt; omega⟩ : Fin 512) k (by first | rfl | omega | (dsimp only; omega)) (by first | rfl | omega | (dsimp only; omega)))
      (fun k => load_at arg3 harg3 x2 0 0 _ r k (⟨0 + r.val, by have := r.isLt; omega⟩ : Fin 512) k (by first | rfl | omega | (dsimp only; omega)) (by first | rfl | omega | (dsimp only; omega)))
      (fun k => load_at arg4 harg4 x3 0 0 _ r k (⟨0 + r.val, by have := r.isLt; omega⟩ : Fin 512) k (by first | rfl | omega | (dsimp only; omega)) (by first | rfl | omega | (dsimp only; omega)))
      (fun l => (tiles_load (stores4A c) (by norm_num) arg24.view 0 (by norm_num) _ r l (by have := r.isLt; omega)).trans (slab4_at x4 0 _ (⟨0 + r.val, by have := r.isLt; omega⟩ : Fin 512) l _ (by first | rfl | omega | (dsimp only; omega))))
      (fun l => (tiles_load (stores4A c) (by norm_num) arg24.view 1 (by norm_num) _ r l (by have := r.isLt; omega)).trans (slab4_at x4 1 _ (⟨0 + r.val, by have := r.isLt; omega⟩ : Fin 512) l _ (by first | rfl | omega | (dsimp only; omega))))
      (fun l => (tiles_load (stores4A c) (by norm_num) arg24.view 2 (by norm_num) _ r l (by have := r.isLt; omega)).trans (slab4_at x4 2 _ (⟨0 + r.val, by have := r.isLt; omega⟩ : Fin 512) l _ (by first | rfl | omega | (dsimp only; omega))))
      (fun l => (tiles_load (stores4A c) (by norm_num) arg24.view 3 (by norm_num) _ r l (by have := r.isLt; omega)).trans (slab4_at x4 3 _ (⟨0 + r.val, by have := r.isLt; omega⟩ : Fin 512) l _ (by first | rfl | omega | (dsimp only; omega))))
      (fun l => (tiles_load (stores16A c) (by norm_num) arg26.view 0 (by norm_num) _ r l (by have := r.isLt; omega)).trans (slab16_at x5 0 _ (⟨0 + r.val, by have := r.isLt; omega⟩ : Fin 512) l _ (by first | rfl | omega | (dsimp only; omega))))
      (fun l => (tiles_load (stores16A c) (by norm_num) arg26.view 1 (by norm_num) _ r l (by have := r.isLt; omega)).trans (slab16_at x5 1 _ (⟨0 + r.val, by have := r.isLt; omega⟩ : Fin 512) l _ (by first | rfl | omega | (dsimp only; omega))))
      (fun l => (tiles_load (stores16A c) (by norm_num) arg26.view 2 (by norm_num) _ r l (by have := r.isLt; omega)).trans (slab16_at x5 2 _ (⟨0 + r.val, by have := r.isLt; omega⟩ : Fin 512) l _ (by first | rfl | omega | (dsimp only; omega))))
      (fun l => (tiles_load (stores16A c) (by norm_num) arg26.view 3 (by norm_num) _ r l (by have := r.isLt; omega)).trans (slab16_at x5 3 _ (⟨0 + r.val, by have := r.isLt; omega⟩ : Fin 512) l _ (by first | rfl | omega | (dsimp only; omega))))
      (fun k => load_at arg7 harg7 x6 0 0 _ r k (⟨0 + r.val, by have := r.isLt; omega⟩ : Fin 512) k (by first | rfl | omega | (dsimp only; omega)) (by first | rfl | omega | (dsimp only; omega)))
      (fun l => lines_load (stores_s4A c) (by norm_num) arg25.view _ r l (by have := r.isLt; omega))
      (fun l => lines_load (stores_s16A c) (by norm_num) arg27.view _ r l (by have := r.isLt; omega))
      (fun j k => (load_at arg10 harg10 x9 0 0 _ j k j k (by first | rfl | omega | (dsimp only; omega)) (by first | rfl | omega | (dsimp only; omega))).trans (hE j k))
      (fun k => load_at arg11 harg11 x10 0 0 _ 0 k 0 k (by first | rfl | omega | (dsimp only; omega)) (by first | rfl | omega | (dsimp only; omega)))
      (fun k => load_at arg12 harg12 x11 0 0 _ 0 k 0 k (by first | rfl | omega | (dsimp only; omega)) (by first | rfl | omega | (dsimp only; omega)))
      (fun k j => load_at arg13 harg13 x12 0 0 _ k j _ _ (by first | rfl | omega | (dsimp only; omega)) (by first | rfl | omega | (dsimp only; omega)))
      (fun k j => load_at arg13 harg13 x12 512 0 _ k j _ _ (by first | rfl | omega | (dsimp only; omega)) (by first | rfl | omega | (dsimp only; omega)))
      (fun k => load_at arg14 harg14 x13 0 0 _ 0 k 0 k (by first | rfl | omega | (dsimp only; omega)) (by first | rfl | omega | (dsimp only; omega)))
      (fun k => load_at arg15 harg15 x14 0 0 _ 0 k 0 k (by first | rfl | omega | (dsimp only; omega)) (by first | rfl | omega | (dsimp only; omega)))
      (fun k j => load_at arg16 harg16 x15 0 0 _ k j _ _ (by first | rfl | omega | (dsimp only; omega)) (by first | rfl | omega | (dsimp only; omega)))
      (fun k j => load_at arg16 harg16 x15 0 2048 _ k j _ _ (by first | rfl | omega | (dsimp only; omega)) (by first | rfl | omega | (dsimp only; omega)))
      (fun k j => load_at arg17 harg17 x16 0 0 _ k j _ _ (by first | rfl | omega | (dsimp only; omega)) (by first | rfl | omega | (dsimp only; omega)))
      (fun k j => load_at arg17 harg17 x16 2048 0 _ k j _ _ (by first | rfl | omega | (dsimp only; omega)) (by first | rfl | omega | (dsimp only; omega)))
      (fun k => load_at arg18 harg18 x17 0 0 _ 0 k 0 k (by first | rfl | omega | (dsimp only; omega)) (by first | rfl | omega | (dsimp only; omega)))
      (fun k j => load_at arg19 harg19 x18 0 0 _ k j _ _ (by first | rfl | omega | (dsimp only; omega)) (by first | rfl | omega | (dsimp only; omega)))
      (fun k j => load_at arg20 harg20 x19 0 0 _ k j _ _ (by first | rfl | omega | (dsimp only; omega)) (by first | rfl | omega | (dsimp only; omega)))
      (fun k => load_at arg21 harg21 x20 0 0 _ 0 k 0 k (by first | rfl | omega | (dsimp only; omega)) (by first | rfl | omega | (dsimp only; omega)))
      (fun k => load_at arg22 harg22 x21 0 0 _ 0 k 0 k (by first | rfl | omega | (dsimp only; omega)) (by first | rfl | omega | (dsimp only; omega))) c1

end Cert.Kernel2Ideal.Post

end
-- ==== Proof.Post.Ref.lean ====
/- The reference's row: its stages, one token at a time, are the functions of Row. -/
module

public import proofs.«01_k».proof.Proof.Post.Row
public import proofs.«01_k».proof.Proof.Dil.Ref
public import proofs.«01_k».proof.Proof.Gen.Reference2Ideal.Read

@[expose] public section

set_option backward.proofsInPublic true
set_option maxRecDepth 16384

noncomputable section

namespace Cert.Kernel2Ideal.Post

open Cert.Reference2Ideal Cert.Reference2Ideal.Gen Cert.Reference2Ideal.Read Idealize.ShloMosaic Idealize.ShloMosaic.TcCoe Idealize.SL.Sem
open Cert.KernelIdeal.Dil (pow_two)

section
variable (x0 : Vec Ideal S32768x1024 .f32) (x1 : Vec Ideal S32768x256 .f32) (x2 x3 : Vec Ideal S32768x512 .bf16)
  (x4 : Vec Ideal S8192x2048 .bf16) (x5 : Vec Ideal S2048x8192 .bf16) (x6 : Vec Ideal S32768x128 .f32) (x7 : Vec Ideal S8192x512 .f32)
  (x8 : Vec Ideal S2048x2048 .f32) (n : Fin 32768)

/-- A token's numerators and statistics, where the attentions left them: four or sixteen tokens to a line. -/
def num1 (c : Fin 512) : EReal := x3 (ix2 n c)
def num4 (c : Fin 512) : EReal := x4 (ix2 ⟨n.val / 4, by have := n.isLt; omega⟩ ⟨n.val % 4 * 512 + c.val, by have := c.isLt; omega⟩)
def num16 (c : Fin 512) : EReal := x5 (ix2 ⟨n.val / 16, by have := n.isLt; omega⟩ ⟨n.val % 16 * 512 + c.val, by have := c.isLt; omega⟩)
def sta1 (l : Fin 128) : EReal := x6 (ix2 n l)
def sta4 (l : Fin 128) : EReal := x7 (ix2 ⟨n.val / 4, by have := n.isLt; omega⟩ ⟨n.val % 4 * 128 + l.val, by have := l.isLt; omega⟩)
def sta16 (l : Fin 128) : EReal := x8 (ix2 ⟨n.val / 16, by have := n.isLt; omega⟩ ⟨n.val % 16 * 128 + l.val, by have := l.isLt; omega⟩)

/-- A head of the dilated group as a lane. -/
def hl (h : Fin 8) : Fin 128 := ⟨h.val, by have := h.isLt; omega⟩

theorem num1_at (h : Fin 8) (d : Fin 64) : val_main_v1 (F := Ideal) x3 (ix3 n h d) = num1 x3 n ⟨h.val * 64 + d.val, by have := h.isLt; have := d.isLt; omega⟩ := by
  pointwise [val_main_v1, val_main_v0, num1]

theorem num4_at (h : Fin 8) (d : Fin 64) : val_main_v3 (F := Ideal) x4 (ix3 n h d) = num4 x4 n ⟨h.val * 64 + d.val, by have := h.isLt; have := d.isLt; omega⟩ := by
  pointwise [val_main_v3, val_main_v2, num4]
  exact congrArg (fun q => x4 (ix2 _ q)) (Fin.ext (Nat.add_assoc _ _ _))

theorem num16_at (h : Fin 8) (d : Fin 64) : val_main_v5 (F := Ideal) x5 (ix3 n h d) = num16 x5 n ⟨h.val * 64 + d.val, by have := h.isLt; have := d.isLt; omega⟩ := by
  pointwise [val_main_v5, val_main_v4, num16]
  exact congrArg (fun q => x5 (ix2 _ q)) (Fin.ext (Nat.add_assoc _ _ _))

theorem m1_at (h : Fin 8) : val_main_v6 (F := Ideal) x6 (ix2 n h) = sta1 x6 n (hl h) := by
  pointwise [val_main_v6, sta1, hl]

theorem m4_at (h : Fin 8) : val_main_v8 (F := Ideal) x7 (ix2 n h) = sta4 x7 n (hl h) := by
  pointwise [val_main_v8, val_main_v7, sta4, hl]

theorem m16_at (h : Fin 8) : val_main_v10 (F := Ideal) x8 (ix2 n h) = sta16 x8 n (hl h) := by
  pointwise [val_main_v10, val_main_v9, sta16, hl]

theorem up_hl (h : Fin 8) : up (hl h) = ⟨8 + h.val, by have := h.isLt; omega⟩ :=
  Fin.ext (show (h.val + 128 - 120) % 128 = 8 + h.val by have := h.isLt; omega)

theorem d1_at (h : Fin 8) : val_main_v11 (F := Ideal) x6 (ix2 n h) = sta1 x6 n (up (hl h)) := by
  rw [up_hl]
  pointwise [val_main_v11, sta1]

theorem d4_at (h : Fin 8) : val_main_v13 (F := Ideal) x7 (ix2 n h) = sta4 x7 n (up (hl h)) := by
  rw [up_hl]
  pointwise [val_main_v13, val_main_v12, sta4]

theorem d16_at (h : Fin 8) : val_main_v15 (F := Ideal) x8 (ix2 n h) = sta16 x8 n (up (hl h)) := by
  rw [up_hl]
  pointwise [val_main_v15, val_main_v14, sta16]

theorem top_at (h : Fin 8) : val_main_v17 (F := Ideal) x6 x7 x8 (ix2 n h) = top (sta1 x6 n) (sta4 x7 n) (sta16 x8 n) (hl h) := by
  pointwise [val_main_v17, val_main_v16, m1_at, m4_at, m16_at, top]

theorem sc1_at (h : Fin 8) : val_main_v20 (F := Ideal) x6 x7 x8 (ix2 n h) = sc (sta1 x6 n) (sta4 x7 n) (sta16 x8 n) (sta1 x6 n) (hl h) := by
  pointwise [val_main_v20, val_main_v19, val_main_v18, val_main_cst, m1_at, top_at, sc, pow_two]

theorem sc4_at (h : Fin 8) : val_main_v24 (F := Ideal) x6 x7 x8 (ix2 n h) = sc (sta1 x6 n) (sta4 x7 n) (sta16 x8 n) (sta4 x7 n) (hl h) := by
  pointwise [val_main_v24, val_main_v23, val_main_v22, val_main_cst_0, m4_at, top_at, sc, pow_two]

theorem sc16_at (h : Fin 8) : val_main_v28 (F := Ideal) x6 x7 x8 (ix2 n h) = sc (sta1 x6 n) (sta4 x7 n) (sta16 x8 n) (sta16 x8 n) (hl h) := by
  pointwise [val_main_v28, val_main_v27, val_main_v26, val_main_cst_1, m16_at, top_at, sc, pow_two]

theorem tot_at (h : Fin 8) : val_main_v31 (F := Ideal) x6 x7 x8 (ix2 n h) = tot (sta1 x6 n) (sta4 x7 n) (sta16 x8 n) (hl h) := by
  pointwise [val_main_v31, val_main_v30, val_main_v29, val_main_v25, val_main_v21, sc1_at, sc4_at, sc16_at, d1_at, d4_at, d16_at, tot]

section
variable {x6 x7 x8 n} (h1 : Good (sta1 x6 n)) (h4 : Good (sta4 x7 n)) (h16 : Good (sta16 x8 n))
include h1 h4 h16

theorem term1_at (h : Fin 8) (d : Fin 64) : val_main_v38 (F := Ideal) x3 x6 x7 x8 (ix3 n h d)
    = share (sta1 x6 n) (sta4 x7 n) (sta16 x8 n) (sta1 x6 n) (hl h) * num1 x3 n ⟨h.val * 64 + d.val, by have := h.isLt; have := d.isLt; omega⟩ := by
  rw [← share_norm h1 h4 h16 h1 (hl h) h.isLt]
  pointwise [val_main_v38, val_main_v37, val_main_v36, val_main_v35, val_main_v34, val_main_v33, val_main_v32, val_main_v21, sc1_at, d1_at, tot_at, num1_at]

theorem term4_at (h : Fin 8) (d : Fin 64) : val_main_v45 (F := Ideal) x4 x6 x7 x8 (ix3 n h d)
    = share (sta1 x6 n) (sta4 x7 n) (sta16 x8 n) (sta4 x7 n) (hl h) * num4 x4 n ⟨h.val * 64 + d.val, by have := h.isLt; have := d.isLt; omega⟩ := by
  rw [← share_norm h1 h4 h16 h4 (hl h) h.isLt]
  pointwise [val_main_v45, val_main_v44, val_main_v43, val_main_v42, val_main_v41, val_main_v40, val_main_v39, val_main_v25, sc4_at, d4_at, tot_at, num4_at]

theorem term16_at (h : Fin 8) (d : Fin 64) : val_main_v52 (F := Ideal) x5 x6 x7 x8 (ix3 n h d)
    = share (sta1 x6 n) (sta4 x7 n) (sta16 x8 n) (sta16 x8 n) (hl h) * num16 x5 n ⟨h.val * 64 + d.val, by have := h.isLt; have := d.isLt; omega⟩ := by
  rw [← share_norm h1 h4 h16 h16 (hl h) h.isLt]
  pointwise [val_main_v52, val_main_v51, val_main_v50, val_main_v49, val_main_v48, val_main_v47, val_main_v46, val_main_v29, sc16_at, d16_at, tot_at, num16_at]

theorem ob_at (c : Fin 512) : val_main_v55 (F := Ideal) x3 x4 x5 x6 x7 x8 (ix2 n c)
    = ob (sta1 x6 n) (sta4 x7 n) (sta16 x8 n) (num1 x3 n) (num4 x4 n) (num16 x5 n) c := by
  pointwise [val_main_v55, val_main_v54, val_main_v53, term1_at x3 h1 h4 h16, term4_at x4 h1 h4 h16, term16_at x5 h1 h4 h16]
  have e : (⟨c.val / 64 * 64 + c.val % 64, by have := c.isLt; omega⟩ : Fin 512) = c := Fin.ext (by change c.val / 64 * 64 + c.val % 64 = c.val; omega)
  rw [e]
  rfl

end

variable (x9 x10 : Vec Ideal S1x512 .f32) (x11 : Vec Ideal S1024x1024 .bf16) (x12 x13 : Vec Ideal S1x1024 .f32)
  (x14 : Vec Ideal S1024x4096 .bf16) (x15 : Vec Ideal S4096x1024 .bf16) (x16 : Vec Ideal S1x1024 .f32) (x17 : Vec Ideal S256x1024 .bf16)
  (x18 : Vec Ideal S1024x1024 .bf16) (x19 x20 : Vec Ideal S1x1024 .f32)

theorem oan_at (c : Fin 512) : val_main_v68 (F := Ideal) x2 x9 (ix2 n c) = rms D512 (fun c => x2 (ix2 n c)) (fun c => x9 (ix2 0 c)) c := by
  pointwise [val_main_v68, val_main_v67, val_main_v66, val_main_v65, val_main_v64, val_main_v63, val_main_v62, val_main_v61, val_main_v60, val_main_v59, val_main_v58,
    val_main_v57, val_main_v56, val_main_cst_2, val_main_cst_3, val_main_cst_4, rms, D512, eps]

theorem obn_at (c : Fin 512) : val_main_v80 (F := Ideal) x3 x4 x5 x6 x7 x8 x10 (ix2 n c)
    = rms D512 (fun c => val_main_v55 (F := Ideal) x3 x4 x5 x6 x7 x8 (ix2 n c)) (fun c => x10 (ix2 0 c)) c := by
  pointwise [val_main_v80, val_main_v79, val_main_v78, val_main_v77, val_main_v76, val_main_v75, val_main_v74, val_main_v73, val_main_v72, val_main_v71, val_main_v70,
    val_main_v69, val_main_cst_5, val_main_cst_6, val_main_cst_7, rms, D512, eps]
  trace_state

theorem mix_at (c : Fin 1024) : val_main_v83 (F := Ideal) x2 x3 x4 x5 x6 x7 x8 x9 x10 x11 (ix2 n c)
    = proj (fun k => val_main_v68 (F := Ideal) x2 x9 (ix2 n k)) (fun k => val_main_v80 (F := Ideal) x3 x4 x5 x6 x7 x8 x10 (ix2 n k)) (fun k c => x11 (ix2 k c)) c := by
  pointwise [val_main_v83, val_main_v82, val_main_v81, proj]

theorem h_at (c : Fin 1024) : val_main_v96 (F := Ideal) x0 x2 x3 x4 x5 x6 x7 x8 x9 x10 x11 x12 (ix2 n c)
    = resid (fun k => x0 (ix2 n k)) (fun k => val_main_v83 (F := Ideal) x2 x3 x4 x5 x6 x7 x8 x9 x10 x11 (ix2 n k)) (fun k => x12 (ix2 0 k)) c := by
  pointwise [val_main_v96, val_main_v95, val_main_v94, val_main_v93, val_main_v92, val_main_v91, val_main_v90, val_main_v89, val_main_v88, val_main_v87, val_main_v86,
    val_main_v85, val_main_v84, val_main_cst_8, val_main_cst_9, val_main_cst_10, resid, rms, D1024, eps]

theorem v_at (c : Fin 1024) : val_main_v108 (F := Ideal) x0 x2 x3 x4 x5 x6 x7 x8 x9 x10 x11 x12 x13 (ix2 n c)
    = rms D1024 (fun k => val_main_v96 (F := Ideal) x0 x2 x3 x4 x5 x6 x7 x8 x9 x10 x11 x12 (ix2 n k)) (fun k => x13 (ix2 0 k)) c := by
  pointwise [val_main_v108, val_main_v107, val_main_v106, val_main_v105, val_main_v104, val_main_v103, val_main_v102, val_main_v101, val_main_v100, val_main_v99,
    val_main_v98, val_main_v97, val_main_cst_11, val_main_cst_12, val_main_cst_13, rms, D1024, eps]

theorem hidden_at (j : Fin 4096) : val_main_v113 (F := Ideal) x0 x2 x3 x4 x5 x6 x7 x8 x9 x10 x11 x12 x13 x14 (ix2 n j)
    = hidden (fun k => val_main_v108 (F := Ideal) x0 x2 x3 x4 x5 x6 x7 x8 x9 x10 x11 x12 x13 (ix2 n k)) (fun k j => x14 (ix2 k j)) j := by
  pointwise [val_main_v113, val_main_v112, val_main_v111, val_main_v110, val_main_v109, val_main_cst_14, hidden]

theorem ff_at (c : Fin 1024) : val_main_v115 (F := Ideal) x0 x2 x3 x4 x5 x6 x7 x8 x9 x10 x11 x12 x13 x14 x15 (ix2 n c)
    = ff (fun k => val_main_v108 (F := Ideal) x0 x2 x3 x4 x5 x6 x7 x8 x9 x10 x11 x12 x13 (ix2 n k)) (fun k j => x14 (ix2 k j)) (fun j c => x15 (ix2 j c)) c := by
  pointwise [val_main_v115, val_main_v114, hidden_at, ff]
  exact sum_half (n := 2048) _

theorem h2_at (c : Fin 1024) : val_main_v128 (F := Ideal) x0 x2 x3 x4 x5 x6 x7 x8 x9 x10 x11 x12 x13 x14 x15 x16 (ix2 n c)
    = resid (fun k => val_main_v96 (F := Ideal) x0 x2 x3 x4 x5 x6 x7 x8 x9 x10 x11 x12 (ix2 n k))
      (fun k => val_main_v115 (F := Ideal) x0 x2 x3 x4 x5 x6 x7 x8 x9 x10 x11 x12 x13 x14 x15 (ix2 n k)) (fun k => x16 (ix2 0 k)) c := by
  pointwise [val_main_v128, val_main_v127, val_main_v126, val_main_v125, val_main_v124, val_main_v123, val_main_v122, val_main_v121, val_main_v120, val_main_v119,
    val_main_v118, val_main_v117, val_main_v116, val_main_cst_15, val_main_cst_16, val_main_cst_17, resid, rms, D1024, eps]

theorem gated_at (c : Fin 1024) : val_main_v141 (F := Ideal) x0 x1 x2 x3 x4 x5 x6 x7 x8 x9 x10 x11 x12 x13 x14 x15 x16 x17 x18 x19 (ix2 n c)
    = gated (fun k => val_main_v128 (F := Ideal) x0 x2 x3 x4 x5 x6 x7 x8 x9 x10 x11 x12 x13 x14 x15 x16 (ix2 n k)) (fun k => x1 (ix2 n k))
      (fun k c => x17 (ix2 k c)) (fun k c => x18 (ix2 k c)) (fun k => x19 (ix2 0 k)) c := by
  pointwise [val_main_v141, val_main_v140, val_main_v139, val_main_v138, val_main_v137, val_main_v136, val_main_v135, val_main_v134, val_main_v133, val_main_v132,
    val_main_v131, val_main_v130, val_main_v129, val_main_cst_18, val_main_cst_19, gated, Ideal.logistic]

theorem out_at (c : Fin 1024) : val_main_v154 (F := Ideal) x0 x1 x2 x3 x4 x5 x6 x7 x8 x9 x10 x11 x12 x13 x14 x15 x16 x17 x18 x19 x20 (ix2 n c)
    = resid (fun k => val_main_v128 (F := Ideal) x0 x2 x3 x4 x5 x6 x7 x8 x9 x10 x11 x12 x13 x14 x15 x16 (ix2 n k))
      (fun k => val_main_v141 (F := Ideal) x0 x1 x2 x3 x4 x5 x6 x7 x8 x9 x10 x11 x12 x13 x14 x15 x16 x17 x18 x19 (ix2 n k)) (fun k => x20 (ix2 0 k)) c := by
  pointwise [val_main_v154, val_main_v153, val_main_v152, val_main_v151, val_main_v150, val_main_v149, val_main_v148, val_main_v147, val_main_v146, val_main_v145,
    val_main_v144, val_main_v143, val_main_v142, val_main_cst_20, val_main_cst_21, val_main_cst_22, resid, rms, D1024, eps]

/-- The reference's row. -/
theorem ref_row (h1 : Good (sta1 x6 n)) (h4 : Good (sta4 x7 n)) (h16 : Good (sta16 x8 n)) (c : Fin 1024) :
    val_main_v154 (F := Ideal) x0 x1 x2 x3 x4 x5 x6 x7 x8 x9 x10 x11 x12 x13 x14 x15 x16 x17 x18 x19 x20 (ix2 n c)
      = row (fun k => x0 (ix2 n k)) (fun k => x1 (ix2 n k)) (fun k => x2 (ix2 n k)) (num1 x3 n) (num4 x4 n) (num16 x5 n) (sta1 x6 n) (sta4 x7 n) (sta16 x8 n)
        (fun k => x9 (ix2 0 k)) (fun k => x10 (ix2 0 k)) (fun k c => x11 (ix2 k c)) (fun k => x12 (ix2 0 k)) (fun k => x13 (ix2 0 k)) (fun k j => x14 (ix2 k j))
        (fun j c => x15 (ix2 j c)) (fun k => x16 (ix2 0 k)) (fun k c => x17 (ix2 k c)) (fun k c => x18 (ix2 k c)) (fun k => x19 (ix2 0 k))
        (fun k => x20 (ix2 0 k)) c := by
  simp only [out_at, gated_at, h2_at, ff_at, v_at, h_at, mix_at, oan_at, obn_at, ob_at x3 x4 x5 h1 h4 h16]
  rfl

end

end Cert.Kernel2Ideal.Post

end
-- ==== Proof.Post.Bridge.lean ====
/- The result array after the run, token by token. -/
module

public import proofs.«01_k».proof.Proof.Post.Block
public import proofs.«01_k».proof.Proof.Post.Ref
public import Idealize.ShloMosaic.Lib.Claim

@[expose] public section

set_option backward.proofsInPublic true
set_option maxRecDepth 16384

noncomputable section

namespace Cert.Kernel2Ideal.Post

open Cert.Kernel2Ideal Cert.Kernel2Ideal.Gen Idealize.ShloMosaic Idealize.ShloMosaic.TcCoe Idealize.SL.Sem

/-- The blocks' places: point `t` stages the `t`-th block of rows, and every weight whole. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![t.val, 0] ∧ t.val < 64 :=
  (by decide +kernel : ∀ t : Fin grid0.N, _)

theorem tlt (t : Fin cfg0.N) : t.val < 64 := (idx t).2.2.2.2.2.2.2.2.2.2.2.2.2.2.2.2.2.2.2.2.2.2.2

variable (m : (ℓ : Loc nD τ sig) → Buf (Elt Ideal) ℓ)

/-! What each block holds, in the arrays. -/

theorem iblk0 (c : Dev nD) (t : Fin cfg0.N) (i : Fin 512) (k : Fin 1024) : (iblk m c 0 t : Vec Ideal S512x1024 .f32) (ix2 i k)
    = (m ((c : Thread nD τ).loc main_arg0) : Vec Ideal S32768x1024 .f32) (ix2 ⟨512 * t.val + i.val, by have := tlt t; have := i.isLt; omega⟩ k) := by
  blk_ext [iblk, V_main_arg0, idx t]

theorem iblk1 (c : Dev nD) (t : Fin cfg0.N) (i : Fin 512) (k : Fin 256) : (iblk m c 1 t : Vec Ideal S512x256 .f32) (ix2 i k)
    = (m ((c : Thread nD τ).loc main_arg1) : Vec Ideal S32768x256 .f32) (ix2 ⟨512 * t.val + i.val, by have := tlt t; have := i.isLt; omega⟩ k) := by
  blk_ext [iblk, V_main_arg1, idx t]

theorem iblk2 (c : Dev nD) (t : Fin cfg0.N) (i : Fin 512) (k : Fin 512) : (iblk m c 2 t : Vec Ideal S512x512 .bf16) (ix2 i k)
    = (m ((c : Thread nD τ).loc main_arg2) : Vec Ideal S32768x512 .bf16) (ix2 ⟨512 * t.val + i.val, by have := tlt t; have := i.isLt; omega⟩ k) := by
  blk_ext [iblk, V_main_arg2, idx t]

theorem iblk3 (c : Dev nD) (t : Fin cfg0.N) (i : Fin 512) (k : Fin 512) : (iblk m c 3 t : Vec Ideal S512x512 .bf16) (ix2 i k)
    = (m ((c : Thread nD τ).loc main_arg3) : Vec Ideal S32768x512 .bf16) (ix2 ⟨512 * t.val + i.val, by have := tlt t; have := i.isLt; omega⟩ k) := by
  blk_ext [iblk, V_main_arg3, idx t]

theorem iblk4 (c : Dev nD) (t : Fin cfg0.N) (i : Fin 128) (k : Fin 2048) : (iblk m c 4 t : Vec Ideal S128x2048 .bf16) (ix2 i k)
    = (m ((c : Thread nD τ).loc main_arg4) : Vec Ideal S8192x2048 .bf16) (ix2 ⟨128 * t.val + i.val, by have := tlt t; have := i.isLt; omega⟩ k) := by
  blk_ext [iblk, V_main_arg4, idx t]

theorem iblk5 (c : Dev nD) (t : Fin cfg0.N) (i : Fin 32) (k : Fin 8192) : (iblk m c 5 t : Vec Ideal S32x8192 .bf16) (ix2 i k)
    = (m ((c : Thread nD τ).loc main_arg5) : Vec Ideal S2048x8192 .bf16) (ix2 ⟨32 * t.val + i.val, by have := tlt t; have := i.isLt; omega⟩ k) := by
  blk_ext [iblk, V_main_arg5, idx t]

theorem iblk6 (c : Dev nD) (t : Fin cfg0.N) (i : Fin 512) (k : Fin 128) : (iblk m c 6 t : Vec Ideal S512x128 .f32) (ix2 i k)
    = (m ((c : Thread nD τ).loc main_arg6) : Vec Ideal S32768x128 .f32) (ix2 ⟨512 * t.val + i.val, by have := tlt t; have := i.isLt; omega⟩ k) := by
  blk_ext [iblk, V_main_arg6, idx t]

theorem iblk7 (c : Dev nD) (t : Fin cfg0.N) (i : Fin 128) (k : Fin 512) : (iblk m c 7 t : Vec Ideal S128x512 .f32) (ix2 i k)
    = (m ((c : Thread nD τ).loc main_arg7) : Vec Ideal S8192x512 .f32) (ix2 ⟨128 * t.val + i.val, by have := tlt t; have := i.isLt; omega⟩ k) := by
  blk_ext [iblk, V_main_arg7, idx t]

theorem iblk8 (c : Dev nD) (t : Fin cfg0.N) (i : Fin 32) (k : Fin 2048) : (iblk m c 8 t : Vec Ideal S32x2048 .f32) (ix2 i k)
    = (m ((c : Thread nD τ).loc main_arg8) : Vec Ideal S2048x2048 .f32) (ix2 ⟨32 * t.val + i.val, by have := tlt t; have := i.isLt; omega⟩ k) := by
  blk_ext [iblk, V_main_arg8, idx t]

theorem iblk10 (c : Dev nD) (t : Fin cfg0.N) (i : Fin 1) (k : Fin 512) : (iblk m c 10 t : Vec Ideal S1x512 .f32) (ix2 i k)
    = (m ((c : Thread nD τ).loc main_arg9) : Vec Ideal S1x512 .f32) (ix2 i k) := by
  blk_ext [iblk, V_main_arg9, idx t]

theorem iblk11 (c : Dev nD) (t : Fin cfg0.N) (i : Fin 1) (k : Fin 512) : (iblk m c 11 t : Vec Ideal S1x512 .f32) (ix2 i k)
    = (m ((c : Thread nD τ).loc main_arg10) : Vec Ideal S1x512 .f32) (ix2 i k) := by
  blk_ext [iblk, V_main_arg10, idx t]

theorem iblk12 (c : Dev nD) (t : Fin cfg0.N) (i : Fin 1024) (k : Fin 1024) : (iblk m c 12 t : Vec Ideal S1024x1024 .bf16) (ix2 i k)
    = (m ((c : Thread nD τ).loc main_arg11) : Vec Ideal S1024x1024 .bf16) (ix2 i k) := by
  blk_ext [iblk, V_main_arg11, idx t]

theorem iblk13 (c : Dev nD) (t : Fin cfg0.N) (i : Fin 1) (k : Fin 1024) : (iblk m c 13 t : Vec Ideal S1x1024 .f32) (ix2 i k)
    = (m ((c : Thread nD τ).loc main_arg12) : Vec Ideal S1x1024 .f32) (ix2 i k) := by
  blk_ext [iblk, V_main_arg12, idx t]

theorem iblk14 (c : Dev nD) (t : Fin cfg0.N) (i : Fin 1) (k : Fin 1024) : (iblk m c 14 t : Vec Ideal S1x1024 .f32) (ix2 i k)
    = (m ((c : Thread nD τ).loc main_arg13) : Vec Ideal S1x1024 .f32) (ix2 i k) := by
  blk_ext [iblk, V_main_arg13, idx t]

theorem iblk15 (c : Dev nD) (t : Fin cfg0.N) (i : Fin 1024) (k : Fin 4096) : (iblk m c 15 t : Vec Ideal S1024x4096 .bf16) (ix2 i k)
    = (m ((c : Thread nD τ).loc main_arg14) : Vec Ideal S1024x4096 .bf16) (ix2 i k) := by
  blk_ext [iblk, V_main_arg14, idx t]

theorem iblk16 (c : Dev nD) (t : Fin cfg0.N) (i : Fin 4096) (k : Fin 1024) : (iblk m c 16 t : Vec Ideal S4096x1024 .bf16) (ix2 i k)
    = (m ((c : Thread nD τ).loc main_arg15) : Vec Ideal S4096x1024 .bf16) (ix2 i k) := by
  blk_ext [iblk, V_main_arg15, idx t]

theorem iblk17 (c : Dev nD) (t : Fin cfg0.N) (i : Fin 1) (k : Fin 1024) : (iblk m c 17 t : Vec Ideal S1x1024 .f32) (ix2 i k)
    = (m ((c : Thread nD τ).loc main_arg16) : Vec Ideal S1x1024 .f32) (ix2 i k) := by
  blk_ext [iblk, V_main_arg16, idx t]

theorem iblk18 (c : Dev nD) (t : Fin cfg0.N) (i : Fin 256) (k : Fin 1024) : (iblk m c 18 t : Vec Ideal S256x1024 .bf16) (ix2 i k)
    = (m ((c : Thread nD τ).loc main_arg17) : Vec Ideal S256x1024 .bf16) (ix2 i k) := by
  blk_ext [iblk, V_main_arg17, idx t]

theorem iblk19 (c : Dev nD) (t : Fin cfg0.N) (i : Fin 1024) (k : Fin 1024) : (iblk m c 19 t : Vec Ideal S1024x1024 .bf16) (ix2 i k)
    = (m ((c : Thread nD τ).loc main_arg18) : Vec Ideal S1024x1024 .bf16) (ix2 i k) := by
  blk_ext [iblk, V_main_arg18, idx t]

theorem iblk20 (c : Dev nD) (t : Fin cfg0.N) (i : Fin 1) (k : Fin 1024) : (iblk m c 20 t : Vec Ideal S1x1024 .f32) (ix2 i k)
    = (m ((c : Thread nD τ).loc main_arg19) : Vec Ideal S1x1024 .f32) (ix2 i k) := by
  blk_ext [iblk, V_main_arg19, idx t]

theorem iblk21 (c : Dev nD) (t : Fin cfg0.N) (i : Fin 1) (k : Fin 1024) : (iblk m c 21 t : Vec Ideal S1x1024 .f32) (ix2 i k)
    = (m ((c : Thread nD τ).loc main_arg20) : Vec Ideal S1x1024 .f32) (ix2 i k) := by
  blk_ext [iblk, V_main_arg20, idx t]

theorem and_127 : ∀ j : Fin 256, IntOp.andi (BitVec.ofNat 32 j.val) 127#32 = BitVec.ofNat 32 (j.val % 128) := by decide +kernel
theorem shr_6 : ∀ k : Fin 512, IntOp.shrsi ArithUnit.host (BitVec.ofNat 32 k.val) 6#32 = BitVec.ofNat 32 (k.val / 64) := by decide +kernel
/-- The table the host builds: channel `k` belongs to head `k / 64`, and the lanes repeat after 128. -/
theorem iblk9 (c : Dev nD) (t : Fin cfg0.N) (j : Fin 256) (k : Fin 512) : (iblk m c 9 t : Vec Ideal S256x512 .bf16) (ix2 j k)
    = (if j.val % 128 = k.val / 64 then 1 else 0 : EReal) := by
  blk_simp [iblk, idx t]
  entry_read
  pointwise
  have e : (((View.whole main_v7).slice (win0_9.rect t)).emb (ix2 j k) : S256x512.Idx) = ix2 j k := by blk_ext [idx t]
  rw [e]
  have h1 := and_127 j
  have h2 := shr_6 k
  show FloatOps.uitofp (F := Ideal) FTy.bf16 (IntOp.cmpi CmpIPredicate.eq (IntOp.andi (BitVec.ofNat 32 j.val) 127#32) (IntOp.shrsi ArithUnit.host (BitVec.ofNat 32 k.val) 6#32)) = _
  rw [h1, h2]
  have := j.isLt; have := k.isLt
  by_cases h : j.val % 128 = k.val / 64
  · rw [if_pos h, h]
    pointwise
    show ((((1#1 : BitVec 1).toNat : ℕ) : ℝ) : EReal) = 1
    norm_num
  · rw [if_neg h]
    have hb : (BitVec.ofNat 32 (j.val % 128) : BitVec 32) ≠ BitVec.ofNat 32 (k.val / 64) := fun hh => h (by
      have := congrArg BitVec.toNat hh
      simp only [BitVec.toNat_ofNat] at this
      omega)
    have hc : IntOp.cmpi CmpIPredicate.eq (BitVec.ofNat 32 (j.val % 128)) (BitVec.ofNat 32 (k.val / 64)) = 0#1 := by
      show BitVec.ofBool ((BitVec.ofNat 32 (j.val % 128) : BitVec 32) == BitVec.ofNat 32 (k.val / 64)) = 0#1
      rw [beq_eq_false_iff_ne.2 hb]; rfl
    rw [hc]
    show ((((0#1 : BitVec 1).toNat : ℕ) : ℝ) : EReal) = 0
    norm_num

theorem nb4_num4 (T : ℕ) (hT : T < 64) (x4 : Vec Ideal S128x2048 .bf16) (a4 : Vec Ideal S8192x2048 .bf16)
    (h4 : ∀ (i : Fin 128) (k : Fin 2048), x4 (ix2 i k) = a4 (ix2 ⟨128 * T + i.val, by have := i.isLt; omega⟩ k)) (r : Fin 512) :
    nb4 x4 r = num4 a4 ⟨512 * T + r.val, by have := r.isLt; omega⟩ := by
  funext l
  have := r.isLt; have := l.isLt
  have e1 : 128 * T + r.val / 4 = (512 * T + r.val) / 4 := by omega
  have e2 : r.val % 4 * 512 + l.val = (512 * T + r.val) % 4 * 512 + l.val := by omega
  refine (h4 _ _).trans (congrArg a4 ?_)
  exact congrArg₂ ix2 (Fin.ext e1) (Fin.ext e2)

theorem nb16_num16 (T : ℕ) (hT : T < 64) (x5 : Vec Ideal S32x8192 .bf16) (a5 : Vec Ideal S2048x8192 .bf16)
    (h5 : ∀ (i : Fin 32) (k : Fin 8192), x5 (ix2 i k) = a5 (ix2 ⟨32 * T + i.val, by have := i.isLt; omega⟩ k)) (r : Fin 512) :
    nb16 x5 r = num16 a5 ⟨512 * T + r.val, by have := r.isLt; omega⟩ := by
  funext l
  have := r.isLt; have := l.isLt
  have e1 : 32 * T + r.val / 16 = (512 * T + r.val) / 16 := by omega
  have e2 : r.val % 16 * 512 + l.val = (512 * T + r.val) % 16 * 512 + l.val := by omega
  refine (h5 _ _).trans (congrArg a5 ?_)
  exact congrArg₂ ix2 (Fin.ext e1) (Fin.ext e2)

theorem sb4_sta4 (T : ℕ) (hT : T < 64) (x7 : Vec Ideal S128x512 .f32) (a7 : Vec Ideal S8192x512 .f32)
    (h7 : ∀ (i : Fin 128) (k : Fin 512), x7 (ix2 i k) = a7 (ix2 ⟨128 * T + i.val, by have := i.isLt; omega⟩ k)) (r : Fin 512) :
    sb4 x7 r = sta4 a7 ⟨512 * T + r.val, by have := r.isLt; omega⟩ := by
  funext l
  have := r.isLt; have := l.isLt
  have e1 : 128 * T + r.val / 4 = (512 * T + r.val) / 4 := by omega
  have e2 : r.val % 4 * 128 + l.val = (512 * T + r.val) % 4 * 128 + l.val := by omega
  refine (h7 _ _).trans (congrArg a7 ?_)
  exact congrArg₂ ix2 (Fin.ext e1) (Fin.ext e2)

theorem sb16_sta16 (T : ℕ) (hT : T < 64) (x8 : Vec Ideal S32x2048 .f32) (a8 : Vec Ideal S2048x2048 .f32)
    (h8 : ∀ (i : Fin 32) (k : Fin 2048), x8 (ix2 i k) = a8 (ix2 ⟨32 * T + i.val, by have := i.isLt; omega⟩ k)) (r : Fin 512) :
    sb16 x8 r = sta16 a8 ⟨512 * T + r.val, by have := r.isLt; omega⟩ := by
  funext l
  have := r.isLt; have := l.isLt
  have e1 : 32 * T + r.val / 16 = (512 * T + r.val) / 16 := by omega
  have e2 : r.val % 16 * 128 + l.val = (512 * T + r.val) % 16 * 128 + l.val := by omega
  refine (h8 _ _).trans (congrArg a8 ?_)
  exact congrArg₂ ix2 (Fin.ext e1) (Fin.ext e2)

/-- A token of the result. -/
def tok (a0 : Vec Ideal S32768x1024 .f32) (a1 : Vec Ideal S32768x256 .f32) (a2 : Vec Ideal S32768x512 .bf16) (a3 : Vec Ideal S32768x512 .bf16) (a4 : Vec Ideal S8192x2048 .bf16) (a5 : Vec Ideal S2048x8192 .bf16) (a6 : Vec Ideal S32768x128 .f32) (a7 : Vec Ideal S8192x512 .f32) (a8 : Vec Ideal S2048x2048 .f32) (a9 : Vec Ideal S1x512 .f32) (a10 : Vec Ideal S1x512 .f32) (a11 : Vec Ideal S1024x1024 .bf16) (a12 : Vec Ideal S1x1024 .f32) (a13 : Vec Ideal S1x1024 .f32) (a14 : Vec Ideal S1024x4096 .bf16) (a15 : Vec Ideal S4096x1024 .bf16) (a16 : Vec Ideal S1x1024 .f32) (a17 : Vec Ideal S256x1024 .bf16) (a18 : Vec Ideal S1024x1024 .bf16) (a19 : Vec Ideal S1x1024 .f32) (a20 : Vec Ideal S1x1024 .f32) (n : Fin 32768) : Fin 1024 → EReal :=
  row (fun k => a0 (ix2 n k)) (fun k => a1 (ix2 n k)) (fun k => a2 (ix2 n k)) (num1 a3 n) (num4 a4 n) (num16 a5 n) (sta1 a6 n) (sta4 a7 n) (sta16 a8 n)
    (fun k => a9 (ix2 0 k)) (fun k => a10 (ix2 0 k)) (fun k c => a11 (ix2 k c)) (fun k => a12 (ix2 0 k)) (fun k => a13 (ix2 0 k))
    (fun k j => a14 (ix2 k j)) (fun j c => a15 (ix2 j c)) (fun k => a16 (ix2 0 k)) (fun k c => a17 (ix2 k c)) (fun k c => a18 (ix2 k c))
    (fun k => a19 (ix2 0 k)) (fun k => a20 (ix2 0 k))

/-- The result. -/
def OUTA (a0 : Vec Ideal S32768x1024 .f32) (a1 : Vec Ideal S32768x256 .f32) (a2 : Vec Ideal S32768x512 .bf16) (a3 : Vec Ideal S32768x512 .bf16) (a4 : Vec Ideal S8192x2048 .bf16) (a5 : Vec Ideal S2048x8192 .bf16) (a6 : Vec Ideal S32768x128 .f32) (a7 : Vec Ideal S8192x512 .f32) (a8 : Vec Ideal S2048x2048 .f32) (a9 : Vec Ideal S1x512 .f32) (a10 : Vec Ideal S1x512 .f32) (a11 : Vec Ideal S1024x1024 .bf16) (a12 : Vec Ideal S1x1024 .f32) (a13 : Vec Ideal S1x1024 .f32) (a14 : Vec Ideal S1024x4096 .bf16) (a15 : Vec Ideal S4096x1024 .bf16) (a16 : Vec Ideal S1x1024 .f32) (a17 : Vec Ideal S256x1024 .bf16) (a18 : Vec Ideal S1024x1024 .bf16) (a19 : Vec Ideal S1x1024 .f32) (a20 : Vec Ideal S1x1024 .f32) : Vec Ideal S32768x1024 .f32 := fun y => tok a0 a1 a2 a3 a4 a5 a6 a7 a8 a9 a10 a11 a12 a13 a14 a15 a16 a17 a18 a19 a20 (y 0) (y 1)

theorem OUTA_ix2 (a0 : Vec Ideal S32768x1024 .f32) (a1 : Vec Ideal S32768x256 .f32) (a2 : Vec Ideal S32768x512 .bf16) (a3 : Vec Ideal S32768x512 .bf16) (a4 : Vec Ideal S8192x2048 .bf16) (a5 : Vec Ideal S2048x8192 .bf16) (a6 : Vec Ideal S32768x128 .f32) (a7 : Vec Ideal S8192x512 .f32) (a8 : Vec Ideal S2048x2048 .f32) (a9 : Vec Ideal S1x512 .f32) (a10 : Vec Ideal S1x512 .f32) (a11 : Vec Ideal S1024x1024 .bf16) (a12 : Vec Ideal S1x1024 .f32) (a13 : Vec Ideal S1x1024 .f32) (a14 : Vec Ideal S1024x4096 .bf16) (a15 : Vec Ideal S4096x1024 .bf16) (a16 : Vec Ideal S1x1024 .f32) (a17 : Vec Ideal S256x1024 .bf16) (a18 : Vec Ideal S1024x1024 .bf16) (a19 : Vec Ideal S1x1024 .f32) (a20 : Vec Ideal S1x1024 .f32) (n : Fin 32768) (c : Fin 1024) : OUTA a0 a1 a2 a3 a4 a5 a6 a7 a8 a9 a10 a11 a12 a13 a14 a15 a16 a17 a18 a19 a20 (ix2 n c) = tok a0 a1 a2 a3 a4 a5 a6 a7 a8 a9 a10 a11 a12 a13 a14 a15 a16 a17 a18 a19 a20 n c := rfl

/-- A row of the `T`-th block is the token it stages. -/
theorem brow_tok (T : ℕ) (hT : T < 64) (x0 : Vec Ideal S512x1024 .f32) (x1 : Vec Ideal S512x256 .f32) (x2 : Vec Ideal S512x512 .bf16) (x3 : Vec Ideal S512x512 .bf16) (x4 : Vec Ideal S128x2048 .bf16) (x5 : Vec Ideal S32x8192 .bf16) (x6 : Vec Ideal S512x128 .f32) (x7 : Vec Ideal S128x512 .f32) (x8 : Vec Ideal S32x2048 .f32) (x9 : Vec Ideal S256x512 .bf16) (x10 : Vec Ideal S1x512 .f32) (x11 : Vec Ideal S1x512 .f32) (x12 : Vec Ideal S1024x1024 .bf16) (x13 : Vec Ideal S1x1024 .f32) (x14 : Vec Ideal S1x1024 .f32) (x15 : Vec Ideal S1024x4096 .bf16) (x16 : Vec Ideal S4096x1024 .bf16) (x17 : Vec Ideal S1x1024 .f32) (x18 : Vec Ideal S256x1024 .bf16) (x19 : Vec Ideal S1024x1024 .bf16) (x20 : Vec Ideal S1x1024 .f32) (x21 : Vec Ideal S1x1024 .f32)
    (a0 : Vec Ideal S32768x1024 .f32) (a1 : Vec Ideal S32768x256 .f32) (a2 : Vec Ideal S32768x512 .bf16) (a3 : Vec Ideal S32768x512 .bf16) (a4 : Vec Ideal S8192x2048 .bf16) (a5 : Vec Ideal S2048x8192 .bf16) (a6 : Vec Ideal S32768x128 .f32) (a7 : Vec Ideal S8192x512 .f32) (a8 : Vec Ideal S2048x2048 .f32) (a9 : Vec Ideal S1x512 .f32) (a10 : Vec Ideal S1x512 .f32) (a11 : Vec Ideal S1024x1024 .bf16) (a12 : Vec Ideal S1x1024 .f32) (a13 : Vec Ideal S1x1024 .f32) (a14 : Vec Ideal S1024x4096 .bf16) (a15 : Vec Ideal S4096x1024 .bf16) (a16 : Vec Ideal S1x1024 .f32) (a17 : Vec Ideal S256x1024 .bf16) (a18 : Vec Ideal S1024x1024 .bf16) (a19 : Vec Ideal S1x1024 .f32) (a20 : Vec Ideal S1x1024 .f32)
    (h0 : ∀ (i : Fin 512) (k : Fin 1024), x0 (ix2 i k) = a0 (ix2 ⟨512 * T + i.val, by have := i.isLt; omega⟩ k))
    (h1 : ∀ (i : Fin 512) (k : Fin 256), x1 (ix2 i k) = a1 (ix2 ⟨512 * T + i.val, by have := i.isLt; omega⟩ k))
    (h2 : ∀ (i : Fin 512) (k : Fin 512), x2 (ix2 i k) = a2 (ix2 ⟨512 * T + i.val, by have := i.isLt; omega⟩ k))
    (h3 : ∀ (i : Fin 512) (k : Fin 512), x3 (ix2 i k) = a3 (ix2 ⟨512 * T + i.val, by have := i.isLt; omega⟩ k))
    (h4 : ∀ (i : Fin 128) (k : Fin 2048), x4 (ix2 i k) = a4 (ix2 ⟨128 * T + i.val, by have := i.isLt; omega⟩ k))
    (h5 : ∀ (i : Fin 32) (k : Fin 8192), x5 (ix2 i k) = a5 (ix2 ⟨32 * T + i.val, by have := i.isLt; omega⟩ k))
    (h6 : ∀ (i : Fin 512) (k : Fin 128), x6 (ix2 i k) = a6 (ix2 ⟨512 * T + i.val, by have := i.isLt; omega⟩ k))
    (h7 : ∀ (i : Fin 128) (k : Fin 512), x7 (ix2 i k) = a7 (ix2 ⟨128 * T + i.val, by have := i.isLt; omega⟩ k))
    (h8 : ∀ (i : Fin 32) (k : Fin 2048), x8 (ix2 i k) = a8 (ix2 ⟨32 * T + i.val, by have := i.isLt; omega⟩ k))
    (h10 : ∀ (i : Fin 1) (k : Fin 512), x10 (ix2 i k) = a9 (ix2 i k))
    (h11 : ∀ (i : Fin 1) (k : Fin 512), x11 (ix2 i k) = a10 (ix2 i k))
    (h12 : ∀ (i : Fin 1024) (k : Fin 1024), x12 (ix2 i k) = a11 (ix2 i k))
    (h13 : ∀ (i : Fin 1) (k : Fin 1024), x13 (ix2 i k) = a12 (ix2 i k))
    (h14 : ∀ (i : Fin 1) (k : Fin 1024), x14 (ix2 i k) = a13 (ix2 i k))
    (h15 : ∀ (i : Fin 1024) (k : Fin 4096), x15 (ix2 i k) = a14 (ix2 i k))
    (h16 : ∀ (i : Fin 4096) (k : Fin 1024), x16 (ix2 i k) = a15 (ix2 i k))
    (h17 : ∀ (i : Fin 1) (k : Fin 1024), x17 (ix2 i k) = a16 (ix2 i k))
    (h18 : ∀ (i : Fin 256) (k : Fin 1024), x18 (ix2 i k) = a17 (ix2 i k))
    (h19 : ∀ (i : Fin 1024) (k : Fin 1024), x19 (ix2 i k) = a18 (ix2 i k))
    (h20 : ∀ (i : Fin 1) (k : Fin 1024), x20 (ix2 i k) = a19 (ix2 i k))
    (h21 : ∀ (i : Fin 1) (k : Fin 1024), x21 (ix2 i k) = a20 (ix2 i k)) (r : Fin 512) :
    brow x0 x1 x2 x3 x4 x5 x6 x7 x8 x9 x10 x11 x12 x13 x14 x15 x16 x17 x18 x19 x20 x21 r = tok a0 a1 a2 a3 a4 a5 a6 a7 a8 a9 a10 a11 a12 a13 a14 a15 a16 a17 a18 a19 a20 ⟨512 * T + r.val, by have := r.isLt; omega⟩ := by
  unfold brow tok num1 sta1
  rw [nb4_num4 T hT x4 a4 h4, nb16_num16 T hT x5 a5 h5, sb4_sta4 T hT x7 a7 h7, sb16_sta16 T hT x8 a8 h8]
  simp only [h0, h1, h2, h3, h6, h10, h11, h12, h13, h14, h15, h16, h17, h18, h19, h20, h21]

/-- The result array after the run. -/
theorem final22 (c : Dev nD) (g1 : ∀ n, Good (sta1 (m ((c : Thread nD τ).loc main_arg6)) n)) (g4 : ∀ n, Good (sta4 (m ((c : Thread nD τ).loc main_arg7)) n))
    (g16 : ∀ n, Good (sta16 (m ((c : Thread nD τ).loc main_arg8)) n)) :
    (dats m 0 c).arrAt 22 (cfgs 0).N = OUTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (dats m 0 c).arrAt_eq_of_covers 22 _ (by decide +kernel) fun t _ y => ?_
  blk_simp
  rw [after0_22]
  simp only [outsAt0]
  have b1 : ∀ n : Fin 512, Good fun l => (iblk m c 6 t : Vec Ideal S512x128 .f32) (ix2 n l) := fun n => by
    have e : (fun l => (iblk m c 6 t : Vec Ideal S512x128 .f32) (ix2 n l)) = sta1 (m ((c : Thread nD τ).loc main_arg6)) ⟨512 * t.val + n.val, by have := tlt t; have := n.isLt; omega⟩ :=
      funext fun l => iblk6 m c t n l
    rw [e]; exact g1 _
  have b4 : ∀ n : Fin 512, Good (sb4 (iblk m c 7 t) n) := fun n => by
    rw [sb4_sta4 t.val (tlt t) (iblk m c 7 t) (m ((c : Thread nD τ).loc main_arg7)) (iblk7 m c t) n]; exact g4 _
  have b16 : ∀ n : Fin 512, Good (sb16 (iblk m c 8 t) n) := fun n => by
    rw [sb16_sta16 t.val (tlt t) (iblk m c 8 t) (m ((c : Thread nD τ).loc main_arg8)) (iblk8 m c t) n]; exact g16 _
  rw [out22 (hE := iblk9 m c t) (g1 := b1) (g4 := b4) (g16 := b16)]
  idx_vars y
  have hb := congrFun (brow_tok t.val (tlt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    (iblk0 m c t) (iblk1 m c t) (iblk2 m c t) (iblk3 m c t) (iblk4 m c t) (iblk5 m c t) (iblk6 m c t) (iblk7 m c t) (iblk8 m c t) (iblk10 m c t) (iblk11 m c t) (iblk12 m c t) (iblk13 m c t) (iblk14 m c t) (iblk15 m c t) (iblk16 m c t) (iblk17 m c t) (iblk18 m c t) (iblk19 m c t) (iblk20 m c t) (iblk21 m c t) y0) y1
  refine hb.trans ?_
  refine (OUTA_ix2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) _ _).symm.trans ?_
  blk_ext [idx t]

end Cert.Kernel2Ideal.Post

end
-- ==== Proof.Post.Pre.lean ====
/- What the precondition says of a token's softmax statistics. -/
module

public import proofs.«01_k».proof.Proof.Post.Ref
public import proofs.«01_k».proof.Proof.Gen.Pre_softmax_stats
public import Idealize.ShloMosaic.Lib.KernelVsHost

@[expose] public section

set_option backward.proofsInPublic true
set_option maxRecDepth 16384

noncomputable section

namespace Cert.Kernel2Ideal.Post

open Cert.Pre_softmax_stats Idealize.ShloMosaic

theorem top_word : Ideal.ofBits .f32 0x7F800000#32 = (⊤ : EReal) := by simp [Ideal.ofBits, Ideal.ieee]

theorem one_of_andi : ∀ a b : BitVec 1, IntOp.andi a b = 1#1 → a = 1#1 ∧ b = 1#1 := by decide

theorem of_bit {p : Prop} [Decidable p] (h : BitVec.ofBool (decide p) = 1#1) : p := by
  by_contra hn
  rw [decide_eq_false hn] at h
  exact absurd h (by decide)

/-- The three comparisons, in numbers. -/
theorem stat_real {a b : EReal} (h : IntOp.andi (IntOp.andi (BitVec.ofBool (decide (FloatOps.absf (F := Ideal) (φ := .f32) a < Ideal.ofBits .f32 0x7F800000#32)))
      (BitVec.ofBool (decide (0 < b)))) (BitVec.ofBool (decide (b < Ideal.ofBits .f32 0x7F800000#32))) = 1#1) :
    ∃ x y : ℝ, 0 < y ∧ a = (x : EReal) ∧ b = (y : EReal) := by
  obtain ⟨h12, h3⟩ := one_of_andi _ _ h
  obtain ⟨h1, h2⟩ := one_of_andi _ _ h12
  rw [top_word] at h1 h3
  have l1 : max a (-a) < ⊤ := of_bit h1
  have l2 : 0 < b := of_bit h2
  have l3 : b < ⊤ := of_bit h3
  have ha : a ≠ ⊤ := fun e => by rw [e] at l1; exact absurd l1 (by simp)
  have ha' : a ≠ ⊥ := fun e => by rw [e] at l1; exact absurd l1 (by simp)
  lift a to ℝ using ⟨ha, ha'⟩
  lift b to ℝ using ⟨l3.ne, (bot_lt_iff_ne_bot.1 (lt_trans (EReal.bot_lt_coe 0) l2))⟩
  exact ⟨a, b, by exact_mod_cast l2, rfl, rfl⟩

theorem good_of_pre [Facts] (a0 : Vec Ideal S32768x1024 .f32) (a1 : Vec Ideal S32768x256 .f32) (a2 : Vec Ideal S32768x512 .bf16) (a3 : Vec Ideal S32768x512 .bf16) (a4 : Vec Ideal S8192x2048 .bf16) (a5 : Vec Ideal S2048x8192 .bf16) (a6 : Vec Ideal S32768x128 .f32) (a7 : Vec Ideal S8192x512 .f32) (a8 : Vec Ideal S2048x2048 .f32) (a9 : Vec Ideal S1x512 .f32) (a10 : Vec Ideal S1x512 .f32) (a11 : Vec Ideal S1024x1024 .bf16) (a12 : Vec Ideal S1x1024 .f32) (a13 : Vec Ideal S1x1024 .f32) (a14 : Vec Ideal S1024x4096 .bf16) (a15 : Vec Ideal S4096x1024 .bf16) (a16 : Vec Ideal S1x1024 .f32) (a17 : Vec Ideal S256x1024 .bf16) (a18 : Vec Ideal S1024x1024 .bf16) (a19 : Vec Ideal S1x1024 .f32) (a20 : Vec Ideal S1x1024 .f32) (h : fn (F := Ideal) a0 a1 a2 a3 a4 a5 a6 a7 a8 a9 a10 a11 a12 a13 a14 a15 a16 a17 a18 a19 a20 = fun _ => 1#1) (n : Fin 32768) :
    Good (sta1 a6 n) ∧ Good (sta4 a7 n) ∧ Good (sta16 a8 n) := by
  have key : ∀ l : Fin 8, fn (F := Ideal) a0 a1 a2 a3 a4 a5 a6 a7 a8 a9 a10 a11 a12 a13 a14 a15 a16 a17 a18 a19 a20 (ix2 n l) = 1#1 := fun l => congrFun h _
  unfold fn fn_part1 at key
  refine ⟨fun l hl => ?_, fun l hl => ?_, fun l hl => ?_⟩
  all_goals
    have hk := key ⟨l.val, hl⟩
    pointwise at hk
    obtain ⟨h12, h3⟩ := one_of_andi _ _ hk
    obtain ⟨h1, h2⟩ := one_of_andi _ _ h12
    have hu : up l = ⟨8 + l.val, by omega⟩ := Fin.ext (show (l.val + 128 - 120) % 128 = 8 + l.val by omega)
    rw [hu]
  · exact stat_real h1
  · exact stat_real h2
  · exact stat_real h3

end Cert.Kernel2Ideal.Post

end
-- ==== Proof.Post.Final.lean ====
/- Both programs' results under the precondition. -/
module

public import proofs.«01_k».proof.Proof.Post.Bridge
public import proofs.«01_k».proof.Proof.Post.Pre

@[expose] public section

set_option backward.proofsInPublic true
set_option maxRecDepth 16384

noncomputable section

namespace Cert.Kernel2Ideal.Post

open Cert.Kernel2Ideal Cert.Kernel2Ideal.Gen Idealize.ShloMosaic Idealize.ShloMosaic.TcCoe Idealize.SL.Sem

/-- The kernel's result array, under the precondition. -/
theorem final22_of_pre [Cert.Pre_softmax_stats.Facts] (m : (ℓ : Loc nD τ sig) → Buf (Elt Ideal) ℓ) (c : Dev nD)
    (h : Cert.Pre_softmax_stats.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = fun _ => 1#1) :
    (dats m 0 c).arrAt 22 (cfgs 0).N = OUTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  final22 m c (fun n => (good_of_pre _ _ _ _ _ _ _ _ _ _ _ _ _ _ _ _ _ _ _ _ _ h n).1) (fun n => (good_of_pre _ _ _ _ _ _ _ _ _ _ _ _ _ _ _ _ _ _ _ _ _ h n).2.1)
    (fun n => (good_of_pre _ _ _ _ _ _ _ _ _ _ _ _ _ _ _ _ _ _ _ _ _ h n).2.2)

/-- The reference's result array, under the precondition. -/
theorem ref_eq [Cert.Pre_softmax_stats.Facts] {a0 b0 : Vec Ideal S32768x1024 .f32} {a1 b1 : Vec Ideal S32768x256 .f32} {a2 b2 : Vec Ideal S32768x512 .bf16} {a3 b3 : Vec Ideal S32768x512 .bf16} {a4 b4 : Vec Ideal S8192x2048 .bf16} {a5 b5 : Vec Ideal S2048x8192 .bf16} {a6 b6 : Vec Ideal S32768x128 .f32} {a7 b7 : Vec Ideal S8192x512 .f32} {a8 b8 : Vec Ideal S2048x2048 .f32} {a9 b9 : Vec Ideal S1x512 .f32} {a10 b10 : Vec Ideal S1x512 .f32} {a11 b11 : Vec Ideal S1024x1024 .bf16} {a12 b12 : Vec Ideal S1x1024 .f32} {a13 b13 : Vec Ideal S1x1024 .f32} {a14 b14 : Vec Ideal S1024x4096 .bf16} {a15 b15 : Vec Ideal S4096x1024 .bf16} {a16 b16 : Vec Ideal S1x1024 .f32} {a17 b17 : Vec Ideal S256x1024 .bf16} {a18 b18 : Vec Ideal S1024x1024 .bf16} {a19 b19 : Vec Ideal S1x1024 .f32} {a20 b20 : Vec Ideal S1x1024 .f32}
    (h : Cert.Pre_softmax_stats.fn (F := Ideal) a0 a1 a2 a3 a4 a5 a6 a7 a8 a9 a10 a11 a12 a13 a14 a15 a16 a17 a18 a19 a20 = fun _ => 1#1) (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) :
    Cert.Reference2Ideal.Read.val_main_v154 (F := Ideal) b0 b1 b2 b3 b4 b5 b6 b7 b8 b9 b10 b11 b12 b13 b14 b15 b16 b17 b18 b19 b20 = OUTA a0 a1 a2 a3 a4 a5 a6 a7 a8 a9 a10 a11 a12 a13 a14 a15 a16 a17 a18 a19 a20 := by
  subst e0 e1 e2 e3 e4 e5 e6 e7 e8 e9 e10 e11 e12 e13 e14 e15 e16 e17 e18 e19 e20
  refine funext fun y => ?_
  obtain ⟨n, k, rfl⟩ := ix2_surj (a := 32768) (b := 1024) y
  have good := good_of_pre _ _ _ _ _ _ _ _ _ _ _ _ _ _ _ _ _ _ _ _ _ h n
  exact ref_row _ _ _ _ _ _ _ _ _ _ _ _ _ _ _ _ _ _ _ _ _ _ good.1 good.2.1 good.2.2 k

end Cert.Kernel2Ideal.Post

end
-- ==== Proof.Proj.Row.lean ====
/- The input projection of one token: the functions of its row that both programs compute. -/
module

public import Idealize.ShloMosaic.Lib.Pointwise
public import proofs.«01_k».proof.Kernel3Ideal

@[expose] public section

set_option backward.proofsInPublic true
set_option maxRecDepth 16384

noncomputable section

namespace Cert.Kernel3Ideal.Proj

open Cert.Kernel3Ideal Idealize.ShloMosaic Idealize.ShloMosaic.TcCoe

/-- The word both programs add under the root. -/
def eps : EReal := Ideal.ofBits .f32 0x358637BD#32

/-- The row's length, as the programs divide by it. -/
def len : EReal := Ideal.ofBits .f32 0x44800000#32

/-- One over the row's root mean square. -/
def scale (x : Fin 1024 → EReal) : EReal := Ideal.rsqrt (Ideal.div (∑ k, x k * x k) len + eps)

/-- One element of the projection: the product of the row, times its gain, with a column, scaled afterwards. -/
def ent (x g w : Fin 1024 → EReal) : EReal := scale x * ∑ k, x k * g k * w k

theorem square_nonneg (x : EReal) : 0 ≤ x * x := by
  induction x with
  | bot => simp
  | top => simp
  | coe r => rw [← EReal.coe_mul, EReal.coe_nonneg]; exact mul_self_nonneg r

/-- The scale is a number, and not negative. -/
theorem scale_real (x : Fin 1024 → EReal) : ∃ r : ℝ, 0 ≤ r ∧ scale x = (r : EReal) := by
  have hl : len = ((1024 : ℝ) : EReal) := by
    unfold len; simp [Ideal.ofBits, Ideal.ieee, -EReal.coe_mul]; norm_num
  have he : ∃ e : ℝ, 0 < e ∧ eps = (e : EReal) := by
    refine ⟨_, ?_, show eps = ((8796093 * 2 ^ (-43 : ℤ) : ℝ) : EReal) from ?_⟩
    · positivity
    · unfold eps; simp [Ideal.ofBits, Ideal.ieee, -EReal.coe_mul]
  obtain ⟨e, he, ee⟩ := he
  have hs : 0 ≤ ∑ k, x k * x k := Finset.sum_nonneg fun k _ => square_nonneg (x k)
  unfold scale
  rw [hl, ee]
  generalize ∑ k, x k * x k = s at hs
  unfold Ideal.div
  rw [if_neg (by norm_num), ← EReal.coe_inv]
  induction s with
  | bot => exact absurd hs (by simp)
  | top =>
    rw [EReal.top_mul_coe_of_pos (by norm_num), EReal.top_add_coe]
    exact ⟨0, le_rfl, rfl⟩
  | coe r =>
    have hr : 0 ≤ r := EReal.coe_nonneg.1 hs
    rw [← EReal.coe_mul, ← EReal.coe_add]
    have hp : 0 < r * (1024 : ℝ)⁻¹ + e := by positivity
    rw [Ideal.rsqrt_coe, if_neg (not_lt.2 hp.le), if_neg hp.ne']
    exact ⟨_, inv_nonneg.2 (Real.sqrt_nonneg _), rfl⟩

theorem mul_sum_real {n : ℕ} (r : ℝ) (hr : 0 ≤ r) (f : Fin n → EReal) : ∑ k, (r : EReal) * f k = r * ∑ k, f k := by
  induction n with
  | zero => simp
  | succ n ih =>
    rw [Fin.sum_univ_succ, Fin.sum_univ_succ, ih, EReal.left_distrib_of_nonneg_of_ne_top (EReal.coe_nonneg.2 hr) (EReal.coe_ne_top r)]

/-- Scaling the row before the product is scaling the product. -/
theorem ent_eq (x g w : Fin 1024 → EReal) : ∑ k, x k * scale x * g k * w k = ent x g w := by
  obtain ⟨r, hr, e⟩ := scale_real x
  unfold ent
  rw [e, ← mul_sum_real r hr]
  exact Finset.sum_congr rfl fun k _ => by rw [mul_comm (x k) (r : EReal), mul_assoc, mul_assoc, mul_assoc]

section
variable {R : ℕ} [NeZero R] (X : Vec Ideal ⟨2, ![R, 1024]⟩ .f32) (G : Vec Ideal S1x1024 .f32) (W : Vec Ideal S1024x2304 .bf16)

/-- The projection at row `n` and column `j`. -/
def pr (n j : ℕ) : EReal :=
  ent (fun k => X (ix2 (Fin.ofNat R n) k)) (fun k => G (ix2 0 k)) (fun k => W (ix2 k (Fin.ofNat 2304 j)))

/-- The windowed attention's columns; they come first. -/
def own {a b : ℕ} (y : (⟨2, ![a, b]⟩ : Shape).Idx) : EReal := pr X G W (y 0).val (y 1).val

/-- The dilated attentions' columns, `d` rows side by side. -/
def side (d : ℕ) {a b : ℕ} (y : (⟨2, ![a, b]⟩ : Shape).Idx) : EReal :=
  pr X G W (d * (y 0).val + (y 1).val / 1536) (768 + (y 1).val % 1536)

end

end Cert.Kernel3Ideal.Proj

end
-- ==== Proof.Proj.Scratch.lean ====
/- What the kernel's stores leave in its two scratch buffers, and what its strided loads take from them. -/
module

public import proofs.«01_k».proof.Proof.Proj.Row
public import proofs.«01_k».proof.Proof.Gen.Kernel3Ideal.Value
public import Idealize.ShloMosaic.Lib.Pointwise
public import Idealize.ShloMosaic.Lib.Pipeline.ValueKit

@[expose] public section

set_option backward.proofsInPublic true
set_option maxRecDepth 65536

noncomputable section

namespace Cert.Kernel3Ideal.Proj

open Cert.Kernel3Ideal Cert.Kernel3Ideal.Gen Idealize.ShloMosaic Idealize.ShloMosaic.TcCoe Idealize.SL.Sem

/-- A load of a rectangle, at an index. -/
theorem load_at {n0 n1 s0 s1 : ℕ} {e : EltTy} (a : Memref sig .tc .vmem ⟨2, ![n0, n1]⟩ e) (ha : a.IsWhole) (X : Vec Ideal ⟨2, ![n0, n1]⟩ e)
    (p0 p1 : ℕ) (h) (i : Fin s0) (j : Fin s1) (i' : Fin n0) (j' : Fin n1) (hi : i'.val = p0 + i.val) (hj : j'.val = p1 + j.val) :
    (View.readAt (Elt Ideal) a.view (Rect.unit (s := ⟨2, ![n0, n1]⟩) ![p0, p1] (⟨2, ![s0, s1]⟩ : Shape).size h).toLoadRect (ha.unread X)
      : Vec Ideal ⟨2, ![s0, s1]⟩ e) (ix2 i j) = X (ix2 i' j') := by
  rw [View.readAt_eq_ld, ha.read_unread]
  refine congrArg X (funext fun a => Fin.ext ?_)
  fin_cases a
  · exact (ValueKit.rect_emb_unit_val _ _ _ _ _).trans hi.symm
  · exact (ValueKit.rect_emb_unit_val _ _ _ _ _).trans hj.symm

/-- Axes of size one in front leave the order of the elements. -/
theorem lift4 (h : S128x128.numel = (⟨4, ![1, 1, 128, 128]⟩ : Shape).numel) (i l : Fin 128) : Shape.reshapeEquiv h (ix2 i l) = ix4 0 0 i l := by
  pointwise

theorem lift5 (h : S32x128.numel = (⟨5, ![1, 1, 1, 32, 128]⟩ : Shape).numel) (i : Fin 32) (l : Fin 128) : Shape.reshapeEquiv h (ix2 i l) = ix5 0 0 0 i l := by
  pointwise

/-- The product of 512 columns, at an entry. -/
theorem wide_at (v0 : Vec Ideal S512x1024 .f32) (v1 : Vec Ideal S1x1024 .f32) (w : Vec Ideal S1024x512 .bf16) (n : Fin 512) (j : Fin 512) :
    k0_pay5 (F := Ideal) v0 v1 w (ix2 n j) = ent (fun k => v0 (ix2 n k)) (fun k => v1 (ix2 0 k)) (fun k => w (ix2 k j)) := by
  pointwise [k0_pay5, k0_pay4, k0_pay3, ent, scale, eps, len]

/-- The product of the windowed attention's columns, at an entry. -/
theorem narrow_at (v0 : Vec Ideal S512x1024 .f32) (v1 : Vec Ideal S1x1024 .f32) (w : Vec Ideal S1024x768 .bf16) (n : Fin 512) (j : Fin 768) :
    k0_pay2 (F := Ideal) (k0_pay3 v0 v1) (k0_pay4 v0) w (ix2 n j) = ent (fun k => v0 (ix2 n k)) (fun k => v1 (ix2 0 k)) (fun k => w (ix2 k j)) := by
  pointwise [k0_pay2, k0_pay4, k0_pay3, ent, scale, eps, len]

section
variable (arg1 : Memref sig .tc .vmem S512x1024 .f32) (harg1 : arg1.IsWhole) (arg2 : Memref sig .tc .vmem S1x1024 .f32) (harg2 : arg2.IsWhole)
  (arg3 : Memref sig .tc .vmem S1024x2304 .bf16) (harg3 : arg3.IsWhole)
  (x0 : Vec Ideal S512x1024 .f32) (x1 : Vec Ideal S1x1024 .f32) (x2 : Vec Ideal S1024x2304 .bf16)

/-- The blocks as the kernel loads them; of the weights, `S` columns from `p` on. -/
abbrev ldx (h : ∀ a, (![0, 0] : Fin 2 → ℕ) a + S512x1024.size a ≤ S512x1024.size a) : Vec Ideal S512x1024 .f32 :=
  View.readAt (Elt Ideal) arg1.view (Rect.unit (s := S512x1024) ![0, 0] S512x1024.size h).toLoadRect (harg1.unread x0)
abbrev ldg (h : ∀ a, (![0, 0] : Fin 2 → ℕ) a + S1x1024.size a ≤ S1x1024.size a) : Vec Ideal S1x1024 .f32 :=
  View.readAt (Elt Ideal) arg2.view (Rect.unit (s := S1x1024) ![0, 0] S1x1024.size h).toLoadRect (harg2.unread x1)
abbrev ldw {s : ℕ} (p : ℕ) (h : ∀ a, (![0, p] : Fin 2 → ℕ) a + (⟨2, ![1024, s]⟩ : Shape).size a ≤ S1024x2304.size a) : Vec Ideal ⟨2, ![1024, s]⟩ .bf16 :=
  View.readAt (Elt Ideal) arg3.view (Rect.unit (s := S1024x2304) ![0, p] (⟨2, ![1024, s]⟩ : Shape).size h).toLoadRect (harg3.unread x2)

theorem ent_ld {s : ℕ} (p : ℕ) (h0 h1 h2) (n : Fin 512) (j : Fin s) (hp : p + s ≤ 2304) :
    ent (fun k => ldx arg1 harg1 x0 h0 (ix2 n k)) (fun k => ldg arg2 harg2 x1 h1 (ix2 0 k)) (fun k => ldw arg3 harg3 x2 (s := s) p h2 (ix2 k j))
      = pr x0 x1 x2 n.val (p + j.val) := by
  have e1 : (Fin.ofNat 512 n.val).val = n.val := Nat.mod_eq_of_lt n.isLt
  have e2 : (Fin.ofNat 2304 (p + j.val)).val = p + j.val := Nat.mod_eq_of_lt (by have := j.isLt; omega)
  unfold pr
  congr 1 <;> funext k
  · exact load_at arg1 harg1 x0 0 0 _ n k _ _ (by rw [e1, Nat.zero_add]) (Nat.zero_add _).symm
  · exact load_at arg2 harg2 x1 0 0 _ 0 k _ _ rfl (Nat.zero_add _).symm
  · exact load_at arg3 harg3 x2 0 p _ k j _ _ (Nat.zero_add _).symm e2

theorem wide_pr {p : ℕ} {h0 h1 h2} (n : Fin 512) (j : Fin 512) (hp : p + 512 ≤ 2304) :
    k0_pay5 (F := Ideal) (ldx arg1 harg1 x0 h0) (ldg arg2 harg2 x1 h1) (ldw arg3 harg3 x2 (s := 512) p h2) (ix2 n j) = pr x0 x1 x2 n.val (p + j.val) :=
  (wide_at _ _ _ n j).trans (ent_ld arg1 harg1 arg2 harg2 arg3 harg3 x0 x1 x2 p h0 h1 h2 n j hp)
end

section
variable (x0 : Vec Ideal S512x1024 .f32) (x1 : Vec Ideal S1x1024 .f32) (x2 : Vec Ideal S1024x2304 .bf16)

/-! The first buffer: four slabs of 128 columns for each of the queries, the keys and the values. -/

def slab (y : S3x4x512x128.Idx) : EReal := pr x0 x1 x2 (y 2).val (768 + 512 * (y 0).val + 128 * (y 1).val + (y 3).val)

/-- The first `k` slabs are stored. -/
def Slabs (k : ℕ) (L : List (View.Piece (Elt Ideal) S3x4x512x128 .f32)) : Prop :=
  (∀ q ∈ L, ∀ x, q.2 x = slab x0 x1 x2 (q.1.emb x)) ∧ ∀ y : S3x4x512x128.Idx, 4 * (y 0).val + (y 1).val < k → ∃ q ∈ L, y ∈ q.1.set

variable {x0 x1 x2}

theorem slabs_nil : Slabs x0 x1 x2 0 [] := ⟨fun _ h => absurd h List.not_mem_nil, fun _ h => absurd h (Nat.not_lt_zero _)⟩

theorem slabs_cons {k t c o : ℕ} {h hs hc} {P : Vec Ideal S512x512 .f32} {L : List (View.Piece (Elt Ideal) S3x4x512x128 .f32)}
    (hk : 4 * t + c = k ∧ c < 4 ∧ o = 128 * c) (hP : ∀ n j, P (ix2 n j) = pr x0 x1 x2 n.val (768 + 512 * t + j.val)) (hL : Slabs x0 x1 x2 k L) :
    Slabs x0 x1 x2 (k + 1) (⟨Rect.unit (s := S3x4x512x128) ![t, c, 0, 0] S1x1x512x128.size h,
      (shapeCast S1x1x512x128 (extractStridedSlice S512x128 ![0, o] P hs : Vec Ideal S512x128 .f32) hc : Vec Ideal S1x1x512x128 .f32)⟩ :: L) := by
  obtain ⟨e, hc4, eo⟩ := hk
  refine ⟨List.forall_mem_cons.2 ⟨fun x => ?_, hL.1⟩, fun y hy => ?_⟩
  · obtain ⟨a, b, n, l, rfl⟩ : ∃ (a : Fin 1) (b : Fin 1) (n : Fin 512) (l : Fin 128), x = ix4 a b n l :=
      ⟨x 0, x 1, x 2, x 3, funext fun a => by fin_cases a <;> rfl⟩
    obtain rfl : a = 0 := Subsingleton.elim _ _
    obtain rfl : b = 0 := Subsingleton.elim _ _
    have e0 := ValueKit.rect_emb_unit_val _ _ h (ix4 0 0 n l) 0
    have e1 := ValueKit.rect_emb_unit_val _ _ h (ix4 0 0 n l) 1
    have e2 := ValueKit.rect_emb_unit_val _ _ h (ix4 0 0 n l) 2
    have e3 := ValueKit.rect_emb_unit_val _ _ h (ix4 0 0 n l) 3
    unfold slab
    rw [e0, e1, e2, e3]
    have hl := l.isLt
    have hj : o + l.val < 512 := by omega
    refine Eq.trans (b := P (ix2 n ⟨o + l.val, hj⟩)) ?_ ?_
    · pointwise
    · rw [hP]
      exact congr_arg₂ (pr x0 x1 x2) (show n.val = 0 + n.val by omega)
        (show 768 + 512 * t + (o + l.val) = 768 + 512 * (t + 0) + 128 * (c + 0) + (0 + l.val) by omega)
  · rcases Nat.lt_succ_iff_lt_or_eq.1 hy with h' | h'
    · obtain ⟨q, hq, hy⟩ := hL.2 y h'
      exact ⟨q, List.mem_cons_of_mem _ hq, hy⟩
    · have y1 : (y 1).val < 4 := (y 1).isLt
      refine ⟨_, List.mem_cons_self .., (LoadRect.mem_set _).2 fun a => ?_⟩
      fin_cases a
      · exact ⟨0, Nat.one_pos, (show (y 0).val = t + 1 * 0 by omega)⟩
      · exact ⟨0, Nat.one_pos, (show (y 1).val = c + 1 * 0 by omega)⟩
      · exact ⟨(y 2).val, (y 2).isLt, (show (y 2).val = 0 + 1 * (y 2).val by omega)⟩
      · exact ⟨(y 3).val, (y 3).isLt, (show (y 3).val = 0 + 1 * (y 3).val by omega)⟩

theorem slab_load {k t c r : ℕ} {L : List (View.Piece (Elt Ideal) S3x4x512x128 .f32)} (hL : Slabs x0 x1 x2 k L)
    {v : View sig .tc .vmem S3x4x512x128 .f32} {h hin a1 b1 a2 b2 h0}
    {hR : S128x128.numel = ((Rect.unit (s := S3x4x512x128) ![t, c, 0, 0] S1x1x512x128.size h).withinL
        (((⟨![r, 0], S128x128.size, ![4, 1], hin⟩ : LoadRect S512x128).consLift ![1, 512, 128] a1 b1).consLift ![1, 1, 512, 128] a2 b2) h0).shape.numel}
    (hk : 4 * t + c < k) (i l : Fin 128) :
    View.readCov (Val := Elt Ideal) v L ((Rect.unit (s := S3x4x512x128) ![t, c, 0, 0] S1x1x512x128.size h).withinL
        (((⟨![r, 0], S128x128.size, ![4, 1], hin⟩ : LoadRect S512x128).consLift ![1, 512, 128] a1 b1).consLift ![1, 1, 512, 128] a2 b2) h0)
      (Shape.reshapeEquiv hR (ix2 i l)) = pr x0 x1 x2 (r + 4 * i.val) (768 + 512 * t + 128 * c + l.val) := by
  rw [View.readCov_eq_canon']
  dsimp only
  rw [show Shape.reshapeEquiv hR (ix2 i l) = (ix4 0 0 i l : (⟨4, ![1, 1, 128, 128]⟩ : Shape).Idx) from lift4 hR i l]
  refine (View.canon_apply_of_pieces (Val := Elt Ideal) (slab x0 x1 x2) L hL.1 _ (hL.2 _ ?_)).trans ?_
  · exact (show 4 * (t + 0 + 1 * 0) + (c + 0 + 1 * 0) < k by omega)
  · exact congr_arg₂ (pr x0 x1 x2) (show 0 + r + 4 * i.val = r + 4 * i.val by omega)
      (show 768 + 512 * (t + 0 + 1 * 0) + 128 * (c + 0 + 1 * 0) + (0 + 0 + 1 * l.val) = 768 + 512 * t + 128 * c + l.val by omega)

/-! The second buffer: for each residue of the row modulo four, four slabs of its 128 rows. -/

def stage (x0 : Vec Ideal S512x1024 .f32) (x1 : Vec Ideal S1x1024 .f32) (x2 : Vec Ideal S1024x2304 .bf16) (y : S3x4x4x128x128.Idx) : EReal :=
  pr x0 x1 x2 ((y 1).val + 4 * (y 3).val) (768 + 512 * (y 0).val + 128 * (y 2).val + (y 4).val)

/-- The first `k` of them are stored. -/
def Stages (x0 : Vec Ideal S512x1024 .f32) (x1 : Vec Ideal S1x1024 .f32) (x2 : Vec Ideal S1024x2304 .bf16) (k : ℕ)
    (L : List (View.Piece (Elt Ideal) S3x4x4x128x128 .f32)) : Prop :=
  (∀ q ∈ L, ∀ x, q.2 x = stage x0 x1 x2 (q.1.emb x)) ∧
    ∀ y : S3x4x4x128x128.Idx, 4 * (4 * (y 0).val + (y 1).val) + (y 2).val < k → ∃ q ∈ L, y ∈ q.1.set

theorem stages_nil : Stages x0 x1 x2 0 [] := ⟨fun _ h => absurd h List.not_mem_nil, fun _ h => absurd h (Nat.not_lt_zero _)⟩

theorem stages_cons {k t r c : ℕ} {h hc} {v : Vec Ideal S128x128 .f32} {L : List (View.Piece (Elt Ideal) S3x4x4x128x128 .f32)}
    (hk : 4 * (4 * t + r) + c = k ∧ r < 4 ∧ c < 4)
    (hv : ∀ i l, v (ix2 i l) = pr x0 x1 x2 (r + 4 * i.val) (768 + 512 * t + 128 * c + l.val)) (hL : Stages x0 x1 x2 k L) :
    Stages x0 x1 x2 (k + 1) (⟨Rect.unit (s := S3x4x4x128x128) ![t, r, c, 0, 0] S1x1x1x128x128.size h,
      (shapeCast S1x1x1x128x128 v hc : Vec Ideal S1x1x1x128x128 .f32)⟩ :: L) := by
  obtain ⟨e, hr4, hc4⟩ := hk
  refine ⟨List.forall_mem_cons.2 ⟨fun x => ?_, hL.1⟩, fun y hy => ?_⟩
  · obtain ⟨a, b, d, n, l, rfl⟩ : ∃ (a : Fin 1) (b : Fin 1) (d : Fin 1) (n : Fin 128) (l : Fin 128), x = ix5 a b d n l :=
      ⟨x 0, x 1, x 2, x 3, x 4, funext fun a => by fin_cases a <;> rfl⟩
    obtain rfl : a = 0 := Subsingleton.elim _ _
    obtain rfl : b = 0 := Subsingleton.elim _ _
    obtain rfl : d = 0 := Subsingleton.elim _ _
    have e0 := ValueKit.rect_emb_unit_val _ _ h (ix5 0 0 0 n l) 0
    have e1 := ValueKit.rect_emb_unit_val _ _ h (ix5 0 0 0 n l) 1
    have e2 := ValueKit.rect_emb_unit_val _ _ h (ix5 0 0 0 n l) 2
    have e3 := ValueKit.rect_emb_unit_val _ _ h (ix5 0 0 0 n l) 3
    have e4 := ValueKit.rect_emb_unit_val _ _ h (ix5 0 0 0 n l) 4
    unfold stage
    rw [e0, e1, e2, e3, e4]
    refine Eq.trans (b := v (ix2 n l)) ?_ ?_
    · pointwise
    · rw [hv]
      exact congr_arg₂ (pr x0 x1 x2) (show r + 4 * n.val = r + 0 + 4 * (0 + n.val) by omega)
        (show 768 + 512 * t + 128 * c + l.val = 768 + 512 * (t + 0) + 128 * (c + 0) + (0 + l.val) by omega)
  · rcases Nat.lt_succ_iff_lt_or_eq.1 hy with h' | h'
    · obtain ⟨q, hq, hy⟩ := hL.2 y h'
      exact ⟨q, List.mem_cons_of_mem _ hq, hy⟩
    · have y1 : (y 1).val < 4 := (y 1).isLt
      have y2 : (y 2).val < 4 := (y 2).isLt
      refine ⟨_, List.mem_cons_self .., (LoadRect.mem_set _).2 fun a => ?_⟩
      fin_cases a
      · exact ⟨0, Nat.one_pos, (show (y 0).val = t + 1 * 0 by omega)⟩
      · exact ⟨0, Nat.one_pos, (show (y 1).val = r + 1 * 0 by omega)⟩
      · exact ⟨0, Nat.one_pos, (show (y 2).val = c + 1 * 0 by omega)⟩
      · exact ⟨(y 3).val, (y 3).isLt, (show (y 3).val = 0 + 1 * (y 3).val by omega)⟩
      · exact ⟨(y 4).val, (y 4).isLt, (show (y 4).val = 0 + 1 * (y 4).val by omega)⟩

theorem stage_load {k t r c u : ℕ} {L : List (View.Piece (Elt Ideal) S3x4x4x128x128 .f32)} (hL : Stages x0 x1 x2 k L)
    {v : View sig .tc .vmem S3x4x4x128x128 .f32} {h hin a1 b1 a2 b2 a3 b3 h0}
    {hR : S32x128.numel = ((Rect.unit (s := S3x4x4x128x128) ![t, r, c, 0, 0] S1x1x1x128x128.size h).withinL
        ((((⟨![u, 0], S32x128.size, ![4, 1], hin⟩ : LoadRect S128x128).consLift ![1, 128, 128] a1 b1).consLift ![1, 1, 128, 128] a2 b2).consLift
          ![1, 1, 1, 128, 128] a3 b3) h0).shape.numel}
    (hk : 4 * (4 * t + r) + c < k) (i : Fin 32) (l : Fin 128) :
    View.readCov (Val := Elt Ideal) v L ((Rect.unit (s := S3x4x4x128x128) ![t, r, c, 0, 0] S1x1x1x128x128.size h).withinL
        ((((⟨![u, 0], S32x128.size, ![4, 1], hin⟩ : LoadRect S128x128).consLift ![1, 128, 128] a1 b1).consLift ![1, 1, 128, 128] a2 b2).consLift
          ![1, 1, 1, 128, 128] a3 b3) h0)
      (Shape.reshapeEquiv hR (ix2 i l)) = pr x0 x1 x2 (r + 4 * u + 16 * i.val) (768 + 512 * t + 128 * c + l.val) := by
  rw [View.readCov_eq_canon']
  dsimp only
  rw [show Shape.reshapeEquiv hR (ix2 i l) = (ix5 0 0 0 i l : (⟨5, ![1, 1, 1, 32, 128]⟩ : Shape).Idx) from lift5 hR i l]
  refine (View.canon_apply_of_pieces (Val := Elt Ideal) (stage x0 x1 x2) L hL.1 _ (hL.2 _ ?_)).trans ?_
  · exact (show 4 * (4 * (t + 0 + 1 * 0) + (r + 0 + 1 * 0)) + (c + 0 + 1 * 0) < k by omega)
  · exact congr_arg₂ (pr x0 x1 x2) (show r + 0 + 1 * 0 + 4 * (0 + u + 4 * i.val) = r + 4 * u + 16 * i.val by omega)
      (show 768 + 512 * (t + 0 + 1 * 0) + 128 * (c + 0 + 1 * 0) + (0 + 0 + 1 * l.val) = 768 + 512 * t + 128 * c + l.val by omega)

end

section
variable {arg1 : Memref sig .tc .vmem S512x1024 .f32} {harg1 : arg1.IsWhole} {arg2 : Memref sig .tc .vmem S1x1024 .f32} {harg2 : arg2.IsWhole}
  {arg3 : Memref sig .tc .vmem S1024x2304 .bf16} {harg3 : arg3.IsWhole} {arg8 : Memref sig .tc .vmem S3x4x512x128 .f32}
  {x0 : Vec Ideal S512x1024 .f32} {x1 : Vec Ideal S1x1024 .f32} {x2 : Vec Ideal S1024x2304 .bf16}

theorem slabs4 (c : Dev nD) : Slabs x0 x1 x2 4 (kernelRun0_A.sl.HS0_4 (F := Ideal) c arg1 harg1 arg2 harg2 arg3 harg3 x0 x1 x2) := by
  unfold kernelRun0_A.sl.HS0_4
  refine slabs_cons (P := k0_pay5 (ldx arg1 harg1 x0 _) (ldg arg2 harg2 x1 _) (ldw arg3 harg3 x2 (s := 512) 768 _)) (t := 0) (hs := slices_S512x512_o0_384_S512x128)
    ⟨rfl, by decide, rfl⟩ (fun n j => wide_pr arg1 harg1 arg2 harg2 arg3 harg3 x0 x1 x2 (p := 768) n j (by norm_num)) ?_
  iterate 3 refine slabs_cons ⟨rfl, by decide, rfl⟩ (fun n j => wide_pr arg1 harg1 arg2 harg2 arg3 harg3 x0 x1 x2 (p := 768) n j (by norm_num)) ?_
  exact slabs_nil

theorem slabs8 (c : Dev nD) : Slabs x0 x1 x2 8 (kernelRun0_A.sl.HS0_8 (F := Ideal) c arg1 harg1 arg2 harg2 arg3 harg3 x0 x1 x2) := by
  unfold kernelRun0_A.sl.HS0_8
  iterate 4 refine slabs_cons ⟨rfl, by decide, rfl⟩ (fun n j => wide_pr arg1 harg1 arg2 harg2 arg3 harg3 x0 x1 x2 (p := 1280) n j (by norm_num)) ?_
  exact slabs4 c

theorem slabs12 (c : Dev nD) : Slabs x0 x1 x2 12 (kernelRun0_A.sl.HS0_12 (F := Ideal) c arg1 harg1 arg2 harg2 arg3 harg3 x0 x1 x2) := by
  unfold kernelRun0_A.sl.HS0_12
  iterate 4 refine slabs_cons ⟨rfl, by decide, rfl⟩ (fun n j => wide_pr arg1 harg1 arg2 harg2 arg3 harg3 x0 x1 x2 (p := 1792) n j (by norm_num)) ?_
  exact slabs8 c

theorem stages16 (c : Dev nD) : Stages x0 x1 x2 16 (kernelRun0_A.sl.HS1_16 (F := Ideal) c arg1 harg1 arg2 harg2 arg3 harg3 arg8 x0 x1 x2) := by
  unfold kernelRun0_A.sl.HS1_16
  iterate 16 refine stages_cons ⟨rfl, by decide, by decide⟩ (fun i l => slab_load (slabs4 c) (by decide) i l) ?_
  exact stages_nil

theorem stages32 (c : Dev nD) : Stages x0 x1 x2 32 (kernelRun0_A.sl.HS1_32 (F := Ideal) c arg1 harg1 arg2 harg2 arg3 harg3 arg8 x0 x1 x2) := by
  unfold kernelRun0_A.sl.HS1_32
  iterate 16 refine stages_cons ⟨rfl, by decide, by decide⟩ (fun i l => slab_load (slabs8 c) (by decide) i l) ?_
  exact stages16 c

theorem stages48 (c : Dev nD) : Stages x0 x1 x2 48 (kernelRun0_A.sl.HS1_48 (F := Ideal) c arg1 harg1 arg2 harg2 arg3 harg3 arg8 x0 x1 x2) := by
  unfold kernelRun0_A.sl.HS1_48
  iterate 16 refine stages_cons ⟨rfl, by decide, by decide⟩ (fun i l => slab_load (slabs12 c) (by decide) i l) ?_
  exact stages32 c

end

end Cert.Kernel3Ideal.Proj

end
-- ==== Proof.Proj.Block.lean ====
/- A block: what a grid point leaves in the four output blocks. -/
module

public import proofs.«01_k».proof.Proof.Proj.Scratch

@[expose] public section

set_option backward.proofsInPublic true
set_option maxRecDepth 65536

noncomputable section

namespace Cert.Kernel3Ideal.Proj

open Cert.Kernel3Ideal Cert.Kernel3Ideal.Gen Idealize.ShloMosaic Idealize.ShloMosaic.TcCoe Idealize.SL.Sem

theorem pieces_cons {S : Shape} {e : EltTy} (G : S.Idx → Elt Ideal e) (p : View.Piece (Elt Ideal) S e) (L : List (View.Piece (Elt Ideal) S e))
    (h : ∀ x : p.1.shape.Idx, p.2 x = G (p.1.emb x)) (hL : ∀ p ∈ L, ∀ x : p.1.shape.Idx, p.2 x = G (p.1.emb x)) :
    ∀ q ∈ p :: L, ∀ x : q.1.shape.Idx, q.2 x = G (q.1.emb x) :=
  List.forall_mem_cons.2 ⟨h, hL⟩

section
variable {x0 : Vec Ideal S512x1024 .f32} {x1 : Vec Ideal S1x1024 .f32} {x2 : Vec Ideal S1024x2304 .bf16}

/-- A store of `s` columns of the rows with residue `r` modulo `d`. -/
theorem side_piece (d : ℕ) {N M n s o p r : ℕ} {h} {w : Vec Ideal ⟨2, ![n, s]⟩ .f32}
    (hv : ∀ i l, w (ix2 i l) = pr x0 x1 x2 (r + d * i.val) (p + l.val)) (e : o + 768 = 1536 * r + p ∧ 768 ≤ p ∧ p + s ≤ 2304)
    (x : (⟨2, ![n, s]⟩ : Shape).Idx) :
    (truncf .bf16 (w : FVec Ideal ⟨2, ![n, s]⟩ .f32) bitsLt_bf16_f32 : FVec Ideal ⟨2, ![n, s]⟩ .bf16) x
      = side x0 x1 x2 d ((Rect.unit (s := ⟨2, ![N, M]⟩) ![0, o] (⟨2, ![n, s]⟩ : Shape).size h).emb x) := by
  obtain ⟨e1, e2, e3⟩ := e
  obtain ⟨i, l, rfl⟩ : ∃ i l, x = ix2 i l := ⟨x 0, x 1, funext fun a => by fin_cases a <;> rfl⟩
  have f0 := ValueKit.rect_emb_unit_val _ _ h (ix2 i l) 0
  have f1 := ValueKit.rect_emb_unit_val _ _ h (ix2 i l) 1
  unfold side
  rw [f0, f1]
  refine Eq.trans (b := w (ix2 i l)) ?_ ((hv i l).trans ?_)
  · pointwise
  · have hl := l.isLt
    refine congr_arg₂ (pr x0 x1 x2) (show r + d * i.val = d * (0 + i.val) + (o + l.val) / 1536 from ?_) (show p + l.val = 768 + (o + l.val) % 1536 from ?_)
    · rw [Nat.zero_add]; omega
    · omega
end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S512x768 .bf16) (harg4 : arg4.IsWhole) (arg5 : Memref sig .tc .vmem S512x1536 .bf16) (harg5 : arg5.IsWhole) (arg6 : Memref sig .tc .vmem S128x6144 .bf16) (harg6 : arg6.IsWhole) (arg7 : Memref sig .tc .vmem S32x24576 .bf16) (harg7 : arg7.IsWhole) (arg8 : Memref sig .tc .vmem S3x4x512x128 .f32) (harg8 : arg8.IsWhole) (arg9 : Memref sig .tc .vmem S3x4x4x128x128 .f32) (harg9 : arg9.IsWhole)
  (x0 : Vec Ideal S512x1024 .f32) (x1 : Vec Ideal S1x1024 .f32) (x2 : Vec Ideal S1024x2304 .bf16)

theorem out3 : out0_A_3 c i arg1 harg1 arg2 harg2 arg3 harg3 arg4 harg4 arg5 harg5 arg6 harg6 arg7 harg7 arg8 harg8 arg9 harg9 x0 x1 x2 = own x0 x1 x2 := by
  funext y
  unfold out0_A_3
  rw [View.read_writes_junk_eq_canon]
  refine View.canon_apply_of_pieces (Val := Elt Ideal) (own x0 x1 x2) _ ?_ y (cover0_A_3 c i arg1 harg1 arg2 harg2 arg3 harg3 arg4 harg4 arg5 harg5 arg6 harg6 arg7 harg7 arg8 harg8 arg9 harg9 x0 x1 x2 y)
  unfold kernelRun0_A
  dsimp only
  refine pieces_cons _ _ _ (fun x => ?_) fun _ h => absurd h List.not_mem_nil
  obtain ⟨n, j, rfl⟩ : ∃ (n : Fin 512) (j : Fin 768), x = ix2 n j := ⟨x 0, x 1, funext fun a => by fin_cases a <;> rfl⟩
  refine ((narrow_at _ _ _ n j).trans (ent_ld arg1 harg1 arg2 harg2 arg3 harg3 x0 x1 x2 (s := 768) 0 _ _ _ n j (by norm_num))).trans ?_
  exact congr_arg₂ (pr x0 x1 x2)
    ((ValueKit.rect_emb_unit_val (s := S512x768) ![0, 0] ![512, 768] inb_S512x768_S512x768_0_0 (ix2 n j) 0).trans (Nat.zero_add _)).symm
    (ValueKit.rect_emb_unit_val (s := S512x768) ![0, 0] ![512, 768] inb_S512x768_S512x768_0_0 (ix2 n j) 1).symm

theorem out4 : out0_A_4 c i arg1 harg1 arg2 harg2 arg3 harg3 arg4 harg4 arg5 harg5 arg6 harg6 arg7 harg7 arg8 harg8 arg9 harg9 x0 x1 x2 = side x0 x1 x2 1 := by
  funext y
  unfold out0_A_4
  rw [View.read_writes_junk_eq_canon]
  refine View.canon_apply_of_pieces (Val := Elt Ideal) (side x0 x1 x2 1) _ ?_ y (cover0_A_4 c i arg1 harg1 arg2 harg2 arg3 harg3 arg4 harg4 arg5 harg5 arg6 harg6 arg7 harg7 arg8 harg8 arg9 harg9 x0 x1 x2 y)
  unfold kernelRun0_A
  dsimp only
  have e : ∀ n p j : ℕ, pr x0 x1 x2 n (p + j) = pr x0 x1 x2 (0 + 1 * n) (p + j) := fun n p j => by rw [Nat.zero_add, Nat.one_mul]
  refine pieces_cons _ _ _ (side_piece 1 (h := by decide) (fun n j => (wide_pr arg1 harg1 arg2 harg2 arg3 harg3 x0 x1 x2 (p := 1792) n j (by norm_num)).trans (e _ _ _)) (by decide)) ?_
  refine pieces_cons _ _ _ (side_piece 1 (h := by decide) (fun n j => (wide_pr arg1 harg1 arg2 harg2 arg3 harg3 x0 x1 x2 (p := 1280) n j (by norm_num)).trans (e _ _ _)) (by decide)) ?_
  refine pieces_cons _ _ _ (side_piece 1 (h := by decide) (fun n j => (wide_pr arg1 harg1 arg2 harg2 arg3 harg3 x0 x1 x2 (p := 768) n j (by norm_num)).trans (e _ _ _)) (by decide)) ?_
  exact fun _ h => absurd h List.not_mem_nil

theorem out5 : out0_A_5 c i arg1 harg1 arg2 harg2 arg3 harg3 arg4 harg4 arg5 harg5 arg6 harg6 arg7 harg7 arg8 harg8 arg9 harg9 x0 x1 x2 = side x0 x1 x2 4 := by
  funext y
  unfold out0_A_5
  rw [View.read_writes_junk_eq_canon]
  refine View.canon_apply_of_pieces (Val := Elt Ideal) (side x0 x1 x2 4) _ ?_ y (cover0_A_5 c i arg1 harg1 arg2 harg2 arg3 harg3 arg4 harg4 arg5 harg5 arg6 harg6 arg7 harg7 arg8 harg8 arg9 harg9 x0 x1 x2 y)
  unfold kernelRun0_A kernelRun0_A.sl.r_26 kernelRun0_A.sl.r_4
  dsimp only
  iterate 16
    refine pieces_cons _ _ _ ?_ ?_
    · exact side_piece 4 (h := by decide) (fun i l => slab_load (slabs12 c) (by decide) i l) (by decide)
  iterate 16
    refine pieces_cons _ _ _ ?_ ?_
    · exact side_piece 4 (h := by decide) (fun i l => slab_load (slabs8 c) (by decide) i l) (by decide)
  iterate 16
    refine pieces_cons _ _ _ ?_ ?_
    · exact side_piece 4 (h := by decide) (fun i l => slab_load (slabs4 c) (by decide) i l) (by decide)
  exact fun _ h => absurd h List.not_mem_nil

set_option maxHeartbeats 8000000 in
theorem out6 : out0_A_6 c i arg1 harg1 arg2 harg2 arg3 harg3 arg4 harg4 arg5 harg5 arg6 harg6 arg7 harg7 arg8 harg8 arg9 harg9 x0 x1 x2 = side x0 x1 x2 16 := by
  funext y
  unfold out0_A_6
  rw [View.read_writes_junk_eq_canon]
  refine View.canon_apply_of_pieces (Val := Elt Ideal) (side x0 x1 x2 16) _ ?_ y (cover0_A_6 c i arg1 harg1 arg2 harg2 arg3 harg3 arg4 harg4 arg5 harg5 arg6 harg6 arg7 harg7 arg8 harg8 arg9 harg9 x0 x1 x2 y)
  unfold kernelRun0_A kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7
  dsimp only
  iterate 64
    refine pieces_cons _ _ _ ?_ ?_
    · exact side_piece 16 (h := by decide) (fun i l => stage_load (stages48 c) (by decide) i l) (by decide)
  iterate 64
    refine pieces_cons _ _ _ ?_ ?_
    · exact side_piece 16 (h := by decide) (fun i l => stage_load (stages32 c) (by decide) i l) (by decide)
  iterate 64
    refine pieces_cons _ _ _ ?_ ?_
    · exact side_piece 16 (h := by decide) (fun i l => stage_load (stages16 c) (by decide) i l) (by decide)
  exact fun _ h => absurd h List.not_mem_nil

end

end Cert.Kernel3Ideal.Proj

end
-- ==== Proof.Proj.Bridge.lean ====
/- The four result arrays after the run. -/
module

public import proofs.«01_k».proof.Proof.Proj.Block
public import Idealize.ShloMosaic.Lib.Claim

@[expose] public section

set_option backward.proofsInPublic true
set_option maxRecDepth 16384

noncomputable section

namespace Cert.Kernel3Ideal.Proj

open Cert.Kernel3Ideal Cert.Kernel3Ideal.Gen Idealize.ShloMosaic Idealize.ShloMosaic.TcCoe Idealize.SL.Sem

/-- The blocks' places: point `t` stages the `t`-th block of rows, and the gain and the weights whole. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ t.val < 64 :=
  (by decide +kernel : ∀ t : Fin grid0.N, _)

theorem tlt (t : Fin cfg0.N) : t.val < 64 := (idx t).2.2.2.2.2.2.2

variable (m : (ℓ : Loc nD τ sig) → Buf (Elt Ideal) ℓ)

/-! What each block holds, in the arrays. -/

theorem iblk0 (c : Dev nD) (t : Fin cfg0.N) (i : Fin 512) (k : Fin 1024) : (iblk m c 0 t : Vec Ideal S512x1024 .f32) (ix2 i k)
    = (m ((c : Thread nD τ).loc main_arg0) : Vec Ideal S32768x1024 .f32) (ix2 ⟨512 * t.val + i.val, by have := tlt t; have := i.isLt; omega⟩ k) := by
  blk_ext [iblk, V_main_arg0, idx t]

theorem iblk1 (c : Dev nD) (t : Fin cfg0.N) (i : Fin 1) (k : Fin 1024) : (iblk m c 1 t : Vec Ideal S1x1024 .f32) (ix2 i k)
    = (m ((c : Thread nD τ).loc main_arg1) : Vec Ideal S1x1024 .f32) (ix2 i k) := by
  blk_ext [iblk, V_main_arg1, idx t]

theorem iblk2 (c : Dev nD) (t : Fin cfg0.N) (i : Fin 1024) (k : Fin 2304) : (iblk m c 2 t : Vec Ideal S1024x2304 .bf16) (ix2 i k)
    = (m ((c : Thread nD τ).loc main_arg2) : Vec Ideal S1024x2304 .bf16) (ix2 i k) := by
  blk_ext [iblk, V_main_arg2, idx t]

/-- So a block's entries are the arrays'. -/
theorem pr_block (c : Dev nD) (t : Fin cfg0.N) (n j : ℕ) (hn : n < 512) : pr (R := 512) (iblk m c 0 t) (iblk m c 1 t) (iblk m c 2 t) n j
    = pr (R := 32768) (m ((c : Thread nD τ).loc main_arg0)) (m ((c : Thread nD τ).loc main_arg1)) (m ((c : Thread nD τ).loc main_arg2)) (512 * t.val + n) j := by
  have ht := tlt t
  unfold pr
  congr 1 <;> funext k
  · refine (iblk0 m c t _ k).trans (congrArg (fun r => (m ((c : Thread nD τ).loc main_arg0) : Vec Ideal S32768x1024 .f32) (ix2 r k)) (Fin.ext ?_))
    exact (show 512 * t.val + n % 512 = (512 * t.val + n) % 32768 by omega)
  · exact iblk1 m c t 0 k
  · exact iblk2 m c t k _

/-! The four arrays, block by block: the tokens' own columns, and the other columns in the three row layouts. -/

theorem final3 (c : Dev nD) : (dats m 0 c).arrAt 3 (cfgs 0).N
    = (own (m ((c : Thread nD τ).loc main_arg0) : Vec Ideal S32768x1024 .f32) (m ((c : Thread nD τ).loc main_arg1)) (m ((c : Thread nD τ).loc main_arg2)) : Vec Ideal S32768x768 .bf16) := by
  refine (dats m 0 c).arrAt_eq_of_covers 3 _ (by decide +kernel) fun t _ y => ?_
  blk_simp
  rw [after0_3]
  simp only [outsAt0]
  rw [out3]
  idx_vars y
  have hr := y0.isLt
  have hk := y1.isLt
  refine (pr_block m c t _ _ hr).trans (congrArg₂ (pr (R := 32768) _ _ _) ?_ ?_) <;> blk_simp [idx t] <;> omega

theorem final4 (c : Dev nD) : (dats m 0 c).arrAt 4 (cfgs 0).N
    = (side (m ((c : Thread nD τ).loc main_arg0) : Vec Ideal S32768x1024 .f32) (m ((c : Thread nD τ).loc main_arg1)) (m ((c : Thread nD τ).loc main_arg2)) 1 : Vec Ideal S32768x1536 .bf16) := by
  refine (dats m 0 c).arrAt_eq_of_covers 4 _ (by decide +kernel) fun t _ y => ?_
  blk_simp
  rw [after0_4]
  simp only [outsAt0]
  rw [out4]
  idx_vars y
  have hr := y0.isLt
  have hk := y1.isLt
  refine (pr_block m c t _ _ (show 1 * y0.val + y1.val / 1536 < 512 by omega)).trans (congrArg₂ (pr (R := 32768) _ _ _) ?_ ?_) <;> blk_simp [idx t] <;> omega

theorem final5 (c : Dev nD) : (dats m 0 c).arrAt 5 (cfgs 0).N
    = (side (m ((c : Thread nD τ).loc main_arg0) : Vec Ideal S32768x1024 .f32) (m ((c : Thread nD τ).loc main_arg1)) (m ((c : Thread nD τ).loc main_arg2)) 4 : Vec Ideal S8192x6144 .bf16) := by
  refine (dats m 0 c).arrAt_eq_of_covers 5 _ (by decide +kernel) fun t _ y => ?_
  blk_simp
  rw [after0_5]
  simp only [outsAt0]
  rw [out5]
  idx_vars y
  have hr := y0.isLt
  have hk := y1.isLt
  refine (pr_block m c t _ _ (show 4 * y0.val + y1.val / 1536 < 512 by omega)).trans (congrArg₂ (pr (R := 32768) _ _ _) ?_ ?_) <;> blk_simp [idx t] <;> omega

theorem final6 (c : Dev nD) : (dats m 0 c).arrAt 6 (cfgs 0).N
    = (side (m ((c : Thread nD τ).loc main_arg0) : Vec Ideal S32768x1024 .f32) (m ((c : Thread nD τ).loc main_arg1)) (m ((c : Thread nD τ).loc main_arg2)) 16 : Vec Ideal S2048x24576 .bf16) := by
  refine (dats m 0 c).arrAt_eq_of_covers 6 _ (by decide +kernel) fun t _ y => ?_
  blk_simp
  rw [after0_6]
  simp only [outsAt0]
  rw [out6]
  idx_vars y
  have hr := y0.isLt
  have hk := y1.isLt
  refine (pr_block m c t _ _ (show 16 * y0.val + y1.val / 1536 < 512 by omega)).trans (congrArg₂ (pr (R := 32768) _ _ _) ?_ ?_) <;> blk_simp [idx t] <;> omega

end Cert.Kernel3Ideal.Proj

end
-- ==== Proof.Proj.Ref.lean ====
/- The reference's four results, as functions of its arguments. -/
module

public import proofs.«01_k».proof.Proof.Proj.Row
public import proofs.«01_k».proof.Proof.Gen.Reference3Ideal.Read
public import Idealize.ShloMosaic.Lib.Pointwise

@[expose] public section

set_option backward.proofsInPublic true
set_option maxRecDepth 16384

noncomputable section

namespace Cert.Kernel3Ideal.Proj

open Cert.Reference3Ideal Cert.Reference3Ideal.Gen Cert.Reference3Ideal.Read Idealize.ShloMosaic Idealize.ShloMosaic.TcCoe Idealize.SL.Sem

section
variable (X : Vec Ideal Cert.Reference3Ideal.S32768x1024 .f32) (G : Vec Ideal Cert.Reference3Ideal.S1x1024 .f32)
  (W : Vec Ideal Cert.Reference3Ideal.S1024x2304 .bf16)

theorem pr_fin (n : Fin 32768) (j : Fin 2304) :
    pr X G W n.val j.val = ent (fun k => X (ix2 n k)) (fun k => G (ix2 0 k)) (fun k => W (ix2 k j)) := by
  have e1 : Fin.ofNat 32768 n.val = n := Fin.ext (Nat.mod_eq_of_lt n.isLt)
  have e2 : Fin.ofNat 2304 j.val = j := Fin.ext (Nat.mod_eq_of_lt j.isLt)
  unfold pr
  rw [e1, e2]

theorem ref_ent (n : Fin 32768) (j : Fin 2304) : val_main_v14 (F := Ideal) X G W (ix2 n j) = pr X G W n.val j.val := by
  rw [pr_fin, ← ent_eq]
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, scale, eps, len]

theorem ref_own : val_main_v16 (F := Ideal) X G W = own X G W := by
  funext y
  idx_vars y
  pointwise [val_main_v16, ref_ent, own]

theorem ref_one : val_main_v15 (F := Ideal) X G W = side X G W 1 := by
  funext y
  idx_vars y
  pointwise [val_main_v15, ref_ent, side]
  have := y1.isLt
  congr 1 <;> omega

theorem ref_four : val_main_v17 (F := Ideal) X G W = side X G W 4 := by
  funext y
  idx_vars y
  pointwise [val_main_v17, val_main_v15, ref_ent, side]
  have := y1.isLt
  congr 1 <;> omega

theorem ref_sixteen : val_main_v18 (F := Ideal) X G W = side X G W 16 := by
  funext y
  idx_vars y
  pointwise [val_main_v18, val_main_v15, ref_ent, side]
  have := y1.isLt
  congr 1 <;> omega

end

end Cert.Kernel3Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_softmax_stats
public import proofs.«01_k».proof.Proof.Dil.Bridge
public import proofs.«01_k».proof.Proof.Dil.Ref
public import proofs.«01_k».proof.Proof.Post.Final
public import proofs.«01_k».proof.Proof.Proj.Bridge
public import proofs.«01_k».proof.Proof.Proj.Ref
public import Idealize.ShloMosaic.Lib.Claim
public import Idealize.ShloMosaic.Adequacy
public import Idealize.ShloMosaic.Init

@[expose] public section

noncomputable section

-- The frames also say that every semaphore counter ends at zero.

namespace Cert.Proof

open Idealize.ShloMosaic Idealize.SL.Sem

/-- The reference runs, its arguments unchanged and every counter zero. -/
theorem frame_reference : Cert.quiescent_ReferenceIdeal (hReferenceIdeal := Cert.ReferenceIdeal.Gen.facts) := by
  intro m g _
  exact (θ_run Cert.ReferenceIdeal.defs _ _).mono (fun r h => ⟨fun c => (h c).2.2, sem_eq_zero_of_no_sems (by decide) r.2⟩)
    (Cert.ReferenceIdeal.Value.run m g)

section
open Cert.ReferenceIdeal Cert.ReferenceIdeal.Value Cert.ReferenceIdeal.Read

set_option maxRecDepth 16384 in
/-- The reference's first result, as its operations read one by one. -/
theorem res_out (m : (ℓ : Loc nD τ sig) → Buf (Elt Ideal) ℓ) (c : Dev nD) :
    res_main_v30 m c = val_main_v30 (F := Ideal) (m ((c.tc : Thread nD τ).loc main_arg0)) (m ((c.tc : Thread nD τ).loc main_arg1)) := rfl

set_option maxRecDepth 16384 in
/-- The reference's second result, as its operations read one by one. -/
theorem res_stat (m : (ℓ : Loc nD τ sig) → Buf (Elt Ideal) ℓ) (c : Dev nD) :
    res_main_v35 m c = val_main_v35 (F := Ideal) (m ((c.tc : Thread nD τ).loc main_arg0)) (m ((c.tc : Thread nD τ).loc main_arg1)) := rfl

end

/-- The kernel's two results are the reference's. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Dil.OUTA (m (c.tc.loc Cert.KernelIdeal.main_arg0)) (m (c.tc.loc Cert.KernelIdeal.main_arg1)),
    fun c => Cert.KernelIdeal.Dil.STATA (m (c.tc.loc Cert.KernelIdeal.main_arg0)) (m (c.tc.loc Cert.KernelIdeal.main_arg1)), ?_, ?_⟩
  · run_from Cert.KernelIdeal.Gen.run_main m g
    · exact Cert.KernelIdeal.Dil.final2 m _
    · exact Cert.KernelIdeal.Dil.final3 m _
  · refine (θ_run Cert.ReferenceIdeal.defs _ _).mono (fun r h c => ⟨(h c).1.trans ?_, (h c).2.1.trans ?_, (h c).2.2⟩)
      (Cert.ReferenceIdeal.Value.run m' g')
    · refine (res_out m' c).trans ?_
      rw [(hagree c).1, (hagree c).2]
      exact Cert.KernelIdeal.Dil.ref_out _ _
    · refine (res_stat m' c).trans ?_
      rw [(hagree c).1, (hagree c).2]
      exact Cert.KernelIdeal.Dil.ref_stat _ _

/-- The second reference runs, its arguments unchanged and every counter zero. -/
theorem frame_reference2 : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run m g)

/-- The second kernel's result is the second reference's. -/
theorem value2 : Cert.algebraic_Kernel2Ideal_Reference2Ideal_pre_softmax_stats (hKernel2Ideal := Cert.Kernel2Ideal.Gen.facts)
    (hReference2Ideal := Cert.Reference2Ideal.Gen.facts) (hPre_softmax_stats := Cert.Pre_softmax_stats.Gen.facts) := by
  intro m g m' g' hpre hagree
  refine ⟨fun c => Cert.Kernel2Ideal.Post.OUTA (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)) (m (c.tc.loc Cert.Kernel2Ideal.main_arg8)) (m (c.tc.loc Cert.Kernel2Ideal.main_arg9)) (m (c.tc.loc Cert.Kernel2Ideal.main_arg10)) (m (c.tc.loc Cert.Kernel2Ideal.main_arg11)) (m (c.tc.loc Cert.Kernel2Ideal.main_arg12)) (m (c.tc.loc Cert.Kernel2Ideal.main_arg13)) (m (c.tc.loc Cert.Kernel2Ideal.main_arg14)) (m (c.tc.loc Cert.Kernel2Ideal.main_arg15)) (m (c.tc.loc Cert.Kernel2Ideal.main_arg16)) (m (c.tc.loc Cert.Kernel2Ideal.main_arg17)) (m (c.tc.loc Cert.Kernel2Ideal.main_arg18)) (m (c.tc.loc Cert.Kernel2Ideal.main_arg19)) (m (c.tc.loc Cert.Kernel2Ideal.main_arg20)), ?_, ?_⟩
  · exact (θ_run Cert.Kernel2Ideal.defs _ _).mono (fun r h c => ⟨(h c).1.trans (Cert.Kernel2Ideal.Post.final22_of_pre m c (hpre c)), (h c).2⟩)
      (Cert.Kernel2Ideal.Value.run_blocks m g)
  · exact (θ_run Cert.Reference2Ideal.defs _ _).mono (fun r h c => ⟨((h c).1.trans (Cert.Reference2Ideal.Read.val_main_v154_eq _)).trans
      (Cert.Kernel2Ideal.Post.ref_eq (hpre c)
        (hagree c).1
        (hagree c).2.1
        (hagree c).2.2.1
        (hagree c).2.2.2.1
        (hagree c).2.2.2.2.1
        (hagree c).2.2.2.2.2.1
        (hagree c).2.2.2.2.2.2.1
        (hagree c).2.2.2.2.2.2.2.1
        (hagree c).2.2.2.2.2.2.2.2.1
        (hagree c).2.2.2.2.2.2.2.2.2.1
        (hagree c).2.2.2.2.2.2.2.2.2.2.1
        (hagree c).2.2.2.2.2.2.2.2.2.2.2.1
        (hagree c).2.2.2.2.2.2.2.2.2.2.2.2.1
        (hagree c).2.2.2.2.2.2.2.2.2.2.2.2.2.1
        (hagree c).2.2.2.2.2.2.2.2.2.2.2.2.2.2.1
        (hagree c).2.2.2.2.2.2.2.2.2.2.2.2.2.2.2.1
        (hagree c).2.2.2.2.2.2.2.2.2.2.2.2.2.2.2.2.1
        (hagree c).2.2.2.2.2.2.2.2.2.2.2.2.2.2.2.2.2.1
        (hagree c).2.2.2.2.2.2.2.2.2.2.2.2.2.2.2.2.2.2.1
        (hagree c).2.2.2.2.2.2.2.2.2.2.2.2.2.2.2.2.2.2.2.1
        (hagree c).2.2.2.2.2.2.2.2.2.2.2.2.2.2.2.2.2.2.2.2), (h c).2⟩) (Cert.Reference2Ideal.Value.run m' g')

/-- The third reference runs, its arguments unchanged and every counter zero. -/
theorem frame_reference3 : Cert.quiescent_Reference3Ideal (hReference3Ideal := Cert.Reference3Ideal.Gen.facts) := by
  intro m g _
  exact (θ_run Cert.Reference3Ideal.defs _ _).mono (fun r h => ⟨fun c => (h c).2.2.2.2, sem_eq_zero_of_no_sems (by decide) r.2⟩)
    (Cert.Reference3Ideal.Value.run m g)

/-- The third kernel's four results are the third reference's. -/
theorem value3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Proj.own (R := 32768) (m (c.tc.loc Cert.Kernel3Ideal.main_arg0)) (m (c.tc.loc Cert.Kernel3Ideal.main_arg1)) (m (c.tc.loc Cert.Kernel3Ideal.main_arg2)),
    fun c => Cert.Kernel3Ideal.Proj.side (R := 32768) (m (c.tc.loc Cert.Kernel3Ideal.main_arg0)) (m (c.tc.loc Cert.Kernel3Ideal.main_arg1)) (m (c.tc.loc Cert.Kernel3Ideal.main_arg2)) 1,
    fun c => Cert.Kernel3Ideal.Proj.side (R := 32768) (m (c.tc.loc Cert.Kernel3Ideal.main_arg0)) (m (c.tc.loc Cert.Kernel3Ideal.main_arg1)) (m (c.tc.loc Cert.Kernel3Ideal.main_arg2)) 4,
    fun c => Cert.Kernel3Ideal.Proj.side (R := 32768) (m (c.tc.loc Cert.Kernel3Ideal.main_arg0)) (m (c.tc.loc Cert.Kernel3Ideal.main_arg1)) (m (c.tc.loc Cert.Kernel3Ideal.main_arg2)) 16, ?_, ?_⟩
  · run_from Cert.Kernel3Ideal.Gen.run_main m g
    · exact Cert.Kernel3Ideal.Proj.final3 m _
    · exact Cert.Kernel3Ideal.Proj.final4 m _
    · exact Cert.Kernel3Ideal.Proj.final5 m _
    · exact Cert.Kernel3Ideal.Proj.final6 m _
  · refine (θ_run Cert.Reference3Ideal.defs _ _).mono (fun r h c => ⟨((h c).1.trans (Cert.Reference3Ideal.Read.val_main_v16_eq _ _ _)).trans ?_,
      ((h c).2.1.trans (Cert.Reference3Ideal.Read.val_main_v15_eq _ _ _)).trans ?_,
      ((h c).2.2.1.trans (Cert.Reference3Ideal.Read.val_main_v17_eq _ _ _)).trans ?_,
      ((h c).2.2.2.1.trans (Cert.Reference3Ideal.Read.val_main_v18_eq _ _ _)).trans ?_, (h c).2.2.2.2⟩)
      (Cert.Reference3Ideal.Value.run m' g')
    all_goals rw [(hagree c).1, (hagree c).2.1, (hagree c).2.2]
    · exact Cert.Kernel3Ideal.Proj.ref_own _ _ _
    · exact Cert.Kernel3Ideal.Proj.ref_one _ _ _
    · exact Cert.Kernel3Ideal.Proj.ref_four _ _ _
    · exact Cert.Kernel3Ideal.Proj.ref_sixteen _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_softmax_stats.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  trivial, value, trivial, value2, trivial, value3⟩

end Cert.Proof

end
